-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_u [hPre_finite_u : Cert.Pre_finite_u.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_u.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_u [hPre_finite_u : Cert.Pre_finite_u.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_u.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_finite_u [hKernel6Ideal : Cert.Kernel6Ideal.Facts] [hPre_finite_u : Cert.Pre_finite_u.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_u m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_finite_u [hReference6Ideal : Cert.Reference6Ideal.Facts] [hPre_finite_u : Cert.Pre_finite_u.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_u m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v48)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v213) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_u [hKernel6Ideal : Cert.Kernel6Ideal.Facts] [hReference6Ideal : Cert.Reference6Ideal.Facts] [hPre_finite_u : Cert.Pre_finite_u.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_u m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v320) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_u : Cert.Pre_finite_u.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_u (hKernel6Ideal := hKernel6Ideal) (hPre_finite_u := hPre_finite_u)
    ∧ quiescent_Reference6Ideal (hReference6Ideal := hReference6Ideal)
    ∧ quiescent_Reference6Ideal_pre_finite_u (hReference6Ideal := hReference6Ideal) (hPre_finite_u := hPre_finite_u)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_u (hKernel6Ideal := hKernel6Ideal) (hReference6Ideal := hReference6Ideal) (hPre_finite_u := hPre_finite_u)
-- ==== Pre_finite_qk.lean ====
abbrev S1x256x2x4x128 : Shape := ⟨5, ![1, 256, 2, 4, 128]⟩
abbrev S1x8192x2x4x128 : Shape := ⟨5, ![1, 8192, 2, 4, 128]⟩
abbrev S1x256x2x128 : Shape := ⟨4, ![1, 256, 2, 128]⟩
abbrev S1x8192x2x128 : Shape := ⟨4, ![1, 8192, 2, 128]⟩
abbrev S128 : Shape := ⟨1, ![128]⟩
abbrev S_ : Shape := ⟨0, ![]⟩

class Facts : Prop where
  bcast_S_S1x256x2x4x128 : S_.BroadcastsInDim S1x256x2x4x128 (![] : Fin 0 → Fin S1x256x2x4x128.rank)
  reducesTo_S1x256x2x4x128_S_d0_1_2_3_4 : S1x256x2x4x128.ReducesTo [0, 1, 2, 3, 4] S_
  h_S_ : 0 < S_.numel
  bcast_S_S1x8192x2x4x128 : S_.BroadcastsInDim S1x8192x2x4x128 (![] : Fin 0 → Fin S1x8192x2x4x128.rank)
  reducesTo_S1x8192x2x4x128_S_d0_1_2_3_4 : S1x8192x2x4x128.ReducesTo [0, 1, 2, 3, 4] S_
  bcast_S_S1x256x2x128 : S_.BroadcastsInDim S1x256x2x128 (![] : Fin 0 → Fin S1x256x2x128.rank)
  reducesTo_S1x256x2x128_S_d0_1_2_3 : S1x256x2x128.ReducesTo [0, 1, 2, 3] S_
  bcast_S_S1x8192x2x128 : S_.BroadcastsInDim S1x8192x2x128 (![] : Fin 0 → Fin S1x8192x2x128.rank)
  reducesTo_S1x8192x2x128_S_d0_1_2_3 : S1x8192x2x128.ReducesTo [0, 1, 2, 3] S_

variable [Facts]

def fn_part1 {F : FTy → Type} [FloatOps F] (main_v13 : IVec S_ 1) (main_v16 : IVec S1x8192x2x128 1) : IVec S_ 1 :=
  let main_c_5 : IVec S_ 1 := constantI S_ 1 1#1
  let main_v17 : IVec S_ 1 := (fun x v => Host.reduce IntOp.andi x v reducesTo_S1x8192x2x128_S_d0_1_2_3 h_S_) main_v16 main_c_5
  let main_v18 : IVec S_ 1 := andi main_v13 main_v17
  main_v18

def fn {F : FTy → Type} [FloatOps F] (main_arg0 : FVec F S1x256x2x4x128 .f32) (main_arg1 : FVec F S1x8192x2x4x128 .f32) (main_arg2 : FVec F S1x256x2x128 .f32) (main_arg3 : FVec F S1x8192x2x128 .f32) (main_arg4 : FVec F S1x256x2x128 .f32) (main_arg5 : FVec F S1x8192x2x128 .f32) (main_arg6 : FVec F S128 .f32) : IVec S_ 1 :=
  let main_v0 : FVec F S1x256x2x4x128 .f32 := Host.absf main_arg0
  let main_cst : FVec F S_ .f32 := constant S_ .f32 0x7F800000#32
  let main_v1 : FVec F S1x256x2x4x128 .f32 := broadcastInDim S1x256x2x4x128 ![] bcast_S_S1x256x2x4x128 main_cst
  let main_v2 : IVec S1x256x2x4x128 1 := cmpf .olt main_v0 main_v1
  let main_c : IVec S_ 1 := constantI S_ 1 1#1
  let main_v3 : IVec S_ 1 := (fun x v => Host.reduce IntOp.andi x v reducesTo_S1x256x2x4x128_S_d0_1_2_3_4 h_S_) main_v2 main_c
  let main_v4 : FVec F S1x8192x2x4x128 .f32 := Host.absf main_arg1
  let main_cst_0 : FVec F S_ .f32 := constant S_ .f32 0x7F800000#32
  let main_v5 : FVec F S1x8192x2x4x128 .f32 := broadcastInDim S1x8192x2x4x128 ![] bcast_S_S1x8192x2x4x128 main_cst_0
  let main_v6 : IVec S1x8192x2x4x128 1 := cmpf .olt main_v4 main_v5
  let main_c_1 : IVec S_ 1 := constantI S_ 1 1#1
  let main_v7 : IVec S_ 1 := (fun x v => Host.reduce IntOp.andi x v reducesTo_S1x8192x2x4x128_S_d0_1_2_3_4 h_S_) main_v6 main_c_1
  let main_v8 : IVec S_ 1 := andi main_v3 main_v7
  let main_v9 : FVec F S1x256x2x128 .f32 := Host.absf main_arg2
  let main_cst_2 : FVec F S_ .f32 := constant S_ .f32 0x7F800000#32
  let main_v10 : FVec F S1x256x2x128 .f32 := broadcastInDim S1x256x2x128 ![] bcast_S_S1x256x2x128 main_cst_2
  let main_v11 : IVec S1x256x2x128 1 := cmpf .olt main_v9 main_v10
  let main_c_3 : IVec S_ 1 := constantI S_ 1 1#1
  let main_v12 : IVec S_ 1 := (fun x v => Host.reduce IntOp.andi x v reducesTo_S1x256x2x128_S_d0_1_2_3 h_S_) main_v11 main_c_3
  let main_v13 : IVec S_ 1 := andi main_v8 main_v12
  let main_v14 : FVec F S1x8192x2x128 .f32 := Host.absf main_arg3
  let main_cst_4 : FVec F S_ .f32 := constant S_ .f32 0x7F800000#32
  let main_v15 : FVec F S1x8192x2x128 .f32 := broadcastInDim S1x8192x2x128 ![] bcast_S_S1x8192x2x128 main_cst_4
  let main_v16 : IVec S1x8192x2x128 1 := cmpf .olt main_v14 main_v15
  fn_part1 (F := F) main_v13 main_v16
-- ==== Pre_finite_u.lean ====
abbrev S1x256x1024 : Shape := ⟨3, ![1, 256, 1024]⟩
abbrev S1x8192x1024 : Shape := ⟨3, ![1, 8192, 1024]⟩
abbrev S1x256x6144 : Shape := ⟨3, ![1, 256, 6144]⟩
abbrev S1x8192x6144 : Shape := ⟨3, ![1, 8192, 6144]⟩
abbrev S2x4x256x256 : Shape := ⟨4, ![2, 4, 256, 256]⟩
abbrev S2x1024 : Shape := ⟨2, ![2, 1024]⟩
abbrev S2x3x1024x2048 : Shape := ⟨4, ![2, 3, 1024, 2048]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn {F : FTy → Type} [FloatOps F] (main_arg0 : FVec F S1x256x1024 .f32) (main_arg1 : FVec F S1x8192x1024 .f32) (main_arg2 : FVec F S1x256x1024 .f32) (main_arg3 : FVec F S1x8192x1024 .f32) (main_arg4 : FVec F S1x256x1024 .f32) (main_arg5 : FVec F S1x8192x1024 .f32) (main_arg6 : FVec F S1x256x6144 .f32) (main_arg7 : FVec F S1x8192x6144 .f32) (main_arg8 : FVec F S2x4x256x256 .f32) (main_arg9 : FVec F S2x1024 .f32) (main_arg10 : FVec F S2x3x1024x2048 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  main_v8
-- ==== Kernel.lean ====
abbrev S1x256x2x4x128 : Shape := ⟨5, ![1, 256, 2, 4, 128]⟩
abbrev S1x8192x2x4x128 : Shape := ⟨5, ![1, 8192, 2, 4, 128]⟩
abbrev S1x256x2x128 : Shape := ⟨4, ![1, 256, 2, 128]⟩
abbrev S1x8192x2x128 : Shape := ⟨4, ![1, 8192, 2, 128]⟩
abbrev S128 : Shape := ⟨1, ![128]⟩
abbrev S1x8448x2x4x128 : Shape := ⟨5, ![1, 8448, 2, 4, 128]⟩
abbrev S8448x1024 : Shape := ⟨2, ![8448, 1024]⟩
abbrev S_ : Shape := ⟨0, ![]⟩
abbrev S1x8448x2x128 : Shape := ⟨4, ![1, 8448, 2, 128]⟩
abbrev S8448x256 : Shape := ⟨2, ![8448, 256]⟩
abbrev S8448x7680 : Shape := ⟨2, ![8448, 7680]⟩
abbrev S8448x10240 : Shape := ⟨2, ![8448, 10240]⟩
abbrev S1 : Shape := ⟨1, ![1]⟩
abbrev S256x512 : Shape := ⟨2, ![256, 512]⟩
abbrev S8448x128 : Shape := ⟨2, ![8448, 128]⟩
abbrev S8x128 : Shape := ⟨2, ![8, 128]⟩
abbrev S1024x128 : Shape := ⟨2, ![1024, 128]⟩
abbrev S1024x256 : Shape := ⟨2, ![1024, 256]⟩
abbrev S8448 : Shape := ⟨1, ![8448]⟩
abbrev S8448x1 : Shape := ⟨2, ![8448, 1]⟩
abbrev S1x1 : Shape := ⟨2, ![1, 1]⟩
abbrev S1x8x128 : Shape := ⟨3, ![1, 8, 128]⟩
abbrev S1x1x1 : Shape := ⟨3, ![1, 1, 1]⟩
abbrev S256x128 : Shape := ⟨2, ![256, 128]⟩
abbrev S1024 : Shape := ⟨1, ![1024]⟩
abbrev S1024x1 : Shape := ⟨2, ![1024, 1]⟩
abbrev S1x128 : Shape := ⟨2, ![1, 128]⟩
abbrev S256x256 : Shape := ⟨2, ![256, 256]⟩
abbrev S2048x128 : Shape := ⟨2, ![2048, 128]⟩
abbrev S1024x2048 : Shape := ⟨2, ![1024, 2048]⟩
abbrev S2048x256 : Shape := ⟨2, ![2048, 256]⟩

abbrev nBuf : Space → Nat
  | .hbm => 34
  | .vmem => 12
  | .smem => 2
  | _ => 0

abbrev bufTy : (tb : Table) → Fin (tcTables nBuf tb) → BufTy
  | .hbm, ⟨0, _⟩ => ⟨S1x256x2x4x128, .f32⟩
  | .hbm, ⟨1, _⟩ => ⟨S1x8192x2x4x128, .f32⟩
  | .hbm, ⟨2, _⟩ => ⟨S1x256x2x128, .f32⟩
  | .hbm, ⟨3, _⟩ => ⟨S1x8192x2x128, .f32⟩
  | .hbm, ⟨4, _⟩ => ⟨S1x256x2x128, .f32⟩
  | .hbm, ⟨5, _⟩ => ⟨S1x8192x2x128, .f32⟩
  | .hbm, ⟨6, _⟩ => ⟨S128, .f32⟩
  | .hbm, ⟨7, _⟩ => ⟨S1x8448x2x4x128, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S1x8448x2x128, .f32⟩
  | .hbm, ⟨17, _⟩ => ⟨S8448x256, .f32⟩
  | .hbm, ⟨18, _⟩ => ⟨S1x8448x2x128, .f32⟩
  | .hbm, ⟨19, _⟩ => ⟨S8448x256, .f32⟩
  | .hbm, ⟨20, _⟩ => ⟨S_, .f32⟩
  | .hbm, ⟨21, _⟩ => ⟨S8448x1024, .f32⟩
  | .hbm, ⟨22, _⟩ => ⟨S_, .f32⟩
  | .hbm, ⟨23, _⟩ => ⟨S8448x7680, .f32⟩
  | .hbm, ⟨24, _⟩ => ⟨S8448x10240, .f32⟩
  | .hbm, ⟨25, _⟩ => ⟨S8448x10240, .bf16⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S8448x1024, .bf16⟩
  | .local _ .vmem, ⟨0, _⟩ => ⟨S256x512, .bf16⟩
  | .local _ .vmem, ⟨1, _⟩ => ⟨S256x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S256x512, .bf16⟩
  | .local _ .vmem, ⟨7, _⟩ => ⟨S256x512, .bf16⟩
  | .local _ .vmem, ⟨8, _⟩ => ⟨S8448x256, .bf16⟩
  | .local _ .vmem, ⟨9, _⟩ => ⟨S8x128, .f32⟩
  | .local _ .vmem, ⟨10, _⟩ => ⟨S1024x128, .f32⟩
  | .local _ .vmem, ⟨11, _⟩ => ⟨S1024x256, .f32⟩
  | .local _ .smem, ⟨0, _⟩ => ⟨S1, .f32⟩
  | .local _ .smem, ⟨1, _⟩ => ⟨S1, .i32⟩
  | _, _ => ⟨S1x256x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch3 : Ref sig .tc := ⟨.vmem, 10, rfl⟩
abbrev cc0_scratch4 : Ref sig .tc := ⟨.vmem, 11, rfl⟩
abbrev cc0_stg0_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 33], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x256x2x4x128 : Shape := ⟨5, ![1, 256, 2, 4, 128]⟩
abbrev S1x8192x2x4x128 : Shape := ⟨5, ![1, 8192, 2, 4, 128]⟩
abbrev S1x256x2x128 : Shape := ⟨4, ![1, 256, 2, 128]⟩
abbrev S1x8192x2x128 : Shape := ⟨4, ![1, 8192, 2, 128]⟩
abbrev S128 : Shape := ⟨1, ![128]⟩
abbrev S1x2x256x256x4 : Shape := ⟨5, ![1, 2, 256, 256, 4]⟩
abbrev S1x2x4x256x256 : Shape := ⟨5, ![1, 2, 4, 256, 256]⟩
abbrev S_ : Shape := ⟨0, ![]⟩
abbrev S1x2x4x256 : Shape := ⟨4, ![1, 2, 4, 256]⟩
abbrev S1x2x4x256x1 : Shape := ⟨5, ![1, 2, 4, 256, 1]⟩
abbrev S1x2x128x4x256 : Shape := ⟨5, ![1, 2, 128, 4, 256]⟩
abbrev S1x8448x2x128 : Shape := ⟨4, ![1, 8448, 2, 128]⟩
abbrev S1x2x8448x8192x4 : Shape := ⟨5, ![1, 2, 8448, 8192, 4]⟩
abbrev S1x2x4x8192x8448 : Shape := ⟨5, ![1, 2, 4, 8192, 8448]⟩
abbrev S1x2x4x8192 : Shape := ⟨4, ![1, 2, 4, 8192]⟩
abbrev S1x2x4x8192x1 : Shape := ⟨5, ![1, 2, 4, 8192, 1]⟩
abbrev S1x2x128x4x8192 : Shape := ⟨5, ![1, 2, 128, 4, 8192]⟩
abbrev S1x8448x2x4x128 : Shape := ⟨5, ![1, 8448, 2, 4, 128]⟩
abbrev S8448x1024 : Shape := ⟨2, ![8448, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x256x2x4x128, .f32⟩
  | .hbm, ⟨1, _⟩ => ⟨S1x8192x2x4x128, .f32⟩
  | .hbm, ⟨2, _⟩ => ⟨S1x256x2x128, .f32⟩
  | .hbm, ⟨3, _⟩ => ⟨S1x8192x2x128, .f32⟩
  | .hbm, ⟨4, _⟩ => ⟨S1x256x2x128, .f32⟩
  | .hbm, ⟨5, _⟩ => ⟨S1x8192x2x128, .f32⟩
  | .hbm, ⟨6, _⟩ => ⟨S128, .f32⟩
  | .hbm, ⟨7, _⟩ => ⟨S1x2x256x256x4, .f32⟩
  | .hbm, ⟨8, _⟩ => ⟨S1x2x4x256x256, .f32⟩
  | .hbm, ⟨9, _⟩ => ⟨S_, .f32⟩
  | .hbm, ⟨10, _⟩ => ⟨S1x2x4x256x256, .f32⟩
  | .hbm, ⟨11, _⟩ => ⟨S1x2x4x256x256, .f32⟩
  | .hbm, ⟨12, _⟩ => ⟨S_, .f32⟩
  | .hbm, ⟨13, _⟩ => ⟨S1x2x4x256, .f32⟩
  | .hbm, ⟨14, _⟩ => ⟨S_, .f32⟩
  | .hbm, ⟨15, _⟩ => ⟨S1x2x4x256, .f32⟩
  | .hbm, ⟨16, _⟩ => ⟨S1x2x4x256, .f32⟩
  | .hbm, ⟨17, _⟩ => ⟨S1x2x4x256x1, .f32⟩
  | .hbm, ⟨18, _⟩ => ⟨S1x2x4x256x256, .f32⟩
  | .hbm, ⟨19, _⟩ => ⟨S1x2x4x256x256, .f32⟩
  | .hbm, ⟨20, _⟩ => ⟨S1x2x4x256x256, .f32⟩
  | .hbm, ⟨21, _⟩ => ⟨S_, .f32⟩
  | .hbm, ⟨22, _⟩ => ⟨S1x2x4x256, .f32⟩
  | .hbm, ⟨23, _⟩ => ⟨S1x2x4x256x1, .f32⟩
  | .hbm, ⟨24, _⟩ => ⟨S1x2x4x256x256, .f32⟩
  | .hbm, ⟨25, _⟩ => ⟨S1x2x4x256x256, .f32⟩
  | .hbm, ⟨26, _⟩ => ⟨S1x2x128x4x256, .f32⟩
  | .hbm, ⟨27, _⟩ => ⟨S1x256x2x4x128, .f32⟩
  | .hbm, ⟨28, _⟩ => ⟨S1x8448x2x128, .f32⟩
  | .hbm, ⟨29, _⟩ => ⟨S1x8448x2x128, .f32⟩
  | .hbm, ⟨30, _⟩ => ⟨S1x2x8448x8192x4, .f32⟩
  | .hbm, ⟨31, _⟩ => ⟨S1x2x4x8192x8448, .f32⟩
  | .hbm, ⟨32, _⟩ => ⟨S_, .f32⟩
  | .hbm, ⟨33, _⟩ => ⟨S1x2x4x8192x8448, .f32⟩
  | .hbm, ⟨34, _⟩ => ⟨S1x2x4x8192x8448, .f32⟩
  | .hbm, ⟨35, _⟩ => ⟨S_, .f32⟩
  | .hbm, ⟨36, _⟩ => ⟨S1x2x4x8192, .f32⟩
  | .hbm, ⟨37, _⟩ => ⟨S_, .f32⟩
  | .hbm, ⟨38, _⟩ => ⟨S1x2x4x8192, .f32⟩
  | .hbm, ⟨39, _⟩ => ⟨S1x2x4x8192, .f32⟩
  | .hbm, ⟨40, _⟩ => ⟨S1x2x4x8192x1, .f32⟩
  | .hbm, ⟨41, _⟩ => ⟨S1x2x4x8192x8448, .f32⟩
  | .hbm, ⟨42, _⟩ => ⟨S1x2x4x8192x8448, .f32⟩
  | .hbm, ⟨43, _⟩ => ⟨S1x2x4x8192x8448, .f32⟩
  | .hbm, ⟨44, _⟩ => ⟨S_, .f32⟩
  | .hbm, ⟨45, _⟩ => ⟨S1x2x4x8192, .f32⟩
  | .hbm, ⟨46, _⟩ => ⟨S1x2x4x8192x1, .f32⟩
  | .hbm, ⟨47, _⟩ => ⟨S1x2x4x8192x8448, .f32⟩
  | .hbm, ⟨48, _⟩ => ⟨S1x2x4x8192x8448, .f32⟩
  | .hbm, ⟨49, _⟩ => ⟨S1x2x128x4x8192, .f32⟩
  | .hbm, ⟨50, _⟩ => ⟨S1x8192x2x4x128, .f32⟩
  | .hbm, ⟨51, _⟩ => ⟨S1x8448x2x4x128, .f32⟩
  | .hbm, ⟨52, _⟩ => ⟨S8448x1024, .f32⟩
  | .hbm, ⟨53, _⟩ => ⟨S8448x1024, .bf16⟩
  | _, _ => ⟨S1x256x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel2.lean ====
abbrev S1x256x2048 : Shape := ⟨3, ![1, 256, 2048]⟩
abbrev S1x8192x2048 : Shape := ⟨3, ![1, 8192, 2048]⟩
abbrev S2x2048x10240 : Shape := ⟨3, ![2, 2048, 10240]⟩
abbrev S2x128 : Shape := ⟨2, ![2, 128]⟩
abbrev S1x8448x2048 : Shape := ⟨3, ![1, 8448, 2048]⟩
abbrev S8448x2048 : Shape := ⟨2, ![8448, 2048]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S256x128 : Shape := ⟨2, ![256, 128]⟩
abbrev S8448x128 : Shape := ⟨2, ![8448, 128]⟩
abbrev S1x128 : Shape := ⟨2, ![1, 128]⟩
abbrev S8448x10240 : Shape := ⟨2, ![8448, 10240]⟩
abbrev S768x2048 : Shape := ⟨2, ![768, 2048]⟩
abbrev S1x2048x1280 : Shape := ⟨3, ![1, 2048, 1280]⟩
abbrev S768x128 : Shape := ⟨2, ![768, 128]⟩
abbrev S768x1280 : Shape := ⟨2, ![768, 1280]⟩
abbrev S2048x1280 : Shape := ⟨2, ![2048, 1280]⟩
abbrev S768 : Shape := ⟨1, ![768]⟩
abbrev S768x1 : Shape := ⟨2, ![768, 1]⟩

abbrev nBuf : Space → Nat
  | .hbm => 84
  | .vmem => 13
  | .smem => 0
  | _ => 0

abbrev bufTy : (tb : Table) → Fin (tcTables nBuf tb) → BufTy
  | .hbm, ⟨0, _⟩ => ⟨S1x256x2048, .f32⟩
  | .hbm, ⟨1, _⟩ => ⟨S1x8192x2048, .f32⟩
  | .hbm, ⟨2, _⟩ => ⟨S2x2048x10240, .f32⟩
  | .hbm, ⟨3, _⟩ => ⟨S2x128, .f32⟩
  | .hbm, ⟨4, _⟩ => ⟨S2x128, .f32⟩
  | .hbm, ⟨5, _⟩ => ⟨S1x8448x2048, .f32⟩
  | .hbm, ⟨6, _⟩ => ⟨S8448x2048, .f32⟩
  | .hbm, ⟨7, _⟩ => ⟨S8448x2048, .bf16⟩
  | .hbm, ⟨8, _⟩ => ⟨S128, .f32⟩
  | .hbm, ⟨9, _⟩ => ⟨S128x64, .f32⟩
  | .hbm, ⟨10, _⟩ => ⟨S8192, .f32⟩
  | .hbm, ⟨11, _⟩ => ⟨S64, .f32⟩
  | .hbm, ⟨12, _⟩ => ⟨S1x64, .f32⟩
  | .hbm, ⟨13, _⟩ => ⟨S128x64, .f32⟩
  | .hbm, ⟨14, _⟩ => ⟨S8192, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x1, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x128, .f32⟩
  | .hbm, ⟨34, _⟩ => ⟨S128, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S_, .i1⟩
  | .hbm, ⟨51, _⟩ => ⟨S128, .i1⟩
  | .hbm, ⟨52, _⟩ => ⟨S128, .i1⟩
  | .hbm, ⟨53, _⟩ => ⟨S128, .i1⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S_, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S256x128, .f32⟩
  | .hbm, ⟨68, _⟩ => ⟨S8192x128, .f32⟩
  | .hbm, ⟨69, _⟩ => ⟨S8448x128, .f32⟩
  | .hbm, ⟨70, _⟩ => ⟨S_, .f32⟩
  | .hbm, ⟨71, _⟩ => ⟨S256x128, .f32⟩
  | .hbm, ⟨72, _⟩ => ⟨S8192x128, .f32⟩
  | .hbm, ⟨73, _⟩ => ⟨S1x128, .f32⟩
  | .hbm, ⟨74, _⟩ => ⟨S8192x128, .f32⟩
  | .hbm, ⟨75, _⟩ => ⟨S8192x128, .f32⟩
  | .hbm, ⟨76, _⟩ => ⟨S8448x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S8448x10240, .bf16⟩
  | .local _ .vmem, ⟨0, _⟩ => ⟨S768x2048, .bf16⟩
  | .local _ .vmem, ⟨1, _⟩ => ⟨S768x2048, .bf16⟩
  | .local _ .vmem, ⟨2, _⟩ => ⟨S1x2048x1280, .f32⟩
  | .local _ .vmem, ⟨3, _⟩ => ⟨S1x2048x1280, .f32⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S1x128, .f32⟩
  | .local _ .vmem, ⟨9, _⟩ => ⟨S1x128, .f32⟩
  | .local _ .vmem, ⟨10, _⟩ => ⟨S768x1280, .bf16⟩
  | .local _ .vmem, ⟨11, _⟩ => ⟨S768x1280, .bf16⟩
  | .local _ .vmem, ⟨12, _⟩ => ⟨S2048x1280, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v28 : Ref sig .tc := ⟨.hbm, 56, rfl⟩
abbrev main_c_1 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg0 : BitVec 32 := BitVec.ofNat 32 (i 0).val
  let c0_i32_8 : BitVec 32 := 0#32
  let v26 : BitVec 1 := Scalar.cmpi .eq arg0 c0_i32_8
  let v27 : BitVec 32 := Scalar.extui v26
  let c0_i32_9 : BitVec 32 := 0#32
  let v28 : BitVec 1 := Scalar.cmpi .ne v27 c0_i32_9
  v28

def k0_cond3 (i : grid0.Coords) : BitVec 1 :=
  let arg0 : BitVec 32 := BitVec.ofNat 32 (i 0).val
  let c1_i32_10 : BitVec 32 := 1#32
  let v29 : BitVec 1 := Scalar.cmpi .eq arg0 c1_i32_10
  let v30 : BitVec 32 := Scalar.extui v29
  let c0_i32_11 : BitVec 32 := 0#32
  let v31 : BitVec 1 := Scalar.cmpi .ne v30 c0_i32_11
  v31

def k0_cond4 (i : grid0.Coords) : BitVec 1 :=
  let arg0 : BitVec 32 := BitVec.ofNat 32 (i 0).val
  let c2_i32 : BitVec 32 := 2#32
  let v32 : BitVec 1 := Scalar.cmpi .eq arg0 c2_i32
  let v33 : BitVec 32 := Scalar.extui v32
  let c0_i32_12 : BitVec 32 := 0#32
  let v34 : BitVec 1 := Scalar.cmpi .ne v33 c0_i32_12
  v34

def k0_cond5 (i : grid0.Coords) : BitVec 1 :=
  let arg0 : BitVec 32 := BitVec.ofNat 32 (i 0).val
  let c3_i32 : BitVec 32 := 3#32
  let v35 : BitVec 1 := Scalar.cmpi .eq arg0 c3_i32
  let c4_i32 : BitVec 32 := 4#32
  let v36 : BitVec 1 := Scalar.cmpi .eq arg0 c4_i32
  let v40 : BitVec 1 := Scalar.ori v35 v36
  let c5_i32 : BitVec 32 := 5#32
  let v37 : BitVec 1 := Scalar.cmpi .eq arg0 c5_i32
  let v41 : BitVec 1 := Scalar.ori v40 v37
  let c6_i32 : BitVec 32 := 6#32
  let v38 : BitVec 1 := Scalar.cmpi .eq arg0 c6_i32
  let v42 : BitVec 1 := Scalar.ori v41 v38
  let c7_i32 : BitVec 32 := 7#32
  let v39 : BitVec 1 := Scalar.cmpi .eq arg0 c7_i32
  let v43 : BitVec 1 := Scalar.ori v42 v39
  let v44 : BitVec 32 := Scalar.extui v43
  let c0_i32_13 : BitVec 32 := 0#32
  let v45 : BitVec 1 := Scalar.cmpi .ne v44 c0_i32_13
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S1x256x2048 : Shape := ⟨3, ![1, 256, 2048]⟩
abbrev S1x8192x2048 : Shape := ⟨3, ![1, 8192, 2048]⟩
abbrev S2x2048x10240 : Shape := ⟨3, ![2, 2048, 10240]⟩
abbrev S2x128 : Shape := ⟨2, ![2, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x2048x10240 : Shape := ⟨3, ![1, 2048, 10240]⟩
abbrev S2048x10240 : Shape := ⟨2, ![2048, 10240]⟩
abbrev S1x8192x10240 : Shape := ⟨3, ![1, 8192, 10240]⟩
abbrev S1x8192x1024 : Shape := ⟨3, ![1, 8192, 1024]⟩
abbrev S1x8192x2x4x128 : Shape := ⟨5, ![1, 8192, 2, 4, 128]⟩
abbrev S1x128 : Shape := ⟨2, ![1, 128]⟩
abbrev S1x8192x2x4 : Shape := ⟨4, ![1, 8192, 2, 4]⟩
abbrev S1x8192x2x4x1 : Shape := ⟨5, ![1, 8192, 2, 4, 1]⟩
abbrev S1x1x1x1x128 : Shape := ⟨5, ![1, 1, 1, 1, 128]⟩
abbrev S1x8192x2x4x64 : Shape := ⟨5, ![1, 8192, 2, 4, 64]⟩
abbrev S1x8192x2x4x32 : Shape := ⟨5, ![1, 8192, 2, 4, 32]⟩
abbrev S8192x1x1x128 : Shape := ⟨4, ![8192, 1, 1, 128]⟩
abbrev S1x8192x1x1x128 : Shape := ⟨5, ![1, 8192, 1, 1, 128]⟩
abbrev S1x8192x256 : Shape := ⟨3, ![1, 8192, 256]⟩
abbrev S1x8192x2x128 : Shape := ⟨4, ![1, 8192, 2, 128]⟩
abbrev S1x8192x2 : Shape := ⟨3, ![1, 8192, 2]⟩
abbrev S1x8192x2x1 : Shape := ⟨4, ![1, 8192, 2, 1]⟩
abbrev S1x1x1x128 : Shape := ⟨4, ![1, 1, 1, 128]⟩
abbrev S1x8192x2x64 : Shape := ⟨4, ![1, 8192, 2, 64]⟩
abbrev S1x8192x2x32 : Shape := ⟨4, ![1, 8192, 2, 32]⟩
abbrev S8192x1x128 : Shape := ⟨3, ![8192, 1, 128]⟩
abbrev S1x8192x1x128 : Shape := ⟨4, ![1, 8192, 1, 128]⟩
abbrev S1x8192x6144 : Shape := ⟨3, ![1, 8192, 6144]⟩
abbrev S2048x256 : Shape := ⟨2, ![2048, 256]⟩
abbrev S1x256x256 : Shape := ⟨3, ![1, 256, 256]⟩
abbrev S1x256x2x128 : Shape := ⟨4, ![1, 256, 2, 128]⟩
abbrev S1x256x2 : Shape := ⟨3, ![1, 256, 2]⟩
abbrev S1x256x2x1 : Shape := ⟨4, ![1, 256, 2, 1]⟩
abbrev S2048x1024 : Shape := ⟨2, ![2048, 1024]⟩
abbrev S1x256x1024 : Shape := ⟨3, ![1, 256, 1024]⟩
abbrev S1x256x2x4x128 : Shape := ⟨5, ![1, 256, 2, 4, 128]⟩
abbrev S1x256x2x4 : Shape := ⟨4, ![1, 256, 2, 4]⟩
abbrev S1x256x2x4x1 : Shape := ⟨5, ![1, 256, 2, 4, 1]⟩
abbrev S2048x6144 : Shape := ⟨2, ![2048, 6144]⟩
abbrev S1x256x6144 : Shape := ⟨3, ![1, 256, 6144]⟩
abbrev S1x256x10240 : Shape := ⟨3, ![1, 256, 10240]⟩
abbrev S1x8448x10240 : Shape := ⟨3, ![1, 8448, 10240]⟩
abbrev S8448x10240 : Shape := ⟨2, ![8448, 10240]⟩

abbrev nBuf : Space → Nat
  | .hbm => 237
  | .vmem => 0
  | .smem => 0
  | _ => 0

abbrev hbmTy0_0 (i : Nat) : BufTy := match i % 128 with
  | 0 => ⟨S1x256x2048, .f32⟩
  | 1 => ⟨S1x8192x2048, .f32⟩
  | 2 => ⟨S2x2048x10240, .f32⟩
  | 3 => ⟨S2x128, .f32⟩
  | 4 => ⟨S2x128, .f32⟩
  | 5 => ⟨S128, .f32⟩
  | 6 => ⟨S128x64, .f32⟩
  | 7 => ⟨S8192, .f32⟩
  | 8 => ⟨S64, .f32⟩
  | 9 => ⟨S1x64, .f32⟩
  | 10 => ⟨S128x64, .f32⟩
  | 11 => ⟨S8192, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S8192x1, .f32⟩
  | 21 => ⟨S1x32, .f32⟩
  | 22 => ⟨S8192x32, .f32⟩
  | 23 => ⟨S8192x32, .f32⟩
  | 24 => ⟨S8192x32, .f32⟩
  | 25 => ⟨S8192x1, .f32⟩
  | 26 => ⟨S1x32, .f32⟩
  | 27 => ⟨S8192x32, .f32⟩
  | 28 => ⟨S8192x32, .f32⟩
  | 29 => ⟨S8192x32, .f32⟩
  | 30 => ⟨S8192x128, .f32⟩
  | 31 => ⟨S8192x128, .f32⟩
  | 32 => ⟨S8192x128, .f32⟩
  | 33 => ⟨S1x2048x10240, .f32⟩
  | 34 => ⟨S2048x10240, .f32⟩
  | 35 => ⟨S1x8192x10240, .f32⟩
  | 36 => ⟨S1x8192x1024, .f32⟩
  | 37 => ⟨S1x8192x1024, .f32⟩
  | 38 => ⟨S1x8192x2x4x128, .f32⟩
  | 39 => ⟨S1x128, .f32⟩
  | 40 => ⟨S128, .f32⟩
  | 41 => ⟨S1x8192x2x4x128, .f32⟩
  | 42 => ⟨S_, .f32⟩
  | 43 => ⟨S1x8192x2x4, .f32⟩
  | 44 => ⟨S1x8192x2x4x1, .f32⟩
  | 45 => ⟨S_, .f32⟩
  | 46 => ⟨S1x8192x2x4x1, .f32⟩
  | 47 => ⟨S1x8192x2x4x1, .f32⟩
  | 48 => ⟨S_, .f32⟩
  | 49 => ⟨S1x8192x2x4x1, .f32⟩
  | 50 => ⟨S1x8192x2x4x1, .f32⟩
  | 51 => ⟨S1x8192x2x4x1, .f32⟩
  | 52 => ⟨S1x8192x2x4x128, .f32⟩
  | 53 => ⟨S1x8192x2x4x128, .f32⟩
  | 54 => ⟨S1x1x1x1x128, .f32⟩
  | 55 => ⟨S1x8192x2x4x128, .f32⟩
  | 56 => ⟨S1x8192x2x4x128, .f32⟩
  | 57 => ⟨S1x8192x2x4x64, .f32⟩
  | 58 => ⟨S1x8192x2x4x64, .f32⟩
  | 59 => ⟨S1x8192x2x4x32, .f32⟩
  | 60 => ⟨S1x8192x2x4x32, .f32⟩
  | 61 => ⟨S1x8192x2x4x32, .f32⟩
  | 62 => ⟨S1x8192x2x4x32, .f32⟩
  | 63 => ⟨S1x8192x2x4x32, .f32⟩
  | 64 => ⟨S1x8192x2x4x32, .f32⟩
  | 65 => ⟨S1x8192x2x4x128, .f32⟩
  | 66 => ⟨S8192x1x1x128, .f32⟩
  | 67 => ⟨S1x8192x1x1x128, .f32⟩
  | 68 => ⟨S1x8192x2x4x128, .f32⟩
  | 69 => ⟨S1x8192x2x4x128, .f32⟩
  | 70 => ⟨S8192x1x1x128, .f32⟩
  | 71 => ⟨S1x8192x1x1x128, .f32⟩
  | 72 => ⟨S1x8192x2x4x128, .f32⟩
  | 73 => ⟨S1x8192x2x4x128, .f32⟩
  | 74 => ⟨S1x8192x2x4x128, .f32⟩
  | 75 => ⟨S1x8192x256, .f32⟩
  | 76 => ⟨S1x8192x2x128, .f32⟩
  | 77 => ⟨S1x128, .f32⟩
  | 78 => ⟨S128, .f32⟩
  | 79 => ⟨S1x8192x2x128, .f32⟩
  | 80 => ⟨S_, .f32⟩
  | 81 => ⟨S1x8192x2, .f32⟩
  | 82 => ⟨S1x8192x2x1, .f32⟩
  | 83 => ⟨S_, .f32⟩
  | 84 => ⟨S1x8192x2x1, .f32⟩
  | 85 => ⟨S1x8192x2x1, .f32⟩
  | 86 => ⟨S_, .f32⟩
  | 87 => ⟨S1x8192x2x1, .f32⟩
  | 88 => ⟨S1x8192x2x1, .f32⟩
  | 89 => ⟨S1x8192x2x1, .f32⟩
  | 90 => ⟨S1x8192x2x128, .f32⟩
  | 91 => ⟨S1x8192x2x128, .f32⟩
  | 92 => ⟨S1x1x1x128, .f32⟩
  | 93 => ⟨S1x8192x2x128, .f32⟩
  | 94 => ⟨S1x8192x2x128, .f32⟩
  | 95 => ⟨S1x8192x2x64, .f32⟩
  | 96 => ⟨S1x8192x2x64, .f32⟩
  | 97 => ⟨S1x8192x2x32, .f32⟩
  | 98 => ⟨S1x8192x2x32, .f32⟩
  | 99 => ⟨S1x8192x2x32, .f32⟩
  | 100 => ⟨S1x8192x2x32, .f32⟩
  | 101 => ⟨S1x8192x2x32, .f32⟩
  | 102 => ⟨S1x8192x2x32, .f32⟩
  | 103 => ⟨S1x8192x2x128, .f32⟩
  | 104 => ⟨S8192x1x128, .f32⟩
  | 105 => ⟨S1x8192x1x128, .f32⟩
  | 106 => ⟨S1x8192x2x128, .f32⟩
  | 107 => ⟨S1x8192x2x128, .f32⟩
  | 108 => ⟨S8192x1x128, .f32⟩
  | 109 => ⟨S1x8192x1x128, .f32⟩
  | 110 => ⟨S1x8192x2x128, .f32⟩
  | 111 => ⟨S1x8192x2x128, .f32⟩
  | 112 => ⟨S1x8192x2x128, .f32⟩
  | 113 => ⟨S1x8192x256, .f32⟩
  | 114 => ⟨S1x8192x1024, .f32⟩
  | 115 => ⟨S1x8192x2x4x128, .f32⟩
  | 116 => ⟨S1x8192x2x4x64, .f32⟩
  | 117 => ⟨S1x8192x2x4x64, .f32⟩
  | 118 => ⟨S1x8192x2x4x32, .f32⟩
  | 119 => ⟨S1x8192x2x4x32, .f32⟩
  | 120 => ⟨S1x8192x2x4x32, .f32⟩
  | 121 => ⟨S1x8192x2x4x32, .f32⟩
  | 122 => ⟨S1x8192x2x4x32, .f32⟩
  | 123 => ⟨S1x8192x2x4x32, .f32⟩
  | 124 => ⟨S1x8192x2x4x128, .f32⟩
  | 125 => ⟨S8192x1x1x128, .f32⟩
  | 126 => ⟨S1x8192x1x1x128, .f32⟩
  | 127 => ⟨S1x8192x2x4x128, .f32⟩
  | _ => ⟨S1x256x2048, .f32⟩

abbrev hbmTy0_1 (i : Nat) : BufTy := match i % 128 with
  | 0 => ⟨S1x8192x2x4x128, .f32⟩
  | 1 => ⟨S8192x1x1x128, .f32⟩
  | 2 => ⟨S1x8192x1x1x128, .f32⟩
  | 3 => ⟨S1x8192x2x4x128, .f32⟩
  | 4 => ⟨S1x8192x2x4x128, .f32⟩
  | 5 => ⟨S1x8192x2x4x128, .f32⟩
  | 6 => ⟨S1x8192x256, .f32⟩
  | 7 => ⟨S1x8192x2x128, .f32⟩
  | 8 => ⟨S1x8192x2x64, .f32⟩
  | 9 => ⟨S1x8192x2x64, .f32⟩
  | 10 => ⟨S1x8192x2x32, .f32⟩
  | 11 => ⟨S1x8192x2x32, .f32⟩
  | 12 => ⟨S1x8192x2x32, .f32⟩
  | 13 => ⟨S1x8192x2x32, .f32⟩
  | 14 => ⟨S1x8192x2x32, .f32⟩
  | 15 => ⟨S1x8192x2x32, .f32⟩
  | 16 => ⟨S1x8192x2x128, .f32⟩
  | 17 => ⟨S8192x1x128, .f32⟩
  | 18 => ⟨S1x8192x1x128, .f32⟩
  | 19 => ⟨S1x8192x2x128, .f32⟩
  | 20 => ⟨S1x8192x2x128, .f32⟩
  | 21 => ⟨S8192x1x128, .f32⟩
  | 22 => ⟨S1x8192x1x128, .f32⟩
  | 23 => ⟨S1x8192x2x128, .f32⟩
  | 24 => ⟨S1x8192x2x128, .f32⟩
  | 25 => ⟨S1x8192x2x128, .f32⟩
  | 26 => ⟨S1x8192x256, .f32⟩
  | 27 => ⟨S1x8192x6144, .f32⟩
  | 28 => ⟨S2048x256, .f32⟩
  | 29 => ⟨S1x256x256, .f32⟩
  | 30 => ⟨S1x256x2x128, .f32⟩
  | 31 => ⟨S1x128, .f32⟩
  | 32 => ⟨S128, .f32⟩
  | 33 => ⟨S1x256x2x128, .f32⟩
  | 34 => ⟨S_, .f32⟩
  | 35 => ⟨S1x256x2, .f32⟩
  | 36 => ⟨S1x256x2x1, .f32⟩
  | 37 => ⟨S_, .f32⟩
  | 38 => ⟨S1x256x2x1, .f32⟩
  | 39 => ⟨S1x256x2x1, .f32⟩
  | 40 => ⟨S_, .f32⟩
  | 41 => ⟨S1x256x2x1, .f32⟩
  | 42 => ⟨S1x256x2x1, .f32⟩
  | 43 => ⟨S1x256x2x1, .f32⟩
  | 44 => ⟨S1x256x2x128, .f32⟩
  | 45 => ⟨S1x256x2x128, .f32⟩
  | 46 => ⟨S1x1x1x128, .f32⟩
  | 47 => ⟨S1x256x2x128, .f32⟩
  | 48 => ⟨S1x256x2x128, .f32⟩
  | 49 => ⟨S2048x256, .f32⟩
  | 50 => ⟨S1x256x256, .f32⟩
  | 51 => ⟨S2048x256, .f32⟩
  | 52 => ⟨S1x256x256, .f32⟩
  | 53 => ⟨S1x256x2x128, .f32⟩
  | 54 => ⟨S2048x256, .f32⟩
  | 55 => ⟨S1x256x256, .f32⟩
  | 56 => ⟨S2048x1024, .f32⟩
  | 57 => ⟨S1x256x1024, .f32⟩
  | 58 => ⟨S2048x1024, .f32⟩
  | 59 => ⟨S1x256x1024, .f32⟩
  | 60 => ⟨S1x256x2x4x128, .f32⟩
  | 61 => ⟨S1x128, .f32⟩
  | 62 => ⟨S128, .f32⟩
  | 63 => ⟨S1x256x2x4x128, .f32⟩
  | 64 => ⟨S_, .f32⟩
  | 65 => ⟨S1x256x2x4, .f32⟩
  | 66 => ⟨S1x256x2x4x1, .f32⟩
  | 67 => ⟨S_, .f32⟩
  | 68 => ⟨S1x256x2x4x1, .f32⟩
  | 69 => ⟨S1x256x2x4x1, .f32⟩
  | 70 => ⟨S_, .f32⟩
  | 71 => ⟨S1x256x2x4x1, .f32⟩
  | 72 => ⟨S1x256x2x4x1, .f32⟩
  | 73 => ⟨S1x256x2x4x1, .f32⟩
  | 74 => ⟨S1x256x2x4x128, .f32⟩
  | 75 => ⟨S1x256x2x4x128, .f32⟩
  | 76 => ⟨S1x1x1x1x128, .f32⟩
  | 77 => ⟨S1x256x2x4x128, .f32⟩
  | 78 => ⟨S1x256x2x4x128, .f32⟩
  | 79 => ⟨S2048x1024, .f32⟩
  | 80 => ⟨S1x256x1024, .f32⟩
  | 81 => ⟨S1x256x2x4x128, .f32⟩
  | 82 => ⟨S2048x6144, .f32⟩
  | 83 => ⟨S1x256x6144, .f32⟩
  | 84 => ⟨S1x8192x1024, .f32⟩
  | 85 => ⟨S_, .f32⟩
  | 86 => ⟨S1x8192x1024, .f32⟩
  | 87 => ⟨S1x8192x1024, .f32⟩
  | 88 => ⟨S1x8192x256, .f32⟩
  | 89 => ⟨S1x8192x1024, .f32⟩
  | 90 => ⟨S_, .f32⟩
  | 91 => ⟨S1x8192x1024, .f32⟩
  | 92 => ⟨S1x8192x1024, .f32⟩
  | 93 => ⟨S1x8192x256, .f32⟩
  | 94 => ⟨S1x8192x10240, .f32⟩
  | 95 => ⟨S1x256x1024, .f32⟩
  | 96 => ⟨S_, .f32⟩
  | 97 => ⟨S1x256x1024, .f32⟩
  | 98 => ⟨S1x256x1024, .f32⟩
  | 99 => ⟨S1x256x256, .f32⟩
  | 100 => ⟨S1x256x1024, .f32⟩
  | 101 => ⟨S_, .f32⟩
  | 102 => ⟨S1x256x1024, .f32⟩
  | 103 => ⟨S1x256x1024, .f32⟩
  | 104 => ⟨S1x256x256, .f32⟩
  | 105 => ⟨S1x256x10240, .f32⟩
  | 106 => ⟨S1x8448x10240, .f32⟩
  | 107 => ⟨S8448x10240, .f32⟩
  | 108 => ⟨S8448x10240, .bf16⟩
  | _ => ⟨S1x256x2048, .f32⟩

abbrev hbmTy (i : Nat) : BufTy := match i / 128 with
  | 0 => hbmTy0_0 i
  | 1 => hbmTy0_1 i
  | _ => ⟨S1x256x2048, .f32⟩

abbrev bufTy : (tb : Table) → Fin (tcTables nBuf tb) → BufTy
  | .hbm, ⟨i, _⟩ => hbmTy i
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_4 : Ref sig .tc := ⟨.hbm, 80, rfl⟩
abbrev main_v70 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_cst_7 : Ref sig .tc := ⟨.hbm, 162, rfl⟩
abbrev main_v149 : Ref sig .tc := ⟨.hbm, 163, rfl⟩
abbrev main_v150 : Ref sig .tc := ⟨.hbm, 164, rfl⟩
abbrev main_cst_8 : Ref sig .tc := ⟨.hbm, 165, rfl⟩
abbrev main_v151 : Ref sig .tc := ⟨.hbm, 166, rfl⟩
abbrev main_v152 : Ref sig .tc := ⟨.hbm, 167, rfl⟩
abbrev main_cst_9 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_cst_10 : Ref sig .tc := ⟨.hbm, 192, rfl⟩
abbrev main_v176 : Ref sig .tc := ⟨.hbm, 193, rfl⟩
abbrev main_v177 : Ref sig .tc := ⟨.hbm, 194, rfl⟩
abbrev main_cst_11 : Ref sig .tc := ⟨.hbm, 195, rfl⟩
abbrev main_v178 : Ref sig .tc := ⟨.hbm, 196, rfl⟩
abbrev main_v179 : Ref sig .tc := ⟨.hbm, 197, rfl⟩
abbrev main_cst_12 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_cst_13 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_cst_14 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_cst_15 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_cst_16 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩

abbrev nD : Nat := 1
abbrev τ : Topo := Topo.v7x

variable {F : FTy → Type} [FloatOps F]
-- ==== Kernel3.lean ====
abbrev S1x8192x2048 : Shape := ⟨3, ![1, 8192, 2048]⟩
abbrev S1x256x2048 : Shape := ⟨3, ![1, 256, 2048]⟩
abbrev S8x12288 : Shape := ⟨2, ![8, 12288]⟩
abbrev S2x2048 : Shape := ⟨2, ![2, 2048]⟩
abbrev S256x2048 : Shape := ⟨2, ![256, 2048]⟩
abbrev S8192x2048 : Shape := ⟨2, ![8192, 2048]⟩
abbrev S1x2048 : Shape := ⟨2, ![1, 2048]⟩
abbrev S2048 : Shape := ⟨1, ![2048]⟩
abbrev S8448x2048 : Shape := ⟨2, ![8448, 2048]⟩
abbrev S8x2048 : Shape := ⟨2, ![8, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S1x256x2048, .f32⟩
  | .hbm, ⟨2, _⟩ => ⟨S8x12288, .f32⟩
  | .hbm, ⟨3, _⟩ => ⟨S2x2048, .f32⟩
  | .hbm, ⟨4, _⟩ => ⟨S256x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8448x2048, .f32⟩
  | .hbm, ⟨10, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S8x2048, .f32⟩
  | .local _ .vmem, ⟨4, _⟩ => ⟨S8x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1x8192x2048 : Shape := ⟨3, ![1, 8192, 2048]⟩
abbrev S1x256x2048 : Shape := ⟨3, ![1, 256, 2048]⟩
abbrev S8x12288 : Shape := ⟨2, ![8, 12288]⟩
abbrev S2x2048 : Shape := ⟨2, ![2, 2048]⟩
abbrev S1x12288 : Shape := ⟨2, ![1, 12288]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x256 : Shape := ⟨2, ![1, 256]⟩
abbrev S1x256x1 : Shape := ⟨3, ![1, 256, 1]⟩
abbrev S1x8448x2048 : Shape := ⟨3, ![1, 8448, 2048]⟩
abbrev S8448x2048 : Shape := ⟨2, ![8448, 2048]⟩

abbrev nBuf : Space → Nat
  | .hbm => 77
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x256x2048, .f32⟩
  | .hbm, ⟨2, _⟩ => ⟨S8x12288, .f32⟩
  | .hbm, ⟨3, _⟩ => ⟨S2x2048, .f32⟩
  | .hbm, ⟨4, _⟩ => ⟨S1x12288, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x12288, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S1x8192x2048, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S1x8192x2048, .f32⟩
  | .hbm, ⟨32, _⟩ => ⟨S1x8192x2048, .f32⟩
  | .hbm, ⟨33, _⟩ => ⟨S1x1x2048, .f32⟩
  | .hbm, ⟨34, _⟩ => ⟨S1x8192x2048, .f32⟩
  | .hbm, ⟨35, _⟩ => ⟨S1x8192x2048, .f32⟩
  | .hbm, ⟨36, _⟩ => ⟨S1x1x2048, .f32⟩
  | .hbm, ⟨37, _⟩ => ⟨S_, .f32⟩
  | .hbm, ⟨38, _⟩ => ⟨S1x1x2048, .f32⟩
  | .hbm, ⟨39, _⟩ => ⟨S1x1x2048, .f32⟩
  | .hbm, ⟨40, _⟩ => ⟨S1x8192x2048, .f32⟩
  | .hbm, ⟨41, _⟩ => ⟨S1x8192x2048, .f32⟩
  | .hbm, ⟨42, _⟩ => ⟨S1x1x2048, .f32⟩
  | .hbm, ⟨43, _⟩ => ⟨S1x8192x2048, .f32⟩
  | .hbm, ⟨44, _⟩ => ⟨S1x8192x2048, .f32⟩
  | .hbm, ⟨45, _⟩ => ⟨S1x2048, .f32⟩
  | .hbm, ⟨46, _⟩ => ⟨S2048, .f32⟩
  | .hbm, ⟨47, _⟩ => ⟨S1x256x2048, .f32⟩
  | .hbm, ⟨48, _⟩ => ⟨S_, .f32⟩
  | .hbm, ⟨49, _⟩ => ⟨S1x256, .f32⟩
  | .hbm, ⟨50, _⟩ => ⟨S1x256x1, .f32⟩
  | .hbm, ⟨51, _⟩ => ⟨S_, .f32⟩
  | .hbm, ⟨52, _⟩ => ⟨S1x256x1, .f32⟩
  | .hbm, ⟨53, _⟩ => ⟨S1x256x1, .f32⟩
  | .hbm, ⟨54, _⟩ => ⟨S_, .f32⟩
  | .hbm, ⟨55, _⟩ => ⟨S1x256x1, .f32⟩
  | .hbm, ⟨56, _⟩ => ⟨S1x256x1, .f32⟩
  | .hbm, ⟨57, _⟩ => ⟨S1x256x1, .f32⟩
  | .hbm, ⟨58, _⟩ => ⟨S1x256x2048, .f32⟩
  | .hbm, ⟨59, _⟩ => ⟨S1x256x2048, .f32⟩
  | .hbm, ⟨60, _⟩ => ⟨S1x1x2048, .f32⟩
  | .hbm, ⟨61, _⟩ => ⟨S1x256x2048, .f32⟩
  | .hbm, ⟨62, _⟩ => ⟨S1x256x2048, .f32⟩
  | .hbm, ⟨63, _⟩ => ⟨S1x1x2048, .f32⟩
  | .hbm, ⟨64, _⟩ => ⟨S_, .f32⟩
  | .hbm, ⟨65, _⟩ => ⟨S1x1x2048, .f32⟩
  | .hbm, ⟨66, _⟩ => ⟨S1x1x2048, .f32⟩
  | .hbm, ⟨67, _⟩ => ⟨S1x256x2048, .f32⟩
  | .hbm, ⟨68, _⟩ => ⟨S1x256x2048, .f32⟩
  | .hbm, ⟨69, _⟩ => ⟨S1x1x2048, .f32⟩
  | .hbm, ⟨70, _⟩ => ⟨S1x256x2048, .f32⟩
  | .hbm, ⟨71, _⟩ => ⟨S1x256x2048, .f32⟩
  | .hbm, ⟨72, _⟩ => ⟨S1x8448x2048, .f32⟩
  | .hbm, ⟨73, _⟩ => ⟨S8448x2048, .f32⟩
  | .hbm, ⟨74, _⟩ => ⟨S1x8448x2048, .f32⟩
  | .hbm, ⟨75, _⟩ => ⟨S8448x2048, .f32⟩
  | .hbm, ⟨76, _⟩ => ⟨S8448x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Kernel4.lean ====
abbrev S1x2048 : Shape := ⟨2, ![1, 2048]⟩
abbrev S2048 : Shape := ⟨1, ![2048]⟩
abbrev S2x2048x12288 : Shape := ⟨3, ![2, 2048, 12288]⟩
abbrev S2x12288 : Shape := ⟨2, ![2, 12288]⟩
abbrev S2x2048 : Shape := ⟨2, ![2, 2048]⟩
abbrev S2x2048x1 : Shape := ⟨3, ![2, 2048, 1]⟩
abbrev S2x2048x128 : Shape := ⟨3, ![2, 2048, 128]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S1x2048x128 : Shape := ⟨3, ![1, 2048, 128]⟩
abbrev S2048x128 : Shape := ⟨2, ![2048, 128]⟩
abbrev S128 : Shape := ⟨1, ![128]⟩
abbrev S1x128 : Shape := ⟨2, ![1, 128]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 12
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2x2048, .f32⟩
  | .hbm, ⟨8, _⟩ => ⟨S2x2048x1, .f32⟩
  | .hbm, ⟨9, _⟩ => ⟨S2x2048x128, .f32⟩
  | .hbm, ⟨10, _⟩ => ⟨S2x1x12288, .f32⟩
  | .hbm, ⟨11, _⟩ => ⟨S2x8x12288, .f32⟩
  | .local _ .vmem, ⟨0, _⟩ => ⟨S2x2048x128, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S1x2048 : Shape := ⟨2, ![1, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S6x12288 : Shape := ⟨2, ![6, 12288]⟩
abbrev S8x12288 : Shape := ⟨2, ![8, 12288]⟩
abbrev S1x8x12288 : Shape := ⟨3, ![1, 8, 12288]⟩
abbrev S2x8x12288 : Shape := ⟨3, ![2, 8, 12288]⟩

abbrev nBuf : Space → Nat
  | .hbm => 59
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S1x2048x12288, .f32⟩
  | .hbm, ⟨23, _⟩ => ⟨S2048x12288, .f32⟩
  | .hbm, ⟨24, _⟩ => ⟨S1x12288, .f32⟩
  | .hbm, ⟨25, _⟩ => ⟨S1x12288, .f32⟩
  | .hbm, ⟨26, _⟩ => ⟨S12288, .f32⟩
  | .hbm, ⟨27, _⟩ => ⟨S1x12288, .f32⟩
  | .hbm, ⟨28, _⟩ => ⟨S1x12288, .f32⟩
  | .hbm, ⟨29, _⟩ => ⟨S1x2048x12288, .f32⟩
  | .hbm, ⟨30, _⟩ => ⟨S2048x12288, .f32⟩
  | .hbm, ⟨31, _⟩ => ⟨S12288, .f32⟩
  | .hbm, ⟨32, _⟩ => ⟨S1x12288, .f32⟩
  | .hbm, ⟨33, _⟩ => ⟨S12288, .f32⟩
  | .hbm, ⟨34, _⟩ => ⟨S12288, .f32⟩
  | .hbm, ⟨35, _⟩ => ⟨S1x12288, .f32⟩
  | .hbm, ⟨36, _⟩ => ⟨S_, .f32⟩
  | .hbm, ⟨37, _⟩ => ⟨S6x12288, .f32⟩
  | .hbm, ⟨38, _⟩ => ⟨S8x12288, .f32⟩
  | .hbm, ⟨39, _⟩ => ⟨S1x2048x12288, .f32⟩
  | .hbm, ⟨40, _⟩ => ⟨S2048x12288, .f32⟩
  | .hbm, ⟨41, _⟩ => ⟨S1x12288, .f32⟩
  | .hbm, ⟨42, _⟩ => ⟨S1x12288, .f32⟩
  | .hbm, ⟨43, _⟩ => ⟨S12288, .f32⟩
  | .hbm, ⟨44, _⟩ => ⟨S1x12288, .f32⟩
  | .hbm, ⟨45, _⟩ => ⟨S1x12288, .f32⟩
  | .hbm, ⟨46, _⟩ => ⟨S1x2048x12288, .f32⟩
  | .hbm, ⟨47, _⟩ => ⟨S2048x12288, .f32⟩
  | .hbm, ⟨48, _⟩ => ⟨S12288, .f32⟩
  | .hbm, ⟨49, _⟩ => ⟨S1x12288, .f32⟩
  | .hbm, ⟨50, _⟩ => ⟨S12288, .f32⟩
  | .hbm, ⟨51, _⟩ => ⟨S12288, .f32⟩
  | .hbm, ⟨52, _⟩ => ⟨S1x12288, .f32⟩
  | .hbm, ⟨53, _⟩ => ⟨S_, .f32⟩
  | .hbm, ⟨54, _⟩ => ⟨S6x12288, .f32⟩
  | .hbm, ⟨55, _⟩ => ⟨S8x12288, .f32⟩
  | .hbm, ⟨56, _⟩ => ⟨S1x8x12288, .f32⟩
  | .hbm, ⟨57, _⟩ => ⟨S1x8x12288, .f32⟩
  | .hbm, ⟨58, _⟩ => ⟨S2x8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Kernel5.lean ====
abbrev S1x8192x2048 : Shape := ⟨3, ![1, 8192, 2048]⟩
abbrev S1x256x2048 : Shape := ⟨3, ![1, 256, 2048]⟩
abbrev S8x12288 : Shape := ⟨2, ![8, 12288]⟩
abbrev S2x2048 : Shape := ⟨2, ![2, 2048]⟩
abbrev S1x8448x2048 : Shape := ⟨3, ![1, 8448, 2048]⟩
abbrev S8448x2048 : Shape := ⟨2, ![8448, 2048]⟩
abbrev S1x2048 : Shape := ⟨2, ![1, 2048]⟩
abbrev S2048 : Shape := ⟨1, ![2048]⟩
abbrev S768x2048 : Shape := ⟨2, ![768, 2048]⟩
abbrev S8x2048 : Shape := ⟨2, ![8, 2048]⟩
abbrev S768x1 : Shape := ⟨2, ![768, 1]⟩
abbrev S768 : Shape := ⟨1, ![768]⟩

abbrev nBuf : Space → Nat
  | .hbm => 10
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x256x2048, .f32⟩
  | .hbm, ⟨2, _⟩ => ⟨S8x12288, .f32⟩
  | .hbm, ⟨3, _⟩ => ⟨S2x2048, .f32⟩
  | .hbm, ⟨4, _⟩ => ⟨S1x8448x2048, .f32⟩
  | .hbm, ⟨5, _⟩ => ⟨S8448x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S768x2048, .bf16⟩
  | .local _ .vmem, ⟨6, _⟩ => ⟨S768x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c768_i32 : BitVec 32 := 768#32
  let v0 : BitVec 32 := Scalar.muli arg0 c768_i32
  let c256_i32 : BitVec 32 := 256#32
  let v1 : BitVec 1 := Scalar.cmpi .slt v0 c256_i32
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c768_i32 : BitVec 32 := 768#32
  let v0 : BitVec 32 := Scalar.muli arg0 c768_i32
  let c256_i32 : BitVec 32 := 256#32
  let v1 : BitVec 1 := Scalar.cmpi .slt v0 c256_i32
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1x8192x2048 : Shape := ⟨3, ![1, 8192, 2048]⟩
abbrev S1x256x2048 : Shape := ⟨3, ![1, 256, 2048]⟩
abbrev S8x12288 : Shape := ⟨2, ![8, 12288]⟩
abbrev S2x2048 : Shape := ⟨2, ![2, 2048]⟩
abbrev S1x12288 : Shape := ⟨2, ![1, 12288]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x256 : Shape := ⟨2, ![1, 256]⟩
abbrev S1x256x1 : Shape := ⟨3, ![1, 256, 1]⟩
abbrev S1x8448x2048 : Shape := ⟨3, ![1, 8448, 2048]⟩
abbrev S8448x2048 : Shape := ⟨2, ![8448, 2048]⟩

abbrev nBuf : Space → Nat
  | .hbm => 75
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x256x2048, .f32⟩
  | .hbm, ⟨2, _⟩ => ⟨S8x12288, .f32⟩
  | .hbm, ⟨3, _⟩ => ⟨S2x2048, .f32⟩
  | .hbm, ⟨4, _⟩ => ⟨S1x12288, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x12288, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S1x8192x2048, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S1x8192x2048, .f32⟩
  | .hbm, ⟨32, _⟩ => ⟨S1x8192x2048, .f32⟩
  | .hbm, ⟨33, _⟩ => ⟨S1x1x2048, .f32⟩
  | .hbm, ⟨34, _⟩ => ⟨S1x8192x2048, .f32⟩
  | .hbm, ⟨35, _⟩ => ⟨S1x8192x2048, .f32⟩
  | .hbm, ⟨36, _⟩ => ⟨S1x1x2048, .f32⟩
  | .hbm, ⟨37, _⟩ => ⟨S_, .f32⟩
  | .hbm, ⟨38, _⟩ => ⟨S1x1x2048, .f32⟩
  | .hbm, ⟨39, _⟩ => ⟨S1x1x2048, .f32⟩
  | .hbm, ⟨40, _⟩ => ⟨S1x8192x2048, .f32⟩
  | .hbm, ⟨41, _⟩ => ⟨S1x8192x2048, .f32⟩
  | .hbm, ⟨42, _⟩ => ⟨S1x1x2048, .f32⟩
  | .hbm, ⟨43, _⟩ => ⟨S1x8192x2048, .f32⟩
  | .hbm, ⟨44, _⟩ => ⟨S1x8192x2048, .f32⟩
  | .hbm, ⟨45, _⟩ => ⟨S1x2048, .f32⟩
  | .hbm, ⟨46, _⟩ => ⟨S2048, .f32⟩
  | .hbm, ⟨47, _⟩ => ⟨S1x256x2048, .f32⟩
  | .hbm, ⟨48, _⟩ => ⟨S_, .f32⟩
  | .hbm, ⟨49, _⟩ => ⟨S1x256, .f32⟩
  | .hbm, ⟨50, _⟩ => ⟨S1x256x1, .f32⟩
  | .hbm, ⟨51, _⟩ => ⟨S_, .f32⟩
  | .hbm, ⟨52, _⟩ => ⟨S1x256x1, .f32⟩
  | .hbm, ⟨53, _⟩ => ⟨S1x256x1, .f32⟩
  | .hbm, ⟨54, _⟩ => ⟨S_, .f32⟩
  | .hbm, ⟨55, _⟩ => ⟨S1x256x1, .f32⟩
  | .hbm, ⟨56, _⟩ => ⟨S1x256x1, .f32⟩
  | .hbm, ⟨57, _⟩ => ⟨S1x256x1, .f32⟩
  | .hbm, ⟨58, _⟩ => ⟨S1x256x2048, .f32⟩
  | .hbm, ⟨59, _⟩ => ⟨S1x256x2048, .f32⟩
  | .hbm, ⟨60, _⟩ => ⟨S1x1x2048, .f32⟩
  | .hbm, ⟨61, _⟩ => ⟨S1x256x2048, .f32⟩
  | .hbm, ⟨62, _⟩ => ⟨S1x256x2048, .f32⟩
  | .hbm, ⟨63, _⟩ => ⟨S1x1x2048, .f32⟩
  | .hbm, ⟨64, _⟩ => ⟨S_, .f32⟩
  | .hbm, ⟨65, _⟩ => ⟨S1x1x2048, .f32⟩
  | .hbm, ⟨66, _⟩ => ⟨S1x1x2048, .f32⟩
  | .hbm, ⟨67, _⟩ => ⟨S1x256x2048, .f32⟩
  | .hbm, ⟨68, _⟩ => ⟨S1x256x2048, .f32⟩
  | .hbm, ⟨69, _⟩ => ⟨S1x1x2048, .f32⟩
  | .hbm, ⟨70, _⟩ => ⟨S1x256x2048, .f32⟩
  | .hbm, ⟨71, _⟩ => ⟨S1x256x2048, .f32⟩
  | .hbm, ⟨72, _⟩ => ⟨S1x8448x2048, .f32⟩
  | .hbm, ⟨73, _⟩ => ⟨S8448x2048, .f32⟩
  | .hbm, ⟨74, _⟩ => ⟨S8448x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Kernel6.lean ====
abbrev S1x256x1024 : Shape := ⟨3, ![1, 256, 1024]⟩
abbrev S1x8192x1024 : Shape := ⟨3, ![1, 8192, 1024]⟩
abbrev S1x256x6144 : Shape := ⟨3, ![1, 256, 6144]⟩
abbrev S1x8192x6144 : Shape := ⟨3, ![1, 8192, 6144]⟩
abbrev S2x4x256x256 : Shape := ⟨4, ![2, 4, 256, 256]⟩
abbrev S2x1024 : Shape := ⟨2, ![2, 1024]⟩
abbrev S2x3x1024x2048 : Shape := ⟨4, ![2, 3, 1024, 2048]⟩
abbrev S1x8448x1024 : Shape := ⟨3, ![1, 8448, 1024]⟩
abbrev S8448x1024 : Shape := ⟨2, ![8448, 1024]⟩
abbrev S1x8448x6144 : Shape := ⟨3, ![1, 8448, 6144]⟩
abbrev S8448x6144 : Shape := ⟨2, ![8448, 6144]⟩
abbrev S_ : Shape := ⟨0, ![]⟩
abbrev S8448x3072 : Shape := ⟨2, ![8448, 3072]⟩
abbrev S8448x10240 : Shape := ⟨2, ![8448, 10240]⟩
abbrev S1x1024 : Shape := ⟨2, ![1, 1024]⟩
abbrev S1024 : Shape := ⟨1, ![1024]⟩
abbrev S8448x2048 : Shape := ⟨2, ![8448, 2048]⟩
abbrev S1056x1024 : Shape := ⟨2, ![1056, 1024]⟩
abbrev S16x1024 : Shape := ⟨2, ![16, 1024]⟩
abbrev S1056x512 : Shape := ⟨2, ![1056, 512]⟩
abbrev S1x4x256x256 : Shape := ⟨4, ![1, 4, 256, 256]⟩
abbrev S1x3x1024x512 : Shape := ⟨4, ![1, 3, 1024, 512]⟩
abbrev S1088x1024 : Shape := ⟨2, ![1088, 1024]⟩
abbrev S1056x256 : Shape := ⟨2, ![1056, 256]⟩
abbrev S1x1x256x256 : Shape := ⟨4, ![1, 1, 256, 256]⟩
abbrev S256x256 : Shape := ⟨2, ![256, 256]⟩
abbrev S1x256 : Shape := ⟨2, ![1, 256]⟩
abbrev S1056x1 : Shape := ⟨2, ![1056, 1]⟩
abbrev S1x1x1024x512 : Shape := ⟨4, ![1, 1, 1024, 512]⟩
abbrev S1024x512 : Shape := ⟨2, ![1024, 512]⟩

abbrev nBuf : Space → Nat
  | .hbm => 29
  | .vmem => 24
  | .smem => 0
  | _ => 0

abbrev bufTy : (tb : Table) → Fin (tcTables nBuf tb) → BufTy
  | .hbm, ⟨0, _⟩ => ⟨S1x256x1024, .f32⟩
  | .hbm, ⟨1, _⟩ => ⟨S1x8192x1024, .f32⟩
  | .hbm, ⟨2, _⟩ => ⟨S1x256x1024, .f32⟩
  | .hbm, ⟨3, _⟩ => ⟨S1x8192x1024, .f32⟩
  | .hbm, ⟨4, _⟩ => ⟨S1x256x1024, .f32⟩
  | .hbm, ⟨5, _⟩ => ⟨S1x8192x1024, .f32⟩
  | .hbm, ⟨6, _⟩ => ⟨S1x256x6144, .f32⟩
  | .hbm, ⟨7, _⟩ => ⟨S1x8192x6144, .f32⟩
  | .hbm, ⟨8, _⟩ => ⟨S2x4x256x256, .f32⟩
  | .hbm, ⟨9, _⟩ => ⟨S2x1024, .f32⟩
  | .hbm, ⟨10, _⟩ => ⟨S2x3x1024x2048, .f32⟩
  | .hbm, ⟨11, _⟩ => ⟨S1x8448x1024, .f32⟩
  | .hbm, ⟨12, _⟩ => ⟨S8448x1024, .f32⟩
  | .hbm, ⟨13, _⟩ => ⟨S1x8448x6144, .f32⟩
  | .hbm, ⟨14, _⟩ => ⟨S8448x6144, .f32⟩
  | .hbm, ⟨15, _⟩ => ⟨S_, .f32⟩
  | .hbm, ⟨16, _⟩ => ⟨S8448x3072, .f32⟩
  | .hbm, ⟨17, _⟩ => ⟨S8448x10240, .f32⟩
  | .hbm, ⟨18, _⟩ => ⟨S8448x10240, .bf16⟩
  | .hbm, ⟨19, _⟩ => ⟨S1x8448x1024, .f32⟩
  | .hbm, ⟨20, _⟩ => ⟨S8448x1024, .f32⟩
  | .hbm, ⟨21, _⟩ => ⟨S8448x1024, .bf16⟩
  | .hbm, ⟨22, _⟩ => ⟨S1x8448x1024, .f32⟩
  | .hbm, ⟨23, _⟩ => ⟨S8448x1024, .f32⟩
  | .hbm, ⟨24, _⟩ => ⟨S8448x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8448x2048, .bf16⟩
  | .local _ .vmem, ⟨0, _⟩ => ⟨S1056x1024, .bf16⟩
  | .local _ .vmem, ⟨1, _⟩ => ⟨S1056x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1056x1024, .bf16⟩
  | .local _ .vmem, ⟨7, _⟩ => ⟨S1056x1024, .bf16⟩
  | .local _ .vmem, ⟨8, _⟩ => ⟨S1056x1024, .bf16⟩
  | .local _ .vmem, ⟨9, _⟩ => ⟨S1056x1024, .bf16⟩
  | .local _ .vmem, ⟨10, _⟩ => ⟨S1056x512, .bf16⟩
  | .local _ .vmem, ⟨11, _⟩ => ⟨S1056x512, .bf16⟩
  | .local _ .vmem, ⟨12, _⟩ => ⟨S1056x512, .bf16⟩
  | .local _ .vmem, ⟨13, _⟩ => ⟨S1056x512, .bf16⟩
  | .local _ .vmem, ⟨14, _⟩ => ⟨S1056x512, .bf16⟩
  | .local _ .vmem, ⟨15, _⟩ => ⟨S1056x512, .bf16⟩
  | .local _ .vmem, ⟨16, _⟩ => ⟨S1x4x256x256, .f32⟩
  | .local _ .vmem, ⟨17, _⟩ => ⟨S1x1024, .f32⟩
  | .local _ .vmem, ⟨18, _⟩ => ⟨S1x3x1024x512, .f32⟩
  | .local _ .vmem, ⟨19, _⟩ => ⟨S1x3x1024x512, .f32⟩
  | .local _ .vmem, ⟨20, _⟩ => ⟨S1056x512, .bf16⟩
  | .local _ .vmem, ⟨21, _⟩ => ⟨S1056x512, .bf16⟩
  | .local _ .vmem, ⟨22, _⟩ => ⟨S1088x1024, .f32⟩
  | .local _ .vmem, ⟨23, _⟩ => ⟨S1056x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c66_i32 : BitVec 32 := 66#32
  let v0 : BitVec 32 := Scalar.muli arg0 c66_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c66_i32 : BitVec 32 := 66#32
  let v1 : BitVec 32 := Scalar.muli v0 c66_i32
  let c527_i32 : BitVec 32 := 527#32
  let v2 : BitVec 32 := Scalar.minsi v1 c527_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1056x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x3x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1056x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S1x256x1024 : Shape := ⟨3, ![1, 256, 1024]⟩
abbrev S1x8192x1024 : Shape := ⟨3, ![1, 8192, 1024]⟩
abbrev S1x256x6144 : Shape := ⟨3, ![1, 256, 6144]⟩
abbrev S1x8192x6144 : Shape := ⟨3, ![1, 8192, 6144]⟩
abbrev S2x4x256x256 : Shape := ⟨4, ![2, 4, 256, 256]⟩
abbrev S2x1024 : Shape := ⟨2, ![2, 1024]⟩
abbrev S2x3x1024x2048 : Shape := ⟨4, ![2, 3, 1024, 2048]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1x8193x1024 : Shape := ⟨3, ![1, 8193, 1024]⟩
abbrev S8192 : Shape := ⟨1, ![8192]⟩
abbrev S1x8193x256 : Shape := ⟨3, ![1, 8193, 256]⟩
abbrev S8192x1 : Shape := ⟨2, ![8192, 1]⟩
abbrev S1x8192x256 : Shape := ⟨3, ![1, 8192, 256]⟩
abbrev S1x8192x1 : Shape := ⟨3, ![1, 8192, 1]⟩
abbrev S1x8192x4x256 : Shape := ⟨4, ![1, 8192, 4, 256]⟩
abbrev S4x256x1x8192 : Shape := ⟨4, ![4, 256, 1, 8192]⟩
abbrev S1x3x1024x2048 : Shape := ⟨4, ![1, 3, 1024, 2048]⟩
abbrev S3x1024x2048 : Shape := ⟨3, ![3, 1024, 2048]⟩
abbrev S1x8192x1x1024 : Shape := ⟨4, ![1, 8192, 1, 1024]⟩
abbrev S1x8192x3x1024 : Shape := ⟨4, ![1, 8192, 3, 1024]⟩
abbrev S3x2048x1x8192 : Shape := ⟨4, ![3, 2048, 1, 8192]⟩
abbrev S1x8192x3x2048 : Shape := ⟨4, ![1, 8192, 3, 2048]⟩
abbrev S1x8192x2048 : Shape := ⟨3, ![1, 8192, 2048]⟩
abbrev S1x257x1024 : Shape := ⟨3, ![1, 257, 1024]⟩
abbrev S256 : Shape := ⟨1, ![256]⟩
abbrev S1x257x256 : Shape := ⟨3, ![1, 257, 256]⟩
abbrev S256x1 : Shape := ⟨2, ![256, 1]⟩
abbrev S1x256x256 : Shape := ⟨3, ![1, 256, 256]⟩
abbrev S1x256x1 : Shape := ⟨3, ![1, 256, 1]⟩
abbrev S1x256x4x256 : Shape := ⟨4, ![1, 256, 4, 256]⟩
abbrev S4x256x1x256 : Shape := ⟨4, ![4, 256, 1, 256]⟩
abbrev S1x256x1x1024 : Shape := ⟨4, ![1, 256, 1, 1024]⟩
abbrev S1x256x3x1024 : Shape := ⟨4, ![1, 256, 3, 1024]⟩
abbrev S3x2048x1x256 : Shape := ⟨4, ![3, 2048, 1, 256]⟩
abbrev S1x256x3x2048 : Shape := ⟨4, ![1, 256, 3, 2048]⟩
abbrev S1x256x2048 : Shape := ⟨3, ![1, 256, 2048]⟩
abbrev S1x8448x2048 : Shape := ⟨3, ![1, 8448, 2048]⟩
abbrev S8448x2048 : Shape := ⟨2, ![8448, 2048]⟩

abbrev nBuf : Space → Nat
  | .hbm => 416
  | .vmem => 0
  | .smem => 0
  | _ => 0

abbrev hbmTy0_0 (i : Nat) : BufTy := match i % 128 with
  | 0 => ⟨S1x256x1024, .f32⟩
  | 1 => ⟨S1x8192x1024, .f32⟩
  | 2 => ⟨S1x256x1024, .f32⟩
  | 3 => ⟨S1x8192x1024, .f32⟩
  | 4 => ⟨S1x256x1024, .f32⟩
  | 5 => ⟨S1x8192x1024, .f32⟩
  | 6 => ⟨S1x256x6144, .f32⟩
  | 7 => ⟨S1x8192x6144, .f32⟩
  | 8 => ⟨S2x4x256x256, .f32⟩
  | 9 => ⟨S2x1024, .f32⟩
  | 10 => ⟨S2x3x1024x2048, .f32⟩
  | 11 => ⟨S1x4x256x256, .f32⟩
  | 12 => ⟨S4x256x256, .f32⟩
  | 13 => ⟨S1x1024, .f32⟩
  | 14 => ⟨S1024, .f32⟩
  | 15 => ⟨S1x1x1024, .f32⟩
  | 16 => ⟨S_, .f32⟩
  | 17 => ⟨S1x1x1024, .f32⟩
  | 18 => ⟨S_, .f32⟩
  | 19 => ⟨S_, .f32⟩
  | 20 => ⟨S1x8192x1024, .f32⟩
  | 21 => ⟨S1x8193x1024, .f32⟩
  | 22 => ⟨S8192, .i32⟩
  | 23 => ⟨S1x8193x256, .f32⟩
  | 24 => ⟨S1x8193x256, .f32⟩
  | 25 => ⟨S1x8193x256, .f32⟩
  | 26 => ⟨S1x8193x256, .f32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S1x8192x256, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S1x8192x256, .f32⟩
  | 60 => ⟨S1x8192x256, .f32⟩
  | 61 => ⟨S8192, .i32⟩
  | 62 => ⟨S8192, .f32⟩
  | 63 => ⟨S1x8192x1, .f32⟩
  | 64 => ⟨S1x8192x256, .f32⟩
  | 65 => ⟨S1x8192x256, .f32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S1x8192x256, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S1x8192x256, .f32⟩
  | 99 => ⟨S1x8192x256, .f32⟩
  | 100 => ⟨S8192, .i32⟩
  | 101 => ⟨S8192, .f32⟩
  | 102 => ⟨S1x8192x1, .f32⟩
  | 103 => ⟨S1x8192x256, .f32⟩
  | 104 => ⟨S1x8192x256, .f32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S1x256x1024, .f32⟩

abbrev hbmTy0_1 (i : Nat) : BufTy := match i % 128 with
  | 0 => ⟨S1x8192x256, .f32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S1x8192x256, .f32⟩
  | 10 => ⟨S1x8192x256, .f32⟩
  | 11 => ⟨S8192, .i32⟩
  | 12 => ⟨S8192, .f32⟩
  | 13 => ⟨S1x8192x1, .f32⟩
  | 14 => ⟨S1x8192x256, .f32⟩
  | 15 => ⟨S1x8192x256, .f32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S1x8192x256, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S1x8192x256, .f32⟩
  | 49 => ⟨S1x8192x256, .f32⟩
  | 50 => ⟨S8192, .i32⟩
  | 51 => ⟨S8192, .f32⟩
  | 52 => ⟨S1x8192x1, .f32⟩
  | 53 => ⟨S1x8192x256, .f32⟩
  | 54 => ⟨S1x8192x256, .f32⟩
  | 55 => ⟨S1x8192x1024, .f32⟩
  | 56 => ⟨S1x8192x1024, .f32⟩
  | 57 => ⟨S1x8192x4x256, .f32⟩
  | 58 => ⟨S4x256x1x8192, .f32⟩
  | 59 => ⟨S1x8192x4x256, .f32⟩
  | 60 => ⟨S1x8192x1024, .f32⟩
  | 61 => ⟨S1x1x1024, .f32⟩
  | 62 => ⟨S1x8192x1024, .f32⟩
  | 63 => ⟨S1x8192x1024, .f32⟩
  | 64 => ⟨S1x3x1024x2048, .f32⟩
  | 65 => ⟨S3x1024x2048, .f32⟩
  | 66 => ⟨S1x8192x1x1024, .f32⟩
  | 67 => ⟨S1x8192x1x1024, .f32⟩
  | 68 => ⟨S1x8192x1x1024, .f32⟩
  | 69 => ⟨S1x8192x3x1024, .f32⟩
  | 70 => ⟨S3x2048x1x8192, .f32⟩
  | 71 => ⟨S1x8192x3x2048, .f32⟩
  | 72 => ⟨S1x8192x3x2048, .f32⟩
  | 73 => ⟨S1x8192x3x2048, .f32⟩
  | 74 => ⟨S1x8192x3x2048, .f32⟩
  | 75 => ⟨S_, .f32⟩
  | 76 => ⟨S1x8192x3x2048, .f32⟩
  | 77 => ⟨S1x8192x3x2048, .f32⟩
  | 78 => ⟨S_, .f32⟩
  | 79 => ⟨S1x8192x3x2048, .f32⟩
  | 80 => ⟨S1x8192x3x2048, .f32⟩
  | 81 => ⟨S1x8192x3x2048, .f32⟩
  | 82 => ⟨S_, .f32⟩
  | 83 => ⟨S1x8192x2048, .f32⟩
  | 84 => ⟨S1x4x256x256, .f32⟩
  | 85 => ⟨S4x256x256, .f32⟩
  | 86 => ⟨S1x1024, .f32⟩
  | 87 => ⟨S1024, .f32⟩
  | 88 => ⟨S1x1x1024, .f32⟩
  | 89 => ⟨S_, .f32⟩
  | 90 => ⟨S1x1x1024, .f32⟩
  | 91 => ⟨S_, .f32⟩
  | 92 => ⟨S_, .f32⟩
  | 93 => ⟨S1x256x1024, .f32⟩
  | 94 => ⟨S1x257x1024, .f32⟩
  | 95 => ⟨S256, .i32⟩
  | 96 => ⟨S1x257x256, .f32⟩
  | 97 => ⟨S1x257x256, .f32⟩
  | 98 => ⟨S1x257x256, .f32⟩
  | 99 => ⟨S1x257x256, .f32⟩
  | 100 => ⟨S_, .i32⟩
  | 101 => ⟨S256, .i32⟩
  | 102 => ⟨S256, .i32⟩
  | 103 => ⟨S_, .i32⟩
  | 104 => ⟨S256, .i32⟩
  | 105 => ⟨S256, .i32⟩
  | 106 => ⟨S_, .i32⟩
  | 107 => ⟨S256, .i32⟩
  | 108 => ⟨S256, .i32⟩
  | 109 => ⟨S_, .i32⟩
  | 110 => ⟨S256, .i32⟩
  | 111 => ⟨S256, .i32⟩
  | 112 => ⟨S_, .i32⟩
  | 113 => ⟨S256, .i32⟩
  | 114 => ⟨S256, .i32⟩
  | 115 => ⟨S_, .i32⟩
  | 116 => ⟨S256, .i32⟩
  | 117 => ⟨S256, .i1⟩
  | 118 => ⟨S_, .i32⟩
  | 119 => ⟨S256, .i32⟩
  | 120 => ⟨S256, .i32⟩
  | 121 => ⟨S256, .i32⟩
  | 122 => ⟨S256x1, .i32⟩
  | 123 => ⟨S1x256x256, .f32⟩
  | 124 => ⟨S_, .i32⟩
  | 125 => ⟨S256, .i32⟩
  | 126 => ⟨S256, .i1⟩
  | 127 => ⟨S_, .i32⟩
  | _ => ⟨S1x256x1024, .f32⟩

abbrev hbmTy0_2 (i : Nat) : BufTy := match i % 128 with
  | 0 => ⟨S256, .i32⟩
  | 1 => ⟨S256, .i32⟩
  | 2 => ⟨S256, .i32⟩
  | 3 => ⟨S256x1, .i32⟩
  | 4 => ⟨S1x256x256, .f32⟩
  | 5 => ⟨S1x256x256, .f32⟩
  | 6 => ⟨S256, .i32⟩
  | 7 => ⟨S256, .f32⟩
  | 8 => ⟨S1x256x1, .f32⟩
  | 9 => ⟨S1x256x256, .f32⟩
  | 10 => ⟨S1x256x256, .f32⟩
  | 11 => ⟨S_, .i32⟩
  | 12 => ⟨S256, .i32⟩
  | 13 => ⟨S256, .i32⟩
  | 14 => ⟨S_, .i32⟩
  | 15 => ⟨S256, .i32⟩
  | 16 => ⟨S256, .i32⟩
  | 17 => ⟨S_, .i32⟩
  | 18 => ⟨S256, .i32⟩
  | 19 => ⟨S256, .i32⟩
  | 20 => ⟨S_, .i32⟩
  | 21 => ⟨S256, .i32⟩
  | 22 => ⟨S256, .i32⟩
  | 23 => ⟨S_, .i32⟩
  | 24 => ⟨S256, .i32⟩
  | 25 => ⟨S256, .i32⟩
  | 26 => ⟨S_, .i32⟩
  | 27 => ⟨S256, .i32⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S1x256x256, .f32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S256x1, .i32⟩
  | 43 => ⟨S1x256x256, .f32⟩
  | 44 => ⟨S1x256x256, .f32⟩
  | 45 => ⟨S256, .i32⟩
  | 46 => ⟨S256, .f32⟩
  | 47 => ⟨S1x256x1, .f32⟩
  | 48 => ⟨S1x256x256, .f32⟩
  | 49 => ⟨S1x256x256, .f32⟩
  | 50 => ⟨S_, .i32⟩
  | 51 => ⟨S256, .i32⟩
  | 52 => ⟨S256, .i32⟩
  | 53 => ⟨S_, .i32⟩
  | 54 => ⟨S256, .i32⟩
  | 55 => ⟨S256, .i32⟩
  | 56 => ⟨S_, .i32⟩
  | 57 => ⟨S256, .i32⟩
  | 58 => ⟨S256, .i32⟩
  | 59 => ⟨S_, .i32⟩
  | 60 => ⟨S256, .i32⟩
  | 61 => ⟨S256, .i32⟩
  | 62 => ⟨S_, .i32⟩
  | 63 => ⟨S256, .i32⟩
  | 64 => ⟨S256, .i32⟩
  | 65 => ⟨S_, .i32⟩
  | 66 => ⟨S256, .i32⟩
  | 67 => ⟨S256, .i1⟩
  | 68 => ⟨S_, .i32⟩
  | 69 => ⟨S256, .i32⟩
  | 70 => ⟨S256, .i32⟩
  | 71 => ⟨S256, .i32⟩
  | 72 => ⟨S256x1, .i32⟩
  | 73 => ⟨S1x256x256, .f32⟩
  | 74 => ⟨S_, .i32⟩
  | 75 => ⟨S256, .i32⟩
  | 76 => ⟨S256, .i1⟩
  | 77 => ⟨S_, .i32⟩
  | 78 => ⟨S256, .i32⟩
  | 79 => ⟨S256, .i32⟩
  | 80 => ⟨S256, .i32⟩
  | 81 => ⟨S256x1, .i32⟩
  | 82 => ⟨S1x256x256, .f32⟩
  | 83 => ⟨S1x256x256, .f32⟩
  | 84 => ⟨S256, .i32⟩
  | 85 => ⟨S256, .f32⟩
  | 86 => ⟨S1x256x1, .f32⟩
  | 87 => ⟨S1x256x256, .f32⟩
  | 88 => ⟨S1x256x256, .f32⟩
  | 89 => ⟨S_, .i32⟩
  | 90 => ⟨S256, .i32⟩
  | 91 => ⟨S256, .i32⟩
  | 92 => ⟨S_, .i32⟩
  | 93 => ⟨S256, .i32⟩
  | 94 => ⟨S256, .i32⟩
  | 95 => ⟨S_, .i32⟩
  | 96 => ⟨S256, .i32⟩
  | 97 => ⟨S256, .i32⟩
  | 98 => ⟨S_, .i32⟩
  | 99 => ⟨S256, .i32⟩
  | 100 => ⟨S256, .i32⟩
  | 101 => ⟨S_, .i32⟩
  | 102 => ⟨S256, .i32⟩
  | 103 => ⟨S256, .i32⟩
  | 104 => ⟨S_, .i32⟩
  | 105 => ⟨S256, .i32⟩
  | 106 => ⟨S256, .i1⟩
  | 107 => ⟨S_, .i32⟩
  | 108 => ⟨S256, .i32⟩
  | 109 => ⟨S256, .i32⟩
  | 110 => ⟨S256, .i32⟩
  | 111 => ⟨S256x1, .i32⟩
  | 112 => ⟨S1x256x256, .f32⟩
  | 113 => ⟨S_, .i32⟩
  | 114 => ⟨S256, .i32⟩
  | 115 => ⟨S256, .i1⟩
  | 116 => ⟨S_, .i32⟩
  | 117 => ⟨S256, .i32⟩
  | 118 => ⟨S256, .i32⟩
  | 119 => ⟨S256, .i32⟩
  | 120 => ⟨S256x1, .i32⟩
  | 121 => ⟨S1x256x256, .f32⟩
  | 122 => ⟨S1x256x256, .f32⟩
  | 123 => ⟨S256, .i32⟩
  | 124 => ⟨S256, .f32⟩
  | 125 => ⟨S1x256x1, .f32⟩
  | 126 => ⟨S1x256x256, .f32⟩
  | 127 => ⟨S1x256x256, .f32⟩
  | _ => ⟨S1x256x1024, .f32⟩

abbrev hbmTy0_3 (i : Nat) : BufTy := match i % 128 with
  | 0 => ⟨S1x256x1024, .f32⟩
  | 1 => ⟨S1x256x1024, .f32⟩
  | 2 => ⟨S1x256x4x256, .f32⟩
  | 3 => ⟨S4x256x1x256, .f32⟩
  | 4 => ⟨S1x256x4x256, .f32⟩
  | 5 => ⟨S1x256x1024, .f32⟩
  | 6 => ⟨S1x1x1024, .f32⟩
  | 7 => ⟨S1x256x1024, .f32⟩
  | 8 => ⟨S1x256x1024, .f32⟩
  | 9 => ⟨S1x3x1024x2048, .f32⟩
  | 10 => ⟨S3x1024x2048, .f32⟩
  | 11 => ⟨S1x256x1x1024, .f32⟩
  | 12 => ⟨S1x256x1x1024, .f32⟩
  | 13 => ⟨S1x256x1x1024, .f32⟩
  | 14 => ⟨S1x256x3x1024, .f32⟩
  | 15 => ⟨S3x2048x1x256, .f32⟩
  | 16 => ⟨S1x256x3x2048, .f32⟩
  | 17 => ⟨S1x256x3x2048, .f32⟩
  | 18 => ⟨S1x256x3x2048, .f32⟩
  | 19 => ⟨S1x256x3x2048, .f32⟩
  | 20 => ⟨S_, .f32⟩
  | 21 => ⟨S1x256x3x2048, .f32⟩
  | 22 => ⟨S1x256x3x2048, .f32⟩
  | 23 => ⟨S_, .f32⟩
  | 24 => ⟨S1x256x3x2048, .f32⟩
  | 25 => ⟨S1x256x3x2048, .f32⟩
  | 26 => ⟨S1x256x3x2048, .f32⟩
  | 27 => ⟨S_, .f32⟩
  | 28 => ⟨S1x256x2048, .f32⟩
  | 29 => ⟨S1x8448x2048, .f32⟩
  | 30 => ⟨S8448x2048, .f32⟩
  | 31 => ⟨S8448x2048, .bf16⟩
  | _ => ⟨S1x256x1024, .f32⟩

abbrev hbmTy (i : Nat) : BufTy := match i / 128 with
  | 0 => hbmTy0_0 i
  | 1 => hbmTy0_1 i
  | 2 => hbmTy0_2 i
  | 3 => hbmTy0_3 i
  | _ => ⟨S1x256x1024, .f32⟩

abbrev bufTy : (tb : Table) → Fin (tcTables nBuf tb) → BufTy
  | .hbm, ⟨i, _⟩ => hbmTy i
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_call0_call0_cst : Ref sig .tc := ⟨.hbm, 18, rfl⟩
abbrev main_call0_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_c_21 : Ref sig .tc := ⟨.hbm, 117, rfl⟩
abbrev main_v81 : Ref sig .tc := ⟨.hbm, 118, rfl⟩
abbrev main_v82 : Ref sig .tc := ⟨.hbm, 119, rfl⟩
abbrev main_c_22 : Ref sig .tc := ⟨.hbm, 120, rfl⟩
abbrev main_v83 : Ref sig .tc := ⟨.hbm, 121, rfl⟩
abbrev main_v84 : Ref sig .tc := ⟨.hbm, 122, rfl⟩
abbrev main_c_23 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_24 : Ref sig .tc := ⟨.hbm, 129, rfl⟩
abbrev main_v90 : Ref sig .tc := ⟨.hbm, 130, rfl⟩
abbrev main_v91 : Ref sig .tc := ⟨.hbm, 131, rfl⟩
abbrev main_c_25 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_26 : Ref sig .tc := ⟨.hbm, 144, rfl⟩
abbrev main_v103 : Ref sig .tc := ⟨.hbm, 145, rfl⟩
abbrev main_v104 : Ref sig .tc := ⟨.hbm, 146, rfl⟩
abbrev main_c_27 : Ref sig .tc := ⟨.hbm, 147, rfl⟩
abbrev main_v105 : Ref sig .tc := ⟨.hbm, 148, rfl⟩
abbrev main_v106 : Ref sig .tc := ⟨.hbm, 149, rfl⟩
abbrev main_c_28 : Ref sig .tc := ⟨.hbm, 150, rfl⟩
abbrev main_v107 : Ref sig .tc := ⟨.hbm, 151, rfl⟩
abbrev main_v108 : Ref sig .tc := ⟨.hbm, 152, rfl⟩
abbrev main_c_29 : Ref sig .tc := ⟨.hbm, 153, rfl⟩
abbrev main_v109 : Ref sig .tc := ⟨.hbm, 154, rfl⟩
abbrev main_v110 : Ref sig .tc := ⟨.hbm, 155, rfl⟩
abbrev main_c_30 : Ref sig .tc := ⟨.hbm, 156, rfl⟩
abbrev main_v111 : Ref sig .tc := ⟨.hbm, 157, rfl⟩
abbrev main_v112 : Ref sig .tc := ⟨.hbm, 158, rfl⟩
abbrev main_c_31 : Ref sig .tc := ⟨.hbm, 159, rfl⟩
abbrev main_v113 : Ref sig .tc := ⟨.hbm, 160, rfl⟩
abbrev main_v114 : Ref sig .tc := ⟨.hbm, 161, rfl⟩
abbrev main_c_32 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_33 : Ref sig .tc := ⟨.hbm, 168, rfl⟩
abbrev main_v120 : Ref sig .tc := ⟨.hbm, 169, rfl⟩
abbrev main_v121 : Ref sig .tc := ⟨.hbm, 170, rfl⟩
abbrev main_c_34 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_cst_35 : Ref sig .tc := ⟨.hbm, 203, rfl⟩
abbrev main_v153 : Ref sig .tc := ⟨.hbm, 204, rfl⟩
abbrev main_v154 : Ref sig .tc := ⟨.hbm, 205, rfl⟩
abbrev main_cst_36 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_37 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_38 : Ref sig .tc := ⟨.hbm, 217, rfl⟩
abbrev main_v164 : Ref sig .tc := ⟨.hbm, 218, rfl⟩
abbrev main_call1_call0_cst : Ref sig .tc := ⟨.hbm, 219, rfl⟩
abbrev main_call1_call0_v0 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_c_39 : Ref sig .tc := ⟨.hbm, 228, rfl⟩
abbrev main_v172 : Ref sig .tc := ⟨.hbm, 229, rfl⟩
abbrev main_v173 : Ref sig .tc := ⟨.hbm, 230, rfl⟩
abbrev main_c_40 : Ref sig .tc := ⟨.hbm, 231, rfl⟩
abbrev main_v174 : Ref sig .tc := ⟨.hbm, 232, rfl⟩
abbrev main_v175 : Ref sig .tc := ⟨.hbm, 233, rfl⟩
abbrev main_c_41 : Ref sig .tc := ⟨.hbm, 234, rfl⟩
abbrev main_v176 : Ref sig .tc := ⟨.hbm, 235, rfl⟩
abbrev main_v177 : Ref sig .tc := ⟨.hbm, 236, rfl⟩
abbrev main_c_42 : Ref sig .tc := ⟨.hbm, 237, rfl⟩
abbrev main_v178 : Ref sig .tc := ⟨.hbm, 238, rfl⟩
abbrev main_v179 : Ref sig .tc := ⟨.hbm, 239, rfl⟩
abbrev main_c_43 : Ref sig .tc := ⟨.hbm, 240, rfl⟩
abbrev main_v180 : Ref sig .tc := ⟨.hbm, 241, rfl⟩
abbrev main_v181 : Ref sig .tc := ⟨.hbm, 242, rfl⟩
abbrev main_c_44 : Ref sig .tc := ⟨.hbm, 243, rfl⟩
abbrev main_v182 : Ref sig .tc := ⟨.hbm, 244, rfl⟩
abbrev main_v183 : Ref sig .tc := ⟨.hbm, 245, rfl⟩
abbrev main_c_45 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_c_46 : Ref sig .tc := ⟨.hbm, 252, rfl⟩
abbrev main_v189 : Ref sig .tc := ⟨.hbm, 253, rfl⟩
abbrev main_v190 : Ref sig .tc := ⟨.hbm, 254, rfl⟩
abbrev main_c_47 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_c_48 : Ref sig .tc := ⟨.hbm, 267, rfl⟩
abbrev main_v202 : Ref sig .tc := ⟨.hbm, 268, rfl⟩
abbrev main_v203 : Ref sig .tc := ⟨.hbm, 269, rfl⟩
abbrev main_c_49 : Ref sig .tc := ⟨.hbm, 270, rfl⟩
abbrev main_v204 : Ref sig .tc := ⟨.hbm, 271, rfl⟩
abbrev main_v205 : Ref sig .tc := ⟨.hbm, 272, rfl⟩
abbrev main_c_50 : Ref sig .tc := ⟨.hbm, 273, rfl⟩
abbrev main_v206 : Ref sig .tc := ⟨.hbm, 274, rfl⟩
abbrev main_v207 : Ref sig .tc := ⟨.hbm, 275, rfl⟩
abbrev main_c_51 : Ref sig .tc := ⟨.hbm, 276, rfl⟩
abbrev main_v208 : Ref sig .tc := ⟨.hbm, 277, rfl⟩
abbrev main_v209 : Ref sig .tc := ⟨.hbm, 278, rfl⟩
abbrev main_c_52 : Ref sig .tc := ⟨.hbm, 279, rfl⟩
abbrev main_v210 : Ref sig .tc := ⟨.hbm, 280, rfl⟩
abbrev main_v211 : Ref sig .tc := ⟨.hbm, 281, rfl⟩
abbrev main_c_53 : Ref sig .tc := ⟨.hbm, 282, rfl⟩
abbrev main_v212 : Ref sig .tc := ⟨.hbm, 283, rfl⟩
abbrev main_v213 : Ref sig .tc := ⟨.hbm, 284, rfl⟩
abbrev main_c_54 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_c_55 : Ref sig .tc := ⟨.hbm, 291, rfl⟩
abbrev main_v219 : Ref sig .tc := ⟨.hbm, 292, rfl⟩
abbrev main_v220 : Ref sig .tc := ⟨.hbm, 293, rfl⟩
abbrev main_c_56 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_c_57 : Ref sig .tc := ⟨.hbm, 306, rfl⟩
abbrev main_v232 : Ref sig .tc := ⟨.hbm, 307, rfl⟩
abbrev main_v233 : Ref sig .tc := ⟨.hbm, 308, rfl⟩
abbrev main_c_58 : Ref sig .tc := ⟨.hbm, 309, rfl⟩
abbrev main_v234 : Ref sig .tc := ⟨.hbm, 310, rfl⟩
abbrev main_v235 : Ref sig .tc := ⟨.hbm, 311, rfl⟩
abbrev main_c_59 : Ref sig .tc := ⟨.hbm, 312, rfl⟩
abbrev main_v236 : Ref sig .tc := ⟨.hbm, 313, rfl⟩
abbrev main_v237 : Ref sig .tc := ⟨.hbm, 314, rfl⟩
abbrev main_c_60 : Ref sig .tc := ⟨.hbm, 315, rfl⟩
abbrev main_v238 : Ref sig .tc := ⟨.hbm, 316, rfl⟩
abbrev main_v239 : Ref sig .tc := ⟨.hbm, 317, rfl⟩
abbrev main_c_61 : Ref sig .tc := ⟨.hbm, 318, rfl⟩
abbrev main_v240 : Ref sig .tc := ⟨.hbm, 319, rfl⟩
abbrev main_v241 : Ref sig .tc := ⟨.hbm, 320, rfl⟩
abbrev main_c_62 : Ref sig .tc := ⟨.hbm, 321, rfl⟩
abbrev main_v242 : Ref sig .tc := ⟨.hbm, 322, rfl⟩
abbrev main_v243 : Ref sig .tc := ⟨.hbm, 323, rfl⟩
abbrev main_c_63 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_c_64 : Ref sig .tc := ⟨.hbm, 330, rfl⟩
abbrev main_v249 : Ref sig .tc := ⟨.hbm, 331, rfl⟩
abbrev main_v250 : Ref sig .tc := ⟨.hbm, 332, rfl⟩
abbrev main_c_65 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_c_66 : Ref sig .tc := ⟨.hbm, 345, rfl⟩
abbrev main_v262 : Ref sig .tc := ⟨.hbm, 346, rfl⟩
abbrev main_v263 : Ref sig .tc := ⟨.hbm, 347, rfl⟩
abbrev main_c_67 : Ref sig .tc := ⟨.hbm, 348, rfl⟩
abbrev main_v264 : Ref sig .tc := ⟨.hbm, 349, rfl⟩
abbrev main_v265 : Ref sig .tc := ⟨.hbm, 350, rfl⟩
abbrev main_c_68 : Ref sig .tc := ⟨.hbm, 351, rfl⟩
abbrev main_v266 : Ref sig .tc := ⟨.hbm, 352, rfl⟩
abbrev main_v267 : Ref sig .tc := ⟨.hbm, 353, rfl⟩
abbrev main_c_69 : Ref sig .tc := ⟨.hbm, 354, rfl⟩
abbrev main_v268 : Ref sig .tc := ⟨.hbm, 355, rfl⟩
abbrev main_v269 : Ref sig .tc := ⟨.hbm, 356, rfl⟩
abbrev main_c_70 : Ref sig .tc := ⟨.hbm, 357, rfl⟩
abbrev main_v270 : Ref sig .tc := ⟨.hbm, 358, rfl⟩
abbrev main_v271 : Ref sig .tc := ⟨.hbm, 359, rfl⟩
abbrev main_c_71 : Ref sig .tc := ⟨.hbm, 360, rfl⟩
abbrev main_v272 : Ref sig .tc := ⟨.hbm, 361, rfl⟩
abbrev main_v273 : Ref sig .tc := ⟨.hbm, 362, rfl⟩
abbrev main_c_72 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_c_73 : Ref sig .tc := ⟨.hbm, 369, rfl⟩
abbrev main_v279 : Ref sig .tc := ⟨.hbm, 370, rfl⟩
abbrev main_v280 : Ref sig .tc := ⟨.hbm, 371, rfl⟩
abbrev main_c_74 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_cst_75 : Ref sig .tc := ⟨.hbm, 404, rfl⟩
abbrev main_v312 : Ref sig .tc := ⟨.hbm, 405, rfl⟩
abbrev main_v313 : Ref sig .tc := ⟨.hbm, 406, rfl⟩
abbrev main_cst_76 : Ref sig .tc := ⟨.hbm, 407, rfl⟩
abbrev main_v314 : Ref sig .tc := ⟨.hbm, 408, rfl⟩
abbrev main_v315 : Ref sig .tc := ⟨.hbm, 409, rfl⟩
abbrev main_v316 : Ref sig .tc := ⟨.hbm, 410, rfl⟩
abbrev main_cst_77 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_v320 : Ref sig .tc := ⟨.hbm, 415, rfl⟩

abbrev nD : Nat := 1
abbrev τ : Topo := Topo.v7x

variable {F : FTy → Type} [FloatOps F]
-- ==== Proof.I.Points.lean ====
/- The attention call's grid, seen from its body: which branch a point takes, and the buffers the body is handed there. -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The row tile is the first one of its head: the test the body starts with. -/
abbrev isFirst (i : grid0.Coords) : Prop :=
  Scalar.cmpi .ne (Scalar.extui (Scalar.cmpi .eq (BitVec.ofNat 32 (i 1).val) 0#32)) 0#32 = 1#1

/-- The row tile holds context rows, as the word the body computes. -/
abbrev ctxBit (i : grid0.Coords) : BitVec 1 := Scalar.cmpi .slt (Scalar.muli (BitVec.ofNat 32 (i 1).val) 256#32) 256#32

/-- The bounded softmax over the context keys alone is taken, the flag word being `fl`. -/
abbrev takesBC (i : grid0.Coords) (fl : BitVec 32) : Prop :=
  Scalar.cmpi .ne (Scalar.extui (Scalar.andi (Scalar.cmpi .eq fl 1#32) (ctxBit i))) 0#32 = 1#1
/-- The bounded softmax over all keys is taken. -/
abbrev takesBA (i : grid0.Coords) (fl : BitVec 32) : Prop :=
  Scalar.cmpi .ne (Scalar.extui (Scalar.andi (Scalar.cmpi .eq fl 1#32) (Scalar.xori (ctxBit i) 1#1))) 0#32 = 1#1
/-- The running-maximum softmax over the context keys alone is taken. -/
abbrev takesOC (i : grid0.Coords) (fl : BitVec 32) : Prop :=
  Scalar.cmpi .ne (Scalar.extui (Scalar.andi (Scalar.xori (Scalar.cmpi .eq fl 1#32) 1#1) (ctxBit i))) 0#32 = 1#1
/-- The running-maximum softmax over all keys is taken. -/
abbrev takesOA (i : grid0.Coords) (fl : BitVec 32) : Prop :=
  Scalar.cmpi .ne (Scalar.extui (Scalar.andi (Scalar.xori (Scalar.cmpi .eq fl 1#32) 1#1) (Scalar.xori (ctxBit i) 1#1))) 0#32 = 1#1

/-- The flag word the body reads back, its buffer holding `fl`. -/
abbrev oldFlag (arg9 : Memref sig .tc .smem S1 .i32) (harg9 : arg9.IsWhole) (fl : BitVec 32) : Elt F .i32 :=
  View.readAt (Elt F) arg9.view (Rect.unit (s := S1) ![0] S1.size inb_S1_S1_0).toLoadRect (harg9.unread (fun _ => fl)) (Shape.Idx.first (numel1_S1.symm ▸ Nat.one_pos))

/-- The flag word the body computes at a head's first tile, from the buffers of the gain's bound and of the keys. -/
abbrev newFlag (arg2 : Memref sig .tc .smem S1 .f32) (harg2 : arg2.IsWhole) (arg4 : Memref sig .tc .vmem S8448x128 .bf16) (harg4 : arg4.IsWhole)
    (x0 : Vec F S1 .f32) (x2 : Vec F S8448x128 .bf16) : BitVec 32 :=
  Scalar.extui (Scalar.cmpf .ole (k0_pay5
    (View.readAt (Elt F) arg4.view (Rect.unit (s := S8448x128) ![0, 0] S8448x128.size inb_S8448x128_S8448x128_0_0).toLoadRect (harg4.unread x2))
    (View.readAt (Elt F) arg2.view (Rect.unit (s := S1) ![0] S1.size inb_S1_S1_0).toLoadRect (harg2.unread x0) (Shape.Idx.first (numel1_S1.symm ▸ Nat.one_pos))))
    (Scalar.ofBits .f32 0x42480000#32))

/-- The first row tile of a head is the point whose number is a multiple of 33. -/
theorem isFirst_iff : ∀ t : Fin cfg0.N, isFirst (grid0.coords t) ↔ t.val % 33 = 0 :=
  (by decide +kernel : ∀ t : Fin grid0.N, isFirst (grid0.coords t) ↔ t.val % 33 = 0)

/-- It is also the one tile of context rows. -/
theorem ctxBit_eq : ∀ t : Fin cfg0.N, ctxBit (grid0.coords t) = if t.val % 33 = 0 then 1#1 else 0#1 :=
  (by decide +kernel : ∀ t : Fin grid0.N, ctxBit (grid0.coords t) = if t.val % 33 = 0 then 1#1 else 0#1)

/-- A comparison of two words as a one-bit word. -/
theorem eqBit (fl : BitVec 32) : Scalar.cmpi .eq fl 1#32 = if fl = 1#32 then 1#1 else 0#1 := by
  by_cases h : fl = 1#32
  · subst h; rfl
  · rw [if_neg h]; unfold Scalar.cmpi IntOp.cmpi
    rw [show (fl == 1#32) = false from beq_eq_false_iff_ne.mpr h]; rfl

/-- The four combinations of the two bits. -/
theorem bits_iff : ∀ a b : Bool,
    ((Scalar.cmpi .ne (Scalar.extui (Scalar.andi (if a then 1#1 else 0#1) (if b then 1#1 else 0#1))) 0#32 = 1#1) ↔ a = true ∧ b = true)
    ∧ ((Scalar.cmpi .ne (Scalar.extui (Scalar.andi (if a then 1#1 else 0#1) (Scalar.xori (if b then 1#1 else 0#1) 1#1))) 0#32 = 1#1) ↔ a = true ∧ b ≠ true)
    ∧ ((Scalar.cmpi .ne (Scalar.extui (Scalar.andi (Scalar.xori (if a then 1#1 else 0#1) 1#1) (if b then 1#1 else 0#1))) 0#32 = 1#1) ↔ a ≠ true ∧ b = true)
    ∧ ((Scalar.cmpi .ne (Scalar.extui (Scalar.andi (Scalar.xori (if a then 1#1 else 0#1) 1#1) (Scalar.xori (if b then 1#1 else 0#1) 1#1))) 0#32 = 1#1) ↔ a ≠ true ∧ b ≠ true) := by decide

/-- The four branches, from the point and the flag. -/
theorem takes_iff (t : Fin cfg0.N) (fl : BitVec 32) :
    (takesBC (grid0.coords t) fl ↔ fl = 1#32 ∧ t.val % 33 = 0) ∧ (takesBA (grid0.coords t) fl ↔ fl = 1#32 ∧ t.val % 33 ≠ 0)
    ∧ (takesOC (grid0.coords t) fl ↔ fl ≠ 1#32 ∧ t.val % 33 = 0) ∧ (takesOA (grid0.coords t) fl ↔ fl ≠ 1#32 ∧ t.val % 33 ≠ 0) := by
  unfold takesBC takesBA takesOC takesOA
  rw [ctxBit_eq, eqBit]
  have h := bits_iff (decide (fl = 1#32)) (decide (t.val % 33 = 0))
  simp only [ne_eq, decide_eq_true_eq] at h
  exact h

/-- One buffer of the output window: what the window's buffer holds is stated through it. -/
abbrev outV : View sig .tc .vmem S256x512 .bf16 := (Memref.whole cc0_stg4_0 : Memref sig .tc .vmem S256x512 .bf16).view
abbrev msQm (t : Fin cfg0.N) : Memref sig .tc .smem S1 .f32 := win0_0.stage (cfg0.slots t 0)
abbrev hsQm (t : Fin cfg0.N) : (msQm t).IsWhole := hstage0_0 ((cfg0.slots t 0).cast nbuf0_0)
abbrev msQ (t : Fin cfg0.N) : Memref sig .tc .vmem S256x512 .bf16 := win0_1.stage (cfg0.slots t 1)
abbrev hsQ (t : Fin cfg0.N) : (msQ t).IsWhole := hstage0_1 ((cfg0.slots t 1).cast nbuf0_1)
abbrev msK (t : Fin cfg0.N) : Memref sig .tc .vmem S8448x128 .bf16 := win0_2.stage (cfg0.slots t 2)
abbrev hsK (t : Fin cfg0.N) : (msK t).IsWhole := hstage0_2 ((cfg0.slots t 2).cast nbuf0_2)
abbrev msV (t : Fin cfg0.N) : Memref sig .tc .vmem S8448x128 .bf16 := win0_3.stage (cfg0.slots t 3)
abbrev hsV (t : Fin cfg0.N) : (msV t).IsWhole := hstage0_3 ((cfg0.slots t 3).cast nbuf0_3)
abbrev msO (t : Fin cfg0.N) : Memref sig .tc .vmem S256x512 .bf16 := win0_4.stage (cfg0.slots t 4)
abbrev hsO (t : Fin cfg0.N) : (msO t).IsWhole := hstage0_4 ((cfg0.slots t 4).cast nbuf0_4)
abbrev scVx : Memref sig .tc .vmem S8448x256 .bf16 := Memref.whole cc0_scratch0
abbrev scKm : Memref sig .tc .vmem S8x128 .f32 := Memref.whole cc0_scratch1
abbrev scFl : Memref sig .tc .smem S1 .i32 := Memref.whole cc0_scratch2
abbrev scM : Memref sig .tc .vmem S1024x128 .f32 := Memref.whole cc0_scratch3
abbrev scAcc : Memref sig .tc .vmem S1024x256 .f32 := Memref.whole cc0_scratch4

/-- What the region hands the body besides the windows: the five scratch buffers at any contents and the generator's register. -/
theorem PhiA_eq (c : Dev nD) :
    (Pipeline.ΦA spec0 c : sProp 𝕄)
      = iprop(iprop((∃ d, owns (c : Thread nD τ) scVx fullShare d) ∗ (∃ d, owns (c : Thread nD τ) scKm fullShare d) ∗ (∃ d, owns (c : Thread nD τ) scM fullShare d) ∗ (∃ d, owns (c : Thread nD τ) scAcc fullShare d) ∗ (∃ d, owns (c : Thread nD τ) scFl fullShare d)) ∗ (∃ r, prngReg c r)) := by
  unfold Pipeline.ΦA; rw [scopedRest0_eq]; simp only [scVx, scKm, scFl, scM, scAcc, owns_whole]; try rfl

/-- The output window is stored into at every point. -/
theorem live4 : ∀ t : Fin cfg0.N, cfg0.idle 4 (grid0.coords t) = false := by decide +kernel

end Cert.KernelIdeal.Attn

end
-- ==== Proof.I.RunBA.lean ====
/- The body at a tile of latent rows, the bounded softmax taken. -/
module

public import proofs.«01_k».proof.Proof.I.Points

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

set_option maxHeartbeats 4000000 in
/-- What the body leaves in the output's buffer, as a list of stored pieces, with the proof that it runs to it and leaves the head's scratch buffers alone. -/
noncomputable def runBA (c : Dev nD) (i : grid0.Coords) (arg2 : Memref sig .tc .smem S1 .f32) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x512 .bf16) (harg6 : arg6.IsWhole) (arg7 : Memref sig .tc .vmem S8448x256 .bf16) (harg7 : arg7.IsWhole) (arg8 : Memref sig .tc .vmem S8x128 .f32) (harg8 : arg8.IsWhole) (arg9 : Memref sig .tc .smem S1 .i32) (harg9 : arg9.IsWhole) (arg10 : Memref sig .tc .vmem S1024x128 .f32) (harg10 : arg10.IsWhole) (arg11 : Memref sig .tc .vmem S1024x256 .f32) (harg11 : arg11.IsWhole)
    (x0 : Vec F S1 .f32) (x1 : Vec F S256x512 .bf16) (x2 : Vec F S8448x128 .bf16) (x3 : Vec F S8448x128 .bf16) (xs0 : Vec F S8448x256 .bf16) (xs1 : Vec F S8x128 .f32) (fl : BitVec 32)
    (h0 : ¬isFirst i) (h1 : ¬takesBC i (oldFlag (F := F) arg9 harg9 fl)) (h2 : takesBA i (oldFlag (F := F) arg9 harg9 fl)) (h3 : ¬takesOC i (oldFlag (F := F) arg9 harg9 fl)) (h4 : ¬takesOA i (oldFlag (F := F) arg9 harg9 fl)) :
    { L4 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare (fun _ => fl) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ owns (c : Thread nD τ) arg9 fullShare (fun _ => fl) ∗ (∃ d, owns (c : Thread nD τ) arg10 fullShare d) ∗ (∃ d, owns (c : Thread nD τ) arg11 fullShare d)) -∗ K ⟨⟩))
          ⊢ wp frame (wpE (defs₀ (F := F)) Variants.none c none) E (cc0_gattn i arg2 harg2 arg3 harg3 arg4 harg4 arg5 harg5 arg6 harg6 arg7 harg7 arg8 harg8 arg9 harg9 arg10 harg10 arg11 harg11) K } := by
  refine ⟨?_, fun E K => ?run⟩
  case run =>
    simp only [cc0_gattn_eq_skeleton]; unfold cc0_gattn_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _, _; isplitr; swap; · iexact HS3
      ipureintro; rfl
    iexists _, _; isplitr; swap; · iexact HS4
    ipureintro; rfl

end Cert.KernelIdeal.Attn

end
-- ==== Proof.I.RunBC.lean ====
/- The body at the tile of context rows, the bounded softmax taken. -/
module

public import proofs.«01_k».proof.Proof.I.RunBA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

set_option maxHeartbeats 4000000 in
/-- What the body leaves in the output's buffer and in the three scratch buffers it keeps for the head, as lists of stored pieces, with the proof that it runs to them. -/
noncomputable def runBC (c : Dev nD) (i : grid0.Coords) (arg2 : Memref sig .tc .smem S1 .f32) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x512 .bf16) (harg6 : arg6.IsWhole) (arg7 : Memref sig .tc .vmem S8448x256 .bf16) (harg7 : arg7.IsWhole) (arg8 : Memref sig .tc .vmem S8x128 .f32) (harg8 : arg8.IsWhole) (arg9 : Memref sig .tc .smem S1 .i32) (harg9 : arg9.IsWhole) (arg10 : Memref sig .tc .vmem S1024x128 .f32) (harg10 : arg10.IsWhole) (arg11 : Memref sig .tc .vmem S1024x256 .f32) (harg11 : arg11.IsWhole)
    (x0 : Vec F S1 .f32) (x1 : Vec F S256x512 .bf16) (x2 : Vec F S8448x128 .bf16) (x3 : Vec F S8448x128 .bf16)
    (h0 : isFirst i) (h1 : takesBC i (newFlag arg2 harg2 arg4 harg4 x0 x2)) (h2 : ¬takesBA i (newFlag arg2 harg2 arg4 harg4 x0 x2)) (h3 : ¬takesOC i (newFlag arg2 harg2 arg4 harg4 x0 x2)) (h4 : ¬takesOA i (newFlag arg2 harg2 arg4 harg4 x0 x2)) :
    Σ' (L4 : List (View.Piece (Elt F) S256x512 .bf16)), Σ' (L7 : List (View.Piece (Elt F) S8448x256 .bf16)), Σ' (L8 : List (View.Piece (Elt F) S8x128 .f32)), { L9 : List (View.Piece (Elt F) S1 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d)) -∗ K ⟨⟩))
          ⊢ wp frame (wpE (defs₀ (F := F)) Variants.none c none) E (cc0_gattn i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gattn_eq_skeleton]; unfold cc0_gattn_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.KernelIdeal.Attn

end
-- ==== Proof.I.RunOC.lean ====
/- The body at the tile of context rows, the running-maximum softmax taken. -/
module

public import proofs.«01_k».proof.Proof.I.RunBC

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

set_option maxHeartbeats 4000000 in
/-- What the body leaves in the output's buffer and in the three scratch buffers it keeps for the head, as lists of stored pieces, with the proof that it runs to them. -/
noncomputable def runOC (c : Dev nD) (i : grid0.Coords) (arg2 : Memref sig .tc .smem S1 .f32) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x512 .bf16) (harg6 : arg6.IsWhole) (arg7 : Memref sig .tc .vmem S8448x256 .bf16) (harg7 : arg7.IsWhole) (arg8 : Memref sig .tc .vmem S8x128 .f32) (harg8 : arg8.IsWhole) (arg9 : Memref sig .tc .smem S1 .i32) (harg9 : arg9.IsWhole) (arg10 : Memref sig .tc .vmem S1024x128 .f32) (harg10 : arg10.IsWhole) (arg11 : Memref sig .tc .vmem S1024x256 .f32) (harg11 : arg11.IsWhole)
    (x0 : Vec F S1 .f32) (x1 : Vec F S256x512 .bf16) (x2 : Vec F S8448x128 .bf16) (x3 : Vec F S8448x128 .bf16)
    (h0 : isFirst i) (h1 : ¬takesBC i (newFlag arg2 harg2 arg4 harg4 x0 x2)) (h2 : ¬takesBA i (newFlag arg2 harg2 arg4 harg4 x0 x2)) (h3 : takesOC i (newFlag arg2 harg2 arg4 harg4 x0 x2)) (h4 : ¬takesOA i (newFlag arg2 harg2 arg4 harg4 x0 x2)) :
    Σ' (L4 : List (View.Piece (Elt F) S256x512 .bf16)), Σ' (L7 : List (View.Piece (Elt F) S8448x256 .bf16)), Σ' (L8 : List (View.Piece (Elt F) S8x128 .f32)), { L9 : List (View.Piece (Elt F) S1 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ d, owns (c : Thread nD τ) arg10 fullShare d) ∗ (∃ d, owns (c : Thread nD τ) arg11 fullShare d)) -∗ K ⟨⟩))
          ⊢ wp frame (wpE (defs₀ (F := F)) Variants.none c none) E (cc0_gattn i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gattn_eq_skeleton]; unfold cc0_gattn_skel
    simp only [k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.KernelIdeal.Attn

end
-- ==== Proof.I.RunOA.lean ====
/- The body at a tile of latent rows, the running-maximum softmax taken. -/
module

public import proofs.«01_k».proof.Proof.I.RunOC

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

set_option maxHeartbeats 4000000 in
/-- What the body leaves in the output's buffer, as a list of stored pieces, with the proof that it runs to it and leaves the head's scratch buffers alone. -/
noncomputable def runOA (c : Dev nD) (i : grid0.Coords) (arg2 : Memref sig .tc .smem S1 .f32) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x512 .bf16) (harg6 : arg6.IsWhole) (arg7 : Memref sig .tc .vmem S8448x256 .bf16) (harg7 : arg7.IsWhole) (arg8 : Memref sig .tc .vmem S8x128 .f32) (harg8 : arg8.IsWhole) (arg9 : Memref sig .tc .smem S1 .i32) (harg9 : arg9.IsWhole) (arg10 : Memref sig .tc .vmem S1024x128 .f32) (harg10 : arg10.IsWhole) (arg11 : Memref sig .tc .vmem S1024x256 .f32) (harg11 : arg11.IsWhole)
    (x0 : Vec F S1 .f32) (x1 : Vec F S256x512 .bf16) (x2 : Vec F S8448x128 .bf16) (x3 : Vec F S8448x128 .bf16) (xs0 : Vec F S8448x256 .bf16) (xs1 : Vec F S8x128 .f32) (fl : BitVec 32)
    (h0 : ¬isFirst i) (h1 : ¬takesBC i (oldFlag (F := F) arg9 harg9 fl)) (h2 : ¬takesBA i (oldFlag (F := F) arg9 harg9 fl)) (h3 : ¬takesOC i (oldFlag (F := F) arg9 harg9 fl)) (h4 : takesOA i (oldFlag (F := F) arg9 harg9 fl)) :
    { L4 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare (fun _ => fl) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ owns (c : Thread nD τ) arg9 fullShare (fun _ => fl) ∗ (∃ d, owns (c : Thread nD τ) arg10 fullShare d) ∗ (∃ d, owns (c : Thread nD τ) arg11 fullShare d)) -∗ K ⟨⟩))
          ⊢ wp frame (wpE (defs₀ (F := F)) Variants.none c none) E (cc0_gattn i arg2 harg2 arg3 harg3 arg4 harg4 arg5 harg5 arg6 harg6 arg7 harg7 arg8 harg8 arg9 harg9 arg10 harg10 arg11 harg11) K } := by
  refine ⟨?_, fun E K => ?run⟩
  case run =>
    simp only [cc0_gattn_eq_skeleton]; unfold cc0_gattn_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]
    · iexists _; isplitr; · ipureintro; exact harg9.read_unread _
      iexact HS2
    isplitl [HS3]
    · iexists _, _; isplitr; swap; · iexact HS3
      ipureintro; rfl
    iexists _, _; isplitr; swap; · iexact HS4
    ipureintro; rfl

end Cert.KernelIdeal.Attn

end
-- ==== Proof.I.Contents.lean ====
/- What one grid point of the attention call stores, as terms over the blocks it loads: the value-and-ones array, the key bound and the flag a head's first tile leaves, and the output tile each of the four branches computes. -/
module

public import proofs.«01_k».proof.Proof.I.RunOA
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- A head's values with a block of ones beside them, as the first tile leaves it. -/
def vxOf (x3 : Vec F S8448x128 .bf16) : Vec F S8448x256 .bf16 :=
  View.canon (Val := Elt F) [⟨Rect.unit (s := S8448x256) ![0, 128] S8448x128.size inb_S8448x256_S8448x128_0_128, k0_pay2 (F := F)⟩,
    ⟨Rect.unit (s := S8448x256) ![0, 0] S8448x128.size inb_S8448x256_S8448x128_0_0, k0_pay1 x3⟩]

/-- The flag word a head's first tile leaves: whether the bound on the scores is at most fifty. -/
def flOf (x0 : Vec F S1 .f32) (x2 : Vec F S8448x128 .bf16) : BitVec 32 :=
  Scalar.extui (Scalar.cmpf .ole (k0_pay5 x2 (View.ld x0 (Rect.unit (s := S1) ![0] S1.size inb_S1_S1_0) (Shape.Idx.first (numel1_S1.symm ▸ Nat.one_pos)))) (Scalar.ofBits .f32 0x42480000#32))

/-- The query rows of the group's head 0. -/
abbrev qT0 (x1 : Vec F S256x512 .bf16) : Vec F S256x128 .bf16 := View.ld x1 (Rect.unit (s := S256x512) ![0, 0] S256x128.size inb_S256x512_S256x128_0_0)
/-- The query rows of the group's head 1. -/
abbrev qT1 (x1 : Vec F S256x512 .bf16) : Vec F S256x128 .bf16 := View.ld x1 (Rect.unit (s := S256x512) ![0, 128] S256x128.size inb_S256x512_S256x128_0_128)
/-- The query rows of the group's head 2. -/
abbrev qT2 (x1 : Vec F S256x512 .bf16) : Vec F S256x128 .bf16 := View.ld x1 (Rect.unit (s := S256x512) ![0, 256] S256x128.size inb_S256x512_S256x128_0_256)
/-- The query rows of the group's head 3. -/
abbrev qT3 (x1 : Vec F S256x512 .bf16) : Vec F S256x128 .bf16 := View.ld x1 (Rect.unit (s := S256x512) ![0, 384] S256x128.size inb_S256x512_S256x128_0_384)
/-- The keys from row 0. -/
abbrev kC0 (x2 : Vec F S8448x128 .bf16) : Vec F S256x128 .bf16 := View.ld x2 (Rect.unit (s := S8448x128) ![0, 0] S256x128.size inb_S8448x128_S256x128_0_0)
/-- The values and ones from row 0. -/
abbrev vC0 (vx : Vec F S8448x256 .bf16) : Vec F S256x256 .bf16 := View.ld vx (Rect.unit (s := S8448x256) ![0, 0] S256x256.size inb_S8448x256_S256x256_0_0)
/-- The keys from row 256. -/
abbrev kC256 (x2 : Vec F S8448x128 .bf16) : Vec F S2048x128 .bf16 := View.ld x2 (Rect.unit (s := S8448x128) ![256, 0] S2048x128.size inb_S8448x128_S2048x128_256_0)
/-- The values and ones from row 256. -/
abbrev vC256 (vx : Vec F S8448x256 .bf16) : Vec F S2048x256 .bf16 := View.ld vx (Rect.unit (s := S8448x256) ![256, 0] S2048x256.size inb_S8448x256_S2048x256_256_0)
/-- The keys from row 2304. -/
abbrev kC2304 (x2 : Vec F S8448x128 .bf16) : Vec F S2048x128 .bf16 := View.ld x2 (Rect.unit (s := S8448x128) ![2304, 0] S2048x128.size inb_S8448x128_S2048x128_2304_0)
/-- The values and ones from row 2304. -/
abbrev vC2304 (vx : Vec F S8448x256 .bf16) : Vec F S2048x256 .bf16 := View.ld vx (Rect.unit (s := S8448x256) ![2304, 0] S2048x256.size inb_S8448x256_S2048x256_2304_0)
/-- The keys from row 4352. -/
abbrev kC4352 (x2 : Vec F S8448x128 .bf16) : Vec F S2048x128 .bf16 := View.ld x2 (Rect.unit (s := S8448x128) ![4352, 0] S2048x128.size inb_S8448x128_S2048x128_4352_0)
/-- The values and ones from row 4352. -/
abbrev vC4352 (vx : Vec F S8448x256 .bf16) : Vec F S2048x256 .bf16 := View.ld vx (Rect.unit (s := S8448x256) ![4352, 0] S2048x256.size inb_S8448x256_S2048x256_4352_0)
/-- The keys from row 6400. -/
abbrev kC6400 (x2 : Vec F S8448x128 .bf16) : Vec F S2048x128 .bf16 := View.ld x2 (Rect.unit (s := S8448x128) ![6400, 0] S2048x128.size inb_S8448x128_S2048x128_6400_0)
/-- The values and ones from row 6400. -/
abbrev vC6400 (vx : Vec F S8448x256 .bf16) : Vec F S2048x256 .bf16 := View.ld vx (Rect.unit (s := S8448x256) ![6400, 0] S2048x256.size inb_S8448x256_S2048x256_6400_0)
/-- The first row of the key bound. -/
abbrev kR (km : Vec F S8x128 .f32) : Vec F S1x128 .f32 := View.ld km (Rect.unit (s := S8x128) ![0, 0] S1x128.size inb_S8x128_S1x128_0_0)

/-- The accumulator of the context tile, bounded branch. -/
def accBC (x1 : Vec F S256x512 .bf16) (x2 : Vec F S8448x128 .bf16) (vx : Vec F S8448x256 .bf16) (km : Vec F S8x128 .f32) : Vec F S1024x256 .f32 := k0_pay14 (qT0 x1) (qT1 x1) (qT2 x1) (qT3 x1) (kR km) (kC0 x2) (vC0 vx)
/-- Its output tile. -/
def outBC (x1 : Vec F S256x512 .bf16) (x2 : Vec F S8448x128 .bf16) (vx : Vec F S8448x256 .bf16) (km : Vec F S8x128 .f32) : Vec F S256x512 .bf16 :=
  View.canon (Val := Elt F) [⟨Rect.unit (s := S256x512) ![0, 384] S256x128.size inb_S256x512_S256x128_0_384, k0_pay8 (k0_pay15 (accBC x1 x2 vx km))⟩, ⟨Rect.unit (s := S256x512) ![0, 256] S256x128.size inb_S256x512_S256x128_0_256, k0_pay7 (k0_pay15 (accBC x1 x2 vx km))⟩, ⟨Rect.unit (s := S256x512) ![0, 128] S256x128.size inb_S256x512_S256x128_0_128, k0_pay6 (k0_pay15 (accBC x1 x2 vx km))⟩, ⟨Rect.unit (s := S256x512) ![0, 0] S256x128.size inb_S256x512_S256x128_0_0, k0_pay16 (accBC x1 x2 vx km)⟩]

/-- The stacked query rows of a latent tile. -/
abbrev qS (x1 : Vec F S256x512 .bf16) : FVec F S1024x128 .bf16 := k0_pay17 (qT0 x1) (qT1 x1) (qT2 x1) (qT3 x1)
/-- The bound on each row's scores. -/
abbrev bS (x1 : Vec F S256x512 .bf16) (km : Vec F S8x128 .f32) : FVec F S1024x128 .f32 := k0_pay18 (qT0 x1) (qT1 x1) (qT2 x1) (qT3 x1) (kR km)
/-- The accumulator of a latent tile, bounded branch: the context keys, -/
def accBA0 (x1 : Vec F S256x512 .bf16) (x2 : Vec F S8448x128 .bf16) (vx : Vec F S8448x256 .bf16) (km : Vec F S8x128 .f32) : Vec F S1024x256 .f32 := k0_pay19 (qT0 x1) (qT1 x1) (qT2 x1) (qT3 x1) (kR km) (kC0 x2) (vC0 vx)
/-- and then each chunk of latent keys. -/
def accBA1 (x1 : Vec F S256x512 .bf16) (x2 : Vec F S8448x128 .bf16) (vx : Vec F S8448x256 .bf16) (km : Vec F S8x128 .f32) : Vec F S1024x256 .f32 := k0_pay21 (k0_pay20 (qT0 x1) (qT1 x1) (qT2 x1) (qT3 x1) (kR km) (kC256 x2)) (vC256 vx) (accBA0 x1 x2 vx km)
def accBA2 (x1 : Vec F S256x512 .bf16) (x2 : Vec F S8448x128 .bf16) (vx : Vec F S8448x256 .bf16) (km : Vec F S8x128 .f32) : Vec F S1024x256 .f32 := k0_pay22 (qS x1) (bS x1 km) (kC2304 x2) (vC2304 vx) (accBA1 x1 x2 vx km)
def accBA3 (x1 : Vec F S256x512 .bf16) (x2 : Vec F S8448x128 .bf16) (vx : Vec F S8448x256 .bf16) (km : Vec F S8x128 .f32) : Vec F S1024x256 .f32 := k0_pay24 (k0_pay23 (qS x1) (bS x1 km) (kC4352 x2) (vC4352 vx) (accBA2 x1 x2 vx km))
def accBA (x1 : Vec F S256x512 .bf16) (x2 : Vec F S8448x128 .bf16) (vx : Vec F S8448x256 .bf16) (km : Vec F S8x128 .f32) : Vec F S1024x256 .f32 := k0_pay25 (qS x1) (bS x1 km) (kC6400 x2) (vC6400 vx) (accBA3 x1 x2 vx km)
/-- Its output tile. -/
def outBA (x1 : Vec F S256x512 .bf16) (x2 : Vec F S8448x128 .bf16) (vx : Vec F S8448x256 .bf16) (km : Vec F S8x128 .f32) : Vec F S256x512 .bf16 :=
  View.canon (Val := Elt F) [⟨Rect.unit (s := S256x512) ![0, 384] S256x128.size inb_S256x512_S256x128_0_384, k0_pay30 (accBA x1 x2 vx km)⟩, ⟨Rect.unit (s := S256x512) ![0, 256] S256x128.size inb_S256x512_S256x128_0_256, k0_pay29 (accBA x1 x2 vx km)⟩, ⟨Rect.unit (s := S256x512) ![0, 128] S256x128.size inb_S256x512_S256x128_0_128, k0_pay28 (accBA x1 x2 vx km)⟩, ⟨Rect.unit (s := S256x512) ![0, 0] S256x128.size inb_S256x512_S256x128_0_0, k0_pay27 (accBA x1 x2 vx km)⟩]

/-- The accumulator of the context tile, running-maximum branch. -/
def accOC (x1 : Vec F S256x512 .bf16) (x2 : Vec F S8448x128 .bf16) (vx : Vec F S8448x256 .bf16) : Vec F S1024x256 .f32 := k0_pay33 (qT0 x1) (qT1 x1) (qT2 x1) (qT3 x1) (kC0 x2) (vC0 vx)
/-- Its output tile. -/
def outOC (x1 : Vec F S256x512 .bf16) (x2 : Vec F S8448x128 .bf16) (vx : Vec F S8448x256 .bf16) : Vec F S256x512 .bf16 :=
  View.canon (Val := Elt F) [⟨Rect.unit (s := S256x512) ![0, 384] S256x128.size inb_S256x512_S256x128_0_384, k0_pay11 (k0_pay35 (accOC x1 x2 vx))⟩, ⟨Rect.unit (s := S256x512) ![0, 256] S256x128.size inb_S256x512_S256x128_0_256, k0_pay10 (k0_pay35 (accOC x1 x2 vx))⟩, ⟨Rect.unit (s := S256x512) ![0, 128] S256x128.size inb_S256x512_S256x128_0_128, k0_pay9 (k0_pay35 (accOC x1 x2 vx))⟩, ⟨Rect.unit (s := S256x512) ![0, 0] S256x128.size inb_S256x512_S256x128_0_0, k0_pay36 (accOC x1 x2 vx)⟩]

/-- The stacked query rows, as the running-maximum branch spells them. -/
abbrev qO (x1 : Vec F S256x512 .bf16) : FVec F S1024x128 .bf16 := k0_pay37 (qT0 x1) (qT1 x1) (qT2 x1) (qT3 x1)
/-- The running maximum after each chunk but the last, -/
def mOA0 (x1 : Vec F S256x512 .bf16) (x2 : Vec F S8448x128 .bf16) : Vec F S1024x128 .f32 := k0_pay41 (qT0 x1) (qT1 x1) (qT2 x1) (qT3 x1) (kC0 x2)
def mOA1 (x1 : Vec F S256x512 .bf16) (x2 : Vec F S8448x128 .bf16) : Vec F S1024x128 .f32 := k0_pay46 (k0_pay43 (qT0 x1) (qT1 x1) (qT2 x1) (qT3 x1) (kC256 x2)) (mOA0 x1 x2)
def mOA2 (x1 : Vec F S256x512 .bf16) (x2 : Vec F S8448x128 .bf16) : Vec F S1024x128 .f32 := k0_pay52 (k0_pay48 (qO x1) (kC2304 x2) (mOA1 x1 x2))
def mOA3 (x1 : Vec F S256x512 .bf16) (x2 : Vec F S8448x128 .bf16) : Vec F S1024x128 .f32 := k0_pay56 (qO x1) (kC4352 x2) (mOA2 x1 x2)
/-- and the accumulator of a latent tile after each chunk. -/
def accOA0 (x1 : Vec F S256x512 .bf16) (x2 : Vec F S8448x128 .bf16) (vx : Vec F S8448x256 .bf16) : Vec F S1024x256 .f32 := k0_pay40 (qT0 x1) (qT1 x1) (qT2 x1) (qT3 x1) (kC0 x2) (vC0 vx)
def accOA1 (x1 : Vec F S256x512 .bf16) (x2 : Vec F S8448x128 .bf16) (vx : Vec F S8448x256 .bf16) : Vec F S1024x256 .f32 := k0_pay45 (k0_pay42 (qT0 x1) (qT1 x1) (qT2 x1) (qT3 x1) (kC256 x2)) (k0_pay43 (qT0 x1) (qT1 x1) (qT2 x1) (qT3 x1) (kC256 x2)) (mOA0 x1 x2) (vC256 vx) (accOA0 x1 x2 vx)
def accOA2 (x1 : Vec F S256x512 .bf16) (x2 : Vec F S8448x128 .bf16) (vx : Vec F S8448x256 .bf16) : Vec F S1024x256 .f32 := k0_pay51 (k0_pay49 (qO x1) (kC2304 x2) (mOA1 x1 x2) (vC2304 vx)) (k0_pay50 (qO x1) (kC2304 x2) (mOA1 x1 x2)) (accOA1 x1 x2 vx)
def accOA3 (x1 : Vec F S256x512 .bf16) (x2 : Vec F S8448x128 .bf16) (vx : Vec F S8448x256 .bf16) : Vec F S1024x256 .f32 := k0_pay55 (qO x1) (kC4352 x2) (mOA2 x1 x2) (vC4352 vx) (accOA2 x1 x2 vx)
def accOA (x1 : Vec F S256x512 .bf16) (x2 : Vec F S8448x128 .bf16) (vx : Vec F S8448x256 .bf16) : Vec F S1024x256 .f32 := k0_pay59 (qO x1) (kC6400 x2) (mOA3 x1 x2) (vC6400 vx) (accOA3 x1 x2 vx)
/-- Its output tile. -/
def outOA (x1 : Vec F S256x512 .bf16) (x2 : Vec F S8448x128 .bf16) (vx : Vec F S8448x256 .bf16) : Vec F S256x512 .bf16 :=
  View.canon (Val := Elt F) [⟨Rect.unit (s := S256x512) ![0, 384] S256x128.size inb_S256x512_S256x128_0_384, k0_pay13 (k0_pay61 (accOA x1 x2 vx))⟩, ⟨Rect.unit (s := S256x512) ![0, 256] S256x128.size inb_S256x512_S256x128_0_256, k0_pay12 (k0_pay64 (accOA x1 x2 vx))⟩, ⟨Rect.unit (s := S256x512) ![0, 128] S256x128.size inb_S256x512_S256x128_0_128, k0_pay63 (accOA x1 x2 vx)⟩, ⟨Rect.unit (s := S256x512) ![0, 0] S256x128.size inb_S256x512_S256x128_0_0, k0_pay62 (accOA x1 x2 vx)⟩]

/-- A word loaded back from a buffer that holds it. -/
theorem oldFlag_eq (arg9 : Memref sig .tc .smem S1 .i32) (harg9 : arg9.IsWhole) (fl : BitVec 32) : oldFlag (F := F) arg9 harg9 fl = fl := by
  simp only [oldFlag, View.readAt_eq_ld, harg9.read_unread]

/-- The flag word computed from buffers holding `x0` and `x2`. -/
theorem newFlag_eq (arg2 : Memref sig .tc .smem S1 .f32) (harg2 : arg2.IsWhole) (arg4 : Memref sig .tc .vmem S8448x128 .bf16) (harg4 : arg4.IsWhole) (x0 : Vec F S1 .f32) (x2 : Vec F S8448x128 .bf16) :
    newFlag arg2 harg2 arg4 harg4 x0 x2 = flOf x0 x2 := by
  simp (disch := decide) only [newFlag, flOf, View.readAt_eq_ld, harg2.read_unread, harg4.read_unread, View.ld_unit_lit']

section
variable (c : Dev nD) (i : grid0.Coords) (arg2 : Memref sig .tc .smem S1 .f32) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S256x512 .bf16) (harg6 : arg6.IsWhole) (arg7 : Memref sig .tc .vmem S8448x256 .bf16) (harg7 : arg7.IsWhole) (arg8 : Memref sig .tc .vmem S8x128 .f32) (harg8 : arg8.IsWhole) (arg9 : Memref sig .tc .smem S1 .i32) (harg9 : arg9.IsWhole) (arg10 : Memref sig .tc .vmem S1024x128 .f32) (harg10 : arg10.IsWhole) (arg11 : Memref sig .tc .vmem S1024x256 .f32) (harg11 : arg11.IsWhole) (x0 : Vec F S1 .f32) (x1 : Vec F S256x512 .bf16) (x2 : Vec F S8448x128 .bf16) (x3 : Vec F S8448x128 .bf16)

set_option maxHeartbeats 1000000 in
/-- The pieces stored into the output's buffer leave the tile, whatever it held. -/
theorem readBA (xs0 : Vec F S8448x256 .bf16) (xs1 : Vec F S8x128 .f32) (fl : BitVec 32) (h0 : ¬isFirst i) (h1 : ¬takesBC i (oldFlag (F := F) arg9 harg9 fl)) (h2 : takesBA i (oldFlag (F := F) arg9 harg9 fl)) (h3 : ¬takesOC i (oldFlag (F := F) arg9 harg9 fl)) (h4 : ¬takesOA i (oldFlag (F := F) arg9 harg9 fl)) (f : arg6.view.ty.Contents (Elt F)) :
    arg6.view.read (Elt F) (arg6.view.writes (Elt F) f (runBA c i arg2 harg2 arg3 harg3 arg4 harg4 arg5 harg5 arg6 harg6 arg7 harg7 arg8 harg8 arg9 harg9 arg10 harg10 arg11 harg11 x0 x1 x2 x3 xs0 xs1 fl h0 h1 h2 h3 h4).1) = outBA x1 x2 xs0 xs1 := by
  rw [View.read_writes_eq_canon _ _ _ (fun y => View.cover_of_tiledL (runBA c i arg2 harg2 arg3 harg3 arg4 harg4 arg5 harg5 arg6 harg6 arg7 harg7 arg8 harg8 arg9 harg9 arg10 harg10 arg11 harg11 x0 x1 x2 x3 xs0 xs1 fl h0 h1 h2 h3 h4).1 S256x128.size (by sl_kernel_rfl) y)]
  frame_out
  skip
  rfl

set_option maxHeartbeats 1000000 in
/-- The pieces stored into the output's buffer leave the tile, whatever it held. -/
theorem readOA (xs0 : Vec F S8448x256 .bf16) (xs1 : Vec F S8x128 .f32) (fl : BitVec 32) (h0 : ¬isFirst i) (h1 : ¬takesBC i (oldFlag (F := F) arg9 harg9 fl)) (h2 : ¬takesBA i (oldFlag (F := F) arg9 harg9 fl)) (h3 : ¬takesOC i (oldFlag (F := F) arg9 harg9 fl)) (h4 : takesOA i (oldFlag (F := F) arg9 harg9 fl)) (f : arg6.view.ty.Contents (Elt F)) :
    arg6.view.read (Elt F) (arg6.view.writes (Elt F) f (runOA c i arg2 harg2 arg3 harg3 arg4 harg4 arg5 harg5 arg6 harg6 arg7 harg7 arg8 harg8 arg9 harg9 arg10 harg10 arg11 harg11 x0 x1 x2 x3 xs0 xs1 fl h0 h1 h2 h3 h4).1) = outOA x1 x2 xs0 := by
  rw [View.read_writes_eq_canon _ _ _ (fun y => View.cover_of_tiledL (runOA c i arg2 harg2 arg3 harg3 arg4 harg4 arg5 harg5 arg6 harg6 arg7 harg7 arg8 harg8 arg9 harg9 arg10 harg10 arg11 harg11 x0 x1 x2 x3 xs0 xs1 fl h0 h1 h2 h3 h4).1 S256x128.size (by sl_kernel_rfl) y)]
  frame_out
  skip
  rfl

set_option maxHeartbeats 1000000 in
/-- The pieces stored into the output's buffer leave the tile, whatever it held. -/
theorem readBC (h0 : isFirst i) (h1 : takesBC i (newFlag arg2 harg2 arg4 harg4 x0 x2)) (h2 : ¬takesBA i (newFlag arg2 harg2 arg4 harg4 x0 x2)) (h3 : ¬takesOC i (newFlag arg2 harg2 arg4 harg4 x0 x2)) (h4 : ¬takesOA i (newFlag arg2 harg2 arg4 harg4 x0 x2)) (f : arg6.view.ty.Contents (Elt F)) :
    arg6.view.read (Elt F) (arg6.view.writes (Elt F) f (runBC c i arg2 harg2 arg3 harg3 arg4 harg4 arg5 harg5 arg6 harg6 arg7 harg7 arg8 harg8 arg9 harg9 arg10 harg10 arg11 harg11 x0 x1 x2 x3 h0 h1 h2 h3 h4).1) = outBC x1 x2 (vxOf x3) (k0_pay4 x2) := by
  rw [View.read_writes_eq_canon _ _ _ (fun y => View.cover_of_tiledL (runBC c i arg2 harg2 arg3 harg3 arg4 harg4 arg5 harg5 arg6 harg6 arg7 harg7 arg8 harg8 arg9 harg9 arg10 harg10 arg11 harg11 x0 x1 x2 x3 h0 h1 h2 h3 h4).1 S256x128.size (by sl_kernel_rfl) y)]
  frame_out
  simp (disch := decide) only [View.readCov_eq_canon', View.canon_cons_unit_lit']
  rfl

set_option maxHeartbeats 1000000 in
/-- The pieces stored into the value-and-ones buffer. -/
theorem readBCVx (h0 : isFirst i) (h1 : takesBC i (newFlag arg2 harg2 arg4 harg4 x0 x2)) (h2 : ¬takesBA i (newFlag arg2 harg2 arg4 harg4 x0 x2)) (h3 : ¬takesOC i (newFlag arg2 harg2 arg4 harg4 x0 x2)) (h4 : ¬takesOA i (newFlag arg2 harg2 arg4 harg4 x0 x2)) (f : arg7.view.ty.Contents (Elt F)) :
    arg7.view.read (Elt F) (arg7.view.writes (Elt F) f (runBC c i arg2 harg2 arg3 harg3 arg4 harg4 arg5 harg5 arg6 harg6 arg7 harg7 arg8 harg8 arg9 harg9 arg10 harg10 arg11 harg11 x0 x1 x2 x3 h0 h1 h2 h3 h4).2.1) = vxOf x3 := by
  rw [View.read_writes_eq_canon _ _ _ (fun y => View.cover_of_tiledL (runBC c i arg2 harg2 arg3 harg3 arg4 harg4 arg5 harg5 arg6 harg6 arg7 harg7 arg8 harg8 arg9 harg9 arg10 harg10 arg11 harg11 x0 x1 x2 x3 h0 h1 h2 h3 h4).2.1 S8448x128.size (by sl_kernel_rfl) y)]
  unfold vxOf
  frame_out

set_option maxHeartbeats 1000000 in
/-- The pieces stored into the key-bound buffer. -/
theorem readBCKm (h0 : isFirst i) (h1 : takesBC i (newFlag arg2 harg2 arg4 harg4 x0 x2)) (h2 : ¬takesBA i (newFlag arg2 harg2 arg4 harg4 x0 x2)) (h3 : ¬takesOC i (newFlag arg2 harg2 arg4 harg4 x0 x2)) (h4 : ¬takesOA i (newFlag arg2 harg2 arg4 harg4 x0 x2)) (f : arg8.view.ty.Contents (Elt F)) :
    arg8.view.read (Elt F) (arg8.view.writes (Elt F) f (runBC c i arg2 harg2 arg3 harg3 arg4 harg4 arg5 harg5 arg6 harg6 arg7 harg7 arg8 harg8 arg9 harg9 arg10 harg10 arg11 harg11 x0 x1 x2 x3 h0 h1 h2 h3 h4).2.2.1) = k0_pay4 x2 := by
  rw [View.read_writes_eq_canon _ _ _ (fun y => View.cover_of_tiledL (runBC c i arg2 harg2 arg3 harg3 arg4 harg4 arg5 harg5 arg6 harg6 arg7 harg7 arg8 harg8 arg9 harg9 arg10 harg10 arg11 harg11 x0 x1 x2 x3 h0 h1 h2 h3 h4).2.2.1 S8x128.size (by sl_kernel_rfl) y)]
  skip
  frame_out

set_option maxHeartbeats 1000000 in
/-- The pieces stored into the flag buffer. -/
theorem readBCFl (h0 : isFirst i) (h1 : takesBC i (newFlag arg2 harg2 arg4 harg4 x0 x2)) (h2 : ¬takesBA i (newFlag arg2 harg2 arg4 harg4 x0 x2)) (h3 : ¬takesOC i (newFlag arg2 harg2 arg4 harg4 x0 x2)) (h4 : ¬takesOA i (newFlag arg2 harg2 arg4 harg4 x0 x2)) (f : arg9.view.ty.Contents (Elt F)) :
    arg9.view.read (Elt F) (arg9.view.writes (Elt F) f (runBC c i arg2 harg2 arg3 harg3 arg4 harg4 arg5 harg5 arg6 harg6 arg7 harg7 arg8 harg8 arg9 harg9 arg10 harg10 arg11 harg11 x0 x1 x2 x3 h0 h1 h2 h3 h4).2.2.2.1) = fun _ => flOf x0 x2 := by
  rw [View.read_writes_eq_canon _ _ _ (fun y => View.cover_of_tiledL (runBC c i arg2 harg2 arg3 harg3 arg4 harg4 arg5 harg5 arg6 harg6 arg7 harg7 arg8 harg8 arg9 harg9 arg10 harg10 arg11 harg11 x0 x1 x2 x3 h0 h1 h2 h3 h4).2.2.2.1 S1.size (by sl_kernel_rfl) y)]
  unfold flOf
  frame_out
  rfl

set_option maxHeartbeats 1000000 in
/-- The pieces stored into the output's buffer leave the tile, whatever it held. -/
theorem readOC (h0 : isFirst i) (h1 : ¬takesBC i (newFlag arg2 harg2 arg4 harg4 x0 x2)) (h2 : ¬takesBA i (newFlag arg2 harg2 arg4 harg4 x0 x2)) (h3 : takesOC i (newFlag arg2 harg2 arg4 harg4 x0 x2)) (h4 : ¬takesOA i (newFlag arg2 harg2 arg4 harg4 x0 x2)) (f : arg6.view.ty.Contents (Elt F)) :
    arg6.view.read (Elt F) (arg6.view.writes (Elt F) f (runOC c i arg2 harg2 arg3 harg3 arg4 harg4 arg5 harg5 arg6 harg6 arg7 harg7 arg8 harg8 arg9 harg9 arg10 harg10 arg11 harg11 x0 x1 x2 x3 h0 h1 h2 h3 h4).1) = outOC x1 x2 (vxOf x3) := by
  rw [View.read_writes_eq_canon _ _ _ (fun y => View.cover_of_tiledL (runOC c i arg2 harg2 arg3 harg3 arg4 harg4 arg5 harg5 arg6 harg6 arg7 harg7 arg8 harg8 arg9 harg9 arg10 harg10 arg11 harg11 x0 x1 x2 x3 h0 h1 h2 h3 h4).1 S256x128.size (by sl_kernel_rfl) y)]
  frame_out
  simp (disch := decide) only [View.readCov_eq_canon', View.canon_cons_unit_lit']
  rfl

set_option maxHeartbeats 1000000 in
/-- The pieces stored into the value-and-ones buffer. -/
theorem readOCVx (h0 : isFirst i) (h1 : ¬takesBC i (newFlag arg2 harg2 arg4 harg4 x0 x2)) (h2 : ¬takesBA i (newFlag arg2 harg2 arg4 harg4 x0 x2)) (h3 : takesOC i (newFlag arg2 harg2 arg4 harg4 x0 x2)) (h4 : ¬takesOA i (newFlag arg2 harg2 arg4 harg4 x0 x2)) (f : arg7.view.ty.Contents (Elt F)) :
    arg7.view.read (Elt F) (arg7.view.writes (Elt F) f (runOC c i arg2 harg2 arg3 harg3 arg4 harg4 arg5 harg5 arg6 harg6 arg7 harg7 arg8 harg8 arg9 harg9 arg10 harg10 arg11 harg11 x0 x1 x2 x3 h0 h1 h2 h3 h4).2.1) = vxOf x3 := by
  rw [View.read_writes_eq_canon _ _ _ (fun y => View.cover_of_tiledL (runOC c i arg2 harg2 arg3 harg3 arg4 harg4 arg5 harg5 arg6 harg6 arg7 harg7 arg8 harg8 arg9 harg9 arg10 harg10 arg11 harg11 x0 x1 x2 x3 h0 h1 h2 h3 h4).2.1 S8448x128.size (by sl_kernel_rfl) y)]
  unfold vxOf
  frame_out

set_option maxHeartbeats 1000000 in
/-- The pieces stored into the key-bound buffer. -/
theorem readOCKm (h0 : isFirst i) (h1 : ¬takesBC i (newFlag arg2 harg2 arg4 harg4 x0 x2)) (h2 : ¬takesBA i (newFlag arg2 harg2 arg4 harg4 x0 x2)) (h3 : takesOC i (newFlag arg2 harg2 arg4 harg4 x0 x2)) (h4 : ¬takesOA i (newFlag arg2 harg2 arg4 harg4 x0 x2)) (f : arg8.view.ty.Contents (Elt F)) :
    arg8.view.read (Elt F) (arg8.view.writes (Elt F) f (runOC c i arg2 harg2 arg3 harg3 arg4 harg4 arg5 harg5 arg6 harg6 arg7 harg7 arg8 harg8 arg9 harg9 arg10 harg10 arg11 harg11 x0 x1 x2 x3 h0 h1 h2 h3 h4).2.2.1) = k0_pay4 x2 := by
  rw [View.read_writes_eq_canon _ _ _ (fun y => View.cover_of_tiledL (runOC c i arg2 harg2 arg3 harg3 arg4 harg4 arg5 harg5 arg6 harg6 arg7 harg7 arg8 harg8 arg9 harg9 arg10 harg10 arg11 harg11 x0 x1 x2 x3 h0 h1 h2 h3 h4).2.2.1 S8x128.size (by sl_kernel_rfl) y)]
  skip
  frame_out

set_option maxHeartbeats 1000000 in
/-- The pieces stored into the flag buffer. -/
theorem readOCFl (h0 : isFirst i) (h1 : ¬takesBC i (newFlag arg2 harg2 arg4 harg4 x0 x2)) (h2 : ¬takesBA i (newFlag arg2 harg2 arg4 harg4 x0 x2)) (h3 : takesOC i (newFlag arg2 harg2 arg4 harg4 x0 x2)) (h4 : ¬takesOA i (newFlag arg2 harg2 arg4 harg4 x0 x2)) (f : arg9.view.ty.Contents (Elt F)) :
    arg9.view.read (Elt F) (arg9.view.writes (Elt F) f (runOC c i arg2 harg2 arg3 harg3 arg4 harg4 arg5 harg5 arg6 harg6 arg7 harg7 arg8 harg8 arg9 harg9 arg10 harg10 arg11 harg11 x0 x1 x2 x3 h0 h1 h2 h3 h4).2.2.2.1) = fun _ => flOf x0 x2 := by
  rw [View.read_writes_eq_canon _ _ _ (fun y => View.cover_of_tiledL (runOC c i arg2 harg2 arg3 harg3 arg4 harg4 arg5 harg5 arg6 harg6 arg7 harg7 arg8 harg8 arg9 harg9 arg10 harg10 arg11 harg11 x0 x1 x2 x3 h0 h1 h2 h3 h4).2.2.2.1 S1.size (by sl_kernel_rfl) y)]
  unfold flOf
  frame_out
  rfl

end

end Cert.KernelIdeal.Attn

end
-- ==== Proof.I.Frame.lean ====
/- The attention call run point by point: what the scratch buffers hold between points, what each point leaves in the output's buffer, and the run of the whole program with its frame. -/
module

public import proofs.«01_k».proof.Proof.I.Contents

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem numPts : cfg0.N = 66 := N_0

/-- The first point of the head that point `n` works on. -/
abbrev headPt (n : ℕ) (h : n < cfg0.N) : Fin cfg0.N := ⟨n / 33 * 33, lt_of_le_of_lt (Nat.div_mul_le_self n 33) h⟩

/-- The values and ones of a point's head, the head's key bound and flag. -/
def vxAt (c : Dev nD) (n : ℕ) (h : n < cfg0.N) : Vec F S8448x256 .bf16 := vxOf (iblk m c 3 (headPt n h))
def kmAt (c : Dev nD) (n : ℕ) (h : n < cfg0.N) : Vec F S8x128 .f32 := k0_pay4 (iblk m c 2 (headPt n h))
def flAt (c : Dev nD) (n : ℕ) (h : n < cfg0.N) : BitVec 32 := flOf (iblk m c 0 (headPt n h)) (iblk m c 2 (headPt n h))

/-- The output tile of a point: the branch is the point's and the flag's. -/
def outAt (c : Dev nD) (t : Fin cfg0.N) : Vec F S256x512 .bf16 :=
  if t.val % 33 = 0 then
    if flAt m c t.val t.isLt = 1#32 then outBC (iblk m c 1 t) (iblk m c 2 t) (vxAt m c t.val t.isLt) (kmAt m c t.val t.isLt)
    else outOC (iblk m c 1 t) (iblk m c 2 t) (vxAt m c t.val t.isLt)
  else
    if flAt m c t.val t.isLt = 1#32 then outBA (iblk m c 1 t) (iblk m c 2 t) (vxAt m c t.val t.isLt) (kmAt m c t.val t.isLt)
    else outOA (iblk m c 1 t) (iblk m c 2 t) (vxAt m c t.val t.isLt)

/-- At a head's first point the head's first point is itself. -/
theorem headPt_first (t : Fin cfg0.N) (h : t.val % 33 = 0) : headPt t.val t.isLt = t := by
  apply Fin.ext; show t.val / 33 * 33 = t.val; omega

/-- Off a head's first point the point before is of the same head. -/
theorem headPt_prev (n : ℕ) (h : n < cfg0.N) (h0 : n % 33 ≠ 0) (h' : n - 1 < cfg0.N) : headPt (n - 1) h' = headPt n h := by
  apply Fin.ext; show (n - 1) / 33 * 33 = n / 33 * 33; omega

/-- The scratch buffers after point `n`: the head's three at their contents, the two of the running maximum and of the accumulator at anything. -/
def held (c : Dev nD) (n : ℕ) (h : n < cfg0.N) : sProp 𝕄 :=
  iprop(iprop(owns (c : Thread nD τ) scVx fullShare (vxAt m c n h) ∗ owns (c : Thread nD τ) scKm fullShare (kmAt m c n h) ∗ (∃ d, owns (c : Thread nD τ) scM fullShare d) ∗ (∃ d, owns (c : Thread nD τ) scAcc fullShare d) ∗ owns (c : Thread nD τ) scFl fullShare (fun _ => flAt m c n h)) ∗ (∃ r, prngReg c r))

/-- The same before point `n`: anything before the first. -/
def between (c : Dev nD) : (n : ℕ) → n ≤ cfg0.N → sProp 𝕄
  | 0, _ => Pipeline.ΦA spec0 c
  | n + 1, hn => held m c n hn

/-- What is held between points is among what the region hands out. -/
theorem between_any (c : Dev nD) (n : ℕ) (h : n ≤ cfg0.N) : between m c n h ⊢ Pipeline.ΦA spec0 c := by
  cases n with
  | zero => exact Idealize.SL.BI.Entails.refl _
  | succ n =>
    unfold between held; rw [PhiA_eq]
    iintro ⟨⟨HS0, HS1, HS3, HS4, HS2⟩, Hg⟩
    isplitl [HS0 HS1 HS3 HS4 HS2]
    · isplitl [HS0]
      · iexists _; iexact HS0
      isplitl [HS1]
      · iexists _; iexact HS1
      isplitl [HS3]
      · iexact HS3
      isplitl [HS4]
      · iexact HS4
      iexists _; iexact HS2
    iexact Hg

/-- Off a head's first point the scratch buffers hold the head's contents already. -/
theorem between_head (c : Dev nD) (t : Fin cfg0.N) (h0 : t.val % 33 ≠ 0) : between m c t.val (Nat.le_of_lt t.isLt) = held m c t.val t.isLt := by
  obtain ⟨n, hn⟩ := t
  cases n with
  | zero => exact absurd rfl h0
  | succ n =>
    show held m c n _ = held m c (n + 1) hn
    unfold held vxAt kmAt flAt
    have e : headPt n (Nat.lt_of_succ_lt hn) = headPt (n + 1) hn := headPt_prev (n + 1) hn h0 (Nat.lt_of_succ_lt hn)
    rw [e]

/-- The pipeline's data: the arrays as the region finds them, each input's buffer at its block after a point, the output's at the tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (msQm t) fullShare ((dats m 0 c).before 0 t d))
    ∗ (∃ d, owns (c : Thread nD τ) (msQ t) fullShare ((dats m 0 c).before 1 t d))
    ∗ (∃ d, owns (c : Thread nD τ) (msK t) fullShare ((dats m 0 c).before 2 t d))
    ∗ (∃ d, owns (c : Thread nD τ) (msV t) fullShare ((dats m 0 c).before 3 t d))
    ∗ (∃ d, owns (c : Thread nD τ) (msO t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Every window's block is written or read at every point. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

/-- The same with the contents written out. -/
def pointPost (c : Dev nD) (t : Fin cfg0.N) : sProp 𝕄 :=
  iprop(held m c t.val t.isLt ∗ (dats m 0 c).owesAt () t.castSucc
    ∗ owns (c : Thread nD τ) (msQm t) fullShare (iblk m c 0 t) ∗ owns (c : Thread nD τ) (msQ t) fullShare (iblk m c 1 t)
    ∗ owns (c : Thread nD τ) (msK t) fullShare (iblk m c 2 t) ∗ owns (c : Thread nD τ) (msV t) fullShare (iblk m c 3 t)
    ∗ owns (c : Thread nD τ) (msO t) fullShare (outAt m c t))

theorem bodyPost_eq (c : Dev nD) (t : Fin cfg0.N) : bodyPost m c t = pointPost m c t := by
  unfold bodyPost pointPost
  rw [show (dats m 0 c).owesAt () t.succ = (dats m 0 c).owesAt () t.castSucc from rfl]
  rw [show (dats m 0 c).Φ t.succ = held m c t.val t.isLt from rfl]
  rw [show (dats m 0 c).leavesExact 0 t = owns (c : Thread nD τ) (msQm t) fullShare ((dats m 0 c).after 0 t) from by
    unfold Dat.leavesExact; rw [live0 t], after0_0]
  rw [show (dats m 0 c).leavesExact 1 t = owns (c : Thread nD τ) (msQ t) fullShare ((dats m 0 c).after 1 t) from by
    unfold Dat.leavesExact; rw [live1 t], after0_1]
  rw [show (dats m 0 c).leavesExact 2 t = owns (c : Thread nD τ) (msK t) fullShare ((dats m 0 c).after 2 t) from by
    unfold Dat.leavesExact; rw [live2 t], after0_2]
  rw [show (dats m 0 c).leavesExact 3 t = owns (c : Thread nD τ) (msV t) fullShare ((dats m 0 c).after 3 t) from by
    unfold Dat.leavesExact; rw [live3 t], after0_3]
  rw [show (dats m 0 c).leavesExact 4 t = owns (c : Thread nD τ) (msO t) fullShare ((dats m 0 c).after 4 t) from by
    unfold Dat.leavesExact; rw [live4 t], after0_4]

set_option maxHeartbeats 3200000 in
/-- The body at a latent tile, bounded branch. -/
theorem soundBA (c : Dev nD) (t : Fin cfg0.N) (hz : t.val % 33 ≠ 0) (hf : flAt m c t.val t.isLt = 1#32) :
    bodyPre m c t ⊢ wp frame (wpE (defs₀ (F := F)) Variants.none c none) Set.univ (bodyAt0 t) (fun _ => pointPost m c t) := by
  have hN : t.val < 66 := lt_of_lt_of_eq t.isLt numPts
  have hfl : oldFlag (F := F) scFl (Memref.isWhole_whole _) (flAt m c t.val t.isLt) = flAt m c t.val t.isLt := by
    rw [oldFlag_eq (F := F) scFl (Memref.isWhole_whole _) (flAt m c t.val t.isLt)]
  have g0 : ¬isFirst (grid0.coords t) := fun h => hz ((isFirst_iff t).mp h)
  have g1 : ¬takesBC (grid0.coords t) (oldFlag (F := F) scFl (Memref.isWhole_whole _) (flAt m c t.val t.isLt)) := by rw [hfl]; intro h; exact hz ((takes_iff t _).1.mp h).2
  have g2 : takesBA (grid0.coords t) (oldFlag (F := F) scFl (Memref.isWhole_whole _) (flAt m c t.val t.isLt)) := by rw [hfl]; exact (takes_iff t _).2.1.mpr ⟨hf, hz⟩
  have g3 : ¬takesOC (grid0.coords t) (oldFlag (F := F) scFl (Memref.isWhole_whole _) (flAt m c t.val t.isLt)) := by rw [hfl]; intro h; exact hz ((takes_iff t _).2.2.1.mp h).2
  have g4 : ¬takesOA (grid0.coords t) (oldFlag (F := F) scFl (Memref.isWhole_whole _) (flAt m c t.val t.isLt)) := by rw [hfl]; intro h; exact ((takes_iff t _).2.2.2.mp h).1 hf
  have ho : outAt m c t = outBA (iblk m c 1 t) (iblk m c 2 t) (vxAt m c t.val t.isLt) (kmAt m c t.val t.isLt) := by
    unfold outAt; rw [if_neg hz, if_pos hf]
  unfold bodyPre pointPost bodyAt0
  simp only [before0_0, before0_1, before0_2, before0_3]
  rw [Phi_castSucc m c t, between_head m c t hz]; unfold held
  iintro ⟨⟨⟨HS0, HS1, HS3, HS4, HS2⟩, Hg⟩, Ho, ⟨%d0, H0⟩, ⟨%d1, H1⟩, ⟨%d2, H2⟩, ⟨%d3, H3⟩, ⟨%d4, H4⟩⟩
  iapply ((runBA c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) (vxAt m c t.val t.isLt) (kmAt m c t.val t.isLt) (flAt m c t.val t.isLt) g0 g1 g2 g3 g4).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, HS0, HS1, HS2, HS3, HS4⟩
  isplitl [HS0 HS1 HS3 HS4 HS2 Hg]
  · isplitl [HS0 HS1 HS3 HS4 HS2]
    · isplitl [HS0]; · iexact HS0
      isplitl [HS1]; · iexact HS1
      isplitl [HS3]; · iexact HS3
      isplitl [HS4]; · iexact HS4
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; rw [ho]; exact readBA c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) (vxAt m c t.val t.isLt) (kmAt m c t.val t.isLt) (flAt m c t.val t.isLt) g0 g1 g2 g3 g4 e4

set_option maxHeartbeats 3200000 in
/-- The body at a latent tile, running-maximum branch. -/
theorem soundOA (c : Dev nD) (t : Fin cfg0.N) (hz : t.val % 33 ≠ 0) (hf : flAt m c t.val t.isLt ≠ 1#32) :
    bodyPre m c t ⊢ wp frame (wpE (defs₀ (F := F)) Variants.none c none) Set.univ (bodyAt0 t) (fun _ => pointPost m c t) := by
  have hN : t.val < 66 := lt_of_lt_of_eq t.isLt numPts
  have hfl : oldFlag (F := F) scFl (Memref.isWhole_whole _) (flAt m c t.val t.isLt) = flAt m c t.val t.isLt := by
    rw [oldFlag_eq (F := F) scFl (Memref.isWhole_whole _) (flAt m c t.val t.isLt)]
  have g0 : ¬isFirst (grid0.coords t) := fun h => hz ((isFirst_iff t).mp h)
  have g1 : ¬takesBC (grid0.coords t) (oldFlag (F := F) scFl (Memref.isWhole_whole _) (flAt m c t.val t.isLt)) := by rw [hfl]; intro h; exact hz ((takes_iff t _).1.mp h).2
  have g2 : ¬takesBA (grid0.coords t) (oldFlag (F := F) scFl (Memref.isWhole_whole _) (flAt m c t.val t.isLt)) := by rw [hfl]; intro h; exact hf ((takes_iff t _).2.1.mp h).1
  have g3 : ¬takesOC (grid0.coords t) (oldFlag (F := F) scFl (Memref.isWhole_whole _) (flAt m c t.val t.isLt)) := by rw [hfl]; intro h; exact hz ((takes_iff t _).2.2.1.mp h).2
  have g4 : takesOA (grid0.coords t) (oldFlag (F := F) scFl (Memref.isWhole_whole _) (flAt m c t.val t.isLt)) := by rw [hfl]; exact (takes_iff t _).2.2.2.mpr ⟨hf, hz⟩
  have ho : outAt m c t = outOA (iblk m c 1 t) (iblk m c 2 t) (vxAt m c t.val t.isLt) := by
    unfold outAt; rw [if_neg hz, if_neg hf]
  unfold bodyPre pointPost bodyAt0
  simp only [before0_0, before0_1, before0_2, before0_3]
  rw [Phi_castSucc m c t, between_head m c t hz]; unfold held
  iintro ⟨⟨⟨HS0, HS1, HS3, HS4, HS2⟩, Hg⟩, Ho, ⟨%d0, H0⟩, ⟨%d1, H1⟩, ⟨%d2, H2⟩, ⟨%d3, H3⟩, ⟨%d4, H4⟩⟩
  iapply ((runOA c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) (vxAt m c t.val t.isLt) (kmAt m c t.val t.isLt) (flAt m c t.val t.isLt) g0 g1 g2 g3 g4).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, HS0, HS1, HS2, HS3, HS4⟩
  isplitl [HS0 HS1 HS3 HS4 HS2 Hg]
  · isplitl [HS0 HS1 HS3 HS4 HS2]
    · isplitl [HS0]; · iexact HS0
      isplitl [HS1]; · iexact HS1
      isplitl [HS3]; · iexact HS3
      isplitl [HS4]; · iexact HS4
      iexact HS2
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; rw [ho]; exact readOA c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) (vxAt m c t.val t.isLt) (kmAt m c t.val t.isLt) (flAt m c t.val t.isLt) g0 g1 g2 g3 g4 e4

set_option maxHeartbeats 3200000 in
/-- The body at the context tile, bounded branch. -/
theorem soundBC (c : Dev nD) (t : Fin cfg0.N) (hz : t.val % 33 = 0) (hf : flAt m c t.val t.isLt = 1#32) :
    bodyPre m c t ⊢ wp frame (wpE (defs₀ (F := F)) Variants.none c none) Set.univ (bodyAt0 t) (fun _ => pointPost m c t) := by
  have hN : t.val < 66 := lt_of_lt_of_eq t.isLt numPts
  have hfl : newFlag (msQm t) (hsQm t) (msK t) (hsK t) (iblk m c 0 t) (iblk m c 2 t) = flAt m c t.val t.isLt := by
    rw [newFlag_eq (msQm t) (hsQm t) (msK t) (hsK t) (iblk m c 0 t) (iblk m c 2 t)]; unfold flAt; rw [headPt_first t hz]
  have g0 : isFirst (grid0.coords t) := (isFirst_iff t).mpr hz
  have g1 : takesBC (grid0.coords t) (newFlag (msQm t) (hsQm t) (msK t) (hsK t) (iblk m c 0 t) (iblk m c 2 t)) := by rw [hfl]; exact (takes_iff t _).1.mpr ⟨hf, hz⟩
  have g2 : ¬takesBA (grid0.coords t) (newFlag (msQm t) (hsQm t) (msK t) (hsK t) (iblk m c 0 t) (iblk m c 2 t)) := by rw [hfl]; intro h; exact ((takes_iff t _).2.1.mp h).2 hz
  have g3 : ¬takesOC (grid0.coords t) (newFlag (msQm t) (hsQm t) (msK t) (hsK t) (iblk m c 0 t) (iblk m c 2 t)) := by rw [hfl]; intro h; exact ((takes_iff t _).2.2.1.mp h).1 hf
  have g4 : ¬takesOA (grid0.coords t) (newFlag (msQm t) (hsQm t) (msK t) (hsK t) (iblk m c 0 t) (iblk m c 2 t)) := by rw [hfl]; intro h; exact ((takes_iff t _).2.2.2.mp h).2 hz
  have ho : outAt m c t = outBC (iblk m c 1 t) (iblk m c 2 t) (vxOf (iblk m c 3 t)) (k0_pay4 (iblk m c 2 t)) := by
    unfold outAt; rw [if_pos hz, if_pos hf]; unfold vxAt kmAt; rw [headPt_first t hz]
  have hvx : vxAt m c t.val t.isLt = vxOf (iblk m c 3 t) := by unfold vxAt; rw [headPt_first t hz]
  have hkm : kmAt m c t.val t.isLt = k0_pay4 (iblk m c 2 t) := by unfold kmAt; rw [headPt_first t hz]
  have hfw : flAt m c t.val t.isLt = flOf (iblk m c 0 t) (iblk m c 2 t) := by unfold flAt; rw [headPt_first t hz]
  unfold bodyPre
  simp only [before0_0, before0_1, before0_2, before0_3]
  rw [Phi_castSucc m c t]
  suffices key : iprop(Pipeline.ΦA spec0 c ∗ (dats m 0 c).owesAt () t.castSucc
      ∗ (∃ d : Vec F S1 .f32, owns (c : Thread nD τ) (msQm t) fullShare (iblk m c 0 t)) ∗ (∃ d : Vec F S256x512 .bf16, owns (c : Thread nD τ) (msQ t) fullShare (iblk m c 1 t))
      ∗ (∃ d : Vec F S8448x128 .bf16, owns (c : Thread nD τ) (msK t) fullShare (iblk m c 2 t)) ∗ (∃ d : Vec F S8448x128 .bf16, owns (c : Thread nD τ) (msV t) fullShare (iblk m c 3 t))
      ∗ (∃ d, owns (c : Thread nD τ) (msO t) fullShare ((dats m 0 c).before 4 t d))) ⊢ wp frame (wpE (defs₀ (F := F)) Variants.none c none) Set.univ (bodyAt0 t) (fun _ => pointPost m c t) from
    (sep_mono_l (between_any m c _ _)).trans key
  unfold bodyAt0 pointPost
  rw [PhiA_eq]; unfold held
  iintro ⟨⟨⟨HS0, HS1, HS3, HS4, HS2⟩, Hg⟩, Ho, ⟨%d0, H0⟩, ⟨%d1, H1⟩, ⟨%d2, H2⟩, ⟨%d3, H3⟩, ⟨%d4, H4⟩⟩
  iapply ((runBC c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e7, HS0⟩, ⟨%e8, HS1⟩, ⟨%e9, HS2⟩, HS3, HS4⟩
  isplitl [HS0 HS1 HS3 HS4 HS2 Hg]
  · isplitl [HS0 HS1 HS3 HS4 HS2]
    · isplitl [HS0]
      · unfold owns; iexists _; isplitr
        swap; · iexact HS0
        ipureintro; rw [hvx]; exact readBCVx c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e7
      isplitl [HS1]
      · unfold owns; iexists _; isplitr
        swap; · iexact HS1
        ipureintro; rw [hkm]; exact readBCKm c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e8
      isplitl [HS3]; · iexact HS3
      isplitl [HS4]; · iexact HS4
      unfold owns; iexists _; isplitr
      swap; · iexact HS2
      ipureintro; rw [hfw]; exact readBCFl c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e9
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; rw [ho]; exact readBC c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e4

set_option maxHeartbeats 3200000 in
/-- The body at the context tile, running-maximum branch. -/
theorem soundOC (c : Dev nD) (t : Fin cfg0.N) (hz : t.val % 33 = 0) (hf : flAt m c t.val t.isLt ≠ 1#32) :
    bodyPre m c t ⊢ wp frame (wpE (defs₀ (F := F)) Variants.none c none) Set.univ (bodyAt0 t) (fun _ => pointPost m c t) := by
  have hN : t.val < 66 := lt_of_lt_of_eq t.isLt numPts
  have hfl : newFlag (msQm t) (hsQm t) (msK t) (hsK t) (iblk m c 0 t) (iblk m c 2 t) = flAt m c t.val t.isLt := by
    rw [newFlag_eq (msQm t) (hsQm t) (msK t) (hsK t) (iblk m c 0 t) (iblk m c 2 t)]; unfold flAt; rw [headPt_first t hz]
  have g0 : isFirst (grid0.coords t) := (isFirst_iff t).mpr hz
  have g1 : ¬takesBC (grid0.coords t) (newFlag (msQm t) (hsQm t) (msK t) (hsK t) (iblk m c 0 t) (iblk m c 2 t)) := by rw [hfl]; intro h; exact hf ((takes_iff t _).1.mp h).1
  have g2 : ¬takesBA (grid0.coords t) (newFlag (msQm t) (hsQm t) (msK t) (hsK t) (iblk m c 0 t) (iblk m c 2 t)) := by rw [hfl]; intro h; exact ((takes_iff t _).2.1.mp h).2 hz
  have g3 : takesOC (grid0.coords t) (newFlag (msQm t) (hsQm t) (msK t) (hsK t) (iblk m c 0 t) (iblk m c 2 t)) := by rw [hfl]; exact (takes_iff t _).2.2.1.mpr ⟨hf, hz⟩
  have g4 : ¬takesOA (grid0.coords t) (newFlag (msQm t) (hsQm t) (msK t) (hsK t) (iblk m c 0 t) (iblk m c 2 t)) := by rw [hfl]; intro h; exact ((takes_iff t _).2.2.2.mp h).2 hz
  have ho : outAt m c t = outOC (iblk m c 1 t) (iblk m c 2 t) (vxOf (iblk m c 3 t)) := by
    unfold outAt; rw [if_pos hz, if_neg hf]; unfold vxAt; rw [headPt_first t hz]
  have hvx : vxAt m c t.val t.isLt = vxOf (iblk m c 3 t) := by unfold vxAt; rw [headPt_first t hz]
  have hkm : kmAt m c t.val t.isLt = k0_pay4 (iblk m c 2 t) := by unfold kmAt; rw [headPt_first t hz]
  have hfw : flAt m c t.val t.isLt = flOf (iblk m c 0 t) (iblk m c 2 t) := by unfold flAt; rw [headPt_first t hz]
  unfold bodyPre
  simp only [before0_0, before0_1, before0_2, before0_3]
  rw [Phi_castSucc m c t]
  suffices key : iprop(Pipeline.ΦA spec0 c ∗ (dats m 0 c).owesAt () t.castSucc
      ∗ (∃ d : Vec F S1 .f32, owns (c : Thread nD τ) (msQm t) fullShare (iblk m c 0 t)) ∗ (∃ d : Vec F S256x512 .bf16, owns (c : Thread nD τ) (msQ t) fullShare (iblk m c 1 t))
      ∗ (∃ d : Vec F S8448x128 .bf16, owns (c : Thread nD τ) (msK t) fullShare (iblk m c 2 t)) ∗ (∃ d : Vec F S8448x128 .bf16, owns (c : Thread nD τ) (msV t) fullShare (iblk m c 3 t))
      ∗ (∃ d, owns (c : Thread nD τ) (msO t) fullShare ((dats m 0 c).before 4 t d))) ⊢ wp frame (wpE (defs₀ (F := F)) Variants.none c none) Set.univ (bodyAt0 t) (fun _ => pointPost m c t) from
    (sep_mono_l (between_any m c _ _)).trans key
  unfold bodyAt0 pointPost
  rw [PhiA_eq]; unfold held
  iintro ⟨⟨⟨HS0, HS1, HS3, HS4, HS2⟩, Hg⟩, Ho, ⟨%d0, H0⟩, ⟨%d1, H1⟩, ⟨%d2, H2⟩, ⟨%d3, H3⟩, ⟨%d4, H4⟩⟩
  iapply ((runOC c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e7, HS0⟩, ⟨%e8, HS1⟩, ⟨%e9, HS2⟩, HS3, HS4⟩
  isplitl [HS0 HS1 HS3 HS4 HS2 Hg]
  · isplitl [HS0 HS1 HS3 HS4 HS2]
    · isplitl [HS0]
      · unfold owns; iexists _; isplitr
        swap; · iexact HS0
        ipureintro; rw [hvx]; exact readOCVx c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e7
      isplitl [HS1]
      · unfold owns; iexists _; isplitr
        swap; · iexact HS1
        ipureintro; rw [hkm]; exact readOCKm c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e8
      isplitl [HS3]; · iexact HS3
      isplitl [HS4]; · iexact HS4
      unfold owns; iexists _; isplitr
      swap; · iexact HS2
      ipureintro; rw [hfw]; exact readOCFl c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e9
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; rw [ho]; exact readOC c (grid0.coords t) (msQm t) (hsQm t) (msQ t) (hsQ t) (msK t) (hsK t) (msV t) (hsV t) (msO t) (hsO t) scVx (Memref.isWhole_whole _) scKm (Memref.isWhole_whole _) scFl (Memref.isWhole_whole _) scM (Memref.isWhole_whole _) scAcc (Memref.isWhole_whole _) (iblk m c 0 t) (iblk m c 1 t) (iblk m c 2 t) (iblk m c 3 t) g0 g1 g2 g3 g4 e4

/-- The body at every point. -/
theorem sound_body (c : Dev nD) (t : Fin cfg0.N) :
    bodyPre m c t ⊢ wp frame (wpE (defs₀ (F := F)) Variants.none c none) Set.univ (bodyAt0 t) (fun _ => bodyPost m c t) := by
  rw [show (fun _ : PUnit => bodyPost m c t) = fun _ => pointPost m c t from funext fun _ => bodyPost_eq m c t]
  by_cases hz : t.val % 33 = 0 <;> by_cases hf : flAt m c t.val t.isLt = 1#32
  · exact soundBC m c t hz hf
  · exact soundOC m c t hz hf
  · exact soundBA m c t hz hf
  · exact soundOA m c t hz hf

theorem body_row (t : Fin cfg0.N) : defs₀ (F := F) .tc cfg0.body (cfg0.bodyArgs t (cfg0.slots t)) = bodyAt0 t := by
  unfold defs₀; rw [Defs.onTc_tc]

/-- The library's obligation on the body. -/
theorem body_ok (c : Dev nD) : Pipeline.BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl]
  exact between_any m c _ _

-- the run theorem's implicit arguments are found by unifying its conclusion with the one stated here
set_option backward.isDefEq.respectTransparency.types false in
/-- The run of the whole program: every array ends as the pipeline's data says, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The frame: the arguments end unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_all m ρ))

end Cert.KernelIdeal.Attn

end
-- ==== Proof.V.PreFacts.lean ====
/- The shape facts the precondition states, and what it says: every query and every key is a real. -/
module

public import proofs.«01_k».proof.Pre_finite_qk
public import Idealize.ShloMosaic.Lib.Pointwise
public import Idealize.ShloMosaic.Lib.ReduceAll

@[expose] public section

set_option maxRecDepth 16384

noncomputable section

namespace Cert.Pre_finite_qk

open Idealize.ShloMosaic

instance facts : Cert.Pre_finite_qk.Facts where
  bcast_S_S1x256x2x4x128 := by decide
  reducesTo_S1x256x2x4x128_S_d0_1_2_3_4 := by decide
  h_S_ := by decide
  bcast_S_S1x8192x2x4x128 := by decide
  reducesTo_S1x8192x2x4x128_S_d0_1_2_3_4 := by decide
  bcast_S_S1x256x2x128 := by decide
  reducesTo_S1x256x2x128_S_d0_1_2_3 := by decide
  bcast_S_S1x8192x2x128 := by decide
  reducesTo_S1x8192x2x128_S_d0_1_2_3 := by decide

/-- The pattern the comparison's right side spells is plus infinity. -/
theorem ofBits_inf : Ideal.ofBits .f32 0x7F800000#32 = ⊤ := by
  simp [Ideal.ofBits, Ideal.ieee]

instance : Subsingleton S_.Idx := ⟨fun a b => funext fun i => i.elim0⟩

/-- A word whose magnitude is below infinity is a real. -/
theorem real_of_lt (x : EReal) (h : Ideal.cmp .olt (max x (-x)) (Ideal.ofBits .f32 0x7F800000#32) = 1#1) : x = ((x.toReal : ℝ) : EReal) := by
  rw [ofBits_inf] at h
  have h' := (Ideal.cmp_olt_eq_one _ _).1 h
  rw [max_lt_iff] at h'
  refine (EReal.coe_toReal (ne_of_lt h'.1) fun hb => ?_).symm
  rw [hb] at h'
  simp at h'

/-- A tensor whose every entry compares below infinity in magnitude holds reals. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    x i = (((x i : EReal).toReal : ℝ) : EReal) :=
  real_of_lt _ (Host.reduce_andi_all _ _ _ _ j e i)

/-- The precondition: the queries' and the keys' entries are reals. -/
theorem reals {X0 : FVec Ideal S1x256x2x4x128 .f32} {X1 : FVec Ideal S1x8192x2x4x128 .f32} {X2 : FVec Ideal S1x256x2x128 .f32} {X3 : FVec Ideal S1x8192x2x128 .f32} {X4 : FVec Ideal S1x256x2x128 .f32} {X5 : FVec Ideal S1x8192x2x128 .f32} {X6 : FVec Ideal S128 .f32}
    (h : fn (F := Ideal) X0 X1 X2 X3 X4 X5 X6 = fun _ => 1#1) :
    (∀ i, X0 i = (((X0 i : EReal).toReal : ℝ) : EReal)) ∧ (∀ i, X1 i = (((X1 i : EReal).toReal : ℝ) : EReal)) ∧
    (∀ i, X2 i = (((X2 i : EReal).toReal : ℝ) : EReal)) ∧ (∀ i, X3 i = (((X3 i : EReal).toReal : ℝ) : EReal)) := by
  have h := congrFun h (fun a => a.elim0)
  unfold fn fn_part1 at h
  dsimp only at h
  obtain ⟨h, h3⟩ := IntOp.andi_eq_one.1 h
  obtain ⟨h, h2⟩ := IntOp.andi_eq_one.1 h
  obtain ⟨h0, h1⟩ := IntOp.andi_eq_one.1 h
  exact ⟨real_of_all X0 _ _ _ _ h0, real_of_all X1 _ _ _ _ h1, real_of_all X2 _ _ _ _ h2, real_of_all X3 _ _ _ _ h3⟩

end Cert.Pre_finite_qk

end
-- ==== Proof.Frames.lean ====
/- The frames: every program runs, leaves its arguments as they were and every semaphore at zero. -/
module

public import proofs.«01_k».proof.Defs
public import proofs.«01_k».proof.Proof.I.Frame
public import proofs.«01_k».proof.Proof.Gen.Kernel
public import proofs.«01_k».proof.Proof.Gen.ReferenceIdeal.Run
public import proofs.«01_k».proof.Proof.V.PreFacts
public import Idealize.ShloMosaic.Lib.Claim
public import Idealize.ShloMosaic.Lib.Quiescent

@[expose] public section

set_option maxRecDepth 16384

noncomputable section

namespace Cert.Proof

open Idealize.ShloMosaic Idealize.SL.Sem

/-- The idealized kernel's frame. -/
theorem frameI : Cert.quiescent_KernelIdeal := fun m g _ => Cert.KernelIdeal.Attn.frame_all m g

/-- The idealized kernel's frame, under the value claim's precondition. -/
theorem frameIp : Cert.quiescent_KernelIdeal_pre_finite_qk := fun m g _ => Cert.KernelIdeal.Attn.frame_all m g

/-- The reference's frame. -/
theorem frameR : Cert.quiescent_ReferenceIdeal := by
  intro m g _
  exact (θ_run Cert.ReferenceIdeal.defs _ _).mono (fun r h => ⟨fun c => (h c).2, sem_eq_zero_of_no_sems (by decide) r.2⟩) (Cert.ReferenceIdeal.Value.run m g)

/-- The reference's frame, under the value claim's precondition. -/
theorem frameRp : Cert.quiescent_ReferenceIdeal_pre_finite_qk := fun m g _ => frameR m g trivial

set_option backward.isDefEq.respectTransparency.types false in
/-- The two programs' kernel bodies are one text. -/
theorem body_same : @Cert.Kernel.cc0_gattn Bits _ _ = @Cert.KernelIdeal.cc0_gattn Bits _ _ := rfl

set_option backward.isDefEq.respectTransparency.types false in
/-- So are their kernels' tables: there is one label. -/
theorem table_same : @Cert.Kernel.defs₀ Bits _ _ = @Cert.KernelIdeal.defs₀ Bits _ _ := by
  unfold Cert.Kernel.defs₀ Cert.KernelIdeal.defs₀
  refine congrArg Defs.onTc ?_
  funext l
  match l with
  | 0 =>
    funext x
    exact congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _

set_option backward.isDefEq.respectTransparency.types false in
/-- So are their body tables. -/
theorem defs_same : @Cert.Kernel.defs Bits _ _ = @Cert.KernelIdeal.defs Bits _ _ := by
  unfold Cert.Kernel.defs Cert.KernelIdeal.defs
  exact congrArg (Pipeline.defs (Cert.Kernel.pcfgs (F := Bits))) table_same

set_option maxHeartbeats 1000000 in
set_option backward.isDefEq.respectTransparency.types false in
/-- So are their host lines. -/
theorem main_same : @Cert.Kernel.main Bits _ _ = @Cert.KernelIdeal.main Bits _ _ := rfl

set_option backward.isDefEq.respectTransparency.types false in
/-- The kernel's frame: the printed program is the idealized one's text, run on words. -/
theorem frameK : Cert.quiescent_Kernel := by
  intro m g _
  rw [defs_same, main_same]
  exact Cert.KernelIdeal.Attn.frame_all (F := Bits) m g

end Cert.Proof

end
-- ==== Proof.V.Real.lean ====
/- Sums weighted by powers of two: the running sum the attention call keeps, how it changes when its shift changes, and its quotient, which is a softmax average whatever the shift. -/
module

public import Idealize.ShloMosaic.PureOps.Ideal.Laws

@[expose] public section

noncomputable section

namespace Cert.Softmax

open Idealize.ShloMosaic

/-- The running sum over the first `n` keys: each value weighted by two to the power of its score less the shift. -/
def acc (σ : ℕ → ℝ) (μ : ℝ) (V : ℕ → EReal) (n : ℕ) : EReal :=
  ∑ j ∈ Finset.range n, (((2 : ℝ) ^ (σ j - μ) : ℝ) : EReal) * V j

/-- The softmax weight of key `j` among the first `n`. -/
def wgt (t : ℕ → ℝ) (n j : ℕ) : ℝ := Real.exp (t j) / ∑ i ∈ Finset.range n, Real.exp (t i)

/-- The softmax average of the first `n` values. -/
def att (t : ℕ → ℝ) (V : ℕ → EReal) (n : ℕ) : EReal := ∑ j ∈ Finset.range n, ((wgt t n j : ℝ) : EReal) * V j

/-- A nonnegative real factor goes into a finite sum of extended reals. -/
theorem coe_mul_sum {a : ℝ} (ha : 0 ≤ a) {ι : Type} (s : Finset ι) (f : ι → EReal) :
    (a : EReal) * ∑ j ∈ s, f j = ∑ j ∈ s, (a : EReal) * f j := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A sum of reals, taken among the extended reals, is their real sum. -/
theorem coe_sum {ι : Type} (s : Finset ι) (f : ι → ℝ) : ∑ j ∈ s, ((f j : ℝ) : EReal) = ((∑ j ∈ s, f j : ℝ) : EReal) := by
  classical
  induction s using Finset.induction_on with
  | empty => simp
  | insert i s hi ih => rw [Finset.sum_insert hi, Finset.sum_insert hi, ih, EReal.coe_add]

theorem exp2_coe_sub (a b : ℝ) : Ideal.exp2 ((a : EReal) - (b : EReal)) = (((2 : ℝ) ^ (a - b) : ℝ) : EReal) := by
  rw [← EReal.coe_sub, Ideal.exp2_coe]; rfl

/-- Changing the shift multiplies the running sum by a power of two. -/
theorem acc_rescale (σ : ℕ → ℝ) (μ μ' : ℝ) (V : ℕ → EReal) (n : ℕ) :
    (((2 : ℝ) ^ (μ - μ') : ℝ) : EReal) * acc σ μ V n = acc σ μ' V n := by
  unfold acc
  rw [coe_mul_sum (by positivity)]
  refine Finset.sum_congr rfl fun j _ => ?_
  rw [← mul_assoc, ← EReal.coe_mul, ← Real.rpow_add (by norm_num)]
  congr 3; ring

/-- A further chunk of keys adds its own terms. -/
theorem acc_add (σ : ℕ → ℝ) (μ : ℝ) (V : ℕ → EReal) (n k : ℕ) :
    acc σ μ V n + ∑ j : Fin k, (((2 : ℝ) ^ (σ (n + j) - μ) : ℝ) : EReal) * V (n + j) = acc σ μ V (n + k) := by
  unfold acc
  rw [Finset.sum_range_add, Finset.sum_range (fun x => (((2 : ℝ) ^ (σ (n + x) - μ) : ℝ) : EReal) * V (n + x))]

/-- The first chunk. -/
theorem acc_first (σ : ℕ → ℝ) (μ : ℝ) (V : ℕ → EReal) (k : ℕ) :
    ∑ j : Fin k, (((2 : ℝ) ^ (σ j - μ) : ℝ) : EReal) * V j = acc σ μ V k := by
  unfold acc
  rw [Finset.sum_range]

/-- The running sum of values over the running sum of ones is the softmax average, whatever the shift. -/
theorem quotient (σ t : ℕ → ℝ) (h : ∀ j, t j = σ j * Real.log 2) (μ : ℝ) (V W : ℕ → EReal) (hW : ∀ j, W j = 1) (n : ℕ) (hn : 0 < n) :
    Ideal.div (acc σ μ V n) (acc σ μ W n) = att t V n := by
  have hp : ∀ j, (2 : ℝ) ^ (σ j - μ) = Real.exp (t j) * Real.exp (-(μ * Real.log 2)) := fun j => by
    rw [Real.rpow_def_of_pos (by norm_num), h, ← Real.exp_add]; congr 1; ring
  have hL : acc σ μ W n = (((∑ i ∈ Finset.range n, Real.exp (t i)) * Real.exp (-(μ * Real.log 2)) : ℝ) : EReal) := by
    unfold acc
    simp only [hW, mul_one, coe_sum, hp, Finset.sum_mul]
  have hpos : 0 < ∑ i ∈ Finset.range n, Real.exp (t i) :=
    Finset.sum_pos (fun i _ => Real.exp_pos _) ⟨0, Finset.mem_range.2 hn⟩
  have hne : (∑ i ∈ Finset.range n, Real.exp (t i)) * Real.exp (-(μ * Real.log 2)) ≠ 0 := (mul_pos hpos (Real.exp_pos _)).ne'
  rw [hL, Ideal.div_coe hne, mul_comm]
  unfold acc att
  rw [coe_mul_sum (by positivity)]
  refine Finset.sum_congr rfl fun j _ => ?_
  rw [← mul_assoc, ← EReal.coe_mul, hp, wgt]
  congr 2
  have := Real.exp_pos (-(μ * Real.log 2))
  field_simp

/-- The greatest of finitely many reals (at least one), taken from minus infinity, is a real. -/
theorem fold_max_real {N : ℕ} (f : Fin (N + 1) → ℝ) : ∃ r : ℝ, Finset.univ.fold max (⊥ : EReal) (fun k => ((f k : ℝ) : EReal)) = (r : EReal) := by
  have h1 : ∀ s : Finset (Fin (N + 1)), s.fold max (⊥ : EReal) (fun k => ((f k : ℝ) : EReal)) ≠ ⊤ := fun s => by
    classical
    induction s using Finset.induction_on with
    | empty => simp
    | insert i s hi ih =>
      rw [Finset.fold_insert hi]
      rcases max_choice ((f i : ℝ) : EReal) (s.fold max (⊥ : EReal) (fun k => ((f k : ℝ) : EReal))) with h | h <;> rw [h]
      · exact EReal.coe_ne_top _
      · exact ih
  have h2 : Finset.univ.fold max (⊥ : EReal) (fun k => ((f k : ℝ) : EReal)) ≠ ⊥ := fun h => by
    have : ((f 0 : ℝ) : EReal) ≤ Finset.univ.fold max (⊥ : EReal) (fun k => ((f k : ℝ) : EReal)) :=
      (Finset.le_fold_max _).2 (Or.inr ⟨0, Finset.mem_univ _, le_rfl⟩)
    rw [h] at this
    exact EReal.coe_ne_bot _ (le_bot_iff.1 this)
  exact ⟨_, (EReal.coe_toReal (h1 _) h2).symm⟩

/-- The reference's softmax weights, each power divided by their sum, whatever real is subtracted first. -/
theorem softmax_div {n : ℕ} (hn : 0 < n) (t : ℕ → ℝ) (M : ℝ) (j : ℕ) :
    Ideal.div (Ideal.exp ((t j : EReal) - (M : EReal))) (0 + ∑ k : Fin n, Ideal.exp ((t k : EReal) - (M : EReal))) = ((wgt t n j : ℝ) : EReal) := by
  simp only [← EReal.coe_sub, Ideal.exp_coe, zero_add]
  rw [coe_sum, ← Finset.sum_range (fun k => Real.exp (t k - M))]
  have hpos : 0 < ∑ i ∈ Finset.range n, Real.exp (t i - M) :=
    Finset.sum_pos (fun i _ => Real.exp_pos _) ⟨0, Finset.mem_range.2 hn⟩
  have hpos' : 0 < ∑ i ∈ Finset.range n, Real.exp (t i) :=
    Finset.sum_pos (fun i _ => Real.exp_pos _) ⟨0, Finset.mem_range.2 hn⟩
  rw [Ideal.div_coe hpos.ne', ← EReal.coe_mul, wgt]
  congr 1
  simp only [Real.exp_sub, ← Finset.sum_div]
  have := Real.exp_pos M
  field_simp

end Cert.Softmax

end
-- ==== Proof.V.Steps.lean ====
/- The vector steps of the attention call read at an index: scores, the shift spread over the lanes, the weighted product, and the quotient. -/
module

public import proofs.«01_k».proof.Proof.Gen.KernelIdeal.Skeleton
public import proofs.«01_k».proof.Proof.V.Real
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

/-- A row's shift, repeated sixteen times along the lanes. -/
abbrev spread16 (M : FVec Ideal S1024x128 .f32) : FVec Ideal S1024x2048 .f32 :=
  concatenate S1024x2048 1 (List.replicate 16 ⟨S1024x128, M⟩) concatenates_S1024x128_S1024x128_S1024x128_S1024x128_S1024x128_S1024x128_S1024x128_S1024x128_S1024x128_S1024x128_S1024x128_S1024x128_S1024x128_S1024x128_S1024x128_S1024x128_S1024x2048_d1

/-- A row's shift, repeated twice along the lanes. -/
abbrev spread2 (M : FVec Ideal S1024x128 .f32) : FVec Ideal S1024x256 .f32 :=
  concatenate S1024x256 1 (List.replicate 2 ⟨S1024x128, M⟩) concatenates_S1024x128_S1024x128_S1024x256_d1

theorem spread16_at (M : FVec Ideal S1024x128 .f32) (μ : Fin 1024 → ℝ) (hM : ∀ (r : Fin 1024) (l : Fin 128), M (ix2 r l) = (μ r : EReal))
    (r : Fin 1024) (j : Fin 2048) : spread16 M (ix2 r j) = (μ r : EReal) := by
  unfold spread16
  rw [concatenate_replicate_apply (t := S1024x2048) (s₁ := S1024x128) 1 16 M _ rfl (ix2 r j) (ix2 r ⟨j.val % 128, Nat.mod_lt _ (by norm_num)⟩) rfl (fun b hb => by
    match b with
    | ⟨0, _⟩ => rfl
    | ⟨1, _⟩ => exact absurd rfl hb)]
  exact hM _ _

theorem spread2_at (M : FVec Ideal S1024x128 .f32) (μ : Fin 1024 → ℝ) (hM : ∀ (r : Fin 1024) (l : Fin 128), M (ix2 r l) = (μ r : EReal))
    (r : Fin 1024) (j : Fin 256) : spread2 M (ix2 r j) = (μ r : EReal) := by
  unfold spread2
  rw [concatenate_replicate_apply (t := S1024x256) (s₁ := S1024x128) 1 2 M _ rfl (ix2 r j) (ix2 r ⟨j.val % 128, Nat.mod_lt _ (by norm_num)⟩) rfl (fun b hb => by
    match b with
    | ⟨0, _⟩ => rfl
    | ⟨1, _⟩ => exact absurd rfl hb)]
  exact hM _ _

/-- The scores of a chunk of 2048 keys. -/
abbrev sc2048 (Q : FVec Ideal S1024x128 .bf16) (K : FVec Ideal S2048x128 .bf16) : FVec Ideal S1024x2048 .f32 :=
  matmul dot_S1024x128_S2048x128_S1024x2048_1_1_0_0_n_n none Q (shapeCast S2048x128 K shapeCasts_S2048x128_S2048x128) (constant S1024x2048 .f32 0x00000000#32)

/-- The scores of the 256 context keys. -/
abbrev sc256 (Q : FVec Ideal S1024x128 .bf16) (K : FVec Ideal S256x128 .bf16) : FVec Ideal S1024x256 .f32 :=
  matmul dot_S1024x128_S256x128_S1024x256_1_1_0_0_n_n none Q (shapeCast S256x128 K shapeCasts_S256x128_S256x128) (constant S1024x256 .f32 0x00000000#32)

theorem sc2048_at (Q : FVec Ideal S1024x128 .bf16) (K : FVec Ideal S2048x128 .bf16) (r : Fin 1024) (j : Fin 2048) :
    sc2048 Q K (ix2 r j) = ∑ d : Fin 128, Q (ix2 r d) * K (ix2 j d) := by
  pointwise [sc2048]

theorem sc256_at (Q : FVec Ideal S1024x128 .bf16) (K : FVec Ideal S256x128 .bf16) (r : Fin 1024) (j : Fin 256) :
    sc256 Q K (ix2 r j) = ∑ d : Fin 128, Q (ix2 r d) * K (ix2 j d) := by
  pointwise [sc256]

/-- The weights of a chunk against its values: the product of the powers of two with the value-and-ones rows. -/
abbrev wp2048 (S X : FVec Ideal S1024x2048 .f32) (V : FVec Ideal S2048x256 .bf16) : FVec Ideal S1024x256 .f32 :=
  matmul dot_S1024x2048_S2048x256_S1024x256_1_0_0_1_n_n none (truncf .bf16 (exp2 (subf S X)) bitsLt_bf16_f32) V (constant S1024x256 .f32 0x00000000#32)

abbrev wp256 (S X : FVec Ideal S1024x256 .f32) (V : FVec Ideal S256x256 .bf16) : FVec Ideal S1024x256 .f32 :=
  matmul dot_S1024x256_S256x256_S1024x256_1_0_0_1_n_n none (truncf .bf16 (exp2 (subf S X)) bitsLt_bf16_f32) V (constant S1024x256 .f32 0x00000000#32)

theorem wp2048_at (S X : FVec Ideal S1024x2048 .f32) (V : FVec Ideal S2048x256 .bf16) (r : Fin 1024) (c : Fin 256) :
    wp2048 S X V (ix2 r c) = ∑ j : Fin 2048, Ideal.exp2 (S (ix2 r j) - X (ix2 r j)) * V (ix2 j c) := by
  pointwise [wp2048]
  rfl

theorem wp256_at (S X : FVec Ideal S1024x256 .f32) (V : FVec Ideal S256x256 .bf16) (r : Fin 1024) (c : Fin 256) :
    wp256 S X V (ix2 r c) = ∑ j : Fin 256, Ideal.exp2 (S (ix2 r j) - X (ix2 r j)) * V (ix2 j c) := by
  pointwise [wp256]
  rfl

/-- A row's greatest score, of 2048 keys, spread over 128 lanes. -/
abbrev rm2048 (S : FVec Ideal S1024x2048 .f32) : FVec Ideal S1024x128 .f32 :=
  broadcastTo S1024x128 (shapeCast S1024x1 (multiReduction .maximumf [1] S1024 S 0xFF800000#32 reduces_S1024x2048_S1024 (.inl rfl) rfl) shapeCasts_S1024_S1024x1) broadcasts_S1024x1_S1024x128

/-- A row's greatest score, of 256 keys, spread over 128 lanes. -/
abbrev rm256 (S : FVec Ideal S1024x256 .f32) : FVec Ideal S1024x128 .f32 :=
  broadcastTo S1024x128 (shapeCast S1024x1 (shapeCast S1024x1 (multiReduction .maximumf [1] S1024 S 0xFF800000#32 reduces_S1024x256_S1024 (.inl rfl) rfl) shapeCasts_S1024_S1024x1) shapeCasts_S1024x1_S1024x1) broadcasts_S1024x1_S1024x128

/-- Minus infinity, as the literal spells it. -/
theorem ofBits_neg_inf : Ideal.ofBits .f32 0xFF800000#32 = ⊥ := by
  simp [Ideal.ofBits, Ideal.ieee]

theorem rm2048_real (S : FVec Ideal S1024x2048 .f32) (σ : Fin 1024 → Fin 2048 → ℝ) (hS : ∀ r j, S (ix2 r j) = (σ r j : EReal)) (r : Fin 1024) :
    ∃ m : ℝ, ∀ l : Fin 128, rm2048 S (ix2 r l) = (m : EReal) := by
  obtain ⟨m, hm⟩ := fold_max_real (N := 2047) (σ r)
  refine ⟨m, fun l => ?_⟩
  pointwise [rm2048]
  rw [ofBits_neg_inf]
  simp only [hS]
  exact hm

theorem rm256_real (S : FVec Ideal S1024x256 .f32) (σ : Fin 1024 → Fin 256 → ℝ) (hS : ∀ r j, S (ix2 r j) = (σ r j : EReal)) (r : Fin 1024) :
    ∃ m : ℝ, ∀ l : Fin 128, rm256 S (ix2 r l) = (m : EReal) := by
  obtain ⟨m, hm⟩ := fold_max_real (N := 255) (σ r)
  refine ⟨m, fun l => ?_⟩
  pointwise [rm256]
  rw [ofBits_neg_inf]
  simp only [hS]
  exact hm

end Cert.KernelIdeal.Attn

end
-- ==== Proof.V.Chunks.lean ====
/- The running sums after each chunk of keys: what the context chunk leaves, and what a further chunk adds, with the shift held or raised. -/
module

public import proofs.«01_k».proof.Proof.V.Steps

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

/-- A vector whose rows are constant along the lanes, at the reals `μ`. -/
def IsM (M : FVec Ideal S1024x128 .f32) (μ : Fin 1024 → ℝ) : Prop := ∀ (r : Fin 1024) (l : Fin 128), M (ix2 r l) = (μ r : EReal)

/-- A vector holding, at row `r` and column `c`, the running sum over the first `n` keys. -/
def IsAcc (A : FVec Ideal S1024x256 .f32) (σ : Fin 1024 → ℕ → ℝ) (μ : Fin 1024 → ℝ) (W : Fin 256 → ℕ → EReal) (n : ℕ) : Prop :=
  ∀ (r : Fin 1024) (c : Fin 256), A (ix2 r c) = acc (σ r) (μ r) (W c) n

variable {σ : Fin 1024 → ℕ → ℝ} {μ : Fin 1024 → ℝ} {W : Fin 256 → ℕ → EReal}

/-- The context keys' running sum. -/
theorem first256 {S : FVec Ideal S1024x256 .f32} {M : FVec Ideal S1024x128 .f32} {V : FVec Ideal S256x256 .bf16}
    (hS : ∀ (r : Fin 1024) (j : Fin 256), S (ix2 r j) = (σ r j : EReal)) (hM : IsM M μ) (hV : ∀ (j c : Fin 256), V (ix2 j c) = W c j) :
    IsAcc (wp256 S (spread2 M) V) σ μ W 256 := fun r c => by
  rw [wp256_at, ← acc_first]
  refine Finset.sum_congr rfl fun j _ => ?_
  rw [hS, spread2_at M μ hM, hV, exp2_coe_sub]

theorem chunk_sum {S : FVec Ideal S1024x2048 .f32} {M : FVec Ideal S1024x128 .f32} {V : FVec Ideal S2048x256 .bf16} {n : ℕ}
    (hS : ∀ (r : Fin 1024) (j : Fin 2048), S (ix2 r j) = (σ r (n + j) : EReal)) (hM : IsM M μ)
    (hV : ∀ (j : Fin 2048) (c : Fin 256), V (ix2 j c) = W c (n + j)) (r : Fin 1024) (c : Fin 256) :
    wp2048 S (spread16 M) V (ix2 r c) = ∑ j : Fin 2048, (((2 : ℝ) ^ (σ r (n + j) - μ r) : ℝ) : EReal) * W c (n + j) := by
  rw [wp2048_at]
  refine Finset.sum_congr rfl fun j _ => ?_
  rw [hS, spread16_at M μ hM, hV, exp2_coe_sub]

/-- A further chunk with the shift held. -/
theorem stepHeld {S : FVec Ideal S1024x2048 .f32} {M : FVec Ideal S1024x128 .f32} {V : FVec Ideal S2048x256 .bf16} {A : FVec Ideal S1024x256 .f32} {n : ℕ}
    (hA : IsAcc A σ μ W n) (hS : ∀ (r : Fin 1024) (j : Fin 2048), S (ix2 r j) = (σ r (n + j) : EReal)) (hM : IsM M μ)
    (hV : ∀ (j : Fin 2048) (c : Fin 256), V (ix2 j c) = W c (n + j)) :
    IsAcc (addf A (wp2048 S (spread16 M) V)) σ μ W (n + 2048) := fun r c => by
  show A (ix2 r c) + wp2048 S (spread16 M) V (ix2 r c) = _
  rw [hA, chunk_sum hS hM hV, acc_add]

/-- The greater of a held shift and a chunk's greatest score is a shift again. -/
theorem raised {S : FVec Ideal S1024x2048 .f32} {M : FVec Ideal S1024x128 .f32} {n : ℕ}
    (hS : ∀ (r : Fin 1024) (j : Fin 2048), S (ix2 r j) = (σ r (n + j) : EReal)) (hM : IsM M μ) :
    ∃ μ', IsM (maximumf M (rm2048 S)) μ' := by
  choose m hm using rm2048_real S (fun r j => σ r (n + j)) hS
  refine ⟨fun r => max (μ r) (m r), fun r l => ?_⟩
  show max (M (ix2 r l)) (rm2048 S (ix2 r l)) = _
  rw [hM, hm]
  exact (EReal.coe_strictMono.monotone.map_max).symm

/-- A further chunk with the shift raised. -/
theorem stepRaised {S : FVec Ideal S1024x2048 .f32} {M M' : FVec Ideal S1024x128 .f32} {V : FVec Ideal S2048x256 .bf16} {A : FVec Ideal S1024x256 .f32} {n : ℕ}
    {μ' : Fin 1024 → ℝ} (hA : IsAcc A σ μ W n) (hS : ∀ (r : Fin 1024) (j : Fin 2048), S (ix2 r j) = (σ r (n + j) : EReal)) (hM : IsM M μ)
    (hM' : IsM M' μ') (hV : ∀ (j : Fin 2048) (c : Fin 256), V (ix2 j c) = W c (n + j)) :
    IsAcc (addf (mulf (spread2 (exp2 (subf M M'))) A) (wp2048 S (spread16 M') V)) σ μ' W (n + 2048) := fun r c => by
  have hx : IsM (exp2 (subf M M')) (fun r => (2 : ℝ) ^ (μ r - μ' r)) := fun r l => by
    show Ideal.exp2 (M (ix2 r l) - M' (ix2 r l)) = _
    rw [hM, hM', exp2_coe_sub]
  show spread2 (exp2 (subf M M')) (ix2 r c) * A (ix2 r c) + wp2048 S (spread16 M') V (ix2 r c) = _
  rw [spread2_at _ _ hx, hA, chunk_sum hS hM' hV, acc_rescale, acc_add]

end Cert.KernelIdeal.Attn

end
-- ==== Proof.V.Loads.lean ====
/- What a tile loads, read at an index over real queries and keys: the stacked query rows, the scores of each chunk of keys, the chunks of the value-and-ones rows, and the bound. -/
module

public import proofs.«01_k».proof.Proof.I.Contents
public import proofs.«01_k».proof.Proof.V.Chunks

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

/-- The query entry that stacked row `r` holds at lane `d`: head `r / 256` of the group, tile row `r % 256`. -/
def qrow (q : ℕ → ℕ → ℝ) (r : ℕ) (d : ℕ) : ℝ := q (r % 256) (128 * (r / 256) + d)

/-- The score of stacked row `r` against key `j`. -/
def score (q k : ℕ → ℕ → ℝ) (r : Fin 1024) (j : ℕ) : ℝ := ∑ d : Fin 128, qrow q r d * k j d

variable {x1 : Vec Ideal S256x512 .bf16} {x2 : Vec Ideal S8448x128 .bf16} {vx : Vec Ideal S8448x256 .bf16} {km : Vec Ideal S8x128 .f32}
  {q k : ℕ → ℕ → ℝ} {W : Fin 256 → ℕ → EReal}

/-- The tile's queries are the reals `q`. -/
def IsQ (x1 : Vec Ideal S256x512 .bf16) (q : ℕ → ℕ → ℝ) : Prop := ∀ (r : Fin 256) (l : Fin 512), x1 (ix2 r l) = ((q r l : ℝ) : EReal)
/-- The head's keys are the reals `k`. -/
def IsK (x2 : Vec Ideal S8448x128 .bf16) (k : ℕ → ℕ → ℝ) : Prop := ∀ (j : Fin 8448) (d : Fin 128), x2 (ix2 j d) = ((k j d : ℝ) : EReal)
/-- The value-and-ones rows are `W`. -/
def IsV (vx : Vec Ideal S8448x256 .bf16) (W : Fin 256 → ℕ → EReal) : Prop := ∀ (j : Fin 8448) (c : Fin 256), vx (ix2 j c) = W c j

theorem stack_at (hq : IsQ x1 q) (r : Fin 1024) (d : Fin 128) : qS (F := Ideal) x1 (ix2 r d) = ((qrow q r d : ℝ) : EReal) := by
  have h : ∀ (r' : Fin 256) (l : Fin 512), (r' : ℕ) = r % 256 → (l : ℕ) = 128 * (r / 256) + d → x1 (ix2 r' l) = ((qrow q r d : ℝ) : EReal) := fun r' l h1 h2 => by
    rw [hq, qrow, h1, h2]
  pointwise [qS, k0_pay17, qT0, qT1, qT2, qT3]
  by_cases h0 : (r : ℕ) < 256
  · rw [dif_pos h0]
    exact h _ _ (by simp; omega) (by simp; omega)
  rw [dif_neg h0]
  by_cases h1 : (r : ℕ) - 256 < 256
  · rw [dif_pos h1]
    exact h _ _ (by simp; omega) (by simp; omega)
  rw [dif_neg h1]
  by_cases h2 : (r : ℕ) - 256 - 256 < 256
  · rw [dif_pos h2]
    exact h _ _ (by simp; omega) (by simp; omega)
  rw [dif_neg h2]
  exact h _ _ (by simp; omega) (by simp; omega)

theorem score_of {Q : EReal} {f : Fin 128 → EReal} {g : Fin 128 → EReal} (r : Fin 1024) (j : ℕ)
    (hf : ∀ d, f d = ((qrow q r d : ℝ) : EReal)) (hg : ∀ d : Fin 128, g d = ((k j d : ℝ) : EReal)) :
    ∑ d : Fin 128, f d * g d = ((score q k r j : ℝ) : EReal) := by
  simp only [hf, hg, ← EReal.coe_mul]
  exact coe_sum _ _

theorem sc0_real (hq : IsQ x1 q) (hk : IsK x2 k) (r : Fin 1024) (j : Fin 256) :
    sc256 (qS (F := Ideal) x1) (kC0 (F := Ideal) x2) (ix2 r j) = ((score q k r j : ℝ) : EReal) := by
  rw [sc256_at]
  refine score_of (Q := 0) r j (fun d => stack_at hq r d) fun d => ?_
  pointwise [kC0]
  rw [hk]

theorem sc256_real (hq : IsQ x1 q) (hk : IsK x2 k) (r : Fin 1024) (j : Fin 2048) :
    sc2048 (qS (F := Ideal) x1) (kC256 (F := Ideal) x2) (ix2 r j) = ((score q k r (256 + j) : ℝ) : EReal) := by
  rw [sc2048_at]
  refine score_of (Q := 0) r (256 + j) (fun d => stack_at hq r d) fun d => ?_
  pointwise [kC256]
  rw [hk]

theorem sc2304_real (hq : IsQ x1 q) (hk : IsK x2 k) (r : Fin 1024) (j : Fin 2048) :
    sc2048 (qS (F := Ideal) x1) (kC2304 (F := Ideal) x2) (ix2 r j) = ((score q k r (2304 + j) : ℝ) : EReal) := by
  rw [sc2048_at]
  refine score_of (Q := 0) r (2304 + j) (fun d => stack_at hq r d) fun d => ?_
  pointwise [kC2304]
  rw [hk]

theorem sc4352_real (hq : IsQ x1 q) (hk : IsK x2 k) (r : Fin 1024) (j : Fin 2048) :
    sc2048 (qS (F := Ideal) x1) (kC4352 (F := Ideal) x2) (ix2 r j) = ((score q k r (4352 + j) : ℝ) : EReal) := by
  rw [sc2048_at]
  refine score_of (Q := 0) r (4352 + j) (fun d => stack_at hq r d) fun d => ?_
  pointwise [kC4352]
  rw [hk]

theorem sc6400_real (hq : IsQ x1 q) (hk : IsK x2 k) (r : Fin 1024) (j : Fin 2048) :
    sc2048 (qS (F := Ideal) x1) (kC6400 (F := Ideal) x2) (ix2 r j) = ((score q k r (6400 + j) : ℝ) : EReal) := by
  rw [sc2048_at]
  refine score_of (Q := 0) r (6400 + j) (fun d => stack_at hq r d) fun d => ?_
  pointwise [kC6400]
  rw [hk]

theorem v0_at (hv : IsV vx W) (j : Fin 256) (c : Fin 256) : vC0 (F := Ideal) vx (ix2 j c) = W c j := by
  pointwise [vC0]
  rw [hv]

theorem v256_at (hv : IsV vx W) (j : Fin 2048) (c : Fin 256) : vC256 (F := Ideal) vx (ix2 j c) = W c (256 + j) := by
  pointwise [vC256]
  rw [hv]

theorem v2304_at (hv : IsV vx W) (j : Fin 2048) (c : Fin 256) : vC2304 (F := Ideal) vx (ix2 j c) = W c (2304 + j) := by
  pointwise [vC2304]
  rw [hv]

theorem v4352_at (hv : IsV vx W) (j : Fin 2048) (c : Fin 256) : vC4352 (F := Ideal) vx (ix2 j c) = W c (4352 + j) := by
  pointwise [vC4352]
  rw [hv]

theorem v6400_at (hv : IsV vx W) (j : Fin 2048) (c : Fin 256) : vC6400 (F := Ideal) vx (ix2 j c) = W c (6400 + j) := by
  pointwise [vC6400]
  rw [hv]

/-- The key bound of finite keys is a real, the same in every entry. -/
theorem km_real (hk : IsK x2 k) : ∃ κ : ℝ, ∀ (a : Fin 8) (b : Fin 128), k0_pay4 (F := Ideal) x2 (ix2 a b) = (κ : EReal) := by
  obtain ⟨m, hm⟩ := fold_max_real (N := 8447) (fun j => ∑ d : Fin 128, k j d * k j d)
  have hm0 : 0 ≤ m := by
    have h : (((∑ d : Fin 128, k (0 : Fin 8448) d * k (0 : Fin 8448) d : ℝ)) : EReal) ≤ (m : EReal) := by
      rw [← hm]
      exact (Finset.le_fold_max _).2 (Or.inr ⟨(0 : Fin 8448), Finset.mem_univ _, le_rfl⟩)
    exact le_trans (Finset.sum_nonneg fun d _ => mul_self_nonneg _) (EReal.coe_le_coe_iff.1 h)
  refine ⟨Real.sqrt m, fun a b => ?_⟩
  unfold IsK at hk
  pointwise [k0_pay4, k0_pay3]
  simp only [hk, ← EReal.coe_mul, coe_sum]
  rw [ofBits_neg_inf, hm, Ideal.sqrt_coe, if_neg (not_lt.2 hm0)]

/-- The bound on a row's scores is a real, the same along the lanes. -/
theorem bound_real (hq : IsQ x1 q) (hkm : ∃ κ : ℝ, ∀ (a : Fin 8) (b : Fin 128), km (ix2 a b) = (κ : EReal)) :
    ∃ μ, IsM (bS (F := Ideal) x1 km) μ := by
  obtain ⟨κ, hκ⟩ := hkm
  refine ⟨fun r => Real.sqrt (∑ d : Fin 128, qrow q r d * qrow q r d) * κ, fun r l => ?_⟩
  have hs := stack_at hq r
  unfold qS at hs
  pointwise [bS, k0_pay18, kR]
  simp only [hs, hκ, ← EReal.coe_mul, coe_sum]
  rw [Ideal.sqrt_coe, if_neg (not_lt.2 (Finset.sum_nonneg fun d _ => mul_self_nonneg _)), ← EReal.coe_mul]

end Cert.KernelIdeal.Attn

end
-- ==== Proof.V.Branches.lean ====
/- The accumulator of each of the four branches: whichever is taken, it is the running sum over all the tile's keys, at some real shift. -/
module

public import proofs.«01_k».proof.Proof.V.Loads

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

variable {x1 : Vec Ideal S256x512 .bf16} {x2 : Vec Ideal S8448x128 .bf16} {vx : Vec Ideal S8448x256 .bf16} {km : Vec Ideal S8x128 .f32}
  {q k : ℕ → ℕ → ℝ} {W : Fin 256 → ℕ → EReal}

/-- The context tile, bounded branch. -/
theorem accBC_is (hq : IsQ x1 q) (hk : IsK x2 k) (hv : IsV vx W) (hkm : ∃ κ : ℝ, ∀ (a : Fin 8) (b : Fin 128), km (ix2 a b) = (κ : EReal)) :
    ∃ μ, IsAcc (accBC (F := Ideal) x1 x2 vx km) (score q k) μ W 256 := by
  obtain ⟨μ, hμ⟩ := bound_real hq hkm
  refine ⟨μ, ?_⟩
  have h := first256 (σ := score q k) (sc0_real hq hk) hμ (v0_at hv)
  have e : accBC (F := Ideal) x1 x2 vx km = shapeCast S1024x256 (wp256 (sc256 (qS x1) (kC0 x2)) (spread2 (bS x1 km)) (vC0 vx)) shapeCasts_S1024x256_S1024x256 := rfl
  rw [e, shapeCast_self]
  exact h

/-- The context tile, running-maximum branch. -/
theorem accOC_is (hq : IsQ x1 q) (hk : IsK x2 k) (hv : IsV vx W) :
    ∃ μ, IsAcc (accOC (F := Ideal) x1 x2 vx) (score q k) μ W 256 := by
  choose μ hμ using rm256_real (sc256 (qS (F := Ideal) x1) (kC0 (F := Ideal) x2)) (fun r j => score q k r j) (sc0_real hq hk)
  refine ⟨μ, ?_⟩
  have h := first256 (σ := score q k) (sc0_real hq hk) hμ (v0_at hv)
  have e : accOC (F := Ideal) x1 x2 vx = shapeCast S1024x256 (wp256 (sc256 (qS x1) (kC0 x2)) (spread2 (rm256 (sc256 (qS x1) (kC0 x2)))) (vC0 vx)) shapeCasts_S1024x256_S1024x256 := rfl
  rw [e, shapeCast_self]
  exact h

/-- A latent tile, bounded branch. -/
theorem accBA_is (hq : IsQ x1 q) (hk : IsK x2 k) (hv : IsV vx W) (hkm : ∃ κ : ℝ, ∀ (a : Fin 8) (b : Fin 128), km (ix2 a b) = (κ : EReal)) :
    ∃ μ, IsAcc (accBA (F := Ideal) x1 x2 vx km) (score q k) μ W 8448 := by
  obtain ⟨μ, hμ⟩ := bound_real hq hkm
  refine ⟨μ, ?_⟩
  have h0 : IsAcc (accBA0 (F := Ideal) x1 x2 vx km) (score q k) μ W 256 := by
    have e : accBA0 (F := Ideal) x1 x2 vx km = shapeCast S1024x256 (wp256 (sc256 (qS x1) (kC0 x2)) (spread2 (bS x1 km)) (vC0 vx)) shapeCasts_S1024x256_S1024x256 := rfl
    rw [e, shapeCast_self]
    exact first256 (sc0_real hq hk) hμ (v0_at hv)
  have h1 : IsAcc (accBA1 (F := Ideal) x1 x2 vx km) (score q k) μ W 2304 := by
    have e : accBA1 (F := Ideal) x1 x2 vx km = shapeCast S1024x256 (addf (accBA0 x1 x2 vx km) (wp2048 (sc2048 (qS x1) (kC256 x2)) (spread16 (bS x1 km)) (vC256 vx))) shapeCasts_S1024x256_S1024x256 := rfl
    rw [e, shapeCast_self]
    exact stepHeld h0 (sc256_real hq hk) hμ (v256_at hv)
  have h2 : IsAcc (accBA2 (F := Ideal) x1 x2 vx km) (score q k) μ W 4352 := by
    have e : accBA2 (F := Ideal) x1 x2 vx km = shapeCast S1024x256 (addf (accBA1 x1 x2 vx km) (wp2048 (sc2048 (qS x1) (kC2304 x2)) (spread16 (bS x1 km)) (vC2304 vx))) shapeCasts_S1024x256_S1024x256 := rfl
    rw [e, shapeCast_self]
    exact stepHeld h1 (sc2304_real hq hk) hμ (v2304_at hv)
  have h3 : IsAcc (accBA3 (F := Ideal) x1 x2 vx km) (score q k) μ W 6400 := by
    have e : accBA3 (F := Ideal) x1 x2 vx km = shapeCast S1024x256 (addf (accBA2 x1 x2 vx km) (wp2048 (sc2048 (qS x1) (kC4352 x2)) (spread16 (bS x1 km)) (vC4352 vx))) shapeCasts_S1024x256_S1024x256 := rfl
    rw [e, shapeCast_self]
    exact stepHeld h2 (sc4352_real hq hk) hμ (v4352_at hv)
  have e : accBA (F := Ideal) x1 x2 vx km = shapeCast S1024x256 (addf (accBA3 x1 x2 vx km) (wp2048 (sc2048 (qS x1) (kC6400 x2)) (spread16 (bS x1 km)) (vC6400 vx))) shapeCasts_S1024x256_S1024x256 := rfl
  rw [e, shapeCast_self]
  exact stepHeld h3 (sc6400_real hq hk) hμ (v6400_at hv)

/-- A latent tile, running-maximum branch. -/
theorem accOA_is (hq : IsQ x1 q) (hk : IsK x2 k) (hv : IsV vx W) :
    ∃ μ, IsAcc (accOA (F := Ideal) x1 x2 vx) (score q k) μ W 8448 := by
  choose μ0 hμ0 using rm256_real (sc256 (qS (F := Ideal) x1) (kC0 (F := Ideal) x2)) (fun r j => score q k r j) (sc0_real hq hk)
  have hm0 : IsM (mOA0 (F := Ideal) x1 x2) μ0 := by
    have e : mOA0 (F := Ideal) x1 x2 = shapeCast S1024x128 (rm256 (sc256 (qS x1) (kC0 x2))) shapeCasts_S1024x128_S1024x128 := rfl
    rw [e, shapeCast_self]
    exact hμ0
  have h0 : IsAcc (accOA0 (F := Ideal) x1 x2 vx) (score q k) μ0 W 256 := by
    have e : accOA0 (F := Ideal) x1 x2 vx = shapeCast S1024x256 (wp256 (sc256 (qS x1) (kC0 x2)) (spread2 (rm256 (sc256 (qS x1) (kC0 x2)))) (vC0 vx)) shapeCasts_S1024x256_S1024x256 := rfl
    rw [e, shapeCast_self]
    exact first256 (sc0_real hq hk) hμ0 (v0_at hv)
  obtain ⟨μ1, hμ1⟩ := raised (sc256_real hq hk) hm0
  have hm1 : IsM (mOA1 (F := Ideal) x1 x2) μ1 := by
    have e : mOA1 (F := Ideal) x1 x2 = shapeCast S1024x128 (maximumf (mOA0 x1 x2) (rm2048 (sc2048 (qS x1) (kC256 x2)))) shapeCasts_S1024x128_S1024x128 := rfl
    rw [e, shapeCast_self]
    exact hμ1
  have h1 : IsAcc (accOA1 (F := Ideal) x1 x2 vx) (score q k) μ1 W 2304 := by
    have e : accOA1 (F := Ideal) x1 x2 vx = shapeCast S1024x256 (addf (mulf (spread2 (exp2 (subf (mOA0 x1 x2) (maximumf (mOA0 x1 x2) (rm2048 (sc2048 (qS x1) (kC256 x2))))))) (accOA0 x1 x2 vx))
      (wp2048 (sc2048 (qS x1) (kC256 x2)) (spread16 (maximumf (mOA0 x1 x2) (rm2048 (sc2048 (qS x1) (kC256 x2))))) (vC256 vx))) shapeCasts_S1024x256_S1024x256 := rfl
    rw [e, shapeCast_self]
    exact stepRaised h0 (sc256_real hq hk) hm0 hμ1 (v256_at hv)
  obtain ⟨μ2, hμ2⟩ := raised (sc2304_real hq hk) hm1
  have hm2 : IsM (mOA2 (F := Ideal) x1 x2) μ2 := by
    have e : mOA2 (F := Ideal) x1 x2 = shapeCast S1024x128 (maximumf (mOA1 x1 x2) (rm2048 (sc2048 (qS x1) (kC2304 x2)))) shapeCasts_S1024x128_S1024x128 := rfl
    rw [e, shapeCast_self]
    exact hμ2
  have h2 : IsAcc (accOA2 (F := Ideal) x1 x2 vx) (score q k) μ2 W 4352 := by
    have e : accOA2 (F := Ideal) x1 x2 vx = shapeCast S1024x256 (addf (mulf (spread2 (exp2 (subf (mOA1 x1 x2) (maximumf (mOA1 x1 x2) (rm2048 (sc2048 (qS x1) (kC2304 x2))))))) (accOA1 x1 x2 vx))
      (wp2048 (sc2048 (qS x1) (kC2304 x2)) (spread16 (maximumf (mOA1 x1 x2) (rm2048 (sc2048 (qS x1) (kC2304 x2))))) (vC2304 vx))) shapeCasts_S1024x256_S1024x256 := rfl
    rw [e, shapeCast_self]
    exact stepRaised h1 (sc2304_real hq hk) hm1 hμ2 (v2304_at hv)
  obtain ⟨μ3, hμ3⟩ := raised (sc4352_real hq hk) hm2
  have hm3 : IsM (mOA3 (F := Ideal) x1 x2) μ3 := by
    have e : mOA3 (F := Ideal) x1 x2 = shapeCast S1024x128 (maximumf (mOA2 x1 x2) (rm2048 (sc2048 (qS x1) (kC4352 x2)))) shapeCasts_S1024x128_S1024x128 := rfl
    rw [e, shapeCast_self]
    exact hμ3
  have h3 : IsAcc (accOA3 (F := Ideal) x1 x2 vx) (score q k) μ3 W 6400 := by
    have e : accOA3 (F := Ideal) x1 x2 vx = shapeCast S1024x256 (addf (mulf (spread2 (exp2 (subf (mOA2 x1 x2) (maximumf (mOA2 x1 x2) (rm2048 (sc2048 (qS x1) (kC4352 x2))))))) (accOA2 x1 x2 vx))
      (wp2048 (sc2048 (qS x1) (kC4352 x2)) (spread16 (maximumf (mOA2 x1 x2) (rm2048 (sc2048 (qS x1) (kC4352 x2))))) (vC4352 vx))) shapeCasts_S1024x256_S1024x256 := rfl
    rw [e, shapeCast_self]
    exact stepRaised h2 (sc4352_real hq hk) hm2 hμ3 (v4352_at hv)
  obtain ⟨μ4, hμ4⟩ := raised (sc6400_real hq hk) hm3
  refine ⟨μ4, ?_⟩
  have e : accOA (F := Ideal) x1 x2 vx = shapeCast S1024x256 (addf (mulf (spread2 (exp2 (subf (mOA3 x1 x2) (maximumf (mOA3 x1 x2) (rm2048 (sc2048 (qS x1) (kC6400 x2))))))) (accOA3 x1 x2 vx))
      (wp2048 (sc2048 (qS x1) (kC6400 x2)) (spread16 (maximumf (mOA3 x1 x2) (rm2048 (sc2048 (qS x1) (kC6400 x2))))) (vC6400 vx))) shapeCasts_S1024x256_S1024x256 := rfl
  rw [e, shapeCast_self]
  exact stepRaised h3 (sc6400_real hq hk) hm3 hμ4 (v6400_at hv)

end Cert.KernelIdeal.Attn

end
-- ==== Proof.V.Tile.lean ====
/- The output tile of each branch, entry by entry: the value half of the accumulator over its ones half, at the stacked row the entry came from. -/
module

public import proofs.«01_k».proof.Proof.V.Branches

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

variable {x1 : Vec Ideal S256x512 .bf16} {x2 : Vec Ideal S8448x128 .bf16} {vx : Vec Ideal S8448x256 .bf16} {km : Vec Ideal S8x128 .f32}
  {q k : ℕ → ℕ → ℝ} {W : Fin 256 → ℕ → EReal}

/-- The quotient of the accumulator's halves, at an index. -/
theorem ratio_at (A : FVec Ideal S1024x256 .f32) (r : Fin 1024) (d : Fin 128) :
    k0_pay15 (F := Ideal) A (ix2 r d) = Ideal.div (A (ix2 r ⟨d, by omega⟩)) (A (ix2 r ⟨128 + d, by omega⟩)) := by
  pointwise [k0_pay15]

theorem tileBC (y : S256x512.Idx) : ∃ (r : Fin 1024) (d : Fin 128), (r : ℕ) = 256 * ((y 1 : ℕ) / 128) + (y 0 : ℕ) ∧ (d : ℕ) = (y 1 : ℕ) % 128 ∧
    outBC (F := Ideal) x1 x2 vx km y = k0_pay15 (F := Ideal) (accBC x1 x2 vx km) (ix2 r d) := by
  have b0 : (y 0 : ℕ) < 256 := (y 0).isLt
  have b1 : (y 1 : ℕ) < 512 := (y 1).isLt
  refine ⟨⟨256 * ((y 1 : ℕ) / 128) + (y 0 : ℕ), by omega⟩, ⟨(y 1 : ℕ) % 128, by omega⟩, rfl, rfl, ?_⟩
  unfold outBC
  generalize accBC (F := Ideal) x1 x2 vx km = A
  generalize hB : k0_pay15 (F := Ideal) A = B
  unfold k0_pay16
  rw [hB]
  clear hB
  canon_tiles x h
  all_goals (open_payloads; pointwise; blk_ext)

theorem tileOC (y : S256x512.Idx) : ∃ (r : Fin 1024) (d : Fin 128), (r : ℕ) = 256 * ((y 1 : ℕ) / 128) + (y 0 : ℕ) ∧ (d : ℕ) = (y 1 : ℕ) % 128 ∧
    outOC (F := Ideal) x1 x2 vx y = k0_pay15 (F := Ideal) (accOC x1 x2 vx) (ix2 r d) := by
  have b0 : (y 0 : ℕ) < 256 := (y 0).isLt
  have b1 : (y 1 : ℕ) < 512 := (y 1).isLt
  refine ⟨⟨256 * ((y 1 : ℕ) / 128) + (y 0 : ℕ), by omega⟩, ⟨(y 1 : ℕ) % 128, by omega⟩, rfl, rfl, ?_⟩
  unfold outOC
  generalize accOC (F := Ideal) x1 x2 vx = A
  have e : k0_pay35 (F := Ideal) A = k0_pay15 A := rfl
  unfold k0_pay36
  rw [e]
  generalize hB : k0_pay15 (F := Ideal) A = B
  clear hB e
  canon_tiles x h
  all_goals (open_payloads; pointwise; blk_ext)

theorem tileBA (y : S256x512.Idx) : ∃ (r : Fin 1024) (d : Fin 128), (r : ℕ) = 256 * ((y 1 : ℕ) / 128) + (y 0 : ℕ) ∧ (d : ℕ) = (y 1 : ℕ) % 128 ∧
    outBA (F := Ideal) x1 x2 vx km y = k0_pay15 (F := Ideal) (accBA x1 x2 vx km) (ix2 r d) := by
  have b0 : (y 0 : ℕ) < 256 := (y 0).isLt
  have b1 : (y 1 : ℕ) < 512 := (y 1).isLt
  refine ⟨⟨256 * ((y 1 : ℕ) / 128) + (y 0 : ℕ), by omega⟩, ⟨(y 1 : ℕ) % 128, by omega⟩, rfl, rfl, ?_⟩
  unfold outBA
  generalize accBA (F := Ideal) x1 x2 vx km = A
  have e : k0_pay26 (F := Ideal) A = k0_pay15 A := rfl
  unfold k0_pay27 k0_pay28 k0_pay29 k0_pay30
  rw [e]
  generalize hB : k0_pay15 (F := Ideal) A = B
  clear hB e
  canon_tiles x h
  all_goals (open_payloads; pointwise; blk_ext)

theorem tileOA (y : S256x512.Idx) : ∃ (r : Fin 1024) (d : Fin 128), (r : ℕ) = 256 * ((y 1 : ℕ) / 128) + (y 0 : ℕ) ∧ (d : ℕ) = (y 1 : ℕ) % 128 ∧
    outOA (F := Ideal) x1 x2 vx y = k0_pay15 (F := Ideal) (accOA x1 x2 vx) (ix2 r d) := by
  have b0 : (y 0 : ℕ) < 256 := (y 0).isLt
  have b1 : (y 1 : ℕ) < 512 := (y 1).isLt
  refine ⟨⟨256 * ((y 1 : ℕ) / 128) + (y 0 : ℕ), by omega⟩, ⟨(y 1 : ℕ) % 128, by omega⟩, rfl, rfl, ?_⟩
  unfold outOA
  generalize accOA (F := Ideal) x1 x2 vx = A
  have e : k0_pay61 (F := Ideal) A = k0_pay15 A := rfl
  unfold k0_pay62 k0_pay63 k0_pay64
  rw [e]
  generalize hB : k0_pay15 (F := Ideal) A = B
  clear hB e
  canon_tiles x h
  all_goals (open_payloads; pointwise; blk_ext)

end Cert.KernelIdeal.Attn

end
-- ==== Proof.V.Out.lean ====
/- What each branch stores, as a softmax average: whichever branch a tile takes, an entry of its output is the average of the head's values under the softmax of the row's scores. -/
module

public import proofs.«01_k».proof.Proof.V.Tile

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

variable {x1 : Vec Ideal S256x512 .bf16} {x2 : Vec Ideal S8448x128 .bf16} {x3 : Vec Ideal S8448x128 .bf16}
  {q k : ℕ → ℕ → ℝ} {v : ℕ → ℕ → EReal}

/-- Values in the first 128 columns, ones in the rest. -/
def valOnes (v : ℕ → ℕ → EReal) (c : Fin 256) (j : ℕ) : EReal := if (c : ℕ) < 128 then v j c else 1

/-- The head's values are `v`. -/
def IsVal (x3 : Vec Ideal S8448x128 .bf16) (v : ℕ → ℕ → EReal) : Prop := ∀ (j : Fin 8448) (d : Fin 128), x3 (ix2 j d) = v j d

theorem vxOf_at (h3 : IsVal x3 v) (y : S8448x256.Idx) : vxOf (F := Ideal) x3 y = if (y 1 : ℕ) < 128 then v (y 0 : ℕ) (y 1 : ℕ) else 1 := by
  unfold vxOf IsVal at *
  canon_tiles x h
  · rw [if_neg (by omega)]
    pointwise [k0_pay2]
  · rw [if_pos (by omega)]
    pointwise [k0_pay1]
    rw [h0, h1, ← h3 (x 0) (x 1)]
    exact congrArg x3 (by funext a; fin_cases a <;> rfl)

theorem vxOf_is (h3 : IsVal x3 v) : IsV (vxOf (F := Ideal) x3) (valOnes v) := fun j c => vxOf_at h3 (ix2 j c)

/-- The score, in nats, of the stacked row an output entry comes from. -/
def nats (q k : ℕ → ℕ → ℝ) (r l : ℕ) (j : ℕ) : ℝ := (∑ d : Fin 128, q r (128 * (l / 128) + d) * k j d) * Real.log 2

theorem ratio_att {A : FVec Ideal S1024x256 .f32} {n : ℕ} (hn : 0 < n) {μ : Fin 1024 → ℝ} (hA : IsAcc A (score q k) μ (valOnes v) n)
    {i0 i1 : ℕ} (r : Fin 1024) (d : Fin 128) (h0 : i0 < 256) (hr : (r : ℕ) = 256 * (i1 / 128) + i0) (hd : (d : ℕ) = i1 % 128) :
    k0_pay15 (F := Ideal) A (ix2 r d) = att (nats q k i0 i1) (fun j => v j (i1 % 128)) n := by
  have hs : score q k r = fun j => ∑ d : Fin 128, q i0 (128 * (i1 / 128) + d) * k j d := by
    funext j
    unfold score qrow
    rw [show (r : ℕ) % 256 = i0 by omega, show (r : ℕ) / 256 = i1 / 128 by omega]
  have hv : valOnes v ⟨d, by omega⟩ = fun j => v j (i1 % 128) := by
    funext j; unfold valOnes; rw [if_pos d.isLt, ← hd]
  have hw : ∀ j, valOnes v ⟨128 + d, by omega⟩ j = 1 := fun j => by
    unfold valOnes; rw [if_neg (by simp)]
  rw [ratio_at, hA, hA, hv]
  exact quotient _ _ (fun j => by rw [hs]; rfl) _ _ _ hw n hn

theorem outBC_att (hq : IsQ x1 q) (hk : IsK x2 k) (h3 : IsVal x3 v) (y : S256x512.Idx) :
    outBC (F := Ideal) x1 x2 (vxOf x3) (k0_pay4 x2) y = att (nats q k (y 0) (y 1)) (fun j => v j ((y 1 : ℕ) % 128)) 256 := by
  obtain ⟨μ, h⟩ := accBC_is hq hk (vxOf_is h3) (km_real hk)
  obtain ⟨r, d, hr, hd, e⟩ := tileBC (x1 := x1) (x2 := x2) (vx := vxOf x3) (km := k0_pay4 x2) y
  rw [e]
  exact ratio_att (by norm_num) h r d (y 0).isLt hr hd

theorem outOC_att (hq : IsQ x1 q) (hk : IsK x2 k) (h3 : IsVal x3 v) (y : S256x512.Idx) :
    outOC (F := Ideal) x1 x2 (vxOf x3) y = att (nats q k (y 0) (y 1)) (fun j => v j ((y 1 : ℕ) % 128)) 256 := by
  obtain ⟨μ, h⟩ := accOC_is hq hk (vxOf_is h3)
  obtain ⟨r, d, hr, hd, e⟩ := tileOC (x1 := x1) (x2 := x2) (vx := vxOf x3) y
  rw [e]
  exact ratio_att (by norm_num) h r d (y 0).isLt hr hd

theorem outBA_att (hq : IsQ x1 q) (hk : IsK x2 k) (h3 : IsVal x3 v) (y : S256x512.Idx) :
    outBA (F := Ideal) x1 x2 (vxOf x3) (k0_pay4 x2) y = att (nats q k (y 0) (y 1)) (fun j => v j ((y 1 : ℕ) % 128)) 8448 := by
  obtain ⟨μ, h⟩ := accBA_is hq hk (vxOf_is h3) (km_real hk)
  obtain ⟨r, d, hr, hd, e⟩ := tileBA (x1 := x1) (x2 := x2) (vx := vxOf x3) (km := k0_pay4 x2) y
  rw [e]
  exact ratio_att (by norm_num) h r d (y 0).isLt hr hd

theorem outOA_att (hq : IsQ x1 q) (hk : IsK x2 k) (h3 : IsVal x3 v) (y : S256x512.Idx) :
    outOA (F := Ideal) x1 x2 (vxOf x3) y = att (nats q k (y 0) (y 1)) (fun j => v j ((y 1 : ℕ) % 128)) 8448 := by
  obtain ⟨μ, h⟩ := accOA_is hq hk (vxOf_is h3)
  obtain ⟨r, d, hr, hd, e⟩ := tileOA (x1 := x1) (x2 := x2) (vx := vxOf x3) y
  rw [e]
  exact ratio_att (by norm_num) h r d (y 0).isLt hr hd

end Cert.KernelIdeal.Attn

end
-- ==== Proof.V.Spec.lean ====
/- The mathematics both programs compute, over plain functions of natural numbers: row by row, the softmax average of a head's values. -/
module

public import proofs.«01_k».proof.Proof.V.Real
public import Idealize.ShloMosaic.Lib.Pointwise

@[expose] public section

set_option maxRecDepth 16384

noncomputable section

namespace Cert.Softmax

open Idealize.ShloMosaic

/-- The attention scale, as the literal spells it. -/
def scale : ℝ := (Ideal.ofBits .f32 0x3DB504F3#32).toReal

theorem ofBits_scale : Ideal.ofBits .f32 0x3DB504F3#32 = ((scale : ℝ) : EReal) := by
  have h : ∃ a : ℝ, Ideal.ofBits .f32 0x3DB504F3#32 = (a : EReal) := ⟨_, by simp [Ideal.ofBits, Ideal.ieee]; rfl⟩
  obtain ⟨a, h⟩ := h
  unfold scale
  rw [h, EReal.toReal_coe]

theorem ofBits_two : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [ofBits_two, Ideal.log_coe, if_neg (by norm_num)]

/-- The score of query row `n`, column group of `l`, against key `j`. -/
def dots (Q K : ℕ → ℕ → ℝ) (n l j : ℕ) : ℝ := (∑ d : Fin 128, Q n (128 * (l / 128) + d) * K j (128 * (l / 512) + d)) * scale

/-- The number of keys row `n` attends to: the context's own for a context row, all otherwise. -/
def keys (n : ℕ) : ℕ := if n < 256 then 256 else 8448

/-- The result at row `n`, column `l`. -/
def attend (Q K : ℕ → ℕ → ℝ) (V : ℕ → ℕ → EReal) (n l : ℕ) : EReal :=
  att (dots Q K n l) (fun j => V j (128 * (l / 512) + l % 128)) (keys n)

abbrev QC : Shape := ⟨5, ![1, 256, 2, 4, 128]⟩
abbrev QX : Shape := ⟨5, ![1, 8192, 2, 4, 128]⟩
abbrev KC : Shape := ⟨4, ![1, 256, 2, 128]⟩
abbrev KX : Shape := ⟨4, ![1, 8192, 2, 128]⟩

/-- The context's and the latents' queries are the reals `Q`. -/
def IsQueries (X0 : FVec Ideal QC .f32) (X1 : FVec Ideal QX .f32) (Q : ℕ → ℕ → ℝ) : Prop :=
  (∀ (n : Fin 256) (h : Fin 2) (g : Fin 4) (d : Fin 128), X0 (ix5 0 n h g d) = ((Q n (512 * h + 128 * g + d) : ℝ) : EReal)) ∧
  ∀ (n : Fin 8192) (h : Fin 2) (g : Fin 4) (d : Fin 128), X1 (ix5 0 n h g d) = ((Q (256 + n) (512 * h + 128 * g + d) : ℝ) : EReal)

/-- The context's and the latents' keys, or values, are `K`. -/
def IsKeys (X2 : FVec Ideal KC .f32) (X3 : FVec Ideal KX .f32) (K : ℕ → ℕ → EReal) : Prop :=
  (∀ (n : Fin 256) (h : Fin 2) (d : Fin 128), X2 (ix4 0 n h d) = K n (128 * h + d)) ∧
  ∀ (n : Fin 8192) (h : Fin 2) (d : Fin 128), X3 (ix4 0 n h d) = K (256 + n) (128 * h + d)

end Cert.Softmax

end
-- ==== Proof.V.Panel.lean ====
/- The panel the attention call reads, entry by entry: the scaled queries, the keys and the values in the columns the call's blocks take. -/
module

public import proofs.«01_k».proof.Proof.V.Out
public import proofs.«01_k».proof.Proof.V.Spec

@[expose] public section

set_option maxRecDepth 16384

noncomputable section

namespace Cert.KernelIdeal.Attn

open Idealize.ShloMosaic Idealize.ShloMosaic.TcCoe Idealize.SL.Sem
open Cert.KernelIdeal Cert.KernelIdeal.Gen Cert.Softmax

/-- The queries, scaled and in base-two units. -/
def qPart (X0 : FVec Ideal S1x256x2x4x128 .f32) (X1 : FVec Ideal S1x8192x2x4x128 .f32) : FVec Ideal S8448x1024 .f32 :=
  Host.divf (mulf (shapeCast S8448x1024 (concatenate S1x8448x2x4x128 1 [⟨S1x256x2x4x128, X0⟩, ⟨S1x8192x2x4x128, X1⟩] concatenates_S1x256x2x4x128_S1x8192x2x4x128_S1x8448x2x4x128_d1) shapeCasts_S1x8448x2x4x128_S8448x1024)
    (broadcastInDim S8448x1024 ![] bcast_S_S8448x1024 (constant (F := Ideal) S_ .f32 0x3DB504F3#32)))
    (broadcastInDim S8448x1024 ![] bcast_S_S8448x1024 (Host.log (constant (F := Ideal) S_ .f32 0x40000000#32)))

/-- The keys, or the values, of both heads side by side. -/
def kvPart (X2 : FVec Ideal S1x256x2x128 .f32) (X3 : FVec Ideal S1x8192x2x128 .f32) : FVec Ideal S8448x256 .f32 :=
  shapeCast S8448x256 (concatenate S1x8448x2x128 1 [⟨S1x256x2x128, X2⟩, ⟨S1x8192x2x128, X3⟩] concatenates_S1x256x2x128_S1x8192x2x128_S1x8448x2x128_d1) shapeCasts_S1x8448x2x128_S8448x256

/-- The panel. -/
def panel (A : FVec Ideal S8448x1024 .f32) (B C : FVec Ideal S8448x256 .f32) : FVec Ideal S8448x10240 .bf16 :=
  truncf .bf16 (concatenate S8448x10240 1 [⟨S8448x1024, broadcastInDim S8448x1024 ![] bcast_S_S8448x1024 (constant (F := Ideal) S_ .f32 0x00000000#32)⟩, ⟨S8448x1024, A⟩, ⟨S8448x256, B⟩, ⟨S8448x256, C⟩,
    ⟨S8448x7680, broadcastInDim S8448x7680 ![] bcast_S_S8448x7680 (constant (F := Ideal) S_ .f32 0x00000000#32)⟩] concatenates_S8448x1024_S8448x1024_S8448x256_S8448x256_S8448x7680_S8448x10240_d1) bitsLt_bf16_f32

theorem panel_q (A : FVec Ideal S8448x1024 .f32) (B C : FVec Ideal S8448x256 .f32) (n : Fin 8448) (l : Fin 1024) :
    panel A B C (ix2 n ⟨1024 + l, by omega⟩) = A (ix2 n l) := by
  pointwise [panel]
  try (rw [dif_neg (by omega), dif_pos (by omega)]; blk_ext)

theorem panel_k (A : FVec Ideal S8448x1024 .f32) (B C : FVec Ideal S8448x256 .f32) (n : Fin 8448) (l : Fin 256) :
    panel A B C (ix2 n ⟨2048 + l, by omega⟩) = B (ix2 n l) := by
  pointwise [panel]
  rw [dif_neg (by omega), dif_neg (by omega), dif_pos (by omega)]; blk_ext

theorem panel_v (A : FVec Ideal S8448x1024 .f32) (B C : FVec Ideal S8448x256 .f32) (n : Fin 8448) (l : Fin 256) :
    panel A B C (ix2 n ⟨2304 + l, by omega⟩) = C (ix2 n l) := by
  pointwise [panel]
  rw [dif_neg (by omega), dif_neg (by omega), dif_neg (by omega), dif_pos (by omega)]; blk_ext

theorem kvPart_at {X2 : FVec Ideal S1x256x2x128 .f32} {X3 : FVec Ideal S1x8192x2x128 .f32} {K : ℕ → ℕ → EReal} (h : IsKeys X2 X3 K) (n : Fin 8448) (l : Fin 256) :
    kvPart X2 X3 (ix2 n l) = K n l := by
  obtain ⟨h2, h3⟩ := h
  pointwise [kvPart]
  by_cases hn : (n : ℕ) < 256
  · rw [dif_pos hn, h2]
    congr 1
    show 128 * ((l : ℕ) / 128) + (l : ℕ) % 128 = l; omega
  · rw [dif_neg hn, h3]
    congr 1
    · show 256 + ((n : ℕ) - 256) = n; omega
    · show 128 * ((l : ℕ) / 128) + (l : ℕ) % 128 = l; omega

theorem qPart_at {X0 : FVec Ideal S1x256x2x4x128 .f32} {X1 : FVec Ideal S1x8192x2x4x128 .f32} {Q : ℕ → ℕ → ℝ} (h : IsQueries X0 X1 Q) (n : Fin 8448) (l : Fin 1024) :
    qPart X0 X1 (ix2 n l) = ((Q n l * scale / Real.log 2 : ℝ) : EReal) := by
  obtain ⟨h0, h1⟩ := h
  have hx : ∀ x : EReal, x = ((Q n l : ℝ) : EReal) → Ideal.div (x * Ideal.ofBits .f32 0x3DB504F3#32) (Ideal.log (Ideal.ofBits .f32 0x40000000#32)) = ((Q n l * scale / Real.log 2 : ℝ) : EReal) := fun x hx => by
    rw [hx, log_two, ofBits_scale, Ideal.div_coe (Real.log_pos (by norm_num)).ne', ← EReal.coe_mul, ← EReal.coe_mul]
    congr 1; ring
  pointwise [qPart]
  refine hx _ ?_
  by_cases hn : (n : ℕ) < 256
  · rw [dif_pos hn, h0]
    congr 2
    show 512 * ((l : ℕ) / 512) + 128 * ((l : ℕ) / 128 % 4) + (l : ℕ) % 128 = l; omega
  · rw [dif_neg hn, h1]
    congr 2
    · show 256 + ((n : ℕ) - 256) = n; omega
    · show 512 * ((l : ℕ) / 512) + 128 * ((l : ℕ) / 128 % 4) + (l : ℕ) % 128 = l; omega

end Cert.KernelIdeal.Attn

end
-- ==== Proof.V.Final.lean ====
/- The result array of the attention call, entry by entry. -/
module

public import proofs.«01_k».proof.Proof.I.Frame
public import proofs.«01_k».proof.Proof.V.Panel

@[expose] public section

set_option maxRecDepth 16384

noncomputable section

namespace Cert.KernelIdeal.Attn

open Idealize.ShloMosaic Idealize.ShloMosaic.TcCoe Idealize.SL.Sem
open Idealize.ShloMosaic.Pipeline (Dat Cfg Window)
open Cert.KernelIdeal Cert.KernelIdeal.Gen Cert.Softmax

variable (m : (ℓ : Loc nD τ sig) → Buf (Elt Ideal) ℓ)

/-- Where each block of a point lies. -/
theorem idx : ∀ t : Fin cfg0.N, win0_1.index t = ![t.val % 33, 2 + t.val / 33] ∧ win0_2.index t = ![0, 16 + t.val / 33] ∧ win0_3.index t = ![0, 18 + t.val / 33] ∧ win0_4.index t = ![t.val % 33, t.val / 33] :=
  (by decide +kernel : ∀ t : Fin grid0.N, _)

/-- The panel the call finds. -/
abbrev panelOf (c : Dev nD) : FVec Ideal S8448x10240 .bf16 :=
  panel (qPart (m ((c : Thread nD τ).loc main_arg0)) (m ((c : Thread nD τ).loc main_arg1)))
    (kvPart (m ((c : Thread nD τ).loc main_arg2)) (m ((c : Thread nD τ).loc main_arg3)))
    (kvPart (m ((c : Thread nD τ).loc main_arg4)) (m ((c : Thread nD τ).loc main_arg5)))

theorem V_panel (c : Dev nD) : V m c main_v14 = panelOf m c := by
  unfold V
  after_results
  rfl

theorem lt66 (t : Fin cfg0.N) : t.val < 66 := lt_of_lt_of_eq t.isLt numPts

variable {Q K : ℕ → ℕ → ℝ} {v : ℕ → ℕ → EReal}

/-- A point's query block. -/
theorem blkQ (c : Dev nD) (hQ : IsQueries (m ((c : Thread nD τ).loc main_arg0)) (m ((c : Thread nD τ).loc main_arg1)) Q) (t : Fin cfg0.N) :
    IsQ (iblk m c 1 t) (fun r l => Q (256 * (t.val % 33) + r) (512 * (t.val / 33) + l) * scale / Real.log 2) := fun r l => by
  have ht := lt66 t
  have e : iblk m c 1 t (ix2 r l) = panelOf m c (ix2 ⟨256 * (t.val % 33) + r, by omega⟩ ⟨1024 + (⟨512 * (t.val / 33) + l, by omega⟩ : Fin 1024), by omega⟩) := by
    rw [← V_panel]
    blk_ext [iblk, idx t]
  exact e.trans ((panel_q _ _ _ _ _).trans (qPart_at hQ _ _))

/-- A point's key block. -/
theorem blkK (c : Dev nD) (hK : IsKeys (m ((c : Thread nD τ).loc main_arg2)) (m ((c : Thread nD τ).loc main_arg3)) (fun n l => ((K n l : ℝ) : EReal))) (t : Fin cfg0.N) :
    IsK (iblk m c 2 t) (fun j d => K j (128 * (t.val / 33) + d)) := fun j d => by
  have ht := lt66 t
  have e : iblk m c 2 t (ix2 j d) = panelOf m c (ix2 j ⟨2048 + (⟨128 * (t.val / 33) + d, by omega⟩ : Fin 256), by omega⟩) := by
    rw [← V_panel]
    blk_ext [iblk, idx t]
  exact e.trans ((panel_k _ _ _ _ _).trans (kvPart_at hK _ _))

/-- A point's value block. -/
theorem blkV (c : Dev nD) (hV : IsKeys (m ((c : Thread nD τ).loc main_arg4)) (m ((c : Thread nD τ).loc main_arg5)) v) (t : Fin cfg0.N) :
    IsVal (iblk m c 3 t) (fun j d => v j (128 * (t.val / 33) + d)) := fun j d => by
  have ht := lt66 t
  have e : iblk m c 3 t (ix2 j d) = panelOf m c (ix2 j ⟨2304 + (⟨128 * (t.val / 33) + d, by omega⟩ : Fin 256), by omega⟩) := by
    rw [← V_panel]
    blk_ext [iblk, idx t]
  exact e.trans ((panel_v _ _ _ _ _).trans (kvPart_at hV _ _))

/-- The head's first point reads the same keys and values. -/
theorem head_div (t : Fin cfg0.N) : (headPt t.val t.isLt).val / 33 = t.val / 33 := by
  show t.val / 33 * 33 / 33 = t.val / 33; omega

theorem blk_head2 (c : Dev nD) (t : Fin cfg0.N) : iblk m c 2 (headPt t.val t.isLt) = iblk m c 2 t := by
  have h := head_div t
  funext y
  blk_ext [iblk, idx t, idx (headPt t.val t.isLt), h]

theorem blk_head3 (c : Dev nD) (t : Fin cfg0.N) : iblk m c 3 (headPt t.val t.isLt) = iblk m c 3 t := by
  have h := head_div t
  funext y
  blk_ext [iblk, idx t, idx (headPt t.val t.isLt), h]

/-- The tile a point stores. -/
theorem outAt_att (c : Dev nD) (hQ : IsQueries (m ((c : Thread nD τ).loc main_arg0)) (m ((c : Thread nD τ).loc main_arg1)) Q)
    (hK : IsKeys (m ((c : Thread nD τ).loc main_arg2)) (m ((c : Thread nD τ).loc main_arg3)) (fun n l => ((K n l : ℝ) : EReal)))
    (hV : IsKeys (m ((c : Thread nD τ).loc main_arg4)) (m ((c : Thread nD τ).loc main_arg5)) v) (t : Fin cfg0.N) (y : S256x512.Idx) :
    outAt m c t y = attend Q K v (256 * (t.val % 33) + (y 0 : ℕ)) (512 * (t.val / 33) + (y 1 : ℕ)) := by
  have ht := lt66 t
  have b0 : (y 0 : ℕ) < 256 := (y 0).isLt
  have b1 : (y 1 : ℕ) < 512 := (y 1).isLt
  have q' := blkQ m c hQ t
  have k' := blkK m c hK t
  have v' := blkV m c hV t
  have hs : nats (fun r l => Q (256 * (t.val % 33) + r) (512 * (t.val / 33) + l) * scale / Real.log 2) (fun j d => K j (128 * (t.val / 33) + d)) (y 0) (y 1)
      = dots Q K (256 * (t.val % 33) + (y 0 : ℕ)) (512 * (t.val / 33) + (y 1 : ℕ)) := by
    funext j
    unfold nats dots
    rw [Finset.sum_mul, Finset.sum_mul]
    refine Finset.sum_congr rfl fun d _ => ?_
    dsimp only
    rw [show 512 * (t.val / 33) + (128 * ((y 1 : ℕ) / 128) + (d : ℕ)) = 128 * ((512 * (t.val / 33) + (y 1 : ℕ)) / 128) + d by omega,
      show (512 * (t.val / 33) + (y 1 : ℕ)) / 512 = t.val / 33 by omega]
    have := (Real.log_pos (show (1 : ℝ) < 2 by norm_num)).ne'
    field_simp
  have hv : (fun j => (fun j d => v j (128 * (t.val / 33) + d)) j ((y 1 : ℕ) % 128)) = fun j => v j (128 * ((512 * (t.val / 33) + (y 1 : ℕ)) / 512) + (512 * (t.val / 33) + (y 1 : ℕ)) % 128) := by
    funext j
    dsimp only
    congr 1
    omega
  unfold outAt vxAt kmAt attend keys
  rw [blk_head2, blk_head3, ← hs, ← hv]
  by_cases hz : t.val % 33 = 0
  · rw [if_pos hz, if_pos (show 256 * (t.val % 33) + (y 0 : ℕ) < 256 by omega)]
    split
    · exact outBC_att q' k' v' y
    · exact outOC_att q' k' v' y
  · rw [if_neg hz, if_neg (show ¬256 * (t.val % 33) + (y 0 : ℕ) < 256 by omega)]
    split
    · exact outBA_att q' k' v' y
    · exact outOA_att q' k' v' y

/-- The call's result array. -/
theorem final (c : Dev nD) (hQ : IsQueries (m ((c : Thread nD τ).loc main_arg0)) (m ((c : Thread nD τ).loc main_arg1)) Q)
    (hK : IsKeys (m ((c : Thread nD τ).loc main_arg2)) (m ((c : Thread nD τ).loc main_arg3)) (fun n l => ((K n l : ℝ) : EReal)))
    (hV : IsKeys (m ((c : Thread nD τ).loc main_arg4)) (m ((c : Thread nD τ).loc main_arg5)) v) :
    (dats m 0 c).arrAt 4 (cfgs 0).N = fun i => attend Q K v (i 0 : ℕ) (i 1 : ℕ) := by
  refine (dats m 0 c).arrAt_eq_of_covers 4 _ (by decide +kernel) fun t _ y => ?_
  blk_simp
  rw [after0_4]
  refine (outAt_att m c hQ hK hV t y).trans ?_
  blk_simp [idx t]
  rw [Nat.mul_comm (t.val % 33), Nat.mul_comm (t.val / 33)]

end Cert.KernelIdeal.Attn

end
-- ==== Proof.V.RefMax.lean ====
/- The reference's two row maxima, read at an index as a fold over the keys. -/
module
public import proofs.«01_k».proof.Proof.Gen.ReferenceIdeal.Read
public import Idealize.ShloMosaic.Lib.Pointwise
public import proofs.«01_k».proof.Proof.V.Steps
@[expose] public section
set_option maxRecDepth 16384

noncomputable section
namespace Cert.ReferenceIdeal.Attn
open Idealize.ShloMosaic Idealize.ShloMosaic.TcCoe Idealize.SL.Sem
open Cert.ReferenceIdeal Cert.ReferenceIdeal.Gen Cert.ReferenceIdeal.Read

/-- A context row's maximum. -/
theorem foldC (S : FVec Ideal S1x2x4x256x256 .f32) (h : Fin 2) (g : Fin 4) (n : Fin 256) :
    Host.reduce FloatOps.maximumf S (val_main_cst_0 (F := Ideal)) reducesTo_S1x2x4x256x256_S1x2x4x256_d4 h_S_ (ix4 0 h g n) = Finset.univ.fold max ⊥ (fun j : Fin 256 => S (ix5 0 h g n j)) := by
  rw [Host.reduce_eq_fold_single FloatOps.maximumf S _ reducesTo_S1x2x4x256x256_S1x2x4x256_d4 (by decide) h_S_ (ix4 0 h g n)]
  rw [show val_main_cst_0 (F := Ideal) (Shape.Idx.first h_S_) = ⊥ from Cert.KernelIdeal.Attn.ofBits_neg_inf]
  refine congrArg (fun f => Finset.univ.fold max ⊥ f) (funext fun k => ?_)
  exact congrArg S (funext fun a => Fin.ext (by match a with | ⟨0, _⟩ => rfl | ⟨1, _⟩ => rfl | ⟨2, _⟩ => rfl | ⟨3, _⟩ => rfl | ⟨4, _⟩ => rfl))

/-- A latent row's maximum. -/
theorem foldX (S : FVec Ideal S1x2x4x8192x8448 .f32) (h : Fin 2) (g : Fin 4) (n : Fin 8192) :
    Host.reduce FloatOps.maximumf S (val_main_cst_4 (F := Ideal)) reducesTo_S1x2x4x8192x8448_S1x2x4x8192_d4 h_S_ (ix4 0 h g n) = Finset.univ.fold max ⊥ (fun j : Fin 8448 => S (ix5 0 h g n j)) := by
  rw [Host.reduce_eq_fold_single FloatOps.maximumf S _ reducesTo_S1x2x4x8192x8448_S1x2x4x8192_d4 (by decide) h_S_ (ix4 0 h g n)]
  rw [show val_main_cst_4 (F := Ideal) (Shape.Idx.first h_S_) = ⊥ from Cert.KernelIdeal.Attn.ofBits_neg_inf]
  refine congrArg (fun f => Finset.univ.fold max ⊥ f) (funext fun k => ?_)
  exact congrArg S (funext fun a => Fin.ext (by match a with | ⟨0, _⟩ => rfl | ⟨1, _⟩ => rfl | ⟨2, _⟩ => rfl | ⟨3, _⟩ => rfl | ⟨4, _⟩ => rfl))

end Cert.ReferenceIdeal.Attn
end
-- ==== Proof.V.RefC.lean ====
/- The reference's context half, entry by entry: the softmax average over the context's own keys. -/
module

public import proofs.«01_k».proof.Proof.V.RefMax
public import Idealize.ShloMosaic.Lib.Pointwise
public import proofs.«01_k».proof.Proof.V.Steps
public import proofs.«01_k».proof.Proof.V.Spec

@[expose] public section

set_option maxRecDepth 16384

noncomputable section

namespace Cert.ReferenceIdeal.Attn

open Idealize.ShloMosaic Idealize.ShloMosaic.TcCoe Idealize.SL.Sem
open Cert.ReferenceIdeal Cert.ReferenceIdeal.Read Cert.Softmax

variable {X0 : FVec Ideal S1x256x2x4x128 .f32} {X2 : FVec Ideal S1x256x2x128 .f32} {X4 : FVec Ideal S1x256x2x128 .f32}
  {Q K : ℕ → ℕ → ℝ} {v : ℕ → ℕ → EReal}

/-- The scores of a query row of head `g` of group `h`. -/
def row (Q K : ℕ → ℕ → ℝ) (n h g j : ℕ) : ℝ := (∑ d : Fin 128, Q n (512 * h + 128 * g + d) * K j (128 * h + d)) * scale

theorem scoreC (hQ : ∀ (n : Fin 256) (h : Fin 2) (g : Fin 4) (d : Fin 128), X0 (ix5 0 n h g d) = ((Q n (512 * h + 128 * g + d) : ℝ) : EReal))
    (hK : ∀ (n : Fin 256) (h : Fin 2) (d : Fin 128), X2 (ix4 0 n h d) = ((K n (128 * h + d) : ℝ) : EReal)) (h : Fin 2) (g : Fin 4) (n j : Fin 256) :
    val_main_v3 (F := Ideal) X0 X2 (ix5 0 h g n j) = ((row Q K n h g j : ℝ) : EReal) := by
  pointwise [val_main_v3, val_main_v2, val_main_v1, val_main_v0, val_main_cst]
  simp only [hQ, hK, ofBits_scale, ← EReal.coe_mul, coe_sum]
  unfold row
  simp only [mul_comm]

theorem floorC (h : Fin 2) (g : Fin 4) (n : Fin 256) : val_main_v5 (F := Ideal) (ix4 0 h g n) = ⊥ := by
  rw [val_main_v5_apply, val_main_cst_1_apply]
  exact Cert.KernelIdeal.Attn.ofBits_neg_inf

theorem topC (h : Fin 2) (g : Fin 4) (n : Fin 256) : val_main_v4 (F := Ideal) X0 X2 (ix4 0 h g n)
    = Finset.univ.fold max ⊥ (fun j : Fin 256 => val_main_v3 (F := Ideal) X0 X2 (ix5 0 h g n j)) := by
  unfold val_main_v4
  exact foldC _ h g n

/-- The largest score of a context row is a real. -/
theorem maxC (hS : ∀ (h : Fin 2) (g : Fin 4) (n j : Fin 256), val_main_v3 (F := Ideal) X0 X2 (ix5 0 h g n j) = ((row Q K n h g j : ℝ) : EReal)) (h : Fin 2) (g : Fin 4) (n : Fin 256) :
    ∃ M : ℝ, val_main_v6 (F := Ideal) X0 X2 (ix4 0 h g n) = (M : EReal) := by
  obtain ⟨M, hM⟩ := fold_max_real (N := 255) (fun j => row Q K n h g j)
  refine ⟨M, ?_⟩
  have e := topC (X0 := X0) (X2 := X2) h g n
  simp only [hS] at e
  rw [val_main_v6_apply, e.trans hM, floorC]
  exact max_eq_right bot_le

theorem weightC (hS : ∀ (h : Fin 2) (g : Fin 4) (n j : Fin 256), val_main_v3 (F := Ideal) X0 X2 (ix5 0 h g n j) = ((row Q K n h g j : ℝ) : EReal)) (h : Fin 2) (g : Fin 4) (n j : Fin 256) :
    val_main_v14 (F := Ideal) X0 X2 (ix5 0 h g n j) = ((wgt (row Q K n h g) 256 j : ℝ) : EReal) := by
  obtain ⟨M, hM⟩ := maxC hS h g n
  rw [← softmax_div (by norm_num) (row Q K n h g) M j]
  revert hS hM
  unfold val_main_v14 val_main_v13 val_main_v12 val_main_v11 val_main_v10 val_main_v9 val_main_v8 val_main_v7
  generalize val_main_v6 (F := Ideal) X0 X2 = B
  generalize val_main_v3 (F := Ideal) X0 X2 = S
  intro hS hM
  pointwise [val_main_cst_2]
  simp only [hS, hM]

theorem attC (hS : ∀ (h : Fin 2) (g : Fin 4) (n j : Fin 256), val_main_v3 (F := Ideal) X0 X2 (ix5 0 h g n j) = ((row Q K n h g j : ℝ) : EReal))
    (hV : ∀ (n : Fin 256) (h : Fin 2) (d : Fin 128), X4 (ix4 0 n h d) = v n (128 * h + d)) (n : Fin 256) (h : Fin 2) (g : Fin 4) (d : Fin 128) :
    val_main_v16 (F := Ideal) X0 X2 X4 (ix5 0 n h g d) = att (row Q K n h g) (fun j => v j (128 * h + d)) 256 := by
  have hW := weightC hS
  revert hW
  unfold val_main_v16 val_main_v15
  generalize val_main_v14 (F := Ideal) X0 X2 = P
  intro hW
  pointwise []
  simp only [hW, hV]
  unfold att
  rw [Finset.sum_range]
  exact Finset.sum_congr rfl fun j _ => mul_comm _ _

end Cert.ReferenceIdeal.Attn

end
-- ==== Proof.V.RefX.lean ====
/- The reference's latent half, entry by entry: the softmax average over all the keys, context first. -/
module

public import proofs.«01_k».proof.Proof.V.RefMax
public import Idealize.ShloMosaic.Lib.Pointwise
public import proofs.«01_k».proof.Proof.V.RefC

@[expose] public section

set_option maxRecDepth 16384

noncomputable section

namespace Cert.ReferenceIdeal.Attn

open Idealize.ShloMosaic Idealize.ShloMosaic.TcCoe Idealize.SL.Sem
open Cert.ReferenceIdeal Cert.ReferenceIdeal.Read Cert.Softmax

variable {X1 : FVec Ideal S1x8192x2x4x128 .f32} {X2 : FVec Ideal S1x256x2x128 .f32} {X3 : FVec Ideal S1x8192x2x128 .f32} {X4 : FVec Ideal S1x256x2x128 .f32} {X5 : FVec Ideal S1x8192x2x128 .f32}
  {Q K : ℕ → ℕ → ℝ} {v : ℕ → ℕ → EReal}

theorem keysX {k : ℕ → ℕ → EReal} (hK : IsKeys X2 X3 k) (j : Fin 8448) (h : Fin 2) (d : Fin 128) :
    val_main_v17 (F := Ideal) X2 X3 (ix4 0 j h d) = k j (128 * h + d) := by
  obtain ⟨h2, h3⟩ := hK
  pointwise [val_main_v17]
  by_cases hj : (j : ℕ) < 256
  · rw [dif_pos hj, h2]
  · rw [dif_neg hj, h3]
    congr 1
    show 256 + ((j : ℕ) - 256) = j; omega

theorem valsX (hV : IsKeys X4 X5 v) (j : Fin 8448) (h : Fin 2) (d : Fin 128) :
    val_main_v18 (F := Ideal) X4 X5 (ix4 0 j h d) = v j (128 * h + d) := keysX hV j h d

theorem scoreX (hQ : ∀ (n : Fin 8192) (h : Fin 2) (g : Fin 4) (d : Fin 128), X1 (ix5 0 n h g d) = ((Q (256 + n) (512 * h + 128 * g + d) : ℝ) : EReal))
    (hK : IsKeys X2 X3 (fun n l => ((K n l : ℝ) : EReal))) (h : Fin 2) (g : Fin 4) (n : Fin 8192) (j : Fin 8448) :
    val_main_v22 (F := Ideal) X1 X2 X3 (ix5 0 h g n j) = ((row Q K (256 + n) h g j : ℝ) : EReal) := by
  have hk := keysX hK
  revert hk
  unfold val_main_v22 val_main_v20 val_main_v19
  generalize val_main_v17 (F := Ideal) X2 X3 = Y
  intro hk
  pointwise [val_main_v21, val_main_cst_3]
  simp only [hQ, hk, ofBits_scale, ← EReal.coe_mul, coe_sum]
  unfold row
  simp only [mul_comm]

theorem floorX (h : Fin 2) (g : Fin 4) (n : Fin 8192) : val_main_v24 (F := Ideal) (ix4 0 h g n) = ⊥ := by
  rw [val_main_v24_apply, val_main_cst_5_apply]
  exact Cert.KernelIdeal.Attn.ofBits_neg_inf

theorem topX (h : Fin 2) (g : Fin 4) (n : Fin 8192) : val_main_v23 (F := Ideal) X1 X2 X3 (ix4 0 h g n)
    = Finset.univ.fold max ⊥ (fun j : Fin 8448 => val_main_v22 (F := Ideal) X1 X2 X3 (ix5 0 h g n j)) := by
  unfold val_main_v23
  exact foldX _ h g n

/-- The largest score of a latent row is a real. -/
theorem maxX (hS : ∀ (h : Fin 2) (g : Fin 4) (n : Fin 8192) (j : Fin 8448), val_main_v22 (F := Ideal) X1 X2 X3 (ix5 0 h g n j) = ((row Q K (256 + n) h g j : ℝ) : EReal)) (h : Fin 2) (g : Fin 4) (n : Fin 8192) :
    ∃ M : ℝ, val_main_v25 (F := Ideal) X1 X2 X3 (ix4 0 h g n) = (M : EReal) := by
  obtain ⟨M, hM⟩ := fold_max_real (N := 8447) (fun j => row Q K (256 + n) h g j)
  refine ⟨M, ?_⟩
  have e := topX (X1 := X1) (X2 := X2) (X3 := X3) h g n
  simp only [hS] at e
  rw [val_main_v25_apply, e.trans hM, floorX]
  exact max_eq_right bot_le

theorem weightX (hS : ∀ (h : Fin 2) (g : Fin 4) (n : Fin 8192) (j : Fin 8448), val_main_v22 (F := Ideal) X1 X2 X3 (ix5 0 h g n j) = ((row Q K (256 + n) h g j : ℝ) : EReal)) (h : Fin 2) (g : Fin 4) (n : Fin 8192) (j : Fin 8448) :
    val_main_v33 (F := Ideal) X1 X2 X3 (ix5 0 h g n j) = ((wgt (row Q K (256 + n) h g) 8448 j : ℝ) : EReal) := by
  obtain ⟨M, hM⟩ := maxX hS h g n
  rw [← softmax_div (by norm_num) (row Q K (256 + n) h g) M j]
  revert hS hM
  unfold val_main_v33 val_main_v32 val_main_v31 val_main_v30 val_main_v29 val_main_v28 val_main_v27 val_main_v26
  generalize val_main_v25 (F := Ideal) X1 X2 X3 = B
  generalize val_main_v22 (F := Ideal) X1 X2 X3 = S
  intro hS hM
  pointwise [val_main_cst_6]
  simp only [hS, hM]

theorem attX (hS : ∀ (h : Fin 2) (g : Fin 4) (n : Fin 8192) (j : Fin 8448), val_main_v22 (F := Ideal) X1 X2 X3 (ix5 0 h g n j) = ((row Q K (256 + n) h g j : ℝ) : EReal))
    (hV : IsKeys X4 X5 v) (n : Fin 8192) (h : Fin 2) (g : Fin 4) (d : Fin 128) :
    val_main_v35 (F := Ideal) X1 X2 X3 X4 X5 (ix5 0 n h g d) = att (row Q K (256 + n) h g) (fun j => v j (128 * h + d)) 8448 := by
  have hW := weightX hS
  revert hW
  have hV' := valsX hV
  revert hV'
  unfold val_main_v35 val_main_v34
  generalize val_main_v18 (F := Ideal) X4 X5 = Y
  generalize val_main_v33 (F := Ideal) X1 X2 X3 = P
  intro hV' hW
  pointwise []
  simp only [hW, hV']
  unfold att
  rw [Finset.sum_range]
  exact Finset.sum_congr rfl fun j _ => mul_comm _ _

end Cert.ReferenceIdeal.Attn

end
-- ==== Proof.V.Ref.lean ====
/- The reference's result, entry by entry: row by row the softmax average of a head's values. -/
module

public import proofs.«01_k».proof.Proof.V.RefC
public import proofs.«01_k».proof.Proof.V.RefX

@[expose] public section

set_option maxRecDepth 16384

noncomputable section

namespace Cert.ReferenceIdeal.Attn

open Idealize.ShloMosaic Idealize.ShloMosaic.TcCoe Idealize.SL.Sem
open Cert.ReferenceIdeal Cert.ReferenceIdeal.Read Cert.Softmax

variable {X0 : FVec Ideal S1x256x2x4x128 .f32} {X1 : FVec Ideal S1x8192x2x4x128 .f32} {X2 : FVec Ideal S1x256x2x128 .f32} {X3 : FVec Ideal S1x8192x2x128 .f32} {X4 : FVec Ideal S1x256x2x128 .f32} {X5 : FVec Ideal S1x8192x2x128 .f32}
  {Q K : ℕ → ℕ → ℝ} {v : ℕ → ℕ → EReal}

/-- The scores by head are the scores by column. -/
theorem row_dots (n l : ℕ) : row Q K n (l / 512) (l / 128 % 4) = dots Q K n l := by
  funext j
  unfold row dots
  have e : 512 * (l / 512) + 128 * (l / 128 % 4) = 128 * (l / 128) := by omega
  rw [e]

/-- Both halves of the result, joined. -/
theorem joined (hQ : IsQueries X0 X1 Q) (hK : IsKeys X2 X3 (fun n l => ((K n l : ℝ) : EReal))) (hV : IsKeys X4 X5 v)
    (n : Fin 8448) (h : Fin 2) (g : Fin 4) (d : Fin 128) :
    val_main_v36 (F := Ideal) X0 X1 X2 X3 X4 X5 (ix5 0 n h g d) = att (row Q K n h g) (fun j => v j (128 * h + d)) (keys n) := by
  have hC := attC (scoreC hQ.1 hK.1) hV.1
  have hX := attX (scoreX hQ.2 hK) hV
  revert hC hX
  unfold val_main_v36
  generalize val_main_v16 (F := Ideal) X0 X2 X4 = A
  generalize val_main_v35 (F := Ideal) X1 X2 X3 X4 X5 = B
  intro hC hX
  pointwise []
  unfold keys
  by_cases hj : (n : ℕ) < 256
  · rw [dif_pos hj, hC, if_pos hj]
  · rw [dif_neg hj, hX, if_neg hj]
    have e : 256 + ((n : ℕ) - 256) = n := by omega
    simp only [e]

/-- The reference's result at row `i 0`, column `i 1`. -/
theorem result (hQ : IsQueries X0 X1 Q) (hK : IsKeys X2 X3 (fun n l => ((K n l : ℝ) : EReal))) (hV : IsKeys X4 X5 v) :
    val_main_v38 (F := Ideal) X0 X1 X2 X3 X4 X5 = fun i => attend Q K v (i 0 : ℕ) (i 1 : ℕ) := by
  funext i
  rw [val_main_v38_apply, val_main_v37_apply]
  have h0 : (i 0).val < 8448 := (i 0).isLt
  have h1 : (i 1).val < 1024 := (i 1).isLt
  have e : idx_main_v37 i = ix5 0 ⟨(i 0).val, h0⟩ (⟨(i 1).val / 512, by omega⟩ : Fin 2) (⟨(i 1).val / 128 % 4, by omega⟩ : Fin 4) (⟨(i 1).val % 128, by omega⟩ : Fin 128) := by
    funext a
    apply Fin.ext
    fin_cases a
    · rfl
    · show ((i 0).val * 1024 + (i 1).val) / 1024 % 8448 = (i 0).val; omega
    · show ((i 0).val * 1024 + (i 1).val) / 512 % 2 = (i 1).val / 512; omega
    · show ((i 0).val * 1024 + (i 1).val) / 128 % 4 = (i 1).val / 128 % 4; omega
    · show ((i 0).val * 1024 + (i 1).val) % 128 = (i 1).val % 128; omega
  rw [e]
  refine (joined hQ hK hV _ _ _ _).trans ?_
  show att (row Q K (i 0).val ((i 1).val / 512) ((i 1).val / 128 % 4)) _ _ = _
  rw [row_dots]
  rfl

end Cert.ReferenceIdeal.Attn

end
-- ==== Proof.V.Inputs.lean ====
/- The queries, the keys and the values as functions of a row and a column. -/
module

public import proofs.«01_k».proof.Proof.V.Spec

@[expose] public section

set_option maxRecDepth 16384

noncomputable section

namespace Cert.Softmax

open Idealize.ShloMosaic

/-- The context's and the latents' keys or values, one below the other, the heads side by side. -/
def stacked (A : FVec Ideal KC .f32) (B : FVec Ideal KX .f32) (n l : ℕ) : EReal :=
  if hl : l < 256 then
    if hn : n < 256 then A (ix4 0 (⟨n, hn⟩ : Fin 256) (⟨l / 128, by omega⟩ : Fin 2) (⟨l % 128, by omega⟩ : Fin 128))
    else if hx : n - 256 < 8192 then B (ix4 0 (⟨n - 256, hx⟩ : Fin 8192) (⟨l / 128, by omega⟩ : Fin 2) (⟨l % 128, by omega⟩ : Fin 128))
    else 0
  else 0

/-- The context's and the latents' queries, one below the other, the heads side by side. -/
def stackedQ (A : FVec Ideal QC .f32) (B : FVec Ideal QX .f32) (n l : ℕ) : EReal :=
  if hl : l < 1024 then
    if hn : n < 256 then A (ix5 0 (⟨n, hn⟩ : Fin 256) (⟨l / 512, by omega⟩ : Fin 2) (⟨l / 128 % 4, by omega⟩ : Fin 4) (⟨l % 128, by omega⟩ : Fin 128))
    else if hx : n - 256 < 8192 then B (ix5 0 (⟨n - 256, hx⟩ : Fin 8192) (⟨l / 512, by omega⟩ : Fin 2) (⟨l / 128 % 4, by omega⟩ : Fin 4) (⟨l % 128, by omega⟩ : Fin 128))
    else 0
  else 0

/-- `stacked` is what `IsKeys` asks for. -/
theorem isKeys_stacked (A : FVec Ideal KC .f32) (B : FVec Ideal KX .f32) : IsKeys A B (stacked A B) := by
  constructor
  · intro n h d
    have hn := n.isLt; have hh := h.isLt; have hd := d.isLt
    unfold stacked
    rw [dif_pos (by omega), dif_pos hn]
    refine congrArg A ?_
    congr 1 <;> apply Fin.ext <;> dsimp only <;> omega
  · intro n h d
    have hn := n.isLt; have hh := h.isLt; have hd := d.isLt
    unfold stacked
    rw [dif_pos (by omega), dif_neg (by omega), dif_pos (by omega)]
    refine congrArg B ?_
    congr 1 <;> apply Fin.ext <;> dsimp only <;> omega

/-- The real parts of finite keys are what `IsKeys` asks for. -/
theorem isKeys_real (A : FVec Ideal KC .f32) (B : FVec Ideal KX .f32) (hA : ∀ i, A i = (((A i : EReal).toReal : ℝ) : EReal)) (hB : ∀ i, B i = (((B i : EReal).toReal : ℝ) : EReal)) :
    IsKeys A B (fun n l => (((stacked A B n l).toReal : ℝ) : EReal)) := by
  obtain ⟨h1, h2⟩ := isKeys_stacked A B
  refine ⟨fun n h d => ?_, fun n h d => ?_⟩
  · dsimp only; rw [← h1 n h d]; exact hA _
  · dsimp only; rw [← h2 n h d]; exact hB _

/-- The real parts of finite queries are what `IsQueries` asks for. -/
theorem isQueries_real (A : FVec Ideal QC .f32) (B : FVec Ideal QX .f32) (hA : ∀ i, A i = (((A i : EReal).toReal : ℝ) : EReal)) (hB : ∀ i, B i = (((B i : EReal).toReal : ℝ) : EReal)) :
    IsQueries A B (fun n l => (stackedQ A B n l).toReal) := by
  constructor
  · intro n h g d
    have hn := n.isLt; have hh := h.isLt; have hg := g.isLt; have hd := d.isLt
    have e : stackedQ A B n (512 * h + 128 * g + d) = A (ix5 0 n h g d) := by
      unfold stackedQ
      rw [dif_pos (by omega), dif_pos hn]
      refine congrArg A ?_
      congr 1 <;> apply Fin.ext <;> dsimp only <;> omega
    dsimp only
    rw [e]; exact hA _
  · intro n h g d
    have hn := n.isLt; have hh := h.isLt; have hg := g.isLt; have hd := d.isLt
    have e : stackedQ A B (256 + n) (512 * h + 128 * g + d) = B (ix5 0 n h g d) := by
      unfold stackedQ
      rw [dif_pos (by omega), dif_neg (by omega), dif_pos (by omega)]
      refine congrArg B ?_
      congr 1 <;> apply Fin.ext <;> dsimp only <;> omega
    dsimp only
    rw [e]; exact hB _

end Cert.Softmax

end
-- ==== Proof.V.Algebraic.lean ====
/- The value claim: at every finite query and key the kernel's result is the reference's. -/
module

public import proofs.«01_k».proof.Defs
public import proofs.«01_k».proof.Proof.V.Final
public import proofs.«01_k».proof.Proof.V.Ref
public import proofs.«01_k».proof.Proof.V.PreFacts
public import proofs.«01_k».proof.Proof.V.Inputs
public import proofs.«01_k».proof.Proof.Gen.ReferenceIdeal.Run
public import Idealize.ShloMosaic.Lib.Claim

@[expose] public section

set_option maxRecDepth 16384

noncomputable section

namespace Cert.Proof

open Idealize.ShloMosaic Idealize.SL.Sem Cert.Softmax

/-- Under the precondition both programs compute `attend` of the queries, keys and values. -/
theorem algebraic : Cert.algebraic_KernelIdeal_ReferenceIdeal_pre_finite_qk := by
  pair_intro
  · run_from Cert.KernelIdeal.Attn.run_main m g
  · run_from Cert.ReferenceIdeal.Value.run m' g'
    obtain ⟨a0, a1, a2, a3, a4, a5, -⟩ := hagree c
    obtain ⟨h0, h1, h2, h3⟩ := Cert.Pre_finite_qk.reals (hpre c)
    have hQ := isQueries_real _ _ h0 h1
    have hK := isKeys_real _ _ h2 h3
    refine Eq.trans ?_ (Cert.KernelIdeal.Attn.final m c hQ hK (isKeys_stacked _ _)).symm
    refine (Cert.ReferenceIdeal.Read.val_main_v38_eq m' c).trans ?_
    rw [a0, a1, a2, a3, a4, a5]
    exact Cert.ReferenceIdeal.Attn.result hQ hK (isKeys_stacked _ _)

end Cert.Proof

end
-- ==== Proof.P.Frames.lean ====
/- The input projection's frames: its three programs run, leave their arguments as they were and every semaphore at zero. -/
module

public import proofs.«01_k».proof.Defs
public import proofs.«01_k».proof.Proof.Gen.Kernel2
public import proofs.«01_k».proof.Proof.Gen.Kernel2Ideal.Frame
public import proofs.«01_k».proof.Proof.Gen.Reference2Ideal.Run
public import Idealize.ShloMosaic.Lib.Claim
public import Idealize.ShloMosaic.Lib.Quiescent

@[expose] public section

set_option maxRecDepth 16384

noncomputable section

namespace Cert.Proof

open Idealize.ShloMosaic Idealize.SL.Sem

/-- The idealized input projection's frame. -/
theorem frameI2 : Cert.quiescent_Kernel2Ideal := fun m g _ => Cert.Kernel2Ideal.Gen.frame m g

/-- The input projection's reference's frame. -/
theorem frameR2 : Cert.quiescent_Reference2Ideal := by
  intro m g _
  exact (θ_run Cert.Reference2Ideal.defs _ _).mono (fun r h => ⟨fun c => (h c).2, sem_eq_zero_of_no_sems (by decide) r.2⟩) (Cert.Reference2Ideal.Value.run m g)

set_option backward.isDefEq.respectTransparency.types false in
/-- The two programs' kernel bodies are one text. -/
theorem body_same2 : @Cert.Kernel2.cc0_inproj Bits _ _ = @Cert.Kernel2Ideal.cc0_inproj Bits _ _ := rfl

set_option backward.isDefEq.respectTransparency.types false in
/-- So are their kernels' tables: there is one label. -/
theorem table_same2 : @Cert.Kernel2.defs₀ Bits _ _ = @Cert.Kernel2Ideal.defs₀ Bits _ _ := by
  unfold Cert.Kernel2.defs₀ Cert.Kernel2Ideal.defs₀
  refine congrArg Defs.onTc ?_
  funext l
  match l with
  | 0 => rfl

set_option backward.isDefEq.respectTransparency.types false in
/-- So are their body tables. -/
theorem defs_same2 : @Cert.Kernel2.defs Bits _ _ = @Cert.Kernel2Ideal.defs Bits _ _ := by
  unfold Cert.Kernel2.defs Cert.Kernel2Ideal.defs
  exact congrArg (Pipeline.defs (Cert.Kernel2.pcfgs (F := Bits))) table_same2

set_option maxHeartbeats 1000000 in
set_option backward.isDefEq.respectTransparency.types false in
/-- So are their host lines. -/
theorem main_same2 : @Cert.Kernel2.main Bits _ _ = @Cert.Kernel2Ideal.main Bits _ _ := rfl

set_option backward.isDefEq.respectTransparency.types false in
/-- The input projection's frame: the printed program is the idealized one's text, run on words. -/
theorem frameK2 : Cert.quiescent_Kernel2 := by
  intro m g _
  rw [defs_same2, main_same2]
  exact Cert.Kernel2Ideal.Gen.frame (F := Bits) m g

end Cert.Proof

end
-- ==== Proof.P.Spec.lean ====
/- What the input projection computes of one row: the blocks of 128 columns, their norm, their rotary embedding, their scale. -/
module

public import Idealize.ShloMosaic.PureOps.Ideal.Laws
public import Idealize.ShloMosaic.Lib.ValueIdx

@[expose] public section

set_option maxRecDepth 16384

noncomputable section

namespace Cert.Inproj

open Idealize.ShloMosaic

/-- The lane a quarter of a head above, and the lane a quarter below, round the head's end. -/
def up (d : Fin 128) : Fin 128 := ⟨(d.val + 32) % 128, Nat.mod_lt _ (by decide)⟩
def down (d : Fin 128) : Fin 128 := ⟨(d.val + 96) % 128, Nat.mod_lt _ (by decide)⟩

/-- The factor of the queries: the softmax scale times the change to base two. -/
abbrev κ : EReal := Ideal.ofBits .f32 0x3E0293EE#32

/-- A head divided by the root of its mean square, times a gain. -/
def normed (x g : Fin 128 → EReal) (d : Fin 128) : EReal :=
  x d * Ideal.rsqrt (Ideal.div (∑ e : Fin 128, x e * x e) (Ideal.ofBits .f32 0x43000000#32) + Ideal.ofBits .f32 0x358637BD#32) * g d

/-- A head times a cosine, plus the head a quarter further on times a signed sine. -/
def turned (x cs sn : Fin 128 → EReal) (d : Fin 128) : EReal :=
  x d * cs d + (if d.val % 64 < 32 then x (up d) else x (down d)) * sn d

/-- What is done to a block of 128 columns: nothing (0); norm, rotation and scale (1); norm and rotation (2); rotation and scale (3); rotation (4). -/
def cell (k : ℕ) (gq gk x cs sn : Fin 128 → EReal) (d : Fin 128) : EReal :=
  if k = 1 then turned (normed x gq) cs sn d * κ
  else if k = 2 then turned (normed x gk) cs sn d
  else if k = 3 then turned x cs sn d * κ
  else if k = 4 then turned x cs sn d
  else x d

/-- Which of these it is, by the block's number. -/
def kind (b : ℕ) : ℕ :=
  if b < 8 then 0 else if b < 16 then 1 else if b < 18 then 2 else if b < 20 then 0 else if b < 28 then 3 else if b < 30 then 4 else 0

/-- The projection's result at row `n` and column `c`, of the product `P`. -/
def value (P : Fin 8448 → Fin 10240 → EReal) (gq gk : Fin 128 → EReal) (cs sn : Fin 8448 → Fin 128 → EReal) (n : Fin 8448) (c : Fin 10240) : EReal :=
  cell (kind (c.val / 128)) gq gk (fun d => P n ⟨128 * (c.val / 128) + d.val, by have := c.isLt; have := d.isLt; omega⟩) (cs n) (sn n) ⟨c.val % 128, Nat.mod_lt _ (by decide)⟩

end Cert.Inproj

end
-- ==== Proof.P.Tile.lean ====
/- The kernel's operations on a block of 768 rows and 128 columns, entry by entry. -/
module

public import proofs.«01_k».proof.Proof.P.Spec
public import proofs.«01_k».proof.Proof.Gen.Kernel2Ideal.Skeleton
public import Idealize.ShloMosaic.Lib.Pointwise

@[expose] public section

set_option maxRecDepth 16384

noncomputable section

namespace Cert.Inproj

open Idealize.ShloMosaic Idealize.ShloMosaic.TcCoe Idealize.SL.Sem
open Cert.Kernel2Ideal Cert.Kernel2Ideal.Gen

/-- The mask of the lanes in the first quarter of each half. -/
theorem mask_at : ∀ d : Fin 128, k0_pay53 (ix2 0 d) = if d.val % 64 < 32 then 1#1 else 0#1 := by decide +kernel

/-- The head's norm as the kernel takes it. -/
def normTile (x : FVec Ideal S768x128 .f32) (g : Vec Ideal S1x128 .f32) : FVec Ideal S768x128 .f32 :=
  mulf (mulf x (broadcastTo S768x128 (rsqrt (addf (divf (shapeCast S768x1 (multiReduction .add [1] S768 (mulf x x) 0x00000000#32 reduces_S768x128_S768 (.inl rfl) rfl) shapeCasts_S768_S768x1)
    (broadcast S768x1 (Scalar.ofBits .f32 0x43000000#32))) (broadcast S768x1 (Scalar.ofBits .f32 0x358637BD#32)))) broadcasts_S768x1_S768x128))
    (broadcastTo S768x128 (shapeCast S1x128 g shapeCasts_S1x128_S1x128) broadcasts_S1x128_S768x128)

/-- The rotary embedding as the kernel takes it. -/
def ropeTile (x : FVec Ideal S768x128 .f32) (cs sn : Vec Ideal S768x128 .f32) : FVec Ideal S768x128 .f32 :=
  addf (mulf x (shapeCast S768x128 cs shapeCasts_S768x128_S768x128)) (mulf (select (broadcastTo S768x128 (shapeCast S1x128 k0_pay53 shapeCasts_S1x128_S1x128) broadcasts_S1x128_S768x128)
    (dynamicRotate 1 96#32 none x rotates_S768x128_d1) (dynamicRotate 1 32#32 none x rotates_S768x128_d1)) (shapeCast S768x128 sn shapeCasts_S768x128_S768x128))

/-- The queries' factor as the kernel takes it. -/
def scaleTile (x : FVec Ideal S768x128 .f32) : FVec Ideal S768x128 .f32 := mulf x (broadcast S768x128 (Scalar.ofBits .f32 0x3E0293EE#32))

/-- A block of 128 columns of the product. -/
def colTile (acc : FVec Ideal S768x1280 .f32) (o : ℕ) (h : S768x1280.Slices ![0, o] S768x128) : FVec Ideal S768x128 .f32 := extractStridedSlice S768x128 ![0, o] acc h

theorem normTile_at (x : FVec Ideal S768x128 .f32) (g : Vec Ideal S1x128 .f32) (r : Fin 768) (d : Fin 128) :
    normTile x g (ix2 r d) = normed (fun e => x (ix2 r e)) (fun e => g (ix2 0 e)) d := by
  pointwise [normTile]
  rfl

theorem ropeTile_at (x : FVec Ideal S768x128 .f32) (cs sn : Vec Ideal S768x128 .f32) (r : Fin 768) (d : Fin 128) :
    ropeTile x cs sn (ix2 r d) = turned (fun e => x (ix2 r e)) (fun e => cs (ix2 r e)) (fun e => sn (ix2 r e)) d := by
  have h := mask_at d
  revert h
  unfold ropeTile
  generalize (k0_pay53 : IVec S1x128 1) = M
  intro h
  pointwise []
  unfold turned
  have eu : (⟨(d.val + 128 - 96) % 128, Nat.mod_lt _ (by decide)⟩ : Fin 128) = up d := Fin.ext (show (d.val + 128 - 96) % 128 = (d.val + 32) % 128 by omega)
  have ed : (⟨(d.val + 128 - 32) % 128, Nat.mod_lt _ (by decide)⟩ : Fin 128) = down d := Fin.ext (show (d.val + 128 - 32) % 128 = (d.val + 96) % 128 by omega)
  rw [h, eu, ed]
  by_cases c : d.val % 64 < 32
  · rw [if_pos c, if_pos c]; rfl
  · rw [if_neg c, if_neg c]; rfl

theorem scaleTile_at (x : FVec Ideal S768x128 .f32) (r : Fin 768) (d : Fin 128) : scaleTile x (ix2 r d) = x (ix2 r d) * κ := rfl

theorem colTile_at (acc : FVec Ideal S768x1280 .f32) (o : ℕ) (h : S768x1280.Slices ![0, o] S768x128) (ho : o + 128 ≤ 1280) (r : Fin 768) (d : Fin 128) :
    colTile acc o h (ix2 r d) = acc (ix2 r ⟨o + d.val, by have := d.isLt; omega⟩) :=
  extractStridedSlice_apply ![0, o] acc h (ix2 r d) _ (fun a => match a with
    | ⟨0, _⟩ => by show r.val = 0 + r.val; omega
    | ⟨1, _⟩ => rfl)

/-- The result block at index `y`: the block of columns `y` lies in, treated as its kind says. -/
def cellAt (k : ℕ → ℕ) (acc : FVec Ideal S768x1280 .f32) (qg kg : Vec Ideal S1x128 .f32) (cs sn : Vec Ideal S768x128 .f32) (y : S768x1280.Idx) : EReal :=
  cell (k ((y 1).val / 128)) (fun e => qg (ix2 0 e)) (fun e => kg (ix2 0 e))
    (fun d => acc (ix2 (y 0) ⟨128 * ((y 1).val / 128) + d.val, by have h1 : (y 1).val < 1280 := (y 1).isLt; have := d.isLt; omega⟩))
    (fun e => cs (ix2 (y 0) e)) (fun e => sn (ix2 (y 0) e)) ⟨(y 1).val % 128, Nat.mod_lt _ (by decide)⟩

variable {k : ℕ → ℕ} {acc : FVec Ideal S768x1280 .f32} {qg kg : Vec Ideal S1x128 .f32} {cs sn : Vec Ideal S768x128 .f32} {y : S768x1280.Idx} {x : S768x128.Idx}

/-- `cellAt` at an index of a block of columns. -/
theorem cellAt_piece (b : ℕ) (hb : b < 10) {kd : ℕ} (hk : k b = kd) (r : Fin 768) (d : Fin 128) (h0 : (y 0 : ℕ) = r) (h1 : (y 1 : ℕ) = 128 * b + d) :
    cellAt k acc qg kg cs sn y = cell kd (fun e => qg (ix2 0 e)) (fun e => kg (ix2 0 e)) (fun e => acc (ix2 r ⟨128 * b + e.val, by have := e.isLt; omega⟩))
      (fun e => cs (ix2 r e)) (fun e => sn (ix2 r e)) d := by
  have hd := d.isLt
  have e0 : y 0 = r := Fin.ext h0
  have eb : (y 1 : ℕ) / 128 = b := by omega
  have ed : (⟨(y 1).val % 128, Nat.mod_lt _ (by decide)⟩ : Fin 128) = d := Fin.ext (show (y 1).val % 128 = d.val by omega)
  unfold cellAt
  subst eb
  rw [hk, ed, e0]

/-- An index of a block is a row and a lane. -/
theorem eta2 (x : S768x128.Idx) : ∃ (r : Fin 768) (d : Fin 128), x = ix2 r d := by
  refine ⟨x 0, x 1, ?_⟩
  funext a
  match a with
  | ⟨0, _⟩ => rfl
  | ⟨1, _⟩ => rfl

theorem plain_piece (b : ℕ) (hb : b < 10) {h : S768x1280.Slices ![0, 128 * b] S768x128} (hk : k b = 0) (h0 : (y 0 : ℕ) = x 0) (h1 : (y 1 : ℕ) = 128 * b + (x 1 : ℕ)) :
    truncf .bf16 (colTile acc (128 * b) h) bitsLt_bf16_f32 x = cellAt k acc qg kg cs sn y := by
  obtain ⟨r, d, rfl⟩ := eta2 x
  rw [cellAt_piece b hb hk r d h0 h1]
  show colTile acc (128 * b) h (ix2 r d) = _
  rw [colTile_at acc _ h (by omega)]
  rfl

theorem rope_piece (b : ℕ) (hb : b < 10) {h : S768x1280.Slices ![0, 128 * b] S768x128} (hk : k b = 4) (h0 : (y 0 : ℕ) = x 0) (h1 : (y 1 : ℕ) = 128 * b + (x 1 : ℕ)) :
    truncf .bf16 (ropeTile (colTile acc (128 * b) h) cs sn) bitsLt_bf16_f32 x = cellAt k acc qg kg cs sn y := by
  obtain ⟨r, d, rfl⟩ := eta2 x
  rw [cellAt_piece b hb hk r d h0 h1]
  show ropeTile (colTile acc (128 * b) h) cs sn (ix2 r d) = _
  rw [ropeTile_at]
  simp only [colTile_at acc _ h (show 128 * b + 128 ≤ 1280 by omega)]
  rfl

theorem qrope_piece (b : ℕ) (hb : b < 10) {h : S768x1280.Slices ![0, 128 * b] S768x128} (hk : k b = 3) (h0 : (y 0 : ℕ) = x 0) (h1 : (y 1 : ℕ) = 128 * b + (x 1 : ℕ)) :
    truncf .bf16 (scaleTile (ropeTile (colTile acc (128 * b) h) cs sn)) bitsLt_bf16_f32 x = cellAt k acc qg kg cs sn y := by
  obtain ⟨r, d, rfl⟩ := eta2 x
  rw [cellAt_piece b hb hk r d h0 h1]
  show scaleTile (ropeTile (colTile acc (128 * b) h) cs sn) (ix2 r d) = _
  rw [scaleTile_at, ropeTile_at]
  simp only [colTile_at acc _ h (show 128 * b + 128 ≤ 1280 by omega)]
  rfl

theorem knorm_piece (b : ℕ) (hb : b < 10) {h : S768x1280.Slices ![0, 128 * b] S768x128} (hk : k b = 2) (h0 : (y 0 : ℕ) = x 0) (h1 : (y 1 : ℕ) = 128 * b + (x 1 : ℕ)) :
    truncf .bf16 (ropeTile (normTile (colTile acc (128 * b) h) kg) cs sn) bitsLt_bf16_f32 x = cellAt k acc qg kg cs sn y := by
  obtain ⟨r, d, rfl⟩ := eta2 x
  rw [cellAt_piece b hb hk r d h0 h1]
  show ropeTile (normTile (colTile acc (128 * b) h) kg) cs sn (ix2 r d) = _
  rw [ropeTile_at]
  simp only [normTile_at, colTile_at acc _ h (show 128 * b + 128 ≤ 1280 by omega)]
  rfl

theorem qnorm_piece (b : ℕ) (hb : b < 10) {h : S768x1280.Slices ![0, 128 * b] S768x128} (hk : k b = 1) (h0 : (y 0 : ℕ) = x 0) (h1 : (y 1 : ℕ) = 128 * b + (x 1 : ℕ)) :
    truncf .bf16 (scaleTile (ropeTile (normTile (colTile acc (128 * b) h) qg) cs sn)) bitsLt_bf16_f32 x = cellAt k acc qg kg cs sn y := by
  obtain ⟨r, d, rfl⟩ := eta2 x
  rw [cellAt_piece b hb hk r d h0 h1]
  show scaleTile (ropeTile (normTile (colTile acc (128 * b) h) qg) cs sn) (ix2 r d) = _
  rw [scaleTile_at, ropeTile_at]
  simp only [normTile_at, colTile_at acc _ h (show 128 * b + 128 ≤ 1280 by omega)]
  rfl

end Cert.Inproj

end
-- ==== Proof.P.Out.lean ====
/- What a grid point leaves in the block of the result, case by case, in terms of the weights it multiplies by. -/
module

public import proofs.«01_k».proof.Proof.P.Tile
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Inproj

open Idealize.ShloMosaic Idealize.ShloMosaic.TcCoe Idealize.SL.Sem
open Cert.Kernel2Ideal Cert.Kernel2Ideal.Gen

variable (m : (ℓ : Loc nD τ sig) → Buf (Elt Ideal) ℓ)

/-- The result block of the first columns at the first rows, where the weights are cast. -/
theorem out_A (c : Dev nD) (t : Fin cfg0.N) (h0 : t.val % 11 = 0) (h1 : t.val < 11) (h2 : ¬t.val / 11 % 8 = 1) (h3 : ¬t.val / 11 % 8 = 2) (h4 : ¬33 ≤ t.val) (y : S768x1280.Idx) :
    (outsAt0 m c t.val t.isLt).1 y = cellAt (fun b => kind (0 + b)) (k0_pay52 (iblk m c 0 t) (k0_pay51 (iblk m c 1 t))) (iblk m c 4 t) (iblk m c 5 t) (iblk m c 2 t) (iblk m c 3 t) y := by
  rw [outsAt0_A m c t h0 h1 h2 h3 h4]
  frame_out
  clear h0 h1 h2 h3 h4
  canon_tiles x h
  case piece0 => exact qnorm_piece 9 (by decide) rfl h0 h1
  case piece1 => exact qnorm_piece 8 (by decide) rfl h0 h1
  case piece2 => exact plain_piece 7 (by decide) rfl h0 h1
  case piece3 => exact plain_piece 6 (by decide) rfl h0 h1
  case piece4 => exact plain_piece 5 (by decide) rfl h0 h1
  case piece5 => exact plain_piece 4 (by decide) rfl h0 h1
  case piece6 => exact plain_piece 3 (by decide) rfl h0 h1
  case piece7 => exact plain_piece 2 (by decide) rfl h0 h1
  case piece8 => exact plain_piece 1 (by decide) rfl h0 h1
  case piece9 => exact plain_piece 0 (by decide) rfl h0 (by omega)

/-- The kept weights after a point of the first columns at the first rows, where the weights are cast. -/
theorem scr_A (c : Dev nD) (t : Fin cfg0.N) (h0 : t.val % 11 = 0) (h1 : t.val < 11) (h2 : ¬t.val / 11 % 8 = 1) (h3 : ¬t.val / 11 % 8 = 2) (h4 : ¬33 ≤ t.val) :
    (outsAt0 m c t.val t.isLt).2 = (k0_pay51 (iblk m c 1 t)) := by
  rw [outsAt0_A m c t h0 h1 h2 h3 h4]
  frame_out

/-- The result block of the first columns at later rows, with the weights kept. -/
theorem out_B (c : Dev nD) (t : Fin cfg0.N) (h0 : ¬t.val % 11 = 0) (h1 : t.val < 11) (h2 : ¬t.val / 11 % 8 = 1) (h3 : ¬t.val / 11 % 8 = 2) (h4 : ¬33 ≤ t.val) (y : S768x1280.Idx) :
    (outsAt0 m c t.val t.isLt).1 y = cellAt (fun b => kind (0 + b)) (k0_pay52 (iblk m c 0 t) (outsAt0 m c (t.val - 1) (by have := t.isLt; omega)).2) (iblk m c 4 t) (iblk m c 5 t) (iblk m c 2 t) (iblk m c 3 t) y := by
  rw [outsAt0_B m c t h0 h1 h2 h3 h4]
  frame_out
  simp only [read_unread_whole]
  generalize (outsAt0 m c (t.val - 1) _).2 = w
  clear h0 h1 h2 h3 h4
  canon_tiles x h
  case piece0 => exact qnorm_piece 9 (by decide) rfl h0 h1
  case piece1 => exact qnorm_piece 8 (by decide) rfl h0 h1
  case piece2 => exact plain_piece 7 (by decide) rfl h0 h1
  case piece3 => exact plain_piece 6 (by decide) rfl h0 h1
  case piece4 => exact plain_piece 5 (by decide) rfl h0 h1
  case piece5 => exact plain_piece 4 (by decide) rfl h0 h1
  case piece6 => exact plain_piece 3 (by decide) rfl h0 h1
  case piece7 => exact plain_piece 2 (by decide) rfl h0 h1
  case piece8 => exact plain_piece 1 (by decide) rfl h0 h1
  case piece9 => exact plain_piece 0 (by decide) rfl h0 (by omega)

/-- The kept weights after a point of the first columns at later rows, with the weights kept. -/
theorem scr_B (c : Dev nD) (t : Fin cfg0.N) (h0 : ¬t.val % 11 = 0) (h1 : t.val < 11) (h2 : ¬t.val / 11 % 8 = 1) (h3 : ¬t.val / 11 % 8 = 2) (h4 : ¬33 ≤ t.val) :
    (outsAt0 m c t.val t.isLt).2 = (outsAt0 m c (t.val - 1) (by have := t.isLt; omega)).2 := by
  rw [outsAt0_B m c t h0 h1 h2 h3 h4]
  rfl

/-- The result block of the second columns at the first rows, where the weights are cast. -/
theorem out_C (c : Dev nD) (t : Fin cfg0.N) (h0 : t.val % 11 = 0) (h1 : ¬t.val < 11) (h2 : t.val / 11 % 8 = 1) (h3 : ¬t.val / 11 % 8 = 2) (h4 : ¬33 ≤ t.val) (y : S768x1280.Idx) :
    (outsAt0 m c t.val t.isLt).1 y = cellAt (fun b => kind (10 + b)) (k0_pay52 (iblk m c 0 t) (k0_pay51 (iblk m c 1 t))) (iblk m c 4 t) (iblk m c 5 t) (iblk m c 2 t) (iblk m c 3 t) y := by
  rw [outsAt0_C m c t h0 h1 h2 h3 h4]
  frame_out
  clear h0 h1 h2 h3 h4
  canon_tiles x h
  case piece0 => exact plain_piece 9 (by decide) rfl h0 h1
  case piece1 => exact plain_piece 8 (by decide) rfl h0 h1
  case piece2 => exact knorm_piece 7 (by decide) rfl h0 h1
  case piece3 => exact knorm_piece 6 (by decide) rfl h0 h1
  case piece4 => exact qnorm_piece 5 (by decide) rfl h0 h1
  case piece5 => exact qnorm_piece 4 (by decide) rfl h0 h1
  case piece6 => exact qnorm_piece 3 (by decide) rfl h0 h1
  case piece7 => exact qnorm_piece 2 (by decide) rfl h0 h1
  case piece8 => exact qnorm_piece 1 (by decide) rfl h0 h1
  case piece9 => exact qnorm_piece 0 (by decide) rfl h0 (by omega)

/-- The kept weights after a point of the second columns at the first rows, where the weights are cast. -/
theorem scr_C (c : Dev nD) (t : Fin cfg0.N) (h0 : t.val % 11 = 0) (h1 : ¬t.val < 11) (h2 : t.val / 11 % 8 = 1) (h3 : ¬t.val / 11 % 8 = 2) (h4 : ¬33 ≤ t.val) :
    (outsAt0 m c t.val t.isLt).2 = (k0_pay51 (iblk m c 1 t)) := by
  rw [outsAt0_C m c t h0 h1 h2 h3 h4]
  frame_out

/-- The result block of the second columns at later rows, with the weights kept. -/
theorem out_D (c : Dev nD) (t : Fin cfg0.N) (h0 : ¬t.val % 11 = 0) (h1 : ¬t.val < 11) (h2 : t.val / 11 % 8 = 1) (h3 : ¬t.val / 11 % 8 = 2) (h4 : ¬33 ≤ t.val) (y : S768x1280.Idx) :
    (outsAt0 m c t.val t.isLt).1 y = cellAt (fun b => kind (10 + b)) (k0_pay52 (iblk m c 0 t) (outsAt0 m c (t.val - 1) (by have := t.isLt; omega)).2) (iblk m c 4 t) (iblk m c 5 t) (iblk m c 2 t) (iblk m c 3 t) y := by
  rw [outsAt0_D m c t h0 h1 h2 h3 h4]
  frame_out
  simp only [read_unread_whole]
  generalize (outsAt0 m c (t.val - 1) _).2 = w
  clear h0 h1 h2 h3 h4
  canon_tiles x h
  case piece0 => exact plain_piece 9 (by decide) rfl h0 h1
  case piece1 => exact plain_piece 8 (by decide) rfl h0 h1
  case piece2 => exact knorm_piece 7 (by decide) rfl h0 h1
  case piece3 => exact knorm_piece 6 (by decide) rfl h0 h1
  case piece4 => exact qnorm_piece 5 (by decide) rfl h0 h1
  case piece5 => exact qnorm_piece 4 (by decide) rfl h0 h1
  case piece6 => exact qnorm_piece 3 (by decide) rfl h0 h1
  case piece7 => exact qnorm_piece 2 (by decide) rfl h0 h1
  case piece8 => exact qnorm_piece 1 (by decide) rfl h0 h1
  case piece9 => exact qnorm_piece 0 (by decide) rfl h0 (by omega)

/-- The kept weights after a point of the second columns at later rows, with the weights kept. -/
theorem scr_D (c : Dev nD) (t : Fin cfg0.N) (h0 : ¬t.val % 11 = 0) (h1 : ¬t.val < 11) (h2 : t.val / 11 % 8 = 1) (h3 : ¬t.val / 11 % 8 = 2) (h4 : ¬33 ≤ t.val) :
    (outsAt0 m c t.val t.isLt).2 = (outsAt0 m c (t.val - 1) (by have := t.isLt; omega)).2 := by
  rw [outsAt0_D m c t h0 h1 h2 h3 h4]
  rfl

/-- The result block of the third columns at the first rows, where the weights are cast. -/
theorem out_E (c : Dev nD) (t : Fin cfg0.N) (h0 : t.val % 11 = 0) (h1 : ¬t.val < 11) (h2 : ¬t.val / 11 % 8 = 1) (h3 : t.val / 11 % 8 = 2) (h4 : ¬33 ≤ t.val) (y : S768x1280.Idx) :
    (outsAt0 m c t.val t.isLt).1 y = cellAt (fun b => kind (20 + b)) (k0_pay52 (iblk m c 0 t) (k0_pay51 (iblk m c 1 t))) (iblk m c 4 t) (iblk m c 5 t) (iblk m c 2 t) (iblk m c 3 t) y := by
  rw [outsAt0_E m c t h0 h1 h2 h3 h4]
  frame_out
  clear h0 h1 h2 h3 h4
  canon_tiles x h
  case piece0 => exact rope_piece 9 (by decide) rfl h0 h1
  case piece1 => exact rope_piece 8 (by decide) rfl h0 h1
  case piece2 => exact qrope_piece 7 (by decide) rfl h0 h1
  case piece3 => exact qrope_piece 6 (by decide) rfl h0 h1
  case piece4 => exact qrope_piece 5 (by decide) rfl h0 h1
  case piece5 => exact qrope_piece 4 (by decide) rfl h0 h1
  case piece6 => exact qrope_piece 3 (by decide) rfl h0 h1
  case piece7 => exact qrope_piece 2 (by decide) rfl h0 h1
  case piece8 => exact qrope_piece 1 (by decide) rfl h0 h1
  case piece9 => exact qrope_piece 0 (by decide) rfl h0 (by omega)

/-- The kept weights after a point of the third columns at the first rows, where the weights are cast. -/
theorem scr_E (c : Dev nD) (t : Fin cfg0.N) (h0 : t.val % 11 = 0) (h1 : ¬t.val < 11) (h2 : ¬t.val / 11 % 8 = 1) (h3 : t.val / 11 % 8 = 2) (h4 : ¬33 ≤ t.val) :
    (outsAt0 m c t.val t.isLt).2 = (k0_pay51 (iblk m c 1 t)) := by
  rw [outsAt0_E m c t h0 h1 h2 h3 h4]
  frame_out

/-- The result block of the third columns at later rows, with the weights kept. -/
theorem out_F (c : Dev nD) (t : Fin cfg0.N) (h0 : ¬t.val % 11 = 0) (h1 : ¬t.val < 11) (h2 : ¬t.val / 11 % 8 = 1) (h3 : t.val / 11 % 8 = 2) (h4 : ¬33 ≤ t.val) (y : S768x1280.Idx) :
    (outsAt0 m c t.val t.isLt).1 y = cellAt (fun b => kind (20 + b)) (k0_pay52 (iblk m c 0 t) (outsAt0 m c (t.val - 1) (by have := t.isLt; omega)).2) (iblk m c 4 t) (iblk m c 5 t) (iblk m c 2 t) (iblk m c 3 t) y := by
  rw [outsAt0_F m c t h0 h1 h2 h3 h4]
  frame_out
  simp only [read_unread_whole]
  generalize (outsAt0 m c (t.val - 1) _).2 = w
  clear h0 h1 h2 h3 h4
  canon_tiles x h
  case piece0 => exact rope_piece 9 (by decide) rfl h0 h1
  case piece1 => exact rope_piece 8 (by decide) rfl h0 h1
  case piece2 => exact qrope_piece 7 (by decide) rfl h0 h1
  case piece3 => exact qrope_piece 6 (by decide) rfl h0 h1
  case piece4 => exact qrope_piece 5 (by decide) rfl h0 h1
  case piece5 => exact qrope_piece 4 (by decide) rfl h0 h1
  case piece6 => exact qrope_piece 3 (by decide) rfl h0 h1
  case piece7 => exact qrope_piece 2 (by decide) rfl h0 h1
  case piece8 => exact qrope_piece 1 (by decide) rfl h0 h1
  case piece9 => exact qrope_piece 0 (by decide) rfl h0 (by omega)

/-- The kept weights after a point of the third columns at later rows, with the weights kept. -/
theorem scr_F (c : Dev nD) (t : Fin cfg0.N) (h0 : ¬t.val % 11 = 0) (h1 : ¬t.val < 11) (h2 : ¬t.val / 11 % 8 = 1) (h3 : t.val / 11 % 8 = 2) (h4 : ¬33 ≤ t.val) :
    (outsAt0 m c t.val t.isLt).2 = (outsAt0 m c (t.val - 1) (by have := t.isLt; omega)).2 := by
  rw [outsAt0_F m c t h0 h1 h2 h3 h4]
  rfl

/-- The result block of the fourth and later columns at the first rows, where the weights are cast. -/
theorem out_G (c : Dev nD) (t : Fin cfg0.N) (h0 : t.val % 11 = 0) (h1 : ¬t.val < 11) (h2 : ¬t.val / 11 % 8 = 1) (h3 : ¬t.val / 11 % 8 = 2) (h4 : 33 ≤ t.val) (y : S768x1280.Idx) :
    (outsAt0 m c t.val t.isLt).1 y = (k0_pay52 (iblk m c 0 t) (k0_pay51 (iblk m c 1 t))) y := by
  rw [outsAt0_G m c t h0 h1 h2 h3 h4]
  frame_out
  rfl

/-- The kept weights after a point of the fourth and later columns at the first rows, where the weights are cast. -/
theorem scr_G (c : Dev nD) (t : Fin cfg0.N) (h0 : t.val % 11 = 0) (h1 : ¬t.val < 11) (h2 : ¬t.val / 11 % 8 = 1) (h3 : ¬t.val / 11 % 8 = 2) (h4 : 33 ≤ t.val) :
    (outsAt0 m c t.val t.isLt).2 = (k0_pay51 (iblk m c 1 t)) := by
  rw [outsAt0_G m c t h0 h1 h2 h3 h4]
  frame_out

/-- The result block of the fourth and later columns at later rows, with the weights kept. -/
theorem out_H (c : Dev nD) (t : Fin cfg0.N) (h0 : ¬t.val % 11 = 0) (h1 : ¬t.val < 11) (h2 : ¬t.val / 11 % 8 = 1) (h3 : ¬t.val / 11 % 8 = 2) (h4 : 33 ≤ t.val) (y : S768x1280.Idx) :
    (outsAt0 m c t.val t.isLt).1 y = (k0_pay52 (iblk m c 0 t) (outsAt0 m c (t.val - 1) (by have := t.isLt; omega)).2) y := by
  rw [outsAt0_H m c t h0 h1 h2 h3 h4]
  frame_out
  simp only [read_unread_whole]
  rfl

/-- The kept weights after a point of the fourth and later columns at later rows, with the weights kept. -/
theorem scr_H (c : Dev nD) (t : Fin cfg0.N) (h0 : ¬t.val % 11 = 0) (h1 : ¬t.val < 11) (h2 : ¬t.val / 11 % 8 = 1) (h3 : ¬t.val / 11 % 8 = 2) (h4 : 33 ≤ t.val) :
    (outsAt0 m c t.val t.isLt).2 = (outsAt0 m c (t.val - 1) (by have := t.isLt; omega)).2 := by
  rw [outsAt0_H m c t h0 h1 h2 h3 h4]
  rfl

end Cert.Inproj

end
-- ==== Proof.P.Entry.lean ====
/- The arrays the call finds, entry by entry: the tokens' rows, the two rotary tables and the two gains. -/
module

public import proofs.«01_k».proof.Proof.P.Spec
public import proofs.«01_k».proof.Proof.Gen.Kernel2Ideal.Frame
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.Inproj

open Idealize.ShloMosaic Idealize.ShloMosaic.TcCoe Idealize.SL.Sem
open Cert.Kernel2Ideal Cert.Kernel2Ideal.Gen

variable (m : (ℓ : Loc nD τ sig) → Buf (Elt Ideal) ℓ)

/-- The cosine of a latent row's angle on a lane: the reference's own table. -/
def cosLat (n : Fin 8192) (d : Fin 128) : EReal := Cert.Reference2Ideal.Read.val_main_v24 (F := Ideal) (ix2 n d)
/-- The sine of a latent row's angle on a lane: the reference's own table. -/
def sinLat (n : Fin 8192) (d : Fin 128) : EReal := Cert.Reference2Ideal.Read.val_main_v25 (F := Ideal) (ix2 n d)

/-- The kernel's cosine table: ones on the context rows, which are not turned, then the latent rows'. -/
def cosAt (n : Fin 8448) (d : Fin 128) : EReal :=
  if h : n.val < 256 then Ideal.ofBits .f32 0x3F800000#32 else cosLat ⟨n.val - 256, by have := n.isLt; omega⟩ d
/-- The kernel's sine table: zeros on the context rows, then the latent rows', negated on the first half of each pair of lanes. -/
def sinAt (n : Fin 8448) (d : Fin 128) : EReal :=
  if h : n.val < 256 then Ideal.ofBits .f32 0x00000000#32
  else sinLat ⟨n.val - 256, by have := n.isLt; omega⟩ d * (if d.val % 64 < 32 then Ideal.ofBits .f32 0xBF800000#32 else Ideal.ofBits .f32 0x3F800000#32)

/-- A row of tokens: the context's, then the latent's. -/
def rowAt (hc : FVec Ideal S1x256x2048 .f32) (hx : FVec Ideal S1x8192x2048 .f32) (n : Fin 8448) (k : Fin 2048) : EReal :=
  if h : n.val < 256 then hc (ix3 0 ⟨n.val, h⟩ k) else hx (ix3 0 ⟨n.val - 256, by have := n.isLt; omega⟩ k)

/-- The whole product. -/
def prod (hc : FVec Ideal S1x256x2048 .f32) (hx : FVec Ideal S1x8192x2048 .f32) (w : FVec Ideal S2x2048x10240 .f32) (n : Fin 8448) (c : Fin 10240) : EReal :=
  ∑ k : Fin 2048, rowAt hc hx n k * w (ix3 0 k c)

/-- The lanes' remainders by 64, as the host computes them. -/
def remVec : IVec S128 32 :=
  Host.remsi (iotaInDim S128 32 0) (broadcastInDim S128 ![] bcast_S_S128 (select (cmpi .eq (constantI S_ 32 64#32) (constantI S_ 32 0#32)) (constantI S_ 32 1#32) (constantI S_ 32 64#32)))

/-- The lanes in the first half of their 64, as the host computes them. -/
def lowVec : IVec S128 1 :=
  cmpi .slt
    (select (andi (cmpi .ne (cmpi .slt remVec (broadcastInDim S128 ![] bcast_S_S128 (constantI S_ 32 0#32)))
        (broadcastInDim S128 ![] bcast_S_S128 (cmpi .slt (select (cmpi .eq (constantI S_ 32 64#32) (constantI S_ 32 0#32)) (constantI S_ 32 1#32) (constantI S_ 32 64#32)) (constantI S_ 32 0#32))))
        (cmpi .ne remVec (broadcastInDim S128 ![] bcast_S_S128 (constantI S_ 32 0#32))))
      (addi remVec (broadcastInDim S128 ![] bcast_S_S128 (select (cmpi .eq (constantI S_ 32 64#32) (constantI S_ 32 0#32)) (constantI S_ 32 1#32) (constantI S_ 32 64#32))))
      remVec)
    (broadcastInDim S128 ![] bcast_S_S128 (constantI S_ 32 32#32))

theorem lowVec_at : ∀ d : Fin 128, lowVec (ix1 d) = if d.val % 64 < 32 then 1#1 else 0#1 := by decide +kernel

/-- The lanes' signs. -/
def signVec : FVec Ideal S128 .f32 :=
  select lowVec (broadcastInDim S128 ![] bcast_S_S128 (constant (F := Ideal) S_ .f32 0xBF800000#32)) (broadcastInDim S128 ![] bcast_S_S128 (constant (F := Ideal) S_ .f32 0x3F800000#32))

theorem signVec_at (d : Fin 128) : signVec (ix1 d) = if d.val % 64 < 32 then Ideal.ofBits .f32 0xBF800000#32 else Ideal.ofBits .f32 0x3F800000#32 := by
  show Scalar.select (lowVec (ix1 d)) (Ideal.ofBits .f32 0xBF800000#32) (Ideal.ofBits .f32 0x3F800000#32) = _
  rw [lowVec_at]
  by_cases h : d.val % 64 < 32
  · rw [if_pos h, if_pos h]; rfl
  · rw [if_neg h, if_neg h]; rfl

/-- The cosine table the call finds. -/
def cosTab : FVec Ideal S8448x128 .f32 :=
  concatenate S8448x128 0 [⟨S256x128, broadcastInDim S256x128 ![] bcast_S_S256x128 (constant (F := Ideal) S_ .f32 0x3F800000#32)⟩, ⟨S8192x128, Cert.Reference2Ideal.Read.val_main_v24 (F := Ideal)⟩] concatenates_S256x128_S8192x128_S8448x128_d0

/-- The signed sine table the call finds. -/
def sinTab : FVec Ideal S8448x128 .f32 :=
  concatenate S8448x128 0 [⟨S256x128, broadcastInDim S256x128 ![] bcast_S_S256x128 (constant (F := Ideal) S_ .f32 0x00000000#32)⟩,
    ⟨S8192x128, mulf (Cert.Reference2Ideal.Read.val_main_v25 (F := Ideal)) (broadcastInDim S8192x128 ![0, 1] bcast_S1x128_S8192x128_0_1 (broadcastInDim S1x128 ![1] bcast_S128_S1x128_1 signVec))⟩] concatenates_S256x128_S8192x128_S8448x128_d0

theorem cosTab_at (n : Fin 8448) (d : Fin 128) : cosTab (ix2 n d) = cosAt n d := by
  unfold cosTab cosAt cosLat
  generalize Cert.Reference2Ideal.Read.val_main_v24 (F := Ideal) = Z
  pointwise []

theorem sinTab_at (n : Fin 8448) (d : Fin 128) : sinTab (ix2 n d) = sinAt n d := by
  unfold sinTab sinAt sinLat
  rw [← signVec_at]
  generalize Cert.Reference2Ideal.Read.val_main_v25 (F := Ideal) = Z
  generalize signVec = s
  pointwise []

theorem V_cos (c : Dev nD) : V m c main_v35 = cosTab := by
  simp only [V, hostOps0, hostOps0_1, hostOps0_2, hostOps0_3, hostOps0_4, List.flatten_cons, List.flatten_nil, List.append_nil, List.cons_append, List.nil_append]
  after_results
  rfl

theorem V_sin (c : Dev nD) : V m c main_v41 = sinTab := by
  simp only [V, hostOps0, hostOps0_1, hostOps0_2, hostOps0_3, hostOps0_4, List.flatten_cons, List.flatten_nil, List.append_nil, List.cons_append, List.nil_append]
  after_results
  rfl

theorem V_rows (c : Dev nD) (n : Fin 8448) (k : Fin 2048) :
    V m c main_v2 (ix2 n k) = rowAt (m ((c : Thread nD τ).loc main_arg0)) (m ((c : Thread nD τ).loc main_arg1)) n k := by
  have e : V m c main_v2 = (truncf (F := Ideal) .bf16 (shapeCast S8448x2048 (concatenate S1x8448x2048 1 [⟨S1x256x2048, (m ((c : Thread nD τ).loc main_arg0) : FVec Ideal S1x256x2048 .f32)⟩, ⟨S1x8192x2048, (m ((c : Thread nD τ).loc main_arg1) : FVec Ideal S1x8192x2048 .f32)⟩] concatenates_S1x256x2048_S1x8192x2048_S1x8448x2048_d1) shapeCasts_S1x8448x2048_S8448x2048) bitsLt_bf16_f32 : FVec Ideal S8448x2048 .bf16) := by
    simp only [V, hostOps0, hostOps0_1, hostOps0_2, hostOps0_3, hostOps0_4, List.flatten_cons, List.flatten_nil, List.append_nil, List.cons_append, List.nil_append]
    after_results
    rfl
  rw [e]
  unfold rowAt
  generalize (m ((c : Thread nD τ).loc main_arg0) : FVec Ideal S1x256x2048 .f32) = A
  generalize (m ((c : Thread nD τ).loc main_arg1) : FVec Ideal S1x8192x2048 .f32) = B
  pointwise []

theorem V_qg (c : Dev nD) (d : Fin 128) :
    V m c main_v44 (ix2 0 d) = m ((c : Thread nD τ).loc main_arg3) (ix2 0 d) := by
  have e : V m c main_v44 = broadcastInDim S1x128 ![1] bcast_S128_S1x128_1 (shapeCast S128 (extractStridedSlice S1x128 ![0, 0] (m ((c : Thread nD τ).loc main_arg3) : FVec Ideal S2x128 .f32) slices_S2x128_S1x128_0_0) shapeCasts_S1x128_S128) := by
    simp only [V, hostOps0, hostOps0_1, hostOps0_2, hostOps0_3, hostOps0_4, List.flatten_cons, List.flatten_nil, List.append_nil, List.cons_append, List.nil_append]
    after_results
    rfl
  rw [e]
  generalize (m ((c : Thread nD τ).loc main_arg3) : FVec Ideal S2x128 .f32) = A
  pointwise []

theorem V_kg (c : Dev nD) (d : Fin 128) :
    V m c main_v47 (ix2 0 d) = m ((c : Thread nD τ).loc main_arg4) (ix2 0 d) := by
  have e : V m c main_v47 = broadcastInDim S1x128 ![1] bcast_S128_S1x128_1 (shapeCast S128 (extractStridedSlice S1x128 ![0, 0] (m ((c : Thread nD τ).loc main_arg4) : FVec Ideal S2x128 .f32) slices_S2x128_S1x128_0_0) shapeCasts_S1x128_S128) := by
    simp only [V, hostOps0, hostOps0_1, hostOps0_2, hostOps0_3, hostOps0_4, List.flatten_cons, List.flatten_nil, List.append_nil, List.cons_append, List.nil_append]
    after_results
    rfl
  rw [e]
  generalize (m ((c : Thread nD τ).loc main_arg4) : FVec Ideal S2x128 .f32) = A
  pointwise []

end Cert.Inproj

end
-- ==== Proof.P.Final.lean ====
/- The weights a point multiplies by are the ones its columns name; with them, every grid point leaves in its block of the result the projection's values. -/
module

public import proofs.«01_k».proof.Proof.P.Out
public import proofs.«01_k».proof.Proof.P.Entry
public import proofs.«01_k».proof.Proof.Gen.Kernel2Ideal.Value
public import Idealize.ShloMosaic.Lib.Pipeline.ValueKit

@[expose] public section

set_option maxRecDepth 16384

noncomputable section

namespace Cert.Inproj

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

/-- Which block of its array a point stages, window by window. -/
theorem idx : ∀ t : Fin cfg0.N, win0_0.index t = ![t.val % 11, 0] ∧ win0_1.index t = ![0, 0, t.val / 11] ∧ win0_2.index t = ![t.val % 11, 0]
    ∧ win0_3.index t = ![t.val % 11, 0] ∧ win0_4.index t = ![0, 0] ∧ win0_5.index t = ![0, 0] :=
  (by decide +kernel : ∀ t : Fin grid0.N, _)

theorem lt88 (t : Fin cfg0.N) : t.val < 88 := lt_of_lt_of_eq t.isLt N_0

/-- A point's rows. -/
theorem blk0 (c : Dev nD) (t : Fin cfg0.N) (r : Fin 768) (k : Fin 2048) :
    iblk m c 0 t (ix2 r k) = rowAt (m ((c : Thread nD τ).loc main_arg0)) (m ((c : Thread nD τ).loc main_arg1)) ⟨768 * (t.val % 11) + r.val, by omega⟩ k := by
  have ht := lt88 t
  rw [← V_rows]
  blk_ext [iblk, idx t]

/-- A point's weights. -/
theorem blk1 (c : Dev nD) (t : Fin cfg0.N) (k : Fin 2048) (q : Fin 1280) :
    iblk m c 1 t (ix3 0 k q) = m ((c : Thread nD τ).loc main_arg2) (ix3 0 k ⟨1280 * (t.val / 11) + q.val, by have := lt88 t; omega⟩) := by
  have ht := lt88 t
  rw [← V_main_arg2 m c]
  blk_ext [iblk, idx t]

/-- A point's cosines. -/
theorem blk2 (c : Dev nD) (t : Fin cfg0.N) (r : Fin 768) (d : Fin 128) :
    iblk m c 2 t (ix2 r d) = cosAt ⟨768 * (t.val % 11) + r.val, by omega⟩ d := by
  have ht := lt88 t
  rw [← cosTab_at, ← V_cos m c]
  blk_ext [iblk, idx t]

/-- A point's signed sines. -/
theorem blk3 (c : Dev nD) (t : Fin cfg0.N) (r : Fin 768) (d : Fin 128) :
    iblk m c 3 t (ix2 r d) = sinAt ⟨768 * (t.val % 11) + r.val, by omega⟩ d := by
  have ht := lt88 t
  rw [← sinTab_at, ← V_sin m c]
  blk_ext [iblk, idx t]

/-- A point's gain of the queries. -/
theorem blk4 (c : Dev nD) (t : Fin cfg0.N) (d : Fin 128) : iblk m c 4 t (ix2 0 d) = m ((c : Thread nD τ).loc main_arg3) (ix2 0 d) := by
  rw [← V_qg m c]
  blk_ext [iblk, idx t]

/-- A point's gain of the keys. -/
theorem blk5 (c : Dev nD) (t : Fin cfg0.N) (d : Fin 128) : iblk m c 5 t (ix2 0 d) = m ((c : Thread nD τ).loc main_arg4) (ix2 0 d) := by
  rw [← V_kg m c]
  blk_ext [iblk, idx t]

/-- Points of the same columns stage the same weights. -/
theorem blk1_same (c : Dev nD) (t s : Fin cfg0.N) (h : t.val / 11 = s.val / 11) : k0_pay51 (iblk m c 1 t) = k0_pay51 (iblk m c 1 s) := by
  have e : (iblk m c 1 t : S1x2048x1280.Idx → EReal) = iblk m c 1 s := by
    funext i
    have hi : i = ix3 0 (i 1) (i 2) := by
      funext a
      match a with
      | ⟨0, _⟩ => exact Fin.ext (by have : (i 0).val < 1 := (i 0).isLt; show (i 0).val = 0; omega)
      | ⟨1, _⟩ => rfl
      | ⟨2, _⟩ => rfl
    rw [hi]
    refine (blk1 m c t _ _).trans (Eq.trans ?_ (blk1 m c s _ _).symm)
    refine congrArg (fun q => m ((c : Thread nD τ).loc main_arg2) (ix3 0 (i 1) q)) (Fin.ext ?_)
    show 1280 * (t.val / 11) + _ = 1280 * (s.val / 11) + _
    rw [h]
  exact congrArg k0_pay51 e

/-- After every point the scratch holds the weights of the point's columns. -/
theorem kept (c : Dev nD) : ∀ (n : ℕ) (hn : n < cfg0.N), (outsAt0 m c n hn).2 = k0_pay51 (iblk m c 1 ⟨n, hn⟩) := by
  intro n
  induction n with
  | zero =>
    intro hn
    exact scr_A m c ⟨0, hn⟩ (by show 0 % 11 = 0; omega) (by show 0 < 11; omega) (by show ¬ 0 / 11 % 8 = 1; omega) (by show ¬ 0 / 11 % 8 = 2; omega) (by show ¬ 33 ≤ 0; omega)
  | succ n ih =>
    intro hn
    have hN : n + 1 < 88 := lt_of_lt_of_eq hn N_0
    have g : (n + 1) % 11 ≠ 0 → k0_pay51 (iblk m c 1 ⟨n, by omega⟩) = k0_pay51 (iblk m c 1 ⟨n + 1, hn⟩) := fun h =>
      blk1_same m c _ _ (by show n / 11 = (n + 1) / 11; omega)
    by_cases h0 : (n + 1) % 11 = 0
    · by_cases h4 : 33 ≤ n + 1
      · exact scr_G m c ⟨n + 1, hn⟩ h0 (by show ¬ n + 1 < 11; omega) (by show ¬ (n + 1) / 11 % 8 = 1; omega) (by show ¬ (n + 1) / 11 % 8 = 2; omega) h4
      · by_cases h2 : (n + 1) / 11 % 8 = 1
        · exact scr_C m c ⟨n + 1, hn⟩ h0 (by show ¬ n + 1 < 11; omega) h2 (by show ¬ (n + 1) / 11 % 8 = 2; omega) h4
        · exact scr_E m c ⟨n + 1, hn⟩ h0 (by show ¬ n + 1 < 11; omega) h2 (by show (n + 1) / 11 % 8 = 2; omega) h4
    · by_cases h4 : 33 ≤ n + 1
      · exact (scr_H m c ⟨n + 1, hn⟩ h0 (by show ¬ n + 1 < 11; omega) (by show ¬ (n + 1) / 11 % 8 = 1; omega) (by show ¬ (n + 1) / 11 % 8 = 2; omega) h4).trans ((ih (by omega)).trans (g h0))
      · by_cases h1 : n + 1 < 11
        · exact (scr_B m c ⟨n + 1, hn⟩ h0 h1 (by show ¬ (n + 1) / 11 % 8 = 1; omega) (by show ¬ (n + 1) / 11 % 8 = 2; omega) h4).trans ((ih (by omega)).trans (g h0))
        · by_cases h2 : (n + 1) / 11 % 8 = 1
          · exact (scr_D m c ⟨n + 1, hn⟩ h0 h1 h2 (by show ¬ (n + 1) / 11 % 8 = 2; omega) h4).trans ((ih (by omega)).trans (g h0))
          · exact (scr_F m c ⟨n + 1, hn⟩ h0 h1 h2 (by show (n + 1) / 11 % 8 = 2; omega) h4).trans ((ih (by omega)).trans (g h0))

theorem kept_before (c : Dev nD) (t : Fin cfg0.N) (h0 : ¬t.val % 11 = 0) :
    (outsAt0 m c (t.val - 1) (by have := t.isLt; omega)).2 = k0_pay51 (iblk m c 1 t) :=
  (kept m c (t.val - 1) (by have := t.isLt; omega)).trans (blk1_same m c _ _ (by show (t.val - 1) / 11 = t.val / 11; omega))

theorem cellAt_zero {k : ℕ → ℕ} {acc : FVec Ideal S768x1280 .f32} {qg kg : Vec Ideal S1x128 .f32} {cs sn : Vec Ideal S768x128 .f32} (y : S768x1280.Idx) (h : k ((y 1).val / 128) = 0) :
    acc y = cellAt k acc qg kg cs sn y := by
  unfold cellAt cell
  rw [h]
  refine congrArg acc ?_
  funext a
  match a with
  | ⟨0, _⟩ => rfl
  | ⟨1, _⟩ => exact Fin.ext (by show (y 1).val = 128 * ((y 1).val / 128) + (y 1).val % 128; omega)

/-- What a point leaves in its block of the result. -/
theorem out_at (c : Dev nD) (t : Fin cfg0.N) (y : S768x1280.Idx) :
    (outsAt0 m c t.val t.isLt).1 y = cellAt (fun b => kind (10 * (t.val / 11) + b)) (k0_pay52 (iblk m c 0 t) (k0_pay51 (iblk m c 1 t))) (iblk m c 4 t) (iblk m c 5 t) (iblk m c 2 t) (iblk m c 3 t) y := by
  have hN := lt88 t
  have hy : (y 1).val < 1280 := (y 1).isLt
  have hb : (y 1).val / 128 < 10 := by omega
  by_cases h4 : 33 ≤ t.val
  · have hz : kind (10 * (t.val / 11) + (y 1).val / 128) = 0 := by
      unfold kind
      rw [if_neg (by omega), if_neg (by omega), if_neg (by omega), if_neg (by omega), if_neg (by omega), if_neg (by omega)]
    rw [← cellAt_zero y hz]
    by_cases h0 : t.val % 11 = 0
    · exact out_G m c t h0 (by omega) (by omega) (by omega) h4 y
    · exact (out_H m c t h0 (by omega) (by omega) (by omega) h4 y).trans (by rw [kept_before m c t h0])
  · by_cases h1 : t.val < 11
    · rw [show t.val / 11 = 0 by omega]
      by_cases h0 : t.val % 11 = 0
      · exact out_A m c t h0 h1 (by omega) (by omega) h4 y
      · exact (out_B m c t h0 h1 (by omega) (by omega) h4 y).trans (by rw [kept_before m c t h0])
    · by_cases h2 : t.val / 11 % 8 = 1
      · rw [show t.val / 11 = 1 by omega]
        by_cases h0 : t.val % 11 = 0
        · exact out_C m c t h0 h1 h2 (by omega) h4 y
        · exact (out_D m c t h0 h1 h2 (by omega) h4 y).trans (by rw [kept_before m c t h0])
      · rw [show t.val / 11 = 2 by omega]
        by_cases h0 : t.val % 11 = 0
        · exact out_E m c t h0 h1 h2 (by omega) h4 y
        · exact (out_F m c t h0 h1 h2 (by omega) h4 y).trans (by rw [kept_before m c t h0])

/-- The product at an index. -/
theorem product_at (x : Vec Ideal S768x2048 .bf16) (w : Vec Ideal S1x2048x1280 .f32) (r : Fin 768) (q : Fin 1280) :
    k0_pay52 x (k0_pay51 w) (ix2 r q) = ∑ k : Fin 2048, x (ix2 r k) * w (ix3 0 k q) := by
  pointwise [k0_pay52, k0_pay51]

/-- The array the call returns. -/
theorem final (c : Dev nD) : G6 m c = fun i : S8448x10240.Idx =>
    value (prod (m ((c : Thread nD τ).loc main_arg0)) (m ((c : Thread nD τ).loc main_arg1)) (m ((c : Thread nD τ).loc main_arg2)))
      (fun d => m ((c : Thread nD τ).loc main_arg3) (ix2 0 d)) (fun d => m ((c : Thread nD τ).loc main_arg4) (ix2 0 d)) cosAt sinAt (i 0) (i 1) := by
  funext i
  have hi0 : (i 0).val < 8448 := (i 0).isLt
  have hi1 : (i 1).val < 10240 := (i 1).isLt
  have hp : pt6Of i < cfg0.N := lt_of_lt_of_eq (by show 1 * ((i 0).val / 768 - 0) + 11 * ((i 1).val / 1280 - 0) < 88; omega) N_0.symm
  have e0 : pt6Of i % 11 = (i 0).val / 768 := by show (1 * ((i 0).val / 768 - 0) + 11 * ((i 1).val / 1280 - 0)) % 11 = _; omega
  have e1 : pt6Of i / 11 = (i 1).val / 1280 := by show (1 * ((i 0).val / 768 - 0) + 11 * ((i 1).val / 1280 - 0)) / 11 = _; omega
  unfold G6
  rw [dif_pos hp, ← outsAt0_sweep m c (pt6Of i) hp]
  refine (out_at m c ⟨pt6Of i, hp⟩ (loc6Of i)).trans ?_
  unfold cellAt value
  have er : ∀ h, (⟨768 * (pt6Of i % 11) + (i 0).val % 768, h⟩ : Fin 8448) = i 0 := fun h => Fin.ext (by show 768 * (pt6Of i % 11) + (i 0).val % 768 = (i 0).val; omega)
  have hk : 10 * (pt6Of i / 11) + (i 1).val % 1280 / 128 = (i 1).val / 128 := by omega
  have hd : ∀ h h', (⟨(i 1).val % 1280 % 128, h⟩ : Fin 128) = ⟨(i 1).val % 128, h'⟩ := fun h h' => Fin.ext (by show (i 1).val % 1280 % 128 = (i 1).val % 128; omega)
  have f1 : (fun e => iblk m c 4 ⟨pt6Of i, hp⟩ (ix2 0 e)) = fun d => m ((c : Thread nD τ).loc main_arg3) (ix2 0 d) := funext fun d => blk4 m c _ d
  have f2 : (fun e => iblk m c 5 ⟨pt6Of i, hp⟩ (ix2 0 e)) = fun d => m ((c : Thread nD τ).loc main_arg4) (ix2 0 d) := funext fun d => blk5 m c _ d
  have f3 : (fun e => iblk m c 2 ⟨pt6Of i, hp⟩ (ix2 (loc6Of i 0) e)) = cosAt (i 0) := funext fun d => (blk2 m c _ _ d).trans (by rw [← er (by omega)])
  have f4 : (fun e => iblk m c 3 ⟨pt6Of i, hp⟩ (ix2 (loc6Of i 0) e)) = sinAt (i 0) := funext fun d => (blk3 m c _ _ d).trans (by rw [← er (by omega)])
  have f5 : ∀ (d : Fin 128) h h', k0_pay52 (iblk m c 0 ⟨pt6Of i, hp⟩) (k0_pay51 (iblk m c 1 ⟨pt6Of i, hp⟩)) (ix2 (loc6Of i 0) ⟨128 * ((i 1).val % 1280 / 128) + d.val, h⟩)
      = prod (m ((c : Thread nD τ).loc main_arg0)) (m ((c : Thread nD τ).loc main_arg1)) (m ((c : Thread nD τ).loc main_arg2)) (i 0) ⟨128 * ((i 1).val / 128) + d.val, h'⟩ := fun d h h' => by
    refine (product_at _ _ _ _).trans ?_
    unfold prod
    refine Finset.sum_congr rfl fun k _ => ?_
    refine congrArg₂ (· * ·) ((blk0 m c _ _ k).trans ?_) ((blk1 m c _ k _).trans ?_)
    · exact congrArg (fun n => rowAt _ _ n k) (er _)
    · refine congrArg (fun q => m ((c : Thread nD τ).loc main_arg2) (ix3 0 k q)) (Fin.ext ?_)
      show 1280 * (pt6Of i / 11) + (128 * ((i 1).val % 1280 / 128) + d.val) = 128 * ((i 1).val / 128) + d.val
      omega
  show cell (kind (10 * (pt6Of i / 11) + (i 1).val % 1280 / 128)) (fun e => iblk m c 4 ⟨pt6Of i, hp⟩ (ix2 0 e)) (fun e => iblk m c 5 ⟨pt6Of i, hp⟩ (ix2 0 e))
    (fun d => k0_pay52 (iblk m c 0 ⟨pt6Of i, hp⟩) (k0_pay51 (iblk m c 1 ⟨pt6Of i, hp⟩)) (ix2 (loc6Of i 0) ⟨128 * ((i 1).val % 1280 / 128) + d.val, _⟩))
    (fun e => iblk m c 2 ⟨pt6Of i, hp⟩ (ix2 (loc6Of i 0) e)) (fun e => iblk m c 3 ⟨pt6Of i, hp⟩ (ix2 (loc6Of i 0) e)) ⟨(i 1).val % 1280 % 128, _⟩ = _
  rw [f1, f2, f3, f4, hk]
  exact congrArg₂ (fun x d => cell (kind ((i 1).val / 128)) _ _ x (cosAt (i 0)) (sinAt (i 0)) d) (funext fun d => f5 d _ _) (hd _ _)

end Cert.Inproj

end
-- ==== Proof.P.RefNorm.lean ====
/- The reference's stages, entry by entry: its products, its norms and its rotations. -/
module

public import proofs.«01_k».proof.Proof.P.Entry
public import Idealize.ShloMosaic.Lib.Pointwise

@[expose] public section

set_option maxRecDepth 16384

noncomputable section

namespace Cert.Inproj.Reference

open Idealize.ShloMosaic Idealize.ShloMosaic.TcCoe Idealize.SL.Sem
open Cert.Reference2Ideal Cert.Reference2Ideal.Gen Cert.Reference2Ideal.Read

variable (x0 : FVec Ideal S1x256x2048 .f32) (x1 : FVec Ideal S1x8192x2048 .f32) (x2 : FVec Ideal S2x2048x10240 .f32) (x3 x4 : FVec Ideal S2x128 .f32)

/-- A head times a cosine plus the head's halves swapped, the first negated, times a sine: the reference's rotation. -/
def refTurn (x cs sn : Fin 128 → EReal) (d : Fin 128) : EReal :=
  x d * cs d + (if d.val % 64 < 32 then -(x (up d)) else x (down d)) * sn d

/-- The latent rows' product. -/
theorem prodL (n : Fin 8192) (c : Fin 10240) : val_main_v28 (F := Ideal) x1 x2 (ix3 0 n c) = ∑ k : Fin 2048, x1 (ix3 0 n k) * x2 (ix3 0 k c) := by
  pointwise [val_main_v28, val_main_v27, val_main_v26]

/-- The latent queries' norm. -/
theorem normQL (n : Fin 8192) (h : Fin 2) (g : Fin 4) (d : Fin 128) :
    val_main_v46 (F := Ideal) x1 x2 x3 (ix5 0 n h g d) = normed (fun e => val_main_v31 (F := Ideal) x1 x2 (ix5 0 n h g e)) (fun e => x3 (ix2 0 e)) d := by
  unfold val_main_v46 val_main_v43 val_main_v42 val_main_v41 val_main_v40 val_main_v38 val_main_v36 val_main_v35 val_main_v34
  generalize val_main_v31 (F := Ideal) x1 x2 = Y
  pointwise [val_main_v45, val_main_v44, val_main_v33, val_main_v32, val_main_v39, val_main_v37, val_main_cst_1, val_main_cst_2, val_main_cst_3, normed]

/-- The latent keys' norm. -/
theorem normKL (n : Fin 8192) (h : Fin 2) (d : Fin 128) :
    val_main_v81 (F := Ideal) x1 x2 x4 (ix4 0 n h d) = normed (fun e => val_main_v66 (F := Ideal) x1 x2 (ix4 0 n h e)) (fun e => x4 (ix2 0 e)) d := by
  unfold val_main_v81 val_main_v78 val_main_v77 val_main_v76 val_main_v75 val_main_v73 val_main_v71 val_main_v70 val_main_v69
  generalize val_main_v66 (F := Ideal) x1 x2 = Y
  pointwise [val_main_v80, val_main_v79, val_main_v68, val_main_v67, val_main_v74, val_main_v72, val_main_cst_4, val_main_cst_5, val_main_cst_6, normed]

/-- The context keys' norm. -/
theorem normKC (n : Fin 256) (h : Fin 2) (d : Fin 128) :
    val_main_v160 (F := Ideal) x0 x2 x4 (ix4 0 n h d) = normed (fun e => val_main_v145 (F := Ideal) x0 x2 (ix4 0 n h e)) (fun e => x4 (ix2 0 e)) d := by
  unfold val_main_v160 val_main_v157 val_main_v156 val_main_v155 val_main_v154 val_main_v152 val_main_v150 val_main_v149 val_main_v148
  generalize val_main_v145 (F := Ideal) x0 x2 = Y
  pointwise [val_main_v159, val_main_v158, val_main_v147, val_main_v146, val_main_v153, val_main_v151, val_main_cst_7, val_main_cst_8, val_main_cst_9, normed]

/-- The context queries' norm. -/
theorem normQC (n : Fin 256) (h : Fin 2) (g : Fin 4) (d : Fin 128) :
    val_main_v187 (F := Ideal) x0 x2 x3 (ix5 0 n h g d) = normed (fun e => val_main_v172 (F := Ideal) x0 x2 (ix5 0 n h g e)) (fun e => x3 (ix2 0 e)) d := by
  unfold val_main_v187 val_main_v184 val_main_v183 val_main_v182 val_main_v181 val_main_v179 val_main_v177 val_main_v176 val_main_v175
  generalize val_main_v172 (F := Ideal) x0 x2 = Y
  pointwise [val_main_v186, val_main_v185, val_main_v174, val_main_v173, val_main_v180, val_main_v178, val_main_cst_10, val_main_cst_11, val_main_cst_12, normed]

/-- The lane a quarter of a head away, as the four pieces give it. -/
theorem ladder (f : Fin 128 → EReal) (d : Fin 128) :
    (if h1 : d.val < 32 then -f ⟨32 + d.val, by omega⟩
      else if h2 : d.val - 32 < 32 then f ⟨d.val - 32, by omega⟩
      else if h3 : d.val - 32 - 32 < 32 then -f ⟨64 + (32 + (d.val - 32 - 32)), by omega⟩
      else f ⟨64 + (d.val - 32 - 32 - 32), by have := d.isLt; omega⟩) = if d.val % 64 < 32 then -f (up d) else f (down d) := by
  have hd := d.isLt
  by_cases h1 : d.val < 32
  · rw [dif_pos h1, if_pos (by omega)]
    exact congrArg (fun e => -f e) (Fin.ext (by show 32 + d.val = (d.val + 32) % 128; omega))
  · by_cases h2 : d.val - 32 < 32
    · rw [dif_neg h1, dif_pos h2, if_neg (by omega)]
      exact congrArg f (Fin.ext (by show d.val - 32 = (d.val + 96) % 128; omega))
    · by_cases h3 : d.val - 32 - 32 < 32
      · rw [dif_neg h1, dif_neg h2, dif_pos h3, if_pos (by omega)]
        exact congrArg (fun e => -f e) (Fin.ext (by show 64 + (32 + (d.val - 32 - 32)) = (d.val + 32) % 128; omega))
      · rw [dif_neg h1, dif_neg h2, dif_neg h3, if_neg (by omega)]
        exact congrArg f (Fin.ext (by show 64 + (d.val - 32 - 32 - 32) = (d.val + 96) % 128; omega))

/-- The reference's rotation of query heads. -/
def ropeQ (Y : FVec Ideal S1x8192x2x4x128 .f32) (C S : FVec Ideal S8192x128 .f32) : FVec Ideal S1x8192x2x4x128 .f32 :=
  let lo := extractStridedSlice S1x8192x2x4x64 ![0, 0, 0, 0, 0] Y slices_S1x8192x2x4x128_S1x8192x2x4x64_0_0_0_0_0
  let hi := extractStridedSlice S1x8192x2x4x64 ![0, 0, 0, 0, 64] Y slices_S1x8192x2x4x128_S1x8192x2x4x64_0_0_0_0_64
  let wide (T : FVec Ideal S8192x128 .f32) : FVec Ideal S1x8192x2x4x128 .f32 :=
    broadcastInDim S1x8192x2x4x128 ![0, 1, 2, 3, 4] bcast_S1x8192x1x1x128_S1x8192x2x4x128_0_1_2_3_4 (broadcastInDim S1x8192x1x1x128 ![1, 2, 3, 4] bcast_S8192x1x1x128_S1x8192x1x1x128_1_2_3_4 (shapeCast _ T shapeCasts_S8192x128_S8192x1x1x128))
  addf (mulf Y (wide C)) (mulf (concatenate S1x8192x2x4x128 4
    [⟨S1x8192x2x4x32, Host.negf (extractStridedSlice S1x8192x2x4x32 ![0, 0, 0, 0, 32] lo slices_S1x8192x2x4x64_S1x8192x2x4x32_0_0_0_0_32)⟩,
     ⟨S1x8192x2x4x32, extractStridedSlice S1x8192x2x4x32 ![0, 0, 0, 0, 0] lo slices_S1x8192x2x4x64_S1x8192x2x4x32_0_0_0_0_0⟩,
     ⟨S1x8192x2x4x32, Host.negf (extractStridedSlice S1x8192x2x4x32 ![0, 0, 0, 0, 32] hi slices_S1x8192x2x4x64_S1x8192x2x4x32_0_0_0_0_32)⟩,
     ⟨S1x8192x2x4x32, extractStridedSlice S1x8192x2x4x32 ![0, 0, 0, 0, 0] hi slices_S1x8192x2x4x64_S1x8192x2x4x32_0_0_0_0_0⟩]
    concatenates_S1x8192x2x4x32_S1x8192x2x4x32_S1x8192x2x4x32_S1x8192x2x4x32_S1x8192x2x4x128_d4) (wide S))

theorem ropeQ_at (Y : FVec Ideal S1x8192x2x4x128 .f32) (C S : FVec Ideal S8192x128 .f32) (n : Fin 8192) (h : Fin 2) (g : Fin 4) (d : Fin 128) :
    ropeQ Y C S (ix5 0 n h g d) = refTurn (fun e => Y (ix5 0 n h g e)) (fun e => C (ix2 n e)) (fun e => S (ix2 n e)) d := by
  have hd := d.isLt
  pointwise [ropeQ, refTurn]
  exact congrArg (fun z => Y (ix5 0 n h g d) * C (ix2 n d) + z * S (ix2 n d)) (ladder (fun e => Y (ix5 0 n h g e)) d)

theorem val64 : val_main_v64 (F := Ideal) x1 x2 x3 = ropeQ (val_main_v46 (F := Ideal) x1 x2 x3) (val_main_v24 (F := Ideal)) (val_main_v25 (F := Ideal)) := rfl
theorem val120 : val_main_v120 (F := Ideal) x1 x2 = ropeQ (val_main_v102 (F := Ideal) x1 x2) (val_main_v24 (F := Ideal)) (val_main_v25 (F := Ideal)) := rfl

/-- The reference's rotation of key heads. -/
def ropeK (Y : FVec Ideal S1x8192x2x128 .f32) (C S : FVec Ideal S8192x128 .f32) : FVec Ideal S1x8192x2x128 .f32 :=
  let lo := extractStridedSlice S1x8192x2x64 ![0, 0, 0, 0] Y slices_S1x8192x2x128_S1x8192x2x64_0_0_0_0
  let hi := extractStridedSlice S1x8192x2x64 ![0, 0, 0, 64] Y slices_S1x8192x2x128_S1x8192x2x64_0_0_0_64
  let wide (T : FVec Ideal S8192x128 .f32) : FVec Ideal S1x8192x2x128 .f32 :=
    broadcastInDim S1x8192x2x128 ![0, 1, 2, 3] bcast_S1x8192x1x128_S1x8192x2x128_0_1_2_3 (broadcastInDim S1x8192x1x128 ![1, 2, 3] bcast_S8192x1x128_S1x8192x1x128_1_2_3 (shapeCast _ T shapeCasts_S8192x128_S8192x1x128))
  addf (mulf Y (wide C)) (mulf (concatenate S1x8192x2x128 3
    [⟨S1x8192x2x32, Host.negf (extractStridedSlice S1x8192x2x32 ![0, 0, 0, 32] lo slices_S1x8192x2x64_S1x8192x2x32_0_0_0_32)⟩,
     ⟨S1x8192x2x32, extractStridedSlice S1x8192x2x32 ![0, 0, 0, 0] lo slices_S1x8192x2x64_S1x8192x2x32_0_0_0_0⟩,
     ⟨S1x8192x2x32, Host.negf (extractStridedSlice S1x8192x2x32 ![0, 0, 0, 32] hi slices_S1x8192x2x64_S1x8192x2x32_0_0_0_32)⟩,
     ⟨S1x8192x2x32, extractStridedSlice S1x8192x2x32 ![0, 0, 0, 0] hi slices_S1x8192x2x64_S1x8192x2x32_0_0_0_0⟩]
    concatenates_S1x8192x2x32_S1x8192x2x32_S1x8192x2x32_S1x8192x2x32_S1x8192x2x128_d3) (wide S))

theorem ropeK_at (Y : FVec Ideal S1x8192x2x128 .f32) (C S : FVec Ideal S8192x128 .f32) (n : Fin 8192) (h : Fin 2) (d : Fin 128) :
    ropeK Y C S (ix4 0 n h d) = refTurn (fun e => Y (ix4 0 n h e)) (fun e => C (ix2 n e)) (fun e => S (ix2 n e)) d := by
  pointwise [ropeK, refTurn]
  exact congrArg (fun z => Y (ix4 0 n h d) * C (ix2 n d) + z * S (ix2 n d)) (ladder (fun e => Y (ix4 0 n h e)) d)

theorem val99 : val_main_v99 (F := Ideal) x1 x2 x4 = ropeK (val_main_v81 (F := Ideal) x1 x2 x4) (val_main_v24 (F := Ideal)) (val_main_v25 (F := Ideal)) := rfl
theorem val140 : val_main_v140 (F := Ideal) x1 x2 = ropeK (val_main_v122 (F := Ideal) x1 x2) (val_main_v24 (F := Ideal)) (val_main_v25 (F := Ideal)) := rfl

end Cert.Inproj.Reference

end
-- ==== Proof.P.RefHead.lean ====
/- The reference's columns, head by head, as what is done to the product's columns. -/
module

public import proofs.«01_k».proof.Proof.P.RefNorm
public import Idealize.ShloMosaic.Lib.Pointwise

@[expose] public section

set_option maxRecDepth 16384

noncomputable section

namespace Cert.Inproj.Reference

open Idealize.ShloMosaic Idealize.ShloMosaic.TcCoe Idealize.SL.Sem
open Cert.Reference2Ideal Cert.Reference2Ideal.Gen Cert.Reference2Ideal.Read

variable (x0 : FVec Ideal S1x256x2048 .f32) (x1 : FVec Ideal S1x8192x2048 .f32) (x2 : FVec Ideal S2x2048x10240 .f32) (x3 x4 : FVec Ideal S2x128 .f32)

/-- The block `b` of 128 columns of a row. -/
def head (P : Fin 10240 → EReal) (b : ℕ) (e : Fin 128) : EReal := if h : 128 * b + e.val < 10240 then P ⟨128 * b + e.val, h⟩ else 0

theorem head_of (P : Fin 10240 → EReal) (b : ℕ) (e : Fin 128) (c : Fin 10240) (h : c.val = 128 * b + e.val) : P c = head P b e := by
  have hc := c.isLt
  unfold head
  rw [dif_pos (by omega)]
  exact congrArg P (Fin.ext h)

/-- The latent rows of the product. -/
def rowL (n : Fin 8192) (c : Fin 10240) : EReal := ∑ k : Fin 2048, x1 (ix3 0 n k) * x2 (ix3 0 k c)
/-- The context rows of the product. -/
def rowC (n : Fin 256) (c : Fin 10240) : EReal := ∑ k : Fin 2048, x0 (ix3 0 n k) * x2 (ix3 0 k c)

theorem lat_gq (n : Fin 8192) (h : Fin 2) (g : Fin 4) (e : Fin 128) : val_main_v31 (F := Ideal) x1 x2 (ix5 0 n h g e) = head (rowL x1 x2 n) (8 + (4 * h.val + g.val)) e := by
  have hP := prodL x1 x2
  revert hP
  unfold val_main_v31 val_main_v30
  generalize val_main_v28 (F := Ideal) x1 x2 = Y
  intro hP
  pointwise []
  rw [hP]
  exact head_of (rowL x1 x2 n) _ _ _ (by show 1024 + (h.val * 512 + g.val * 128 + e.val) = 128 * (8 + (4 * h.val + g.val)) + e.val; omega)

theorem lat_wq (n : Fin 8192) (h : Fin 2) (g : Fin 4) (e : Fin 128) : val_main_v102 (F := Ideal) x1 x2 (ix5 0 n h g e) = head (rowL x1 x2 n) (20 + (4 * h.val + g.val)) e := by
  have hP := prodL x1 x2
  revert hP
  unfold val_main_v102 val_main_v101
  generalize val_main_v28 (F := Ideal) x1 x2 = Y
  intro hP
  pointwise []
  rw [hP]
  exact head_of (rowL x1 x2 n) _ _ _ (by show 2560 + (h.val * 512 + g.val * 128 + e.val) = 128 * (20 + (4 * h.val + g.val)) + e.val; omega)

theorem lat_gk (n : Fin 8192) (h : Fin 2) (e : Fin 128) : val_main_v66 (F := Ideal) x1 x2 (ix4 0 n h e) = head (rowL x1 x2 n) (16 + h.val) e := by
  have hP := prodL x1 x2
  revert hP
  unfold val_main_v66 val_main_v65
  generalize val_main_v28 (F := Ideal) x1 x2 = Y
  intro hP
  pointwise []
  rw [hP]
  exact head_of (rowL x1 x2 n) _ _ _ (by show 2048 + (h.val * 128 + e.val) = 128 * (16 + h.val) + e.val; omega)

theorem lat_wk (n : Fin 8192) (h : Fin 2) (e : Fin 128) : val_main_v122 (F := Ideal) x1 x2 (ix4 0 n h e) = head (rowL x1 x2 n) (28 + h.val) e := by
  have hP := prodL x1 x2
  revert hP
  unfold val_main_v122 val_main_v121
  generalize val_main_v28 (F := Ideal) x1 x2 = Y
  intro hP
  pointwise []
  rw [hP]
  exact head_of (rowL x1 x2 n) _ _ _ (by show 3584 + (h.val * 128 + e.val) = 128 * (28 + h.val) + e.val; omega)

theorem lat_u (n : Fin 8192) (l : Fin 1024) : val_main_v29 (F := Ideal) x1 x2 (ix3 0 n l) = rowL x1 x2 n ⟨0 + l.val, by omega⟩ := by
  have hP := prodL x1 x2
  revert hP
  unfold val_main_v29
  generalize val_main_v28 (F := Ideal) x1 x2 = Y
  intro hP
  pointwise []
  rw [hP]
  rfl

theorem lat_gv (n : Fin 8192) (l : Fin 256) : val_main_v100 (F := Ideal) x1 x2 (ix3 0 n l) = rowL x1 x2 n ⟨2304 + l.val, by omega⟩ := by
  have hP := prodL x1 x2
  revert hP
  unfold val_main_v100
  generalize val_main_v28 (F := Ideal) x1 x2 = Y
  intro hP
  pointwise []
  rw [hP]
  rfl

theorem lat_wv (n : Fin 8192) (l : Fin 256) : val_main_v141 (F := Ideal) x1 x2 (ix3 0 n l) = rowL x1 x2 n ⟨3840 + l.val, by omega⟩ := by
  have hP := prodL x1 x2
  revert hP
  unfold val_main_v141
  generalize val_main_v28 (F := Ideal) x1 x2 = Y
  intro hP
  pointwise []
  rw [hP]
  rfl

theorem lat_gl (n : Fin 8192) (l : Fin 6144) : val_main_v142 (F := Ideal) x1 x2 (ix3 0 n l) = rowL x1 x2 n ⟨4096 + l.val, by omega⟩ := by
  have hP := prodL x1 x2
  revert hP
  unfold val_main_v142
  generalize val_main_v28 (F := Ideal) x1 x2 = Y
  intro hP
  pointwise []
  rw [hP]
  rfl

theorem ctx_u (n : Fin 256) (l : Fin 1024) : val_main_v169 (F := Ideal) x0 x2 (ix3 0 n l) = rowC x0 x2 n ⟨0 + l.val, by omega⟩ := by
  pointwise [val_main_v169, val_main_v168, val_main_v27, val_main_v26, rowC]

theorem dot_gq (n : Fin 256) (l : Fin 1024) : val_main_v171 (F := Ideal) x0 x2 (ix3 0 n l) = rowC x0 x2 n ⟨1024 + l.val, by omega⟩ := by
  pointwise [val_main_v171, val_main_v170, val_main_v27, val_main_v26, rowC]

theorem dot_gk (n : Fin 256) (l : Fin 256) : val_main_v144 (F := Ideal) x0 x2 (ix3 0 n l) = rowC x0 x2 n ⟨2048 + l.val, by omega⟩ := by
  pointwise [val_main_v144, val_main_v143, val_main_v27, val_main_v26, rowC]

theorem ctx_gv (n : Fin 256) (l : Fin 256) : val_main_v162 (F := Ideal) x0 x2 (ix3 0 n l) = rowC x0 x2 n ⟨2304 + l.val, by omega⟩ := by
  pointwise [val_main_v162, val_main_v161, val_main_v27, val_main_v26, rowC]

theorem dot_wq (n : Fin 256) (l : Fin 1024) : val_main_v189 (F := Ideal) x0 x2 (ix3 0 n l) = rowC x0 x2 n ⟨2560 + l.val, by omega⟩ := by
  pointwise [val_main_v189, val_main_v188, val_main_v27, val_main_v26, rowC]

theorem dot_wk (n : Fin 256) (l : Fin 256) : val_main_v164 (F := Ideal) x0 x2 (ix3 0 n l) = rowC x0 x2 n ⟨3584 + l.val, by omega⟩ := by
  pointwise [val_main_v164, val_main_v163, val_main_v27, val_main_v26, rowC]

theorem ctx_wv (n : Fin 256) (l : Fin 256) : val_main_v167 (F := Ideal) x0 x2 (ix3 0 n l) = rowC x0 x2 n ⟨3840 + l.val, by omega⟩ := by
  pointwise [val_main_v167, val_main_v166, val_main_v27, val_main_v26, rowC]

theorem ctx_gl (n : Fin 256) (l : Fin 6144) : val_main_v192 (F := Ideal) x0 x2 (ix3 0 n l) = rowC x0 x2 n ⟨4096 + l.val, by omega⟩ := by
  pointwise [val_main_v192, val_main_v191, val_main_v27, val_main_v26, rowC]

theorem ctx_gq (n : Fin 256) (h : Fin 2) (g : Fin 4) (e : Fin 128) : val_main_v172 (F := Ideal) x0 x2 (ix5 0 n h g e) = head (rowC x0 x2 n) (8 + (4 * h.val + g.val)) e := by
  have hP := dot_gq x0 x2
  revert hP
  unfold val_main_v172
  generalize val_main_v171 (F := Ideal) x0 x2 = Y
  intro hP
  pointwise []
  rw [hP]
  exact head_of (rowC x0 x2 n) _ _ _ (by show 1024 + (h.val * 512 + g.val * 128 + e.val) = 128 * (8 + (4 * h.val + g.val)) + e.val; omega)

theorem ctx_gk (n : Fin 256) (h : Fin 2) (e : Fin 128) : val_main_v145 (F := Ideal) x0 x2 (ix4 0 n h e) = head (rowC x0 x2 n) (16 + h.val) e := by
  have hP := dot_gk x0 x2
  revert hP
  unfold val_main_v145
  generalize val_main_v144 (F := Ideal) x0 x2 = Y
  intro hP
  pointwise []
  rw [hP]
  exact head_of (rowC x0 x2 n) _ _ _ (by show 2048 + (h.val * 128 + e.val) = 128 * (16 + h.val) + e.val; omega)

theorem ctx_wq (n : Fin 256) (h : Fin 2) (g : Fin 4) (e : Fin 128) : val_main_v190 (F := Ideal) x0 x2 (ix5 0 n h g e) = head (rowC x0 x2 n) (20 + (4 * h.val + g.val)) e := by
  have hP := dot_wq x0 x2
  revert hP
  unfold val_main_v190
  generalize val_main_v189 (F := Ideal) x0 x2 = Y
  intro hP
  pointwise []
  rw [hP]
  exact head_of (rowC x0 x2 n) _ _ _ (by show 2560 + (h.val * 512 + g.val * 128 + e.val) = 128 * (20 + (4 * h.val + g.val)) + e.val; omega)

theorem ctx_wk (n : Fin 256) (h : Fin 2) (e : Fin 128) : val_main_v165 (F := Ideal) x0 x2 (ix4 0 n h e) = head (rowC x0 x2 n) (28 + h.val) e := by
  have hP := dot_wk x0 x2
  revert hP
  unfold val_main_v165
  generalize val_main_v164 (F := Ideal) x0 x2 = Y
  intro hP
  pointwise []
  rw [hP]
  exact head_of (rowC x0 x2 n) _ _ _ (by show 3584 + (h.val * 128 + e.val) = 128 * (28 + h.val) + e.val; omega)

end Cert.Inproj.Reference

end
-- ==== Proof.P.RefRow.lean ====
/- The reference's columns, group by group, as what is done to the product's columns. -/
module

public import proofs.«01_k».proof.Proof.P.RefHead
public import Idealize.ShloMosaic.Lib.Pointwise

@[expose] public section

set_option maxRecDepth 16384

noncomputable section

namespace Cert.Inproj.Reference

open Idealize.ShloMosaic Idealize.ShloMosaic.TcCoe Idealize.SL.Sem
open Cert.Reference2Ideal Cert.Reference2Ideal.Gen Cert.Reference2Ideal.Read

variable (x0 : FVec Ideal S1x256x2048 .f32) (x1 : FVec Ideal S1x8192x2048 .f32) (x2 : FVec Ideal S2x2048x10240 .f32) (x3 x4 : FVec Ideal S2x128 .f32)

/-- The first row of the two gains. -/
abbrev gain (x : FVec Ideal S2x128 .f32) (d : Fin 128) : EReal := x (ix2 0 d)

theorem blk5 (l : ℕ) : 4 * (l / 512) + l / 128 % 4 = l / 128 := by omega

/-- The latent queries of the global heads. -/
theorem piece_gq (n : Fin 8192) (l : Fin 1024) :
    val_main_v195 (F := Ideal) x1 x2 x3 (ix3 0 n l) = refTurn (normed (head (rowL x1 x2 n) (8 + l.val / 128)) (gain x3)) (cosLat n) (sinLat n) ⟨l.val % 128, by omega⟩ * κ := by
  have e : val_main_v195 (F := Ideal) x1 x2 x3 (ix3 0 n l) = val_main_v64 (F := Ideal) x1 x2 x3 (ix5 0 n ⟨l.val / 512, by omega⟩ ⟨l.val / 128 % 4, by omega⟩ ⟨l.val % 128, by omega⟩) * κ := by
    unfold val_main_v195 val_main_v193
    generalize val_main_v64 (F := Ideal) x1 x2 x3 = Y
    pointwise [val_main_v194, val_main_cst_13]
  rw [e, val64, ropeQ_at]
  refine congrArg (fun x => refTurn x (cosLat n) (sinLat n) _ * κ) (funext fun d => ?_)
  rw [normQL]
  refine congrArg (fun x => normed x (gain x3) d) (funext fun d => ?_)
  rw [lat_gq]
  show head _ (8 + (4 * (l.val / 512) + l.val / 128 % 4)) d = _
  rw [blk5]

/-- The latent keys of the global heads. -/
theorem piece_gk (n : Fin 8192) (l : Fin 256) :
    val_main_v196 (F := Ideal) x1 x2 x4 (ix3 0 n l) = refTurn (normed (head (rowL x1 x2 n) (16 + l.val / 128)) (gain x4)) (cosLat n) (sinLat n) ⟨l.val % 128, by omega⟩ := by
  have e : val_main_v196 (F := Ideal) x1 x2 x4 (ix3 0 n l) = val_main_v99 (F := Ideal) x1 x2 x4 (ix4 0 n ⟨l.val / 128, by omega⟩ ⟨l.val % 128, by omega⟩) := by
    unfold val_main_v196
    generalize val_main_v99 (F := Ideal) x1 x2 x4 = Y
    pointwise []
  rw [e, val99, ropeK_at]
  refine congrArg (fun x => refTurn x (cosLat n) (sinLat n) _) (funext fun d => ?_)
  rw [normKL]
  refine congrArg (fun x => normed x (gain x4) d) (funext fun d => ?_)
  rw [lat_gk]

/-- The latent queries of the window heads. -/
theorem piece_wq (n : Fin 8192) (l : Fin 1024) :
    val_main_v199 (F := Ideal) x1 x2 (ix3 0 n l) = refTurn (head (rowL x1 x2 n) (20 + l.val / 128)) (cosLat n) (sinLat n) ⟨l.val % 128, by omega⟩ * κ := by
  have e : val_main_v199 (F := Ideal) x1 x2 (ix3 0 n l) = val_main_v120 (F := Ideal) x1 x2 (ix5 0 n ⟨l.val / 512, by omega⟩ ⟨l.val / 128 % 4, by omega⟩ ⟨l.val % 128, by omega⟩) * κ := by
    unfold val_main_v199 val_main_v197
    generalize val_main_v120 (F := Ideal) x1 x2 = Y
    pointwise [val_main_v198, val_main_cst_14]
  rw [e, val120, ropeQ_at]
  refine congrArg (fun x => refTurn x (cosLat n) (sinLat n) _ * κ) (funext fun d => ?_)
  rw [lat_wq]
  show head _ (20 + (4 * (l.val / 512) + l.val / 128 % 4)) d = _
  rw [blk5]

/-- The latent keys of the window heads. -/
theorem piece_wk (n : Fin 8192) (l : Fin 256) :
    val_main_v200 (F := Ideal) x1 x2 (ix3 0 n l) = refTurn (head (rowL x1 x2 n) (28 + l.val / 128)) (cosLat n) (sinLat n) ⟨l.val % 128, by omega⟩ := by
  have e : val_main_v200 (F := Ideal) x1 x2 (ix3 0 n l) = val_main_v140 (F := Ideal) x1 x2 (ix4 0 n ⟨l.val / 128, by omega⟩ ⟨l.val % 128, by omega⟩) := by
    unfold val_main_v200
    generalize val_main_v140 (F := Ideal) x1 x2 = Y
    pointwise []
  rw [e, val140, ropeK_at]
  refine congrArg (fun x => refTurn x (cosLat n) (sinLat n) _) (funext fun d => ?_)
  rw [lat_wk]

/-- The context queries of the global heads. -/
theorem piece_gqC (n : Fin 256) (l : Fin 1024) :
    val_main_v204 (F := Ideal) x0 x2 x3 (ix3 0 n l) = normed (head (rowC x0 x2 n) (8 + l.val / 128)) (gain x3) ⟨l.val % 128, by omega⟩ * κ := by
  have e : val_main_v204 (F := Ideal) x0 x2 x3 (ix3 0 n l) = val_main_v187 (F := Ideal) x0 x2 x3 (ix5 0 n ⟨l.val / 512, by omega⟩ ⟨l.val / 128 % 4, by omega⟩ ⟨l.val % 128, by omega⟩) * κ := by
    unfold val_main_v204 val_main_v202
    generalize val_main_v187 (F := Ideal) x0 x2 x3 = Y
    pointwise [val_main_v203, val_main_cst_15]
  rw [e, normQC]
  refine congrArg (fun x => normed x (gain x3) _ * κ) (funext fun d => ?_)
  rw [ctx_gq]
  show head _ (8 + (4 * (l.val / 512) + l.val / 128 % 4)) d = _
  rw [blk5]

/-- The context keys of the global heads. -/
theorem piece_gkC (n : Fin 256) (l : Fin 256) :
    val_main_v205 (F := Ideal) x0 x2 x4 (ix3 0 n l) = normed (head (rowC x0 x2 n) (16 + l.val / 128)) (gain x4) ⟨l.val % 128, by omega⟩ := by
  have e : val_main_v205 (F := Ideal) x0 x2 x4 (ix3 0 n l) = val_main_v160 (F := Ideal) x0 x2 x4 (ix4 0 n ⟨l.val / 128, by omega⟩ ⟨l.val % 128, by omega⟩) := by
    unfold val_main_v205
    generalize val_main_v160 (F := Ideal) x0 x2 x4 = Y
    pointwise []
  rw [e, normKC]
  refine congrArg (fun x => normed x (gain x4) _) (funext fun d => ?_)
  rw [ctx_gk]

/-- The context queries of the window heads. -/
theorem piece_wqC (n : Fin 256) (l : Fin 1024) :
    val_main_v208 (F := Ideal) x0 x2 (ix3 0 n l) = head (rowC x0 x2 n) (20 + l.val / 128) ⟨l.val % 128, by omega⟩ * κ := by
  have e : val_main_v208 (F := Ideal) x0 x2 (ix3 0 n l) = val_main_v190 (F := Ideal) x0 x2 (ix5 0 n ⟨l.val / 512, by omega⟩ ⟨l.val / 128 % 4, by omega⟩ ⟨l.val % 128, by omega⟩) * κ := by
    unfold val_main_v208 val_main_v206
    generalize val_main_v190 (F := Ideal) x0 x2 = Y
    pointwise [val_main_v207, val_main_cst_16]
  rw [e, ctx_wq]
  show head _ (20 + (4 * (l.val / 512) + l.val / 128 % 4)) _ * κ = _
  rw [blk5]

/-- The context keys of the window heads. -/
theorem piece_wkC (n : Fin 256) (l : Fin 256) :
    val_main_v209 (F := Ideal) x0 x2 (ix3 0 n l) = head (rowC x0 x2 n) (28 + l.val / 128) ⟨l.val % 128, by omega⟩ := by
  have e : val_main_v209 (F := Ideal) x0 x2 (ix3 0 n l) = val_main_v165 (F := Ideal) x0 x2 (ix4 0 n ⟨l.val / 128, by omega⟩ ⟨l.val % 128, by omega⟩) := by
    unfold val_main_v209
    generalize val_main_v165 (F := Ideal) x0 x2 = Y
    pointwise []
  rw [e, ctx_wk]

end Cert.Inproj.Reference

end
-- ==== Proof.P.Ref.lean ====
/- The reference's result, entry by entry: the same value of the product, the gains and the tables as the kernel's. -/
module

public import proofs.«01_k».proof.Proof.P.RefRow
public import Idealize.ShloMosaic.Lib.Pointwise
public import Idealize.ShloMosaic.Lib.IdealHost

@[expose] public section

set_option maxRecDepth 16384

noncomputable section

namespace Cert.Inproj.Reference

open Idealize.ShloMosaic Idealize.ShloMosaic.TcCoe Idealize.SL.Sem
open Cert.Reference2Ideal Cert.Reference2Ideal.Gen Cert.Reference2Ideal.Read

variable (x0 : FVec Ideal S1x256x2048 .f32) (x1 : FVec Ideal S1x8192x2048 .f32) (x2 : FVec Ideal S2x2048x10240 .f32) (x3 x4 : FVec Ideal S2x128 .f32)

theorem minus_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]
  norm_num

/-- A latent row's rotation, the sign on the sine instead of on the lanes. -/
theorem turned_lat (n : Fin 8192) (x : Fin 128 → EReal) (d : Fin 128) :
    refTurn x (cosLat n) (sinLat n) d = turned x (cosAt ⟨256 + n.val, by omega⟩) (sinAt ⟨256 + n.val, by omega⟩) d := by
  have en : ∀ h, (⟨256 + n.val - 256, h⟩ : Fin 8192) = n := fun h => Fin.ext (by show 256 + n.val - 256 = n.val; omega)
  unfold refTurn turned cosAt sinAt
  rw [dif_neg (by show ¬ 256 + n.val < 256; omega), dif_neg (by show ¬ 256 + n.val < 256; omega)]
  simp only [en]
  by_cases h : d.val % 64 < 32
  · simp only [if_pos h, minus_one, mul_neg, mul_one, EReal.neg_mul]
  · simp only [if_neg h, Ideal.ofBits_one_f32, mul_one]

/-- A context row is not turned. -/
theorem turned_ctx (n : Fin 256) (x : Fin 128 → EReal) (d : Fin 128) :
    turned x (cosAt ⟨n.val, by omega⟩) (sinAt ⟨n.val, by omega⟩) d = x d := by
  unfold turned cosAt sinAt
  rw [dif_pos (show n.val < 256 from n.isLt), dif_pos (show n.val < 256 from n.isLt), Ideal.ofBits_one_f32, Ideal.ofBits_zero_f32, mul_one, mul_zero, add_zero]

/-- `value` in terms of a row's block of columns. -/
theorem value_eq (P : Fin 8448 → Fin 10240 → EReal) (gq gk : Fin 128 → EReal) (cs sn : Fin 8448 → Fin 128 → EReal) (n : Fin 8448) (c : Fin 10240) (b : ℕ) (d : Fin 128)
    (hb : c.val / 128 = b) (hd : c.val % 128 = d.val) : value P gq gk cs sn n c = cell (kind b) gq gk (head (P n) b) (cs n) (sn n) d := by
  subst hb
  unfold value
  rw [show (⟨c.val % 128, Nat.mod_lt _ (by decide)⟩ : Fin 128) = d from Fin.ext hd]
  refine congrArg (fun x => cell (kind (c.val / 128)) gq gk x (cs n) (sn n) d) (funext fun e => ?_)
  exact head_of (P n) _ e _ rfl

/-- The latent rows of the whole product. -/
theorem prod_lat (n : Fin 8192) : prod x0 x1 x2 ⟨256 + n.val, by omega⟩ = rowL x1 x2 n := by
  funext c
  unfold prod rowL rowAt
  refine Finset.sum_congr rfl fun k _ => ?_
  rw [dif_neg (by show ¬ 256 + n.val < 256; omega)]
  exact congrArg (fun n => x1 (ix3 0 n k) * x2 (ix3 0 k c)) (Fin.ext (by show 256 + n.val - 256 = n.val; omega))

/-- The context rows of the whole product. -/
theorem prod_ctx (n : Fin 256) : prod x0 x1 x2 ⟨n.val, by omega⟩ = rowC x0 x2 n := by
  funext c
  unfold prod rowC rowAt
  refine Finset.sum_congr rfl fun k _ => ?_
  rw [dif_pos (show n.val < 256 from n.isLt)]

variable {gq gk x cs sn : Fin 128 → EReal} {d : Fin 128}

theorem cell0 {b : ℕ} (h : kind b = 0) : cell (kind b) gq gk x cs sn d = x d := by rw [h]; rfl
theorem cell1 {b : ℕ} (h : kind b = 1) : cell (kind b) gq gk x cs sn d = turned (normed x gq) cs sn d * κ := by rw [h]; rfl
theorem cell2 {b : ℕ} (h : kind b = 2) : cell (kind b) gq gk x cs sn d = turned (normed x gk) cs sn d := by rw [h]; rfl
theorem cell3 {b : ℕ} (h : kind b = 3) : cell (kind b) gq gk x cs sn d = turned x cs sn d * κ := by rw [h]; rfl
theorem cell4 {b : ℕ} (h : kind b = 4) : cell (kind b) gq gk x cs sn d = turned x cs sn d := by rw [h]; rfl

/-- The latent rows of the result. -/
theorem rowsL (n : Fin 8192) (c : Fin 10240) :
    val_main_v201 (F := Ideal) x1 x2 x3 x4 (ix3 0 n c) = value (prod x0 x1 x2) (gain x3) (gain x4) cosAt sinAt ⟨256 + n.val, by omega⟩ c := by
  have hc := c.isLt
  rw [value_eq _ _ _ _ _ _ c (c.val / 128) ⟨c.val % 128, by omega⟩ rfl rfl, prod_lat]
  unfold val_main_v201
  pointwise []
  by_cases h1 : c.val < 1024
  · rw [dif_pos h1, lat_u, cell0 (by unfold kind; split_ifs <;> omega)]
    exact head_of _ _ _ _ (by show 0 + c.val = 128 * (c.val / 128) + c.val % 128; omega)
  rw [dif_neg h1]
  by_cases h2 : c.val - 1024 < 1024
  · rw [dif_pos h2, piece_gq, cell1 (by unfold kind; split_ifs <;> omega), turned_lat]
    have e1 : 8 + (c.val - 1024) / 128 = c.val / 128 := by omega
    have e2 : (⟨(c.val - 1024) % 128, by omega⟩ : Fin 128) = ⟨c.val % 128, by omega⟩ := Fin.ext (by show (c.val - 1024) % 128 = c.val % 128; omega)
    show turned (normed (head _ (8 + (c.val - 1024) / 128)) _) _ _ ⟨(c.val - 1024) % 128, _⟩ * κ = _
    rw [e1, e2]
  rw [dif_neg h2]
  by_cases h3 : c.val - 1024 - 1024 < 256
  · rw [dif_pos h3, piece_gk, cell2 (by unfold kind; split_ifs <;> omega), turned_lat]
    have e1 : 16 + (c.val - 1024 - 1024) / 128 = c.val / 128 := by omega
    have e2 : (⟨(c.val - 1024 - 1024) % 128, by omega⟩ : Fin 128) = ⟨c.val % 128, by omega⟩ := Fin.ext (by show (c.val - 1024 - 1024) % 128 = c.val % 128; omega)
    show turned (normed (head _ (16 + (c.val - 1024 - 1024) / 128)) _) _ _ ⟨(c.val - 1024 - 1024) % 128, _⟩ = _
    rw [e1, e2]
  rw [dif_neg h3]
  by_cases h4 : c.val - 1024 - 1024 - 256 < 256
  · rw [dif_pos h4, lat_gv, cell0 (by unfold kind; split_ifs <;> omega)]
    exact head_of _ _ _ _ (by show 2304 + (c.val - 1024 - 1024 - 256) = 128 * (c.val / 128) + c.val % 128; omega)
  rw [dif_neg h4]
  by_cases h5 : c.val - 1024 - 1024 - 256 - 256 < 1024
  · rw [dif_pos h5, piece_wq, cell3 (by unfold kind; split_ifs <;> omega), turned_lat]
    have e1 : 20 + (c.val - 1024 - 1024 - 256 - 256) / 128 = c.val / 128 := by omega
    have e2 : (⟨(c.val - 1024 - 1024 - 256 - 256) % 128, by omega⟩ : Fin 128) = ⟨c.val % 128, by omega⟩ := Fin.ext (by show (c.val - 1024 - 1024 - 256 - 256) % 128 = c.val % 128; omega)
    show turned (head _ (20 + (c.val - 1024 - 1024 - 256 - 256) / 128)) _ _ ⟨(c.val - 1024 - 1024 - 256 - 256) % 128, _⟩ * κ = _
    rw [e1, e2]
  rw [dif_neg h5]
  by_cases h6 : c.val - 1024 - 1024 - 256 - 256 - 1024 < 256
  · rw [dif_pos h6, piece_wk, cell4 (by unfold kind; split_ifs <;> omega), turned_lat]
    have e1 : 28 + (c.val - 1024 - 1024 - 256 - 256 - 1024) / 128 = c.val / 128 := by omega
    have e2 : (⟨(c.val - 1024 - 1024 - 256 - 256 - 1024) % 128, by omega⟩ : Fin 128) = ⟨c.val % 128, by omega⟩ := Fin.ext (by show (c.val - 1024 - 1024 - 256 - 256 - 1024) % 128 = c.val % 128; omega)
    show turned (head _ (28 + (c.val - 1024 - 1024 - 256 - 256 - 1024) / 128)) _ _ ⟨(c.val - 1024 - 1024 - 256 - 256 - 1024) % 128, _⟩ = _
    rw [e1, e2]
  rw [dif_neg h6]
  by_cases h7 : c.val - 1024 - 1024 - 256 - 256 - 1024 - 256 < 256
  · rw [dif_pos h7, lat_wv, cell0 (by unfold kind; split_ifs <;> omega)]
    exact head_of _ _ _ _ (by show 3840 + (c.val - 1024 - 1024 - 256 - 256 - 1024 - 256) = 128 * (c.val / 128) + c.val % 128; omega)
  rw [dif_neg h7, lat_gl, cell0 (by unfold kind; split_ifs <;> omega)]
  exact head_of _ _ _ _ (by show 4096 + (c.val - 1024 - 1024 - 256 - 256 - 1024 - 256 - 256) = 128 * (c.val / 128) + c.val % 128; omega)

/-- The context rows of the result. -/
theorem rowsC (n : Fin 256) (c : Fin 10240) :
    val_main_v210 (F := Ideal) x0 x2 x3 x4 (ix3 0 n c) = value (prod x0 x1 x2) (gain x3) (gain x4) cosAt sinAt ⟨n.val, by omega⟩ c := by
  have hc := c.isLt
  rw [value_eq _ _ _ _ _ _ c (c.val / 128) ⟨c.val % 128, by omega⟩ rfl rfl, prod_ctx]
  unfold val_main_v210
  pointwise []
  by_cases h1 : c.val < 1024
  · rw [dif_pos h1, ctx_u, cell0 (by unfold kind; split_ifs <;> omega)]
    exact head_of _ _ _ _ (by show 0 + c.val = 128 * (c.val / 128) + c.val % 128; omega)
  rw [dif_neg h1]
  by_cases h2 : c.val - 1024 < 1024
  · rw [dif_pos h2, piece_gqC, cell1 (by unfold kind; split_ifs <;> omega), turned_ctx]
    have e1 : 8 + (c.val - 1024) / 128 = c.val / 128 := by omega
    have e2 : (⟨(c.val - 1024) % 128, by omega⟩ : Fin 128) = ⟨c.val % 128, by omega⟩ := Fin.ext (by show (c.val - 1024) % 128 = c.val % 128; omega)
    show normed (head _ (8 + (c.val - 1024) / 128)) _ ⟨(c.val - 1024) % 128, _⟩ * κ = _
    rw [e1, e2]
  rw [dif_neg h2]
  by_cases h3 : c.val - 1024 - 1024 < 256
  · rw [dif_pos h3, piece_gkC, cell2 (by unfold kind; split_ifs <;> omega), turned_ctx]
    have e1 : 16 + (c.val - 1024 - 1024) / 128 = c.val / 128 := by omega
    have e2 : (⟨(c.val - 1024 - 1024) % 128, by omega⟩ : Fin 128) = ⟨c.val % 128, by omega⟩ := Fin.ext (by show (c.val - 1024 - 1024) % 128 = c.val % 128; omega)
    show normed (head _ (16 + (c.val - 1024 - 1024) / 128)) _ ⟨(c.val - 1024 - 1024) % 128, _⟩ = _
    rw [e1, e2]
  rw [dif_neg h3]
  by_cases h4 : c.val - 1024 - 1024 - 256 < 256
  · rw [dif_pos h4, ctx_gv, cell0 (by unfold kind; split_ifs <;> omega)]
    exact head_of _ _ _ _ (by show 2304 + (c.val - 1024 - 1024 - 256) = 128 * (c.val / 128) + c.val % 128; omega)
  rw [dif_neg h4]
  by_cases h5 : c.val - 1024 - 1024 - 256 - 256 < 1024
  · rw [dif_pos h5, piece_wqC, cell3 (by unfold kind; split_ifs <;> omega), turned_ctx]
    have e1 : 20 + (c.val - 1024 - 1024 - 256 - 256) / 128 = c.val / 128 := by omega
    have e2 : (⟨(c.val - 1024 - 1024 - 256 - 256) % 128, by omega⟩ : Fin 128) = ⟨c.val % 128, by omega⟩ := Fin.ext (by show (c.val - 1024 - 1024 - 256 - 256) % 128 = c.val % 128; omega)
    show (head _ (20 + (c.val - 1024 - 1024 - 256 - 256) / 128)) ⟨(c.val - 1024 - 1024 - 256 - 256) % 128, _⟩ * κ = _
    rw [e1, e2]
  rw [dif_neg h5]
  by_cases h6 : c.val - 1024 - 1024 - 256 - 256 - 1024 < 256
  · rw [dif_pos h6, piece_wkC, cell4 (by unfold kind; split_ifs <;> omega), turned_ctx]
    have e1 : 28 + (c.val - 1024 - 1024 - 256 - 256 - 1024) / 128 = c.val / 128 := by omega
    have e2 : (⟨(c.val - 1024 - 1024 - 256 - 256 - 1024) % 128, by omega⟩ : Fin 128) = ⟨c.val % 128, by omega⟩ := Fin.ext (by show (c.val - 1024 - 1024 - 256 - 256 - 1024) % 128 = c.val % 128; omega)
    show (head _ (28 + (c.val - 1024 - 1024 - 256 - 256 - 1024) / 128)) ⟨(c.val - 1024 - 1024 - 256 - 256 - 1024) % 128, _⟩ = _
    rw [e1, e2]
  rw [dif_neg h6]
  by_cases h7 : c.val - 1024 - 1024 - 256 - 256 - 1024 - 256 < 256
  · rw [dif_pos h7, ctx_wv, cell0 (by unfold kind; split_ifs <;> omega)]
    exact head_of _ _ _ _ (by show 3840 + (c.val - 1024 - 1024 - 256 - 256 - 1024 - 256) = 128 * (c.val / 128) + c.val % 128; omega)
  rw [dif_neg h7, ctx_gl, cell0 (by unfold kind; split_ifs <;> omega)]
  exact head_of _ _ _ _ (by show 4096 + (c.val - 1024 - 1024 - 256 - 256 - 1024 - 256 - 256) = 128 * (c.val / 128) + c.val % 128; omega)

/-- The reference's result is the projection's value. -/
theorem result : val_main_v213 (F := Ideal) x0 x1 x2 x3 x4 = fun i => value (prod x0 x1 x2) (gain x3) (gain x4) cosAt sinAt (i 0) (i 1) := by
  have hL := rowsL x0 x1 x2 x3 x4
  have hC := rowsC x0 x1 x2 x3 x4
  funext i
  have hi : i = ix2 (⟨(i 0).val, (i 0).isLt⟩ : Fin 8448) (⟨(i 1).val, (i 1).isLt⟩ : Fin 10240) := by
    funext a
    match a with
    | ⟨0, _⟩ => rfl
    | ⟨1, _⟩ => rfl
  rw [hi]
  show _ = value (prod x0 x1 x2) (gain x3) (gain x4) cosAt sinAt (⟨(i 0).val, (i 0).isLt⟩ : Fin 8448) (⟨(i 1).val, (i 1).isLt⟩ : Fin 10240)
  generalize (⟨(i 0).val, (i 0).isLt⟩ : Fin 8448) = n
  generalize (⟨(i 1).val, (i 1).isLt⟩ : Fin 10240) = c
  clear hi i
  revert hL hC
  unfold val_main_v213 val_main_v212 val_main_v211
  generalize val_main_v201 (F := Ideal) x1 x2 x3 x4 = A
  generalize val_main_v210 (F := Ideal) x0 x2 x3 x4 = B
  intro hL hC
  pointwise []
  by_cases h : n.val < 256
  · rw [dif_pos h, hC]
  · rw [dif_neg h, hL]
    exact congrArg (fun n => value (prod x0 x1 x2) (gain x3) (gain x4) cosAt sinAt n c) (Fin.ext (by show 256 + (n.val - 256) = n.val; omega))

end Cert.Inproj.Reference

end
-- ==== Proof.P.Algebraic.lean ====
/- The input projection's value claim: on the same arguments the kernel and the reference write the same rows, with no precondition. -/
module

public import proofs.«01_k».proof.Defs
public import proofs.«01_k».proof.Proof.P.Final
public import proofs.«01_k».proof.Proof.P.Ref
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Proof

open Idealize.ShloMosaic Idealize.SL.Sem

/-- The reference's rows at equal arguments are equal. -/
theorem same_arguments {x0 y0 : (⟨Cert.Reference2Ideal.S1x256x2048, .f32⟩ : BufTy).Contents (Elt Ideal)} {x1 y1 : (⟨Cert.Reference2Ideal.S1x8192x2048, .f32⟩ : BufTy).Contents (Elt Ideal)}
    {x2 y2 : (⟨Cert.Reference2Ideal.S2x2048x10240, .f32⟩ : BufTy).Contents (Elt Ideal)} {x3 y3 x4 y4 : (⟨Cert.Reference2Ideal.S2x128, .f32⟩ : BufTy).Contents (Elt Ideal)}
    (h0 : x0 = y0) (h1 : x1 = y1) (h2 : x2 = y2) (h3 : x3 = y3) (h4 : x4 = y4) :
    Cert.Reference2Ideal.Read.val_main_v213 (F := Ideal) x0 x1 x2 x3 x4 = Cert.Reference2Ideal.Read.val_main_v213 (F := Ideal) y0 y1 y2 y3 y4 := by
  rw [h0, h1, h2, h3, h4]

/-- The input projection's kernel and its reference agree. -/
theorem algebraic2 : Cert.algebraic_Kernel2Ideal_Reference2Ideal := by
  pair_intro
  · run_from Cert.Kernel2Ideal.Value.run m g
  · run_from Cert.Reference2Ideal.Value.run m' g'
    obtain ⟨a0, a1, a2, a3, a4⟩ := hagree c
    refine Eq.trans ?_ (Cert.Inproj.final m c).symm
    refine (Cert.Reference2Ideal.Read.val_main_v213_eq _).trans ?_
    exact (same_arguments a0 a1 a2 a3 a4).trans (Cert.Inproj.Reference.result _ _ _ _ _)

end Cert.Proof

end
-- ==== Proof.N.Frames.lean ====
/- The stacking call's frames: its three programs run, leave their arguments as they were and every semaphore at zero. -/
module

public import proofs.«01_k».proof.Defs
public import proofs.«01_k».proof.Proof.Gen.Kernel3
public import proofs.«01_k».proof.Proof.Gen.Kernel3Ideal.Frame
public import proofs.«01_k».proof.Proof.Gen.Reference3Ideal.Run
public import Idealize.ShloMosaic.Lib.Claim
public import Idealize.ShloMosaic.Lib.Quiescent

@[expose] public section

set_option maxRecDepth 16384

noncomputable section

namespace Cert.Proof

open Idealize.ShloMosaic Idealize.SL.Sem

/-- The idealized stacking call's frame. -/
theorem frameI3 : Cert.quiescent_Kernel3Ideal := fun m g _ => Cert.Kernel3Ideal.Gen.frame m g

/-- The stacking call's reference's frame. -/
theorem frameR3 : Cert.quiescent_Reference3Ideal := by
  intro m g _
  exact (θ_run Cert.Reference3Ideal.defs _ _).mono (fun r h => ⟨fun c => (h c).2.2, sem_eq_zero_of_no_sems (by decide) r.2⟩) (Cert.Reference3Ideal.Value.run m g)

set_option backward.isDefEq.respectTransparency.types false in
/-- The two programs' kernel bodies are one text. -/
theorem body_same3 : @Cert.Kernel3.cc0_stack_norm1 Bits _ _ = @Cert.Kernel3Ideal.cc0_stack_norm1 Bits _ _ := rfl

set_option backward.isDefEq.respectTransparency.types false in
/-- So are their kernels' tables: there is one label. -/
theorem table_same3 : @Cert.Kernel3.defs₀ Bits _ _ = @Cert.Kernel3Ideal.defs₀ Bits _ _ := by
  unfold Cert.Kernel3.defs₀ Cert.Kernel3Ideal.defs₀
  refine congrArg Defs.onTc ?_
  funext l
  match l with
  | 0 => rfl

set_option backward.isDefEq.respectTransparency.types false in
/-- So are their body tables. -/
theorem defs_same3 : @Cert.Kernel3.defs Bits _ _ = @Cert.Kernel3Ideal.defs Bits _ _ := by
  unfold Cert.Kernel3.defs Cert.Kernel3Ideal.defs
  exact congrArg (Pipeline.defs (Cert.Kernel3.pcfgs (F := Bits))) table_same3

set_option maxHeartbeats 1000000 in
set_option backward.isDefEq.respectTransparency.types false in
/-- So are their host lines. -/
theorem main_same3 : @Cert.Kernel3.main Bits _ = @Cert.Kernel3Ideal.main Bits _ := rfl

set_option backward.isDefEq.respectTransparency.types false in
/-- The stacking call's frame: the printed program is the idealized one's text, run on words. -/
theorem frameK3 : Cert.quiescent_Kernel3 := by
  intro m g _
  rw [defs_same3, main_same3]
  exact Cert.Kernel3Ideal.Gen.frame (F := Bits) m g

end Cert.Proof

end
-- ==== Proof.N.Spec.lean ====
/- What the first norm and modulation compute of one row, and the rows they are of. -/
module

public import Idealize.ShloMosaic.PureOps.Ideal.Laws
public import Idealize.ShloMosaic.Lib.ValueIdx
public import Idealize.ShloMosaic.Lib.Pointwise

@[expose] public section

set_option maxRecDepth 16384

noncomputable section

namespace Cert.Norm

open Idealize.ShloMosaic

/-- A row divided by the root of its mean square, times a gain widened by a scale, plus a shift. -/
def modulated (x g sh sc : Fin 2048 → EReal) (d : Fin 2048) : EReal :=
  x d * Ideal.rsqrt (Ideal.div (∑ e : Fin 2048, x e * x e) (Ideal.ofBits .f32 0x45000000#32) + Ideal.ofBits .f32 0x358637BD#32) * (g d * (Ideal.ofBits .f32 0x3F800000#32 + sc d)) + sh d

/-- The stacked rows: the context's, then the latent's. -/
def stacked (x : FVec Ideal ⟨3, ![1, 8192, 2048]⟩ .f32) (ctx : FVec Ideal ⟨3, ![1, 256, 2048]⟩ .f32) (n : Fin 8448) (d : Fin 2048) : EReal :=
  if h : n.val < 256 then ctx (ix3 0 ⟨n.val, h⟩ d) else x (ix3 0 ⟨n.val - 256, by have := n.isLt; omega⟩ d)

/-- The modulation's row: the context's rows take the second, the latent's the first. -/
def which (n : ℕ) : Fin 8 := if n < 256 then 1 else 0

/-- The result at row `n` and channel `d`: the shift stands in the modulation's first 2048 columns, the scale in the next 2048. -/
def value (x : FVec Ideal ⟨3, ![1, 8192, 2048]⟩ .f32) (ctx : FVec Ideal ⟨3, ![1, 256, 2048]⟩ .f32) (md : FVec Ideal ⟨2, ![8, 12288]⟩ .f32) (g : FVec Ideal ⟨2, ![2, 2048]⟩ .f32) (n : Fin 8448) (d : Fin 2048) : EReal :=
  modulated (stacked x ctx n) (fun d => g (ix2 0 d)) (fun d => md (ix2 (which n.val) ⟨d.val, by have := d.isLt; omega⟩)) (fun d => md (ix2 (which n.val) ⟨2048 + d.val, by have := d.isLt; omega⟩)) d

end Cert.Norm

end
-- ==== Proof.N.Out.lean ====
/- What a grid point leaves in its two blocks: the rows as they are, and the rows normed and modulated. -/
module

public import proofs.«01_k».proof.Proof.N.Spec
public import proofs.«01_k».proof.Proof.Gen.Kernel3Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Norm

open Idealize.ShloMosaic Idealize.ShloMosaic.TcCoe Idealize.SL.Sem
open Cert.Kernel3Ideal Cert.Kernel3Ideal.Gen

variable (m : (ℓ : Loc nD τ sig) → Buf (Elt Ideal) ℓ)

/-- The context rows' payload. -/
theorem pay2_at (x : Vec Ideal S256x2048 .f32) (g sc sh : Vec Ideal S1x2048 .f32) (r : Fin 256) (d : Fin 2048) :
    k0_pay2 x g sc sh (ix2 r d) = modulated (fun e => x (ix2 r e)) (fun e => g (ix2 0 e)) (fun e => sh (ix2 0 e)) (fun e => sc (ix2 0 e)) d := by
  pointwise [k0_pay2, k0_pay1, modulated]

/-- The latent rows' payload is the same function. -/
theorem pay4_eq : @k0_pay4 Ideal _ = @k0_pay2 Ideal _ := rfl

theorem pay1_eq (x : Vec Ideal S256x2048 .f32) : k0_pay1 x = x := by
  funext y
  pointwise [k0_pay1]

theorem pay3_eq (x : Vec Ideal S256x2048 .f32) : k0_pay3 x = x := by
  funext y
  pointwise [k0_pay3]

/-- The first point stages the context's rows and reads the modulation's second row. -/
theorem out_A (c : Dev nD) (t : Fin cfg0.N) (h0 : t.val % 33 = 0) (h1 : ¬1 ≤ t.val) :
    outsAt0 m c t.val t.isLt = (iblk m c 0 t, fun y => modulated (fun e => iblk m c 0 t (ix2 (y 0) e)) (fun e => iblk m c 4 t (ix2 0 e)) (fun e => iblk m c 2 t (ix2 1 e)) (fun e => iblk m c 3 t (ix2 1 e)) (y 1)) := by
  rw [outsAt0_A m c t h0 h1]
  refine Prod.ext ?_ ?_
  · frame_out
    exact pay1_eq _
  · frame_out
    funext y
    obtain ⟨r, d, rfl⟩ : ∃ (r : Fin 256) (d : Fin 2048), y = ix2 r d := ⟨y 0, y 1, eq_ix2 y⟩
    refine (pay2_at _ _ _ _ _ _).trans ?_
    congr 1 <;> funext e <;> pointwise []

/-- The later points stage the latent's rows and read the modulation's first row. -/
theorem out_B (c : Dev nD) (t : Fin cfg0.N) (h0 : ¬t.val % 33 = 0) (h1 : 1 ≤ t.val) :
    outsAt0 m c t.val t.isLt = (iblk m c 1 t, fun y => modulated (fun e => iblk m c 1 t (ix2 (y 0) e)) (fun e => iblk m c 4 t (ix2 0 e)) (fun e => iblk m c 2 t (ix2 0 e)) (fun e => iblk m c 3 t (ix2 0 e)) (y 1)) := by
  rw [outsAt0_B m c t h0 h1]
  refine Prod.ext ?_ ?_
  · frame_out
    exact pay3_eq _
  · frame_out
    funext y
    obtain ⟨r, d, rfl⟩ : ∃ (r : Fin 256) (d : Fin 2048), y = ix2 r d := ⟨y 0, y 1, eq_ix2 y⟩
    rw [pay4_eq]
    refine (pay2_at _ _ _ _ _ _).trans ?_
    congr 1 <;> funext e <;> pointwise []

end Cert.Norm

end
-- ==== Proof.N.Final.lean ====
/- The two arrays the call returns: the stacked rows, and the stacked rows normed and modulated. -/
module

public import proofs.«01_k».proof.Proof.N.Out
public import proofs.«01_k».proof.Proof.Gen.Kernel3Ideal.Value
public import Idealize.ShloMosaic.Lib.Claim

@[expose] public section

set_option maxRecDepth 16384

noncomputable section

namespace Cert.Norm

open Idealize.ShloMosaic Idealize.ShloMosaic.TcCoe Idealize.SL.Sem
open Cert.Kernel3Ideal Cert.Kernel3Ideal.Gen

variable (m : (ℓ : Loc nD τ sig) → Buf (Elt Ideal) ℓ)

theorem lt33 (t : Fin cfg0.N) : t.val < 33 := lt_of_lt_of_eq t.isLt N_0

/-- Which block of its array a point stages, window by window. -/
theorem idx : ∀ t : Fin cfg0.N, win0_0.index t = ![0, 0] ∧ win0_1.index t = ![t.val - 1, 0] ∧ win0_2.index t = ![0, 0]
    ∧ win0_3.index t = ![0, 1] ∧ win0_4.index t = ![0, 0] ∧ win0_5.index t = ![t.val, 0] ∧ win0_6.index t = ![t.val, 0] :=
  (by decide +kernel : ∀ t : Fin grid0.N, _)

/-- A cast that drops a leading axis of one, at an index. -/
theorem ctx_at (A : FVec Ideal S1x256x2048 .f32) (n : Fin 256) (d : Fin 2048) : shapeCast S256x2048 A shapeCasts_S1x256x2048_S256x2048 (ix2 n d) = A (ix3 0 n d) := by
  pointwise []

theorem lat_at (A : FVec Ideal S1x8192x2048 .f32) (n : Fin 8192) (d : Fin 2048) : shapeCast S8192x2048 A shapeCasts_S1x8192x2048_S8192x2048 (ix2 n d) = A (ix3 0 n d) := by
  pointwise []

/-- The gain's first row, taken as the kernel's call takes it, at an index. -/
theorem gain_at (A : FVec Ideal S2x2048 .f32) (d : Fin 2048) :
    broadcastInDim S1x2048 ![1] bcast_S2048_S1x2048_1 (shapeCast S2048 (extractStridedSlice S1x2048 ![0, 0] A slices_S2x2048_S1x2048_0_0) shapeCasts_S1x2048_S2048) (ix2 0 d) = A (ix2 0 d) := by
  pointwise []

theorem V_ctx (c : Dev nD) (n : Fin 256) (d : Fin 2048) : V m c main_v0 (ix2 n d) = m ((c : Thread nD τ).loc main_arg1) (ix3 0 n d) := by
  have e : V m c main_v0 = shapeCast S256x2048 (m ((c : Thread nD τ).loc main_arg1) : FVec Ideal S1x256x2048 .f32) shapeCasts_S1x256x2048_S256x2048 := by
    simp only [V, hostOps0, List.flatten_cons, List.flatten_nil, List.append_nil, List.cons_append, List.nil_append]
    after_results
    rfl
  exact (congrFun e _).trans (ctx_at _ n d)

theorem V_lat (c : Dev nD) (n : Fin 8192) (d : Fin 2048) : V m c main_v1 (ix2 n d) = m ((c : Thread nD τ).loc main_arg0) (ix3 0 n d) := by
  have e : V m c main_v1 = shapeCast S8192x2048 (m ((c : Thread nD τ).loc main_arg0) : FVec Ideal S1x8192x2048 .f32) shapeCasts_S1x8192x2048_S8192x2048 := by
    simp only [V, hostOps0, List.flatten_cons, List.flatten_nil, List.append_nil, List.cons_append, List.nil_append]
    after_results
    rfl
  exact (congrFun e _).trans (lat_at _ n d)

theorem V_gain (c : Dev nD) (d : Fin 2048) : V m c main_v4 (ix2 0 d) = m ((c : Thread nD τ).loc main_arg3) (ix2 0 d) := by
  have e : V m c main_v4 = broadcastInDim S1x2048 ![1] bcast_S2048_S1x2048_1 (shapeCast S2048 (extractStridedSlice S1x2048 ![0, 0] (m ((c : Thread nD τ).loc main_arg3) : FVec Ideal S2x2048 .f32) slices_S2x2048_S1x2048_0_0) shapeCasts_S1x2048_S2048) := by
    simp only [V, hostOps0, List.flatten_cons, List.flatten_nil, List.append_nil, List.cons_append, List.nil_append]
    after_results
    rfl
  exact (congrFun e _).trans (gain_at _ d)

/-- The context's rows, at every point. -/
theorem blk0 (c : Dev nD) (t : Fin cfg0.N) (r : Fin 256) (k : Fin 2048) : iblk m c 0 t (ix2 r k) = m ((c : Thread nD τ).loc main_arg1) (ix3 0 r k) := by
  rw [← V_ctx m c]
  blk_ext [iblk, idx t]

/-- A later point's latent rows. -/
theorem blk1 (c : Dev nD) (t : Fin cfg0.N) (r : Fin 256) (k : Fin 2048) :
    iblk m c 1 t (ix2 r k) = m ((c : Thread nD τ).loc main_arg0) (ix3 0 ⟨256 * (t.val - 1) + r.val, by have := lt33 t; omega⟩ k) := by
  have ht := lt33 t
  rw [← V_lat m c]
  blk_ext [iblk, idx t]

/-- The shifts. -/
theorem blk2 (c : Dev nD) (t : Fin cfg0.N) (w : Fin 8) (k : Fin 2048) :
    iblk m c 2 t (ix2 w k) = m ((c : Thread nD τ).loc main_arg2) (ix2 w ⟨k.val, by omega⟩) := by
  rw [← V_main_arg2 m c]
  blk_ext [iblk, idx t]

/-- The scales. -/
theorem blk3 (c : Dev nD) (t : Fin cfg0.N) (w : Fin 8) (k : Fin 2048) :
    iblk m c 3 t (ix2 w k) = m ((c : Thread nD τ).loc main_arg2) (ix2 w ⟨2048 + k.val, by omega⟩) := by
  rw [← V_main_arg2 m c]
  blk_ext [iblk, idx t]

/-- The gain. -/
theorem blk4 (c : Dev nD) (t : Fin cfg0.N) (k : Fin 2048) : iblk m c 4 t (ix2 0 k) = m ((c : Thread nD τ).loc main_arg3) (ix2 0 k) := by
  rw [← V_gain m c]
  blk_ext [iblk, idx t]

abbrev rowsOf (c : Dev nD) : Fin 8448 → Fin 2048 → EReal := stacked (m ((c : Thread nD τ).loc main_arg0)) (m ((c : Thread nD τ).loc main_arg1))
abbrev valueOf (c : Dev nD) : Fin 8448 → Fin 2048 → EReal :=
  value (m ((c : Thread nD τ).loc main_arg0)) (m ((c : Thread nD τ).loc main_arg1)) (m ((c : Thread nD τ).loc main_arg2)) (m ((c : Thread nD τ).loc main_arg3))

/-- What a point leaves in its two blocks. -/
theorem out_at (c : Dev nD) (t : Fin cfg0.N) :
    outsAt0 m c t.val t.isLt = (fun y => rowsOf m c ⟨256 * t.val + (y 0).val, by have := lt33 t; have : (y 0).val < 256 := (y 0).isLt; omega⟩ (y 1),
      fun y => valueOf m c ⟨256 * t.val + (y 0).val, by have := lt33 t; have : (y 0).val < 256 := (y 0).isLt; omega⟩ (y 1)) := by
  have ht := lt33 t
  have g : (fun e => iblk m c 4 t (ix2 0 e)) = fun d => m ((c : Thread nD τ).loc main_arg3) (ix2 0 d) := funext fun e => blk4 m c t e
  have sh : ∀ w : Fin 8, (fun e => iblk m c 2 t (ix2 w e)) = fun d : Fin 2048 => m ((c : Thread nD τ).loc main_arg2) (ix2 w ⟨d.val, by omega⟩) := fun w => funext fun e => blk2 m c t w e
  have sc : ∀ w : Fin 8, (fun e => iblk m c 3 t (ix2 w e)) = fun d : Fin 2048 => m ((c : Thread nD τ).loc main_arg2) (ix2 w ⟨2048 + d.val, by omega⟩) := fun w => funext fun e => blk3 m c t w e
  by_cases hz : t.val = 0
  · rw [out_A m c t (by omega) (by omega)]
    have x : ∀ (r : Fin 256) (k : Fin 2048) (h), iblk m c 0 t (ix2 r k) = rowsOf m c ⟨256 * t.val + r.val, h⟩ k := fun r k h => by
      rw [blk0]
      unfold rowsOf stacked
      rw [dif_pos (by show 256 * t.val + r.val < 256; omega)]
      exact congrArg (fun n => m ((c : Thread nD τ).loc main_arg1) (ix3 0 n k)) (Fin.ext (by show r.val = 256 * t.val + r.val; omega))
    refine Prod.ext (funext fun y => ?_) (funext fun y => ?_)
    · obtain ⟨r, d, rfl⟩ : ∃ (r : Fin 256) (d : Fin 2048), y = ix2 r d := ⟨y 0, y 1, eq_ix2 y⟩
      exact x _ _ _
    · have hy : (y 0).val < 256 := (y 0).isLt
      dsimp only
      rw [g, sh, sc]
      unfold valueOf value
      rw [show which (256 * t.val + (y 0).val) = 1 from if_pos (by omega)]
      exact congrArg (fun z => modulated z _ _ _ _) (funext fun e => x _ e _)
  · rw [out_B m c t (by omega) (by omega)]
    have x : ∀ (r : Fin 256) (k : Fin 2048) (h), iblk m c 1 t (ix2 r k) = rowsOf m c ⟨256 * t.val + r.val, h⟩ k := fun r k h => by
      rw [blk1]
      unfold rowsOf stacked
      rw [dif_neg (by show ¬256 * t.val + r.val < 256; omega)]
      exact congrArg (fun n => m ((c : Thread nD τ).loc main_arg0) (ix3 0 n k)) (Fin.ext (by show 256 * (t.val - 1) + r.val = 256 * t.val + r.val - 256; omega))
    refine Prod.ext (funext fun y => ?_) (funext fun y => ?_)
    · obtain ⟨r, d, rfl⟩ : ∃ (r : Fin 256) (d : Fin 2048), y = ix2 r d := ⟨y 0, y 1, eq_ix2 y⟩
      exact x _ _ _
    · have hy : (y 0).val < 256 := (y 0).isLt
      dsimp only
      rw [g, sh, sc]
      unfold valueOf value
      rw [show which (256 * t.val + (y 0).val) = 0 from if_neg (by omega)]
      exact congrArg (fun z => modulated z _ _ _ _) (funext fun e => x _ e _)

/-- The first array: the stacked rows. -/
theorem final5 (c : Dev nD) : (dats m 0 c).arrAt 5 cfg0.N = fun i : S8448x2048.Idx => rowsOf m c (i 0) (i 1) := by
  refine (dats m 0 c).arrAt_eq_of_covers 5 _ (by decide +kernel) fun t _ y => ?_
  have ht := lt33 t
  blk_simp
  rw [after0_5, out_at]
  refine congrArg₂ (rowsOf m c) (Fin.ext ?_) (Fin.ext ?_) <;> blk_simp [idx t]
  all_goals exact congrArg (· + (y 0).val) (Nat.mul_comm _ _)

/-- The second: the rows normed and modulated. -/
theorem final6 (c : Dev nD) : (dats m 0 c).arrAt 6 cfg0.N = fun i : S8448x2048.Idx => valueOf m c (i 0) (i 1) := by
  refine (dats m 0 c).arrAt_eq_of_covers 6 _ (by decide +kernel) fun t _ y => ?_
  have ht := lt33 t
  blk_simp
  rw [after0_6, out_at]
  refine congrArg₂ (valueOf m c) (Fin.ext ?_) (Fin.ext ?_) <;> blk_simp [idx t]
  all_goals exact congrArg (· + (y 0).val) (Nat.mul_comm _ _)

end Cert.Norm

end
-- ==== Proof.N.Ref.lean ====
/- The reference's stacked rows and its normed, modulated rows, entry by entry: its gain times the widened row is the row times the widened gain. -/
module

public import proofs.«01_k».proof.Proof.N.Spec
public import proofs.«01_k».proof.Proof.Gen.Reference3Ideal.Read

@[expose] public section

set_option maxRecDepth 16384

noncomputable section

namespace Cert.Norm.Reference

open Idealize.ShloMosaic Idealize.ShloMosaic.TcCoe Idealize.SL.Sem
open Cert.Reference3Ideal Cert.Reference3Ideal.Gen Cert.Reference3Ideal.Read

variable (x : FVec Ideal S1x8192x2048 .f32) (ctx : FVec Ideal S1x256x2048 .f32) (md : FVec Ideal S8x12288 .f32) (g : FVec Ideal S2x2048 .f32)

/-- The reference's order of the factors. -/
def refModulated (x g sh sc : Fin 2048 → EReal) (d : Fin 2048) : EReal :=
  x d * Ideal.rsqrt (Ideal.div (∑ e : Fin 2048, x e * x e) (Ideal.ofBits .f32 0x45000000#32) + Ideal.ofBits .f32 0x358637BD#32) * g d * (Ideal.ofBits .f32 0x3F800000#32 + sc d) + sh d

theorem refModulated_eq (x g sh sc : Fin 2048 → EReal) (d : Fin 2048) : refModulated x g sh sc d = modulated x g sh sc d := by
  unfold refModulated modulated
  rw [mul_assoc (_ * _) (g d)]

/-- The latent rows. -/
theorem lat (n : Fin 8192) (d : Fin 2048) : val_main_v36 (F := Ideal) x md g (ix3 0 n d)
    = refModulated (fun e => x (ix3 0 n e)) (fun e => g (ix2 0 e)) (fun e => md (ix2 0 ⟨e.val, by have := e.isLt; omega⟩)) (fun e => md (ix2 0 ⟨2048 + e.val, by have := e.isLt; omega⟩)) d := by
  pointwise [val_main_v36, val_main_v35, val_main_v34, val_main_v33, val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_cst, val_main_cst_0, val_main_cst_1, val_main_cst_2, val_main_v0, val_main_v1, val_main_v2, refModulated]

/-- The context rows. -/
theorem con (n : Fin 256) (d : Fin 2048) : val_main_v59 (F := Ideal) ctx md g (ix3 0 n d)
    = refModulated (fun e => ctx (ix3 0 n e)) (fun e => g (ix2 0 e)) (fun e => md (ix2 1 ⟨e.val, by have := e.isLt; omega⟩)) (fun e => md (ix2 1 ⟨2048 + e.val, by have := e.isLt; omega⟩)) d := by
  pointwise [val_main_v59, val_main_v58, val_main_v57, val_main_v56, val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_cst_3, val_main_cst_4, val_main_cst_5, val_main_cst_6, val_main_v7, val_main_v8, val_main_v9, refModulated]

/-- The first result. -/
theorem rows : val_main_v61 (F := Ideal) x ctx = fun i : S8448x2048.Idx => stacked x ctx (i 0) (i 1) := by
  funext i
  obtain ⟨n, d, rfl⟩ : ∃ (n : Fin 8448) (d : Fin 2048), i = ix2 n d := ⟨i 0, i 1, eq_ix2 i⟩
  pointwise [val_main_v61, val_main_v60, stacked]

/-- The second result. -/
theorem result : val_main_v64 (F := Ideal) x ctx md g = fun i : S8448x2048.Idx => value x ctx md g (i 0) (i 1) := by
  funext i
  obtain ⟨n, d, rfl⟩ : ∃ (n : Fin 8448) (d : Fin 2048), i = ix2 n d := ⟨i 0, i 1, eq_ix2 i⟩
  have e : val_main_v64 (F := Ideal) x ctx md g (ix2 n d) = if h : n.val < 256 then val_main_v59 (F := Ideal) ctx md g (ix3 0 ⟨n.val, h⟩ d) else val_main_v36 (F := Ideal) x md g (ix3 0 ⟨n.val - 256, by have := n.isLt; omega⟩ d) := by
    unfold val_main_v64 val_main_v63 val_main_v62
    generalize val_main_v59 (F := Ideal) ctx md g = A
    generalize val_main_v36 (F := Ideal) x md g = B
    pointwise []
  refine e.trans ?_
  show _ = value x ctx md g n d
  unfold value stacked which
  by_cases h : n.val < 256
  · simp only [dif_pos h, if_pos h]
    exact (con ctx md g _ d).trans (refModulated_eq _ _ _ _ _)
  · simp only [dif_neg h, if_neg h]
    exact (lat x md g _ d).trans (refModulated_eq _ _ _ _ _)

end Cert.Norm.Reference

end
-- ==== Proof.N.Algebraic.lean ====
/- The stacking call's value claim: on the same arguments the kernel and the reference write the same two arrays, with no precondition. -/
module

public import proofs.«01_k».proof.Defs
public import proofs.«01_k».proof.Proof.N.Final
public import proofs.«01_k».proof.Proof.N.Ref
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Proof

open Idealize.ShloMosaic Idealize.SL.Sem

/-- The reference's stacked rows at equal arguments are equal. -/
theorem same_rows {x0 y0 : (⟨Cert.Reference3Ideal.S1x8192x2048, .f32⟩ : BufTy).Contents (Elt Ideal)} {x1 y1 : (⟨Cert.Reference3Ideal.S1x256x2048, .f32⟩ : BufTy).Contents (Elt Ideal)}
    (h0 : x0 = y0) (h1 : x1 = y1) : Cert.Reference3Ideal.Read.val_main_v61 (F := Ideal) x0 x1 = Cert.Reference3Ideal.Read.val_main_v61 (F := Ideal) y0 y1 := by
  rw [h0, h1]

/-- So are its normed, modulated rows. -/
theorem same_values {x0 y0 : (⟨Cert.Reference3Ideal.S1x8192x2048, .f32⟩ : BufTy).Contents (Elt Ideal)} {x1 y1 : (⟨Cert.Reference3Ideal.S1x256x2048, .f32⟩ : BufTy).Contents (Elt Ideal)}
    {x2 y2 : (⟨Cert.Reference3Ideal.S8x12288, .f32⟩ : BufTy).Contents (Elt Ideal)} {x3 y3 : (⟨Cert.Reference3Ideal.S2x2048, .f32⟩ : BufTy).Contents (Elt Ideal)}
    (h0 : x0 = y0) (h1 : x1 = y1) (h2 : x2 = y2) (h3 : x3 = y3) :
    Cert.Reference3Ideal.Read.val_main_v64 (F := Ideal) x0 x1 x2 x3 = Cert.Reference3Ideal.Read.val_main_v64 (F := Ideal) y0 y1 y2 y3 := by
  rw [h0, h1, h2, h3]

/-- The stacking call's kernel and its reference agree. -/
theorem algebraic3 : Cert.algebraic_Kernel3Ideal_Reference3Ideal := by
  pair_intro
  · run_from Cert.Kernel3Ideal.Value.run_blocks m g
  · refine (θ_run Cert.Reference3Ideal.defs _ _).mono (fun r h c => ⟨(h c).1.trans ?_, (h c).2.1.trans ?_, (h c).2.2⟩) (Cert.Reference3Ideal.Value.run m' g')
    · obtain ⟨a0, a1, a2, a3⟩ := hagree c
      refine Eq.trans ?_ (Cert.Norm.final5 m c).symm
      refine (Cert.Reference3Ideal.Read.val_main_v61_eq _ _).trans ?_
      exact (same_rows a0 a1).trans (Cert.Norm.Reference.rows _ _)
    · obtain ⟨a0, a1, a2, a3⟩ := hagree c
      refine Eq.trans ?_ (Cert.Norm.final6 m c).symm
      refine (Cert.Reference3Ideal.Read.val_main_v64_eq _ _ _ _).trans ?_
      exact (same_values a0 a1 a2 a3).trans (Cert.Norm.Reference.result _ _ _ _)

end Cert.Proof

end
-- ==== Proof.D.Frames.lean ====
/- The adaptive modulation's frames: its three programs run, leave their arguments as they were and every semaphore at zero. -/
module

public import proofs.«01_k».proof.Defs
public import proofs.«01_k».proof.Proof.Gen.Kernel4
public import proofs.«01_k».proof.Proof.Gen.Kernel4Ideal.Frame
public import proofs.«01_k».proof.Proof.Gen.Reference4Ideal.Run
public import Idealize.ShloMosaic.Lib.Claim
public import Idealize.ShloMosaic.Lib.Quiescent

@[expose] public section

set_option maxRecDepth 16384

noncomputable section

namespace Cert.Proof

open Idealize.ShloMosaic Idealize.SL.Sem

/-- The idealized adaptive modulation's frame. -/
theorem frameI4 : Cert.quiescent_Kernel4Ideal := fun m g _ => Cert.Kernel4Ideal.Gen.frame m g

/-- The adaptive modulation's reference's frame. -/
theorem frameR4 : Cert.quiescent_Reference4Ideal := by
  intro m g _
  exact (θ_run Cert.Reference4Ideal.defs _ _).mono (fun r h => ⟨fun c => (h c).2, sem_eq_zero_of_no_sems (by decide) r.2⟩) (Cert.Reference4Ideal.Value.run m g)

set_option backward.isDefEq.respectTransparency.types false in
/-- The two programs' kernel bodies are one text. -/
theorem body_same4 : @Cert.Kernel4.cc0_ada Bits _ _ = @Cert.Kernel4Ideal.cc0_ada Bits _ _ := rfl

set_option backward.isDefEq.respectTransparency.types false in
/-- So are their kernels' tables: there is one label. -/
theorem table_same4 : @Cert.Kernel4.defs₀ Bits _ _ = @Cert.Kernel4Ideal.defs₀ Bits _ _ := by
  unfold Cert.Kernel4.defs₀ Cert.Kernel4Ideal.defs₀
  refine congrArg Defs.onTc ?_
  funext l
  match l with
  | 0 => rfl

set_option backward.isDefEq.respectTransparency.types false in
/-- So are their body tables. -/
theorem defs_same4 : @Cert.Kernel4.defs Bits _ _ = @Cert.Kernel4Ideal.defs Bits _ _ := by
  unfold Cert.Kernel4.defs Cert.Kernel4Ideal.defs
  exact congrArg (Pipeline.defs (Cert.Kernel4.pcfgs (F := Bits))) table_same4

set_option maxHeartbeats 1000000 in
set_option backward.isDefEq.respectTransparency.types false in
/-- So are their host lines. -/
theorem main_same4 : @Cert.Kernel4.main Bits _ = @Cert.Kernel4Ideal.main Bits _ := rfl

set_option backward.isDefEq.respectTransparency.types false in
/-- The adaptive modulation's frame: the printed program is the idealized one's text, run on words. -/
theorem frameK4 : Cert.quiescent_Kernel4 := by
  intro m g _
  rw [defs_same4, main_same4]
  exact Cert.Kernel4Ideal.Gen.frame (F := Bits) m g

end Cert.Proof

end
-- ==== Proof.D.Spec.lean ====
/- The adaptive modulation in closed form: a layer's row is the activated conditioning against the layer's weight, plus its bias; six rows of zeros follow the two. -/
module

public import Idealize.ShloMosaic.Lib.Pointwise

@[expose] public section

noncomputable section

namespace Cert.Ada

open Idealize.ShloMosaic

/-- An entry through the sigmoid-weighted unit. -/
def silu (z : EReal) : EReal :=
  z * Ideal.div (Ideal.ofBits .f32 0x3F800000#32) (Ideal.ofBits .f32 0x3F800000#32 + Ideal.exp (Ideal.ofBits .f32 0x00000000#32 - z))

/-- Column `j` of a row: the activated row against the column of the weight, plus the bias. -/
def affine (v w : Fin 2048 → EReal) (b : EReal) : EReal := (∑ k : Fin 2048, w k * silu (v k)) + b

/-- A layer's eight rows: the conditioning's, the context conditioning's, zeros. -/
def rows (v v' w : Fin 2048 → EReal) (b : EReal) (r : Fin 8) : EReal :=
  if r.val = 0 then affine v w b else if r.val = 1 then affine v' w b else Ideal.ofBits .f32 0x00000000#32

end Cert.Ada

end
-- ==== Proof.D.Out.lean ====
/- What one point of the adaptive modulation's grid leaves in its block. -/
module

public import proofs.«01_k».proof.Proof.D.Spec
public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.Ada

open Idealize.ShloMosaic Idealize.ShloMosaic.TcCoe Idealize.SL.Sem
open Cert.Kernel4Ideal Cert.Kernel4Ideal.Gen

/-- The activated conditioning, entry by entry. -/
theorem pay2_at (x : Vec Ideal S2x2048x128 .f32) (r : Fin 2) (k : Fin 2048) (l : Fin 128) : k0_pay2 x (ix3 r k l) = silu (x (ix3 r k l)) := by
  pointwise [k0_pay2, silu]

/-- A group of 128 columns of the first row. -/
def col0 (s : FVec Ideal S2x2048x128 .f32) (w : Vec Ideal S1x2048x128 .f32) : FVec Ideal S1x128 .f32 :=
  shapeCast S1x128 (multiReduction .add [0] S128 (mulf (shapeCast S2048x128 (w : FVec Ideal S1x2048x128 .f32) shapeCasts_S1x2048x128_S2048x128)
    (shapeCast S2048x128 (extractStridedSlice S1x2048x128 ![0, 0, 0] s slices_S2x2048x128_o0_0_0_S1x2048x128) shapeCasts_S1x2048x128_S2048x128))
    0x00000000#32 reduces_S2048x128_S128 (.inl rfl) rfl) shapeCasts_S128_S1x128

/-- A group of 128 columns of the second row. -/
def col1 (s : FVec Ideal S2x2048x128 .f32) (w : Vec Ideal S1x2048x128 .f32) : FVec Ideal S1x128 .f32 :=
  shapeCast S1x128 (multiReduction .add [0] S128 (mulf (shapeCast S2048x128 (w : FVec Ideal S1x2048x128 .f32) shapeCasts_S1x2048x128_S2048x128)
    (shapeCast S2048x128 (extractStridedSlice S1x2048x128 ![1, 0, 0] s slices_S2x2048x128_o1_0_0_S1x2048x128) shapeCasts_S1x2048x128_S2048x128))
    0x00000000#32 reduces_S2048x128_S128 (.inl rfl) rfl) shapeCasts_S128_S1x128

theorem col0_at (s : FVec Ideal S2x2048x128 .f32) (w : Vec Ideal S1x2048x128 .f32) (l : Fin 128) :
    col0 s w (ix2 0 l) = ∑ k : Fin 2048, w (ix3 0 k l) * s (ix3 0 k l) := by
  pointwise [col0]

theorem col1_at (s : FVec Ideal S2x2048x128 .f32) (w : Vec Ideal S1x2048x128 .f32) (l : Fin 128) :
    col1 s w (ix2 0 l) = ∑ k : Fin 2048, w (ix3 0 k l) * s (ix3 1 k l) := by
  pointwise [col1]

/-- A row: its eight groups side by side, plus the bias. -/
def row (c0 c1 c2 c3 c4 c5 c6 c7 : FVec Ideal S1x128 .f32) (b : Vec Ideal S1x1x1024 .f32) : FVec Ideal S1x1024 .f32 :=
  addf (concatenate S1x1024 1 [⟨S1x128, c0⟩, ⟨S1x128, c1⟩, ⟨S1x128, c2⟩, ⟨S1x128, c3⟩, ⟨S1x128, c4⟩, ⟨S1x128, c5⟩, ⟨S1x128, c6⟩, ⟨S1x128, c7⟩]
    concatenates_S1x128_S1x128_S1x128_S1x128_S1x128_S1x128_S1x128_S1x128_S1x1024_d1) (shapeCast S1x1024 (b : FVec Ideal S1x1x1024 .f32) shapeCasts_S1x1x1024_S1x1024)

/-- A row at a column, when every group is one function of the column. -/
theorem row_at (c0 c1 c2 c3 c4 c5 c6 c7 : FVec Ideal S1x128 .f32) (b : Vec Ideal S1x1x1024 .f32) (f : Fin 1024 → EReal)
    (h0 : ∀ l : Fin 128, c0 (ix2 0 l) = f ⟨l.val, by omega⟩) (h1 : ∀ l : Fin 128, c1 (ix2 0 l) = f ⟨128 + l.val, by omega⟩)
    (h2 : ∀ l : Fin 128, c2 (ix2 0 l) = f ⟨256 + l.val, by omega⟩) (h3 : ∀ l : Fin 128, c3 (ix2 0 l) = f ⟨384 + l.val, by omega⟩)
    (h4 : ∀ l : Fin 128, c4 (ix2 0 l) = f ⟨512 + l.val, by omega⟩) (h5 : ∀ l : Fin 128, c5 (ix2 0 l) = f ⟨640 + l.val, by omega⟩)
    (h6 : ∀ l : Fin 128, c6 (ix2 0 l) = f ⟨768 + l.val, by omega⟩) (h7 : ∀ l : Fin 128, c7 (ix2 0 l) = f ⟨896 + l.val, by omega⟩)
    (j : Fin 1024) : row c0 c1 c2 c3 c4 c5 c6 c7 b (ix2 0 j) = f j + b (ix3 0 0 j) := by
  have hj := j.isLt
  pointwise [row]
  refine congrArg (· + b (ix3 0 0 j)) ?_
  split_ifs
  all_goals simp only [h0, h1, h2, h3, h4, h5, h6, h7]
  all_goals exact congrArg f (Fin.ext (by simp only []; omega))

/-- The block: the two rows and six of zeros. -/
theorem pay1_eq (s : FVec Ideal S2x2048x128 .f32) (r0 : FVec Ideal S1x1024 .f32) (c0 c1 c2 c3 c4 c5 : FVec Ideal S1x128 .f32) (w6 w7 : Vec Ideal S1x2048x128 .f32) (b : Vec Ideal S1x1x1024 .f32) :
    k0_pay1 s r0 c0 c1 c2 c3 c4 c5 w6 w7 b = shapeCast S1x8x1024 (concatenate S8x1024 0 [⟨S1x1024, r0⟩, ⟨S1x1024, row c0 c1 c2 c3 c4 c5 (col1 s w6) (col1 s w7) b⟩,
      ⟨S6x1024, broadcast S6x1024 (Scalar.ofBits .f32 0x00000000#32 : Ideal .f32)⟩] concatenates_S1x1024_S1x1024_S6x1024_S8x1024_d0) shapeCasts_S8x1024_S1x8x1024 := rfl

theorem block_at (r0 r1 : FVec Ideal S1x1024 .f32) (r : Fin 8) (j : Fin 1024) :
    shapeCast S1x8x1024 (concatenate S8x1024 0 [⟨S1x1024, r0⟩, ⟨S1x1024, r1⟩,
      ⟨S6x1024, broadcast S6x1024 (Scalar.ofBits .f32 0x00000000#32 : Ideal .f32)⟩] concatenates_S1x1024_S1x1024_S6x1024_S8x1024_d0) shapeCasts_S8x1024_S1x8x1024 (ix3 0 r j)
      = if r.val = 0 then r0 (ix2 0 j) else if r.val = 1 then r1 (ix2 0 j) else Ideal.ofBits .f32 0x00000000#32 := by
  pointwise []
  by_cases h0 : r.val = 0
  · obtain rfl : r = 0 := Fin.ext h0
    rfl
  · by_cases h1 : r.val = 1
    · obtain rfl : r = 1 := Fin.ext h1
      rfl
    · rw [dif_neg (by omega), dif_neg (by omega), if_neg h0, if_neg h1]

theorem pay7_eq (s : FVec Ideal S2x2048x128 .f32) (c0 c1 c2 : FVec Ideal S1x128 .f32) (x : Vec Ideal S2x2048x128 .f32) (w3 w4 w5 w6 w7 : Vec Ideal S1x2048x128 .f32) (b : Vec Ideal S1x1x1024 .f32) :
    k0_pay7 s c0 c1 c2 (k0_pay6 x w3) w4 w5 w6 w7 b = row c0 c1 c2 (col0 (k0_pay2 x) w3) (col0 s w4) (col0 s w5) (col0 s w6) (col0 s w7) b := rfl

theorem pay3_eq (x : Vec Ideal S2x2048x128 .f32) (w : Vec Ideal S1x2048x128 .f32) : k0_pay3 x w = col0 (k0_pay2 x) w := rfl
theorem pay4_eq (x : Vec Ideal S2x2048x128 .f32) (w : Vec Ideal S1x2048x128 .f32) : k0_pay4 x w = col0 (k0_pay2 x) w := rfl
theorem pay5_eq (x : Vec Ideal S2x2048x128 .f32) (w : Vec Ideal S1x2048x128 .f32) : k0_pay5 x w = col0 (k0_pay2 x) w := rfl
theorem pay10_eq (s : FVec Ideal S2x2048x128 .f32) (w : Vec Ideal S1x2048x128 .f32) : k0_pay10 (k0_pay8 w) (k0_pay9 s) = col1 s w := rfl
theorem pay11_eq (s : FVec Ideal S2x2048x128 .f32) (w : Vec Ideal S1x2048x128 .f32) : k0_pay11 s w = col1 s w := rfl
theorem pay12_eq (s : FVec Ideal S2x2048x128 .f32) (w : Vec Ideal S1x2048x128 .f32) : k0_pay12 s w = col1 s w := rfl
theorem pay13_eq (s : FVec Ideal S2x2048x128 .f32) (w : Vec Ideal S1x2048x128 .f32) : k0_pay13 s w = col1 s w := rfl
theorem pay14_eq (s : FVec Ideal S2x2048x128 .f32) (w : Vec Ideal S1x2048x128 .f32) : k0_pay14 s w = col1 s w := rfl
theorem pay15_eq (s : FVec Ideal S2x2048x128 .f32) (w : Vec Ideal S1x2048x128 .f32) : k0_pay15 s w = col1 s w := rfl

/-- The block a point leaves, entry by entry, when the conditioning's lanes are all alike. -/
theorem out_at (x : Vec Ideal S2x2048x128 .f32) (w : Vec Ideal S1x2048x1024 .f32) (b : Vec Ideal S1x1x1024 .f32) (C : Fin 2 → Fin 2048 → EReal)
    (h : ∀ (r : Fin 2) (k : Fin 2048) (l : Fin 128), x (ix3 r k l) = C r k) (r : Fin 8) (j : Fin 1024) :
    out0_3 x w b (ix3 0 r j) = rows (C 0) (C 1) (fun k => w (ix3 0 k j)) (b (ix3 0 0 j)) r := by
  have hx : View.ld x r0_0 = x := by
    funext i
    obtain ⟨a, k, l, rfl⟩ : ∃ (a : Fin 2) (k : Fin 2048) (l : Fin 128), i = ix3 a k l := ⟨i 0, i 1, i 2, eq_ix3 i⟩
    pointwise []
  have hs : ∀ (a : Fin 2) (k : Fin 2048) (l : Fin 128), k0_pay2 x (ix3 a k l) = silu (C a k) := fun a k l => by rw [pay2_at, h]
  have hb : View.ld b r0_9 (ix3 0 0 j) = b (ix3 0 0 j) := by pointwise []
  unfold out0_3 k0_pay16
  rw [hx]
  rw [pay1_eq, pay7_eq, pay3_eq, pay4_eq, pay5_eq, pay10_eq, pay11_eq, pay12_eq, pay13_eq, pay14_eq, pay15_eq]
  canon_tiles q hq
  obtain rfl : q = ix3 0 r j := by
    refine (eq_ix3 q).trans ?_
    congr 1
    · exact Fin.ext hq0.symm
    · exact Fin.ext hq1.symm
    · exact Fin.ext hq2.symm
  refine (block_at _ _ r j).trans ?_
  unfold rows affine
  have g : ∀ (a : Fin 2) (F : FVec Ideal S2x2048x128 .f32 → Vec Ideal S1x2048x128 .f32 → FVec Ideal S1x128 .f32),
      (∀ s v (l : Fin 128), F s v (ix2 0 l) = ∑ k : Fin 2048, v (ix3 0 k l) * s (ix3 a k l)) →
      row (F (k0_pay2 x) (View.ld w r0_1)) (F (k0_pay2 x) (View.ld w r0_2)) (F (k0_pay2 x) (View.ld w r0_3)) (F (k0_pay2 x) (View.ld w r0_4))
        (F (k0_pay2 x) (View.ld w r0_5)) (F (k0_pay2 x) (View.ld w r0_6)) (F (k0_pay2 x) (View.ld w r0_7)) (F (k0_pay2 x) (View.ld w r0_8)) (View.ld b r0_9) (ix2 0 j)
        = (∑ k : Fin 2048, w (ix3 0 k j) * silu (C a k)) + b (ix3 0 0 j) := fun a F hF => by
    refine (row_at _ _ _ _ _ _ _ _ _ (fun j => ∑ k : Fin 2048, w (ix3 0 k j) * silu (C a k)) ?_ ?_ ?_ ?_ ?_ ?_ ?_ ?_ j).trans (congrArg _ hb)
    all_goals
      intro l
      refine (hF _ _ l).trans (Finset.sum_congr rfl fun k _ => ?_)
      rw [hs]
      refine congrArg (· * silu (C a k)) ?_
      pointwise []
  rw [g 0 col0 col0_at, g 1 col1 col1_at]

end Cert.Ada

end
-- ==== Proof.D.Final.lean ====
/- The array the adaptive modulation returns: both layers' rows. -/
module

public import proofs.«01_k».proof.Proof.D.Out
public import proofs.«01_k».proof.Proof.Gen.Kernel4Ideal.Value
public import Idealize.ShloMosaic.Lib.Claim

@[expose] public section

set_option maxRecDepth 16384

noncomputable section

namespace Cert.Ada

open Idealize.ShloMosaic Idealize.ShloMosaic.TcCoe Idealize.SL.Sem
open Cert.Kernel4Ideal Cert.Kernel4Ideal.Gen

variable (m : (ℓ : Loc nD τ sig) → Buf (Elt Ideal) ℓ)

theorem lt24 (t : Fin cfg0.N) : t.val < 24 := lt_of_lt_of_eq t.isLt N_0

/-- Which block of its array a point stages, window by window: the layer is the slower coordinate. -/
theorem idx : ∀ t : Fin cfg0.N, win0_0.index t = ![0, 0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

/-- The two conditionings stacked and widened, at an index. -/
theorem stack_at (A : FVec Ideal S1x2048 .f32) (B : FVec Ideal S2048 .f32) (r : Fin 2) (k : Fin 2048) (l : Fin 128) :
    broadcastInDim S2x2048x128 ![0, 1, 2] bcast_S2x2048x1_S2x2048x128_0_1_2 (broadcastInDim S2x2048x1 ![0, 1] bcast_S2x2048_S2x2048x1_0_1
      (concatenate S2x2048 0 [⟨S1x2048, broadcastInDim S1x2048 ![1] bcast_S2048_S1x2048_1 (shapeCast S2048 A shapeCasts_S1x2048_S2048)⟩,
        ⟨S1x2048, broadcastInDim S1x2048 ![1] bcast_S2048_S1x2048_1 B⟩] concatenates_S1x2048_S1x2048_S2x2048_d0)) (ix3 r k l)
      = if r.val = 0 then A (ix2 0 k) else B (ix1 k) := by
  pointwise []
  by_cases h : r.val = 0
  · rw [dif_pos (by omega), if_pos h]
  · rw [dif_neg (by omega), if_neg h]

theorem bias_at (A : FVec Ideal S2x12288 .f32) (l : Fin 2) (j : Fin 12288) : shapeCast S2x1x12288 A shapeCasts_S2x12288_S2x1x12288 (ix3 l 0 j) = A (ix2 l j) := by
  pointwise []

/-- The conditioning of a row. -/
def cond (c : FVec Ideal S1x2048 .f32) (cc : FVec Ideal S2048 .f32) (r : Fin 2) (k : Fin 2048) : EReal := if r.val = 0 then c (ix2 0 k) else cc (ix1 k)

theorem V_cond (c : Dev nD) (r : Fin 2) (k : Fin 2048) (l : Fin 128) :
    V m c main_v5 (ix3 r k l) = cond (m ((c : Thread nD τ).loc main_arg0)) (m ((c : Thread nD τ).loc main_arg1)) r k := by
  have e : V m c main_v5 = broadcastInDim S2x2048x128 ![0, 1, 2] bcast_S2x2048x1_S2x2048x128_0_1_2 (broadcastInDim S2x2048x1 ![0, 1] bcast_S2x2048_S2x2048x1_0_1
      (concatenate S2x2048 0 [⟨S1x2048, broadcastInDim S1x2048 ![1] bcast_S2048_S1x2048_1 (shapeCast S2048 (m ((c : Thread nD τ).loc main_arg0) : FVec Ideal S1x2048 .f32) shapeCasts_S1x2048_S2048)⟩,
        ⟨S1x2048, broadcastInDim S1x2048 ![1] bcast_S2048_S1x2048_1 (m ((c : Thread nD τ).loc main_arg1) : FVec Ideal S2048 .f32)⟩] concatenates_S1x2048_S1x2048_S2x2048_d0)) := by
    simp only [V, hostOps0, List.flatten_cons, List.flatten_nil, List.append_nil, List.cons_append, List.nil_append]
    after_results
    rfl
  exact (congrFun e _).trans (stack_at _ _ r k l)

theorem V_bias (c : Dev nD) (l : Fin 2) (j : Fin 12288) : V m c main_v6 (ix3 l 0 j) = m ((c : Thread nD τ).loc main_arg3) (ix2 l j) := by
  have e : V m c main_v6 = shapeCast S2x1x12288 (m ((c : Thread nD τ).loc main_arg3) : FVec Ideal S2x12288 .f32) shapeCasts_S2x12288_S2x1x12288 := by
    simp only [V, hostOps0, List.flatten_cons, List.flatten_nil, List.append_nil, List.cons_append, List.nil_append]
    after_results
    rfl
  exact (congrFun e _).trans (bias_at _ l j)

/-- The conditionings, at every point and in every lane. -/
theorem blk0 (c : Dev nD) (t : Fin cfg0.N) (r : Fin 2) (k : Fin 2048) (l : Fin 128) :
    iblk m c 0 t (ix3 r k l) = cond (m ((c : Thread nD τ).loc main_arg0)) (m ((c : Thread nD τ).loc main_arg1)) r k := by
  rw [← V_cond m c r k l]
  blk_ext [iblk, idx t]

/-- The weight's columns of a point. -/
theorem blk1 (c : Dev nD) (t : Fin cfg0.N) (k : Fin 2048) (j : Fin 1024) :
    iblk m c 1 t (ix3 0 k j) = m ((c : Thread nD τ).loc main_arg2) (ix3 ⟨t.val / 12, by have := lt24 t; omega⟩ k ⟨1024 * (t.val % 12) + j.val, by omega⟩) := by
  have ht := lt24 t
  rw [← V_main_arg2 m c]
  blk_ext [iblk, idx t]

/-- The bias's columns of a point. -/
theorem blk2 (c : Dev nD) (t : Fin cfg0.N) (j : Fin 1024) :
    iblk m c 2 t (ix3 0 0 j) = m ((c : Thread nD τ).loc main_arg3) (ix2 ⟨t.val / 12, by have := lt24 t; omega⟩ ⟨1024 * (t.val % 12) + j.val, by omega⟩) := by
  have ht := lt24 t
  rw [← V_bias m c]
  blk_ext [iblk, idx t]

/-- Both layers' rows, of four arrays. -/
def value (c : FVec Ideal S1x2048 .f32) (cc : FVec Ideal S2048 .f32) (w : FVec Ideal S2x2048x12288 .f32) (b : FVec Ideal S2x12288 .f32) (l : Fin 2) (r : Fin 8) (j : Fin 12288) : EReal :=
  rows (cond c cc 0) (cond c cc 1) (fun k => w (ix3 l k j)) (b (ix2 l j)) r

abbrev valueOf (c : Dev nD) : Fin 2 → Fin 8 → Fin 12288 → EReal :=
  value (m ((c : Thread nD τ).loc main_arg0)) (m ((c : Thread nD τ).loc main_arg1)) (m ((c : Thread nD τ).loc main_arg2)) (m ((c : Thread nD τ).loc main_arg3))

/-- What a point leaves in its block. -/
theorem left_at (c : Dev nD) (t : Fin cfg0.N) (y : S1x8x1024.Idx) :
    out0_3 (iblk m c 0 t) (iblk m c 1 t) (iblk m c 2 t) y = valueOf m c ⟨t.val / 12, by have := lt24 t; omega⟩ (y 1)
      ⟨1024 * (t.val % 12) + (y 2).val, by have : (y 2).val < 1024 := (y 2).isLt; omega⟩ := by
  obtain ⟨z, r, j, rfl⟩ : ∃ (z : Fin 1) (r : Fin 8) (j : Fin 1024), y = ix3 z r j := ⟨y 0, y 1, y 2, eq_ix3 y⟩
  obtain rfl : z = 0 := Subsingleton.elim _ _
  refine (out_at _ _ _ _ (blk0 m c t) r j).trans ?_
  rw [blk2]
  exact congrArg (fun w => rows _ _ w _ r) (funext fun k => blk1 m c t k j)

/-- The array: both layers' rows. -/
theorem final (c : Dev nD) : (dats m 0 c).arrAt 3 cfg0.N = fun i : S2x8x12288.Idx => valueOf m c (i 0) (i 1) (i 2) := by
  refine (dats m 0 c).arrAt_eq_of_covers 3 _ (by decide +kernel) fun t _ y => ?_
  have ht := lt24 t
  blk_simp
  rw [after0_3, left_at]
  have e : ∀ {l l' : Fin 2} {r r' : Fin 8} {j j' : Fin 12288}, l = l' → r = r' → j = j' → valueOf m c l r j = valueOf m c l' r' j' := by
    rintro _ _ _ _ _ _ rfl rfl rfl
    rfl
  refine e (Fin.ext ?_) (Fin.ext ?_) (Fin.ext ?_) <;> blk_simp [idx t]
  exact congrArg (· + (y 2).val) (Nat.mul_comm _ _)

end Cert.Ada

end
-- ==== Proof.D.Ref.lean ====
/- The reference's adaptive modulation, entry by entry: its sigmoid and its product are the kernel's. -/
module

public import proofs.«01_k».proof.Proof.D.Final
public import proofs.«01_k».proof.Proof.Gen.Reference4Ideal.Read

@[expose] public section

set_option maxRecDepth 16384

noncomputable section

namespace Cert.Ada.Reference

open Idealize.ShloMosaic Idealize.ShloMosaic.TcCoe Idealize.SL.Sem
open Cert.Reference4Ideal Cert.Reference4Ideal.Gen Cert.Reference4Ideal.Read

variable (c : FVec Ideal S1x2048 .f32) (cc : FVec Ideal S2048 .f32) (w : FVec Ideal S2x2048x12288 .f32) (b : FVec Ideal S2x12288 .f32)

/-- The reference's sigmoid negates where the kernel subtracts from zero. -/
theorem silu_eq (z : EReal) : z * Ideal.div 1 (1 + Ideal.exp (-z)) = z * Ideal.div 1 (1 + Ideal.exp (0 - z)) := by
  rw [zero_sub]

theorem silu_c (k : Fin 2048) : val_main_v0 (F := Ideal) c (ix2 0 k) = silu (c (ix2 0 k)) := by
  pointwise [val_main_v0, val_main_call0_v0, val_main_call0_v1, val_main_call0_v2, val_main_call0_v3, val_main_call0_v4, val_main_call0_v5, val_main_call0_cst, val_main_call0_cst_0, silu]
  exact silu_eq _

theorem silu_cc (k : Fin 2048) : val_main_v1 (F := Ideal) cc (ix1 k) = silu (cc (ix1 k)) := by
  pointwise [val_main_v1, val_main_call1_v0, val_main_call1_v1, val_main_call1_v2, val_main_call1_v3, val_main_call1_v4, val_main_call1_v5, val_main_call1_cst, val_main_call1_cst_0, silu]
  exact silu_eq _

/-- The products' factors are in the other order. -/
theorem swap {f g h : Fin 2048 → EReal} (b : EReal) (e : ∀ k, f k = h k) : (∑ k : Fin 2048, f k * g k) + b = (∑ k : Fin 2048, g k * h k) + b :=
  congrArg (· + b) (Finset.sum_congr rfl fun k _ => (mul_comm _ _).trans (congrArg (g k * ·) (e k)))

/-- The conditioning's row of the first layer. -/
theorem row00 (j : Fin 12288) : val_main_v8 (F := Ideal) c w b (ix2 0 j) = affine (fun k => c (ix2 0 k)) (fun k => w (ix3 0 k j)) (b (ix2 0 j)) := by
  unfold affine
  rw [val_main_v8_apply, val_main_v4_apply]
  pointwise [val_main_v3, val_main_v2, val_main_v7, val_main_v6, val_main_v5]
  exact swap _ fun k => (congrArg (val_main_v0 (F := Ideal) c) (eq_ix2 _)).trans (silu_c c k)

/-- The context conditioning's row of the first layer. -/
theorem row01 (j : Fin 12288) : val_main_v15 (F := Ideal) cc w b (ix2 0 j) = affine (fun k => cc (ix1 k)) (fun k => w (ix3 0 k j)) (b (ix2 0 j)) := by
  unfold affine
  rw [val_main_v15_apply, val_main_v14_apply, val_main_v11_apply]
  pointwise [val_main_v10, val_main_v9, val_main_v13, val_main_v12]
  exact swap _ fun k => (congrArg (val_main_v1 (F := Ideal) cc) (eq_ix1 _)).trans (silu_cc cc k)

/-- The conditioning's row of the second layer. -/
theorem row10 (j : Fin 12288) : val_main_v24 (F := Ideal) c w b (ix2 0 j) = affine (fun k => c (ix2 0 k)) (fun k => w (ix3 1 k j)) (b (ix2 1 j)) := by
  unfold affine
  rw [val_main_v24_apply, val_main_v20_apply]
  pointwise [val_main_v19, val_main_v18, val_main_v23, val_main_v22, val_main_v21]
  exact swap _ fun k => (congrArg (val_main_v0 (F := Ideal) c) (eq_ix2 _)).trans (silu_c c k)

/-- The context conditioning's row of the second layer. -/
theorem row11 (j : Fin 12288) : val_main_v31 (F := Ideal) cc w b (ix2 0 j) = affine (fun k => cc (ix1 k)) (fun k => w (ix3 1 k j)) (b (ix2 1 j)) := by
  unfold affine
  rw [val_main_v31_apply, val_main_v30_apply, val_main_v27_apply]
  pointwise [val_main_v26, val_main_v25, val_main_v29, val_main_v28]
  exact swap _ fun k => (congrArg (val_main_v1 (F := Ideal) cc) (eq_ix1 _)).trans (silu_cc cc k)

/-- Two rows and six more, stacked, at an index. -/
theorem stack_at (A B : FVec Ideal S1x12288 .f32) (Z : FVec Ideal S6x12288 .f32) (z : EReal) (hZ : ∀ (r : Fin 6) (j : Fin 12288), Z (ix2 r j) = z) (r : Fin 8) (j : Fin 12288) :
    concatenate S8x12288 0 [⟨S1x12288, A⟩, ⟨S1x12288, B⟩, ⟨S6x12288, Z⟩] concatenates_S1x12288_S1x12288_S6x12288_S8x12288_d0 (ix2 r j)
      = if r.val = 0 then A (ix2 0 j) else if r.val = 1 then B (ix2 0 j) else z := by
  pointwise []
  by_cases h0 : r.val = 0
  · obtain rfl : r = 0 := Fin.ext h0
    rfl
  · by_cases h1 : r.val = 1
    · obtain rfl : r = 1 := Fin.ext h1
      rfl
    · rw [dif_neg (by omega), dif_neg (by omega), if_neg h0, if_neg h1, hZ]

/-- The first layer's eight rows. -/
theorem layer0 (r : Fin 8) (j : Fin 12288) : val_main_v17 (F := Ideal) c cc w b (ix2 r j) = value c cc w b 0 r j := by
  unfold val_main_v17 value rows
  refine (stack_at _ _ _ (Ideal.ofBits .f32 0x00000000#32) (fun r j => ?_) r j).trans ?_
  · pointwise [val_main_v16, val_main_cst]
  · rw [row00, row01]
    rfl

/-- The second layer's. -/
theorem layer1 (r : Fin 8) (j : Fin 12288) : val_main_v33 (F := Ideal) c cc w b (ix2 r j) = value c cc w b 1 r j := by
  unfold val_main_v33 value rows
  refine (stack_at _ _ _ (Ideal.ofBits .f32 0x00000000#32) (fun r j => ?_) r j).trans ?_
  · pointwise [val_main_v32, val_main_cst_0]
  · rw [row10, row11]
    rfl

/-- Both layers, stacked, at an index. -/
theorem layers_at (A B : FVec Ideal S8x12288 .f32) (l : Fin 2) (r : Fin 8) (j : Fin 12288) :
    concatenate S2x8x12288 0 [⟨S1x8x12288, broadcastInDim S1x8x12288 ![1, 2] bcast_S8x12288_S1x8x12288_1_2 A⟩, ⟨S1x8x12288, broadcastInDim S1x8x12288 ![1, 2] bcast_S8x12288_S1x8x12288_1_2 B⟩]
      concatenates_S1x8x12288_S1x8x12288_S2x8x12288_d0 (ix3 l r j) = if l.val = 0 then A (ix2 r j) else B (ix2 r j) := by
  pointwise []
  by_cases h : l.val = 0
  · rw [dif_pos (by omega), if_pos h]
  · rw [dif_neg (by omega), if_neg h]

/-- The reference's array: both layers' rows. -/
theorem result : val_main_v36 (F := Ideal) c cc w b = fun i : S2x8x12288.Idx => value c cc w b (i 0) (i 1) (i 2) := by
  funext i
  obtain ⟨l, r, j, rfl⟩ : ∃ (l : Fin 2) (r : Fin 8) (j : Fin 12288), i = ix3 l r j := ⟨i 0, i 1, i 2, eq_ix3 i⟩
  refine (layers_at (val_main_v17 (F := Ideal) c cc w b) (val_main_v33 (F := Ideal) c cc w b) l r j).trans ?_
  show _ = value c cc w b l r j
  by_cases h : l.val = 0
  · obtain rfl : l = 0 := Fin.ext h
    exact (if_pos h).trans (layer0 c cc w b r j)
  · obtain rfl : l = 1 := Fin.ext (by omega)
    exact (if_neg h).trans (layer1 c cc w b r j)

end Cert.Ada.Reference

end
-- ==== Proof.D.Algebraic.lean ====
/- The adaptive modulation's value claim: on the same arguments the kernel and the reference write the same array, with no precondition. -/
module

public import proofs.«01_k».proof.Defs
public import proofs.«01_k».proof.Proof.D.Final
public import proofs.«01_k».proof.Proof.D.Ref
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Proof

open Idealize.ShloMosaic Idealize.SL.Sem

/-- The reference's array at equal arguments is equal. -/
theorem same_modulation {x0 y0 : (⟨Cert.Reference4Ideal.S1x2048, .f32⟩ : BufTy).Contents (Elt Ideal)} {x1 y1 : (⟨Cert.Reference4Ideal.S2048, .f32⟩ : BufTy).Contents (Elt Ideal)}
    {x2 y2 : (⟨Cert.Reference4Ideal.S2x2048x12288, .f32⟩ : BufTy).Contents (Elt Ideal)} {x3 y3 : (⟨Cert.Reference4Ideal.S2x12288, .f32⟩ : BufTy).Contents (Elt Ideal)}
    (h0 : x0 = y0) (h1 : x1 = y1) (h2 : x2 = y2) (h3 : x3 = y3) :
    Cert.Reference4Ideal.Read.val_main_v36 (F := Ideal) x0 x1 x2 x3 = Cert.Reference4Ideal.Read.val_main_v36 (F := Ideal) y0 y1 y2 y3 := by
  rw [h0, h1, h2, h3]

/-- The adaptive modulation's kernel and its reference agree. -/
theorem algebraic4 : Cert.algebraic_Kernel4Ideal_Reference4Ideal := by
  pair_intro
  · run_from Cert.Kernel4Ideal.Value.run_blocks m g
  · refine (θ_run Cert.Reference4Ideal.defs _ _).mono (fun r h c => ⟨(h c).1.trans ?_, (h c).2⟩) (Cert.Reference4Ideal.Value.run m' g')
    obtain ⟨a0, a1, a2, a3⟩ := hagree c
    refine Eq.trans ?_ (Cert.Ada.final m c).symm
    refine (Cert.Reference4Ideal.Read.val_main_v36_eq _ _ _ _).trans ?_
    exact (same_modulation a0 a1 a2 a3).trans (Cert.Ada.Reference.result _ _ _ _)

end Cert.Proof

end
-- ==== Proof.L.Frames.lean ====
/- The later norm's frames: its three programs run, leave their arguments as they were and every semaphore at zero. -/
module

public import proofs.«01_k».proof.Defs
public import proofs.«01_k».proof.Proof.Gen.Kernel5
public import proofs.«01_k».proof.Proof.Gen.Kernel5Ideal.Frame
public import proofs.«01_k».proof.Proof.Gen.Reference5Ideal.Run
public import Idealize.ShloMosaic.Lib.Claim
public import Idealize.ShloMosaic.Lib.Quiescent

@[expose] public section

set_option maxRecDepth 16384

noncomputable section

namespace Cert.Proof

open Idealize.ShloMosaic Idealize.SL.Sem

/-- The idealized stacking call's frame. -/
theorem frameI5 : Cert.quiescent_Kernel5Ideal := fun m g _ => Cert.Kernel5Ideal.Gen.frame m g

/-- The later norm's reference's frame. -/
theorem frameR5 : Cert.quiescent_Reference5Ideal := by
  intro m g _
  exact (θ_run Cert.Reference5Ideal.defs _ _).mono (fun r h => ⟨fun c => (h c).2, sem_eq_zero_of_no_sems (by decide) r.2⟩) (Cert.Reference5Ideal.Value.run m g)

set_option backward.isDefEq.respectTransparency.types false in
/-- The two programs' kernel bodies are one text. -/
theorem body_same5 : @Cert.Kernel5.cc0_norm1 Bits _ _ = @Cert.Kernel5Ideal.cc0_norm1 Bits _ _ := rfl

set_option backward.isDefEq.respectTransparency.types false in
/-- So are their kernels' tables: there is one label. -/
theorem table_same5 : @Cert.Kernel5.defs₀ Bits _ _ = @Cert.Kernel5Ideal.defs₀ Bits _ _ := by
  unfold Cert.Kernel5.defs₀ Cert.Kernel5Ideal.defs₀
  refine congrArg Defs.onTc ?_
  funext l
  match l with
  | 0 => rfl

set_option backward.isDefEq.respectTransparency.types false in
/-- So are their body tables. -/
theorem defs_same5 : @Cert.Kernel5.defs Bits _ _ = @Cert.Kernel5Ideal.defs Bits _ _ := by
  unfold Cert.Kernel5.defs Cert.Kernel5Ideal.defs
  exact congrArg (Pipeline.defs (Cert.Kernel5.pcfgs (F := Bits))) table_same5

set_option maxHeartbeats 1000000 in
set_option backward.isDefEq.respectTransparency.types false in
/-- So are their host lines. -/
theorem main_same5 : @Cert.Kernel5.main Bits _ = @Cert.Kernel5Ideal.main Bits _ := rfl

set_option backward.isDefEq.respectTransparency.types false in
/-- The later norm's frame: the printed program is the idealized one's text, run on words. -/
theorem frameK5 : Cert.quiescent_Kernel5 := by
  intro m g _
  rw [defs_same5, main_same5]
  exact Cert.Kernel5Ideal.Gen.frame (F := Bits) m g

end Cert.Proof

end
-- ==== Proof.L.Out.lean ====
/- What a grid point of the later norm leaves in its block of 768 rows: the first point takes the modulation row by row, the others its first row. -/
module

public import proofs.«01_k».proof.Proof.N.Spec
public import proofs.«01_k».proof.Proof.Gen.Kernel5Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LaterNorm

open Idealize.ShloMosaic Idealize.ShloMosaic.TcCoe Idealize.SL.Sem
open Cert.Kernel5Ideal Cert.Kernel5Ideal.Gen Cert.Norm

variable (m : (ℓ : Loc nD τ sig) → Buf (Elt Ideal) ℓ)

/-- The result at row `n` and channel `d`: as the first norm's, with the second layer's gain. -/
def value (x : FVec Ideal ⟨3, ![1, 8192, 2048]⟩ .f32) (ctx : FVec Ideal ⟨3, ![1, 256, 2048]⟩ .f32) (md : FVec Ideal ⟨2, ![8, 12288]⟩ .f32) (g : FVec Ideal ⟨2, ![2, 2048]⟩ .f32) (n : Fin 8448) (d : Fin 2048) : EReal :=
  modulated (stacked x ctx n) (fun d => g (ix2 1 d)) (fun d => md (ix2 (which n.val) ⟨d.val, by have := d.isLt; omega⟩)) (fun d => md (ix2 (which n.val) ⟨2048 + d.val, by have := d.isLt; omega⟩)) d

/-- The first block's context rows. -/
theorem mask_at : ∀ r : Fin 768, k0_pay3 0#32 (ix2 r 0) = if r.val < 256 then 1#1 else 0#1 := by decide +kernel

/-- A choice by a word that is a condition's. -/
theorem sel_at {P : Prop} [Decidable P] (a b : EReal) : Scalar.select (if P then 1#1 else 0#1) a b = if P then a else b := by
  by_cases h : P <;> simp only [h, if_true, if_false] <;> rfl

/-- The row divided by its root, times the gain widened by the row's own scale. -/
theorem pay4_at (g : Vec Ideal S1x2048 .f32) (sc : Vec Ideal S2x2048 .f32) (x : Vec Ideal S768x2048 .f32) (r : Fin 768) (d : Fin 2048) :
    k0_pay4 0#32 g sc x (ix2 r d) = x (ix2 r d) * Ideal.rsqrt (Ideal.div (∑ e : Fin 2048, x (ix2 r e) * x (ix2 r e)) (Ideal.ofBits .f32 0x45000000#32) + Ideal.ofBits .f32 0x358637BD#32)
      * (if r.val < 256 then g (ix2 0 d) * (Ideal.ofBits .f32 0x3F800000#32 + sc (ix2 1 d)) else g (ix2 0 d) * (Ideal.ofBits .f32 0x3F800000#32 + sc (ix2 0 d))) := by
  rw [← sel_at, ← mask_at]
  unfold k0_pay4
  generalize k0_pay3 0#32 = A
  pointwise []

/-- The row's own shift. -/
theorem pay5_at (s1 s0 : Vec Ideal S1x2048 .f32) (r : Fin 768) (d : Fin 2048) :
    k0_pay5 0#32 s1 s0 (ix2 r d) = if r.val < 256 then s1 (ix2 0 d) else s0 (ix2 0 d) := by
  rw [← sel_at, ← mask_at]
  unfold k0_pay5
  generalize k0_pay3 0#32 = A
  pointwise []

theorem pay1_at (a b : FVec Ideal S768x2048 .f32) (y : S768x2048.Idx) : k0_pay1 a b y = a y + b y := by
  obtain ⟨r, d, rfl⟩ : ∃ (r : Fin 768) (d : Fin 2048), y = ix2 r d := ⟨y 0, y 1, eq_ix2 y⟩
  pointwise [k0_pay1]

/-- The first block's payload. -/
theorem first_at (g : Vec Ideal S1x2048 .f32) (sc : Vec Ideal S2x2048 .f32) (x : Vec Ideal S768x2048 .f32) (s1 s0 : Vec Ideal S1x2048 .f32) (r : Fin 768) (d : Fin 2048) :
    k0_pay1 (k0_pay4 0#32 g sc x) (k0_pay5 0#32 s1 s0) (ix2 r d) = if r.val < 256
      then modulated (fun e => x (ix2 r e)) (fun e => g (ix2 0 e)) (fun e => s1 (ix2 0 e)) (fun e => sc (ix2 1 e)) d
      else modulated (fun e => x (ix2 r e)) (fun e => g (ix2 0 e)) (fun e => s0 (ix2 0 e)) (fun e => sc (ix2 0 e)) d := by
  rw [pay1_at, pay4_at, pay5_at]
  by_cases h : r.val < 256 <;> simp only [h, if_true, if_false] <;> rfl

/-- A later block's payload. -/
theorem pay2_at (x : Vec Ideal S768x2048 .f32) (g sc sh : Vec Ideal S1x2048 .f32) (r : Fin 768) (d : Fin 2048) :
    k0_pay2 x g sc sh (ix2 r d) = modulated (fun e => x (ix2 r e)) (fun e => g (ix2 0 e)) (fun e => sh (ix2 0 e)) (fun e => sc (ix2 0 e)) d := by
  pointwise [k0_pay2, modulated]

/-- The first point: its first 256 rows are the context's. -/
theorem out_A (c : Dev nD) (t : Fin cfg0.N) (h0 : t.val % 11 = 0) (h1 : ¬1 ≤ t.val) :
    outsAt0 m c t.val t.isLt = fun y => modulated (fun e => iblk m c 0 t (ix2 (y 0) e)) (fun e => iblk m c 3 t (ix2 0 e))
      (fun e => iblk m c 1 t (ix2 (which (y 0).val) e)) (fun e => iblk m c 2 t (ix2 (which (y 0).val) e)) (y 1) := by
  have z : BitVec.ofNat 32 ((grid0.coords t) 0).val = 0#32 := by
    have := (by decide +kernel : ∀ t : Fin grid0.N, t.val = 0 → BitVec.ofNat 32 ((grid0.coords t) 0).val = 0#32) t
    exact this (by omega)
  rw [outsAt0_A m c t h0 h1]
  frame_out
  funext y
  obtain ⟨r, d, rfl⟩ : ∃ (r : Fin 768) (d : Fin 2048), y = ix2 r d := ⟨y 0, y 1, eq_ix2 y⟩
  rw [z]
  refine (first_at _ _ _ _ _ _ _).trans ?_
  show _ = modulated (fun e => iblk m c 0 t (ix2 r e)) (fun e => iblk m c 3 t (ix2 0 e)) (fun e => iblk m c 1 t (ix2 (which r.val) e)) (fun e => iblk m c 2 t (ix2 (which r.val) e)) d
  unfold which
  by_cases h : r.val < 256
  · simp only [h, if_true]
    congr 1 <;> funext e <;> pointwise []
  · simp only [h, if_false]
    congr 1 <;> funext e <;> pointwise []

/-- The later points. -/
theorem out_B (c : Dev nD) (t : Fin cfg0.N) (h0 : ¬t.val % 11 = 0) (h1 : 1 ≤ t.val) :
    outsAt0 m c t.val t.isLt = fun y => modulated (fun e => iblk m c 0 t (ix2 (y 0) e)) (fun e => iblk m c 3 t (ix2 0 e))
      (fun e => iblk m c 1 t (ix2 0 e)) (fun e => iblk m c 2 t (ix2 0 e)) (y 1) := by
  rw [outsAt0_B m c t h0 h1]
  frame_out
  funext y
  obtain ⟨r, d, rfl⟩ : ∃ (r : Fin 768) (d : Fin 2048), y = ix2 r d := ⟨y 0, y 1, eq_ix2 y⟩
  refine (pay2_at _ _ _ _ _ _).trans ?_
  congr 1 <;> funext e <;> pointwise []

end Cert.LaterNorm

end
-- ==== Proof.L.Final.lean ====
/- The array the later norm returns: the stacked rows normed and modulated. -/
module

public import proofs.«01_k».proof.Proof.L.Out
public import proofs.«01_k».proof.Proof.Gen.Kernel5Ideal.Value
public import Idealize.ShloMosaic.Lib.Claim

@[expose] public section

set_option maxRecDepth 16384

noncomputable section

namespace Cert.LaterNorm

open Idealize.ShloMosaic Idealize.ShloMosaic.TcCoe Idealize.SL.Sem
open Cert.Kernel5Ideal Cert.Kernel5Ideal.Gen Cert.Norm

variable (m : (ℓ : Loc nD τ sig) → Buf (Elt Ideal) ℓ)

theorem lt11 (t : Fin cfg0.N) : t.val < 11 := lt_of_lt_of_eq t.isLt N_0

/-- Which block of its array a point stages, window by window. -/
theorem idx : ∀ t : Fin cfg0.N, win0_0.index t = ![t.val, 0] ∧ win0_1.index t = ![0, 0] ∧ win0_2.index t = ![0, 1]
    ∧ win0_3.index t = ![0, 0] ∧ win0_4.index t = ![t.val, 0] :=
  (by decide +kernel : ∀ t : Fin grid0.N, _)

/-- The rows laid one below the other, at an index. -/
theorem rows_at (X : FVec Ideal S1x8192x2048 .f32) (C : FVec Ideal S1x256x2048 .f32) (n : Fin 8448) (d : Fin 2048) :
    shapeCast S8448x2048 (concatenate S1x8448x2048 1 [⟨S1x256x2048, C⟩, ⟨S1x8192x2048, X⟩] concatenates_S1x256x2048_S1x8192x2048_S1x8448x2048_d1) shapeCasts_S1x8448x2048_S8448x2048 (ix2 n d) = stacked X C n d := by
  pointwise [stacked]

/-- The gain's second row, at an index. -/
theorem gain_at (A : FVec Ideal S2x2048 .f32) (d : Fin 2048) :
    broadcastInDim S1x2048 ![1] bcast_S2048_S1x2048_1 (shapeCast S2048 (extractStridedSlice S1x2048 ![1, 0] A slices_S2x2048_S1x2048_1_0) shapeCasts_S1x2048_S2048) (ix2 0 d) = A (ix2 1 d) := by
  pointwise []

theorem V_rows (c : Dev nD) (n : Fin 8448) (d : Fin 2048) : V m c main_v1 (ix2 n d) = stacked (m ((c : Thread nD τ).loc main_arg0)) (m ((c : Thread nD τ).loc main_arg1)) n d := by
  have e : V m c main_v1 = shapeCast S8448x2048 (concatenate S1x8448x2048 1 [⟨S1x256x2048, (m ((c : Thread nD τ).loc main_arg1) : FVec Ideal S1x256x2048 .f32)⟩, ⟨S1x8192x2048, (m ((c : Thread nD τ).loc main_arg0) : FVec Ideal S1x8192x2048 .f32)⟩] concatenates_S1x256x2048_S1x8192x2048_S1x8448x2048_d1) shapeCasts_S1x8448x2048_S8448x2048 := by
    simp only [V, hostOps0, List.flatten_cons, List.flatten_nil, List.append_nil, List.cons_append, List.nil_append]
    after_results
    rfl
  exact (congrFun e _).trans (rows_at _ _ n d)

theorem V_gain (c : Dev nD) (d : Fin 2048) : V m c main_v4 (ix2 0 d) = m ((c : Thread nD τ).loc main_arg3) (ix2 1 d) := by
  have e : V m c main_v4 = broadcastInDim S1x2048 ![1] bcast_S2048_S1x2048_1 (shapeCast S2048 (extractStridedSlice S1x2048 ![1, 0] (m ((c : Thread nD τ).loc main_arg3) : FVec Ideal S2x2048 .f32) slices_S2x2048_S1x2048_1_0) shapeCasts_S1x2048_S2048) := by
    simp only [V, hostOps0, List.flatten_cons, List.flatten_nil, List.append_nil, List.cons_append, List.nil_append]
    after_results
    rfl
  exact (congrFun e _).trans (gain_at _ d)

abbrev rowsOf (c : Dev nD) : Fin 8448 → Fin 2048 → EReal := stacked (m ((c : Thread nD τ).loc main_arg0)) (m ((c : Thread nD τ).loc main_arg1))
abbrev valueOf (c : Dev nD) : Fin 8448 → Fin 2048 → EReal :=
  value (m ((c : Thread nD τ).loc main_arg0)) (m ((c : Thread nD τ).loc main_arg1)) (m ((c : Thread nD τ).loc main_arg2)) (m ((c : Thread nD τ).loc main_arg3))

/-- A point's rows. -/
theorem blk0 (c : Dev nD) (t : Fin cfg0.N) (r : Fin 768) (k : Fin 2048) :
    iblk m c 0 t (ix2 r k) = rowsOf m c ⟨768 * t.val + r.val, by have := lt11 t; omega⟩ k := by
  have ht := lt11 t
  unfold rowsOf
  rw [← V_rows m c]
  blk_ext [iblk, idx t]

/-- The shifts. -/
theorem blk1 (c : Dev nD) (t : Fin cfg0.N) (w : Fin 8) (k : Fin 2048) :
    iblk m c 1 t (ix2 w k) = m ((c : Thread nD τ).loc main_arg2) (ix2 w ⟨k.val, by omega⟩) := by
  rw [← V_main_arg2 m c]
  blk_ext [iblk, idx t]

/-- The scales. -/
theorem blk2 (c : Dev nD) (t : Fin cfg0.N) (w : Fin 8) (k : Fin 2048) :
    iblk m c 2 t (ix2 w k) = m ((c : Thread nD τ).loc main_arg2) (ix2 w ⟨2048 + k.val, by omega⟩) := by
  rw [← V_main_arg2 m c]
  blk_ext [iblk, idx t]

/-- The gain. -/
theorem blk3 (c : Dev nD) (t : Fin cfg0.N) (k : Fin 2048) : iblk m c 3 t (ix2 0 k) = m ((c : Thread nD τ).loc main_arg3) (ix2 1 k) := by
  rw [← V_gain m c]
  blk_ext [iblk, idx t]

/-- What a point leaves in its block. -/
theorem out_at (c : Dev nD) (t : Fin cfg0.N) :
    outsAt0 m c t.val t.isLt = fun y => valueOf m c ⟨768 * t.val + (y 0).val, by have := lt11 t; have : (y 0).val < 768 := (y 0).isLt; omega⟩ (y 1) := by
  have ht := lt11 t
  have g : (fun e => iblk m c 3 t (ix2 0 e)) = fun d => m ((c : Thread nD τ).loc main_arg3) (ix2 1 d) := funext fun e => blk3 m c t e
  have sh : ∀ w : Fin 8, (fun e => iblk m c 1 t (ix2 w e)) = fun d : Fin 2048 => m ((c : Thread nD τ).loc main_arg2) (ix2 w ⟨d.val, by omega⟩) := fun w => funext fun e => blk1 m c t w e
  have sc : ∀ w : Fin 8, (fun e => iblk m c 2 t (ix2 w e)) = fun d : Fin 2048 => m ((c : Thread nD τ).loc main_arg2) (ix2 w ⟨2048 + d.val, by omega⟩) := fun w => funext fun e => blk2 m c t w e
  by_cases hz : t.val = 0
  · rw [out_A m c t (by omega) (by omega)]
    funext y
    have hy : (y 0).val < 768 := (y 0).isLt
    dsimp only
    rw [g, sh, sc]
    unfold valueOf value
    rw [show which (768 * t.val + (y 0).val) = which (y 0).val from congrArg which (by omega)]
    exact congrArg (fun z => modulated z _ _ _ _) (funext fun e => blk0 m c t _ e)
  · rw [out_B m c t (by omega) (by omega)]
    funext y
    have hy : (y 0).val < 768 := (y 0).isLt
    dsimp only
    rw [g, sh, sc]
    unfold valueOf value
    rw [show which (768 * t.val + (y 0).val) = 0 from if_neg (by omega)]
    exact congrArg (fun z => modulated z _ _ _ _) (funext fun e => blk0 m c t _ e)

/-- The whole array. -/
theorem final4 (c : Dev nD) : (dats m 0 c).arrAt 4 cfg0.N = fun i : S8448x2048.Idx => valueOf m c (i 0) (i 1) := by
  refine (dats m 0 c).arrAt_eq_of_covers 4 _ (by decide +kernel) fun t _ y => ?_
  have ht := lt11 t
  blk_simp
  rw [after0_4, out_at]
  refine congrArg₂ (valueOf m c) (Fin.ext ?_) (Fin.ext ?_) <;> blk_simp [idx t]
  all_goals exact congrArg (· + (y 0).val) (Nat.mul_comm _ _)

end Cert.LaterNorm

end
-- ==== Proof.L.Ref.lean ====
/- The later norm's reference, entry by entry. -/
module

public import proofs.«01_k».proof.Proof.N.Ref
public import proofs.«01_k».proof.Proof.L.Out
public import proofs.«01_k».proof.Proof.Gen.Reference5Ideal.Read

@[expose] public section

set_option maxRecDepth 16384

noncomputable section

namespace Cert.LaterNorm.Reference

open Idealize.ShloMosaic Idealize.ShloMosaic.TcCoe Idealize.SL.Sem
open Cert.Norm Cert.Norm.Reference Cert.LaterNorm Cert.Reference5Ideal Cert.Reference5Ideal.Gen Cert.Reference5Ideal.Read

variable (x : FVec Ideal S1x8192x2048 .f32) (ctx : FVec Ideal S1x256x2048 .f32) (md : FVec Ideal S8x12288 .f32) (g : FVec Ideal S2x2048 .f32)

/-- The latent rows. -/
theorem lat (n : Fin 8192) (d : Fin 2048) : val_main_v36 (F := Ideal) x md g (ix3 0 n d)
    = refModulated (fun e => x (ix3 0 n e)) (fun e => g (ix2 1 e)) (fun e => md (ix2 0 ⟨e.val, by have := e.isLt; omega⟩)) (fun e => md (ix2 0 ⟨2048 + e.val, by have := e.isLt; omega⟩)) d := by
  pointwise [val_main_v36, val_main_v35, val_main_v34, val_main_v33, val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_cst, val_main_cst_0, val_main_cst_1, val_main_cst_2, val_main_v0, val_main_v1, val_main_v2, refModulated]

/-- The context rows. -/
theorem con (n : Fin 256) (d : Fin 2048) : val_main_v59 (F := Ideal) ctx md g (ix3 0 n d)
    = refModulated (fun e => ctx (ix3 0 n e)) (fun e => g (ix2 1 e)) (fun e => md (ix2 1 ⟨e.val, by have := e.isLt; omega⟩)) (fun e => md (ix2 1 ⟨2048 + e.val, by have := e.isLt; omega⟩)) d := by
  pointwise [val_main_v59, val_main_v58, val_main_v57, val_main_v56, val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_cst_3, val_main_cst_4, val_main_cst_5, val_main_cst_6, val_main_v7, val_main_v8, val_main_v9, refModulated]

/-- The result. -/
theorem result : val_main_v62 (F := Ideal) x ctx md g = fun i : S8448x2048.Idx => LaterNorm.value x ctx md g (i 0) (i 1) := by
  funext i
  obtain ⟨n, d, rfl⟩ : ∃ (n : Fin 8448) (d : Fin 2048), i = ix2 n d := ⟨i 0, i 1, eq_ix2 i⟩
  have e : val_main_v62 (F := Ideal) x ctx md g (ix2 n d) = if h : n.val < 256 then val_main_v59 (F := Ideal) ctx md g (ix3 0 ⟨n.val, h⟩ d) else val_main_v36 (F := Ideal) x md g (ix3 0 ⟨n.val - 256, by have := n.isLt; omega⟩ d) := by
    unfold val_main_v62 val_main_v61 val_main_v60
    generalize val_main_v59 (F := Ideal) ctx md g = A
    generalize val_main_v36 (F := Ideal) x md g = B
    pointwise []
  refine e.trans ?_
  show _ = LaterNorm.value x ctx md g n d
  unfold LaterNorm.value stacked which
  by_cases h : n.val < 256
  · simp only [dif_pos h, if_pos h]
    exact (con ctx md g _ d).trans (refModulated_eq _ _ _ _ _)
  · simp only [dif_neg h, if_neg h]
    exact (lat x md g _ d).trans (refModulated_eq _ _ _ _ _)

end Cert.LaterNorm.Reference

end
-- ==== Proof.L.Algebraic.lean ====
/- The later norm's value claim: on the same arguments the kernel and the reference write the same array, with no precondition. -/
module

public import proofs.«01_k».proof.Defs
public import proofs.«01_k».proof.Proof.L.Final
public import proofs.«01_k».proof.Proof.L.Ref
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim

@[expose] public section

set_option maxRecDepth 16384

noncomputable section

namespace Cert.Proof

open Idealize.ShloMosaic Idealize.SL.Sem

/-- The reference's rows at equal arguments are equal. -/
theorem same_later {x0 y0 : (⟨Cert.Reference5Ideal.S1x8192x2048, .f32⟩ : BufTy).Contents (Elt Ideal)} {x1 y1 : (⟨Cert.Reference5Ideal.S1x256x2048, .f32⟩ : BufTy).Contents (Elt Ideal)}
    {x2 y2 : (⟨Cert.Reference5Ideal.S8x12288, .f32⟩ : BufTy).Contents (Elt Ideal)} {x3 y3 : (⟨Cert.Reference5Ideal.S2x2048, .f32⟩ : BufTy).Contents (Elt Ideal)}
    (h0 : x0 = y0) (h1 : x1 = y1) (h2 : x2 = y2) (h3 : x3 = y3) :
    Cert.Reference5Ideal.Read.val_main_v62 (F := Ideal) x0 x1 x2 x3 = Cert.Reference5Ideal.Read.val_main_v62 (F := Ideal) y0 y1 y2 y3 := by
  rw [h0, h1, h2, h3]

/-- The later norm's kernel and its reference agree. -/
theorem algebraic5 : Cert.algebraic_Kernel5Ideal_Reference5Ideal := by
  pair_intro
  · run_from Cert.Kernel5Ideal.Value.run_blocks m g
  · refine (θ_run Cert.Reference5Ideal.defs _ _).mono (fun r h c => ⟨(h c).1.trans ?_, (h c).2⟩) (Cert.Reference5Ideal.Value.run m' g')
    obtain ⟨a0, a1, a2, a3⟩ := hagree c
    refine Eq.trans ?_ (Cert.LaterNorm.final4 m c).symm
    refine (Cert.Reference5Ideal.Read.val_main_v62_eq _ _ _ _).trans ?_
    exact (same_later a0 a1 a2 a3).trans (Cert.LaterNorm.Reference.result _ _ _ _)

end Cert.Proof

end
-- ==== Proof.M.Frame.lean ====
/-
The frame of the branch merge: what the result block and the kept pool hold after each grid point,
the run of the whole grid, and the frame from it. The text follows the generated frame; the step
that tells the three kinds of grid points apart is proved by `first_not_inner`.
-/
module

public import proofs.«01_k».proof.Proof.Gen.Kernel6Ideal.Frame.RunC
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A grid point that starts the first or the last block of rows is not one whose windows stay inside. -/
theorem first_not_inner (n : ℕ) (hn : n < 32) (h : n % 28 = 0) :
    ¬ (7 * (n % 4) + 1 ≤ n / 4 % 8 ∧ n / 4 % 8 ≤ 7 * (n % 4) + 6) := by
  have : n = 0 ∨ n = 28 := by omega
  rcases this with rfl | rfl <;> decide

theorem cover0_A_11 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (y : S1056x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1056x512.size (by sl_kernel_rfl) y

def out0_A_11 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) : Vec F S1056x512 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

theorem scover0_A_1 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (y : S1056x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1056x256.size (by sl_kernel_rfl) y

def sout0_A_1 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) : Vec F S1056x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

theorem cover0_B_11 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (xs1 : Vec F S1056x1024 .bf16) (y : S1056x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs1).1 S1056x512.size (by sl_kernel_rfl) y

def out0_B_11 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (xs1 : Vec F S1056x1024 .bf16) : Vec F S1056x512 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs1).1)

def sout0_B_1 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : ¬cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (xs1 : Vec F S1056x1024 .bf16) : Vec F S1056x1024 .bf16 := xs1

theorem cover0_C_11 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (y : S1056x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1056x512.size (by sl_kernel_rfl) y

def out0_C_11 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) : Vec F S1056x512 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

theorem scover0_C_1 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) (y : S1056x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1056x256.size (by sl_kernel_rfl) y

def sout0_C_1 (c : Dev nD) (i : grid0.Coords) (arg2 : Memref sig .tc .vmem S1056x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S1056x1024 .bf16) (harg5 : arg5.IsWhole) (arg6 : Memref sig .tc .vmem S1056x1024 .bf16) (harg6 : arg6.IsWhole) (arg7 : Memref sig .tc .vmem S1056x512 .bf16) (harg7 : arg7.IsWhole) (arg8 : Memref sig .tc .vmem S1056x512 .bf16) (harg8 : arg8.IsWhole) (arg9 : Memref sig .tc .vmem S1056x512 .bf16) (harg9 : arg9.IsWhole) (arg10 : Memref sig .tc .vmem S1x4x256x256 .f32) (harg10 : arg10.IsWhole) (arg11 : Memref sig .tc .vmem S1x1024 .f32) (harg11 : arg11.IsWhole) (arg12 : Memref sig .tc .vmem S1x3x1024x512 .f32) (harg12 : arg12.IsWhole) (arg13 : Memref sig .tc .vmem S1056x512 .bf16) (harg13 : arg13.IsWhole) (arg14 : Memref sig .tc .vmem S1088x1024 .f32) (harg14 : arg14.IsWhole) (arg15 : Memref sig .tc .vmem S1056x1024 .bf16) (harg15 : arg15.IsWhole) (hc0 : cond0_0 i) (hc1 : ¬cond0_1 i)
    (x0 : Vec F S1056x1024 .bf16) (x1 : Vec F S16x1024 .bf16) (x2 : Vec F S16x1024 .bf16) (x3 : Vec F S1056x1024 .bf16) (x4 : Vec F S1056x1024 .bf16) (x5 : Vec F S1056x512 .bf16) (x6 : Vec F S1056x512 .bf16) (x7 : Vec F S1056x512 .bf16) (x8 : Vec F S1x4x256x256 .f32) (x9 : Vec F S1x1024 .f32) (x10 : Vec F S1x3x1024x512 .f32) : Vec F S1056x1024 .bf16 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

def outsAt0 (c : Dev nD) : (n : ℕ) → n < cfg0.N → Vec F S1056x512 .bf16 × Vec F S1056x1024 .bf16
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (7 * ((n + 1) % 4) + 1 ≤ (n + 1) / 4 % 8 ∧ (n + 1) / 4 % 8 ≤ 7 * ((n + 1) % 4) + 6) then
      if h1 : (n + 1) % 28 = 0 then
        False.elim (by have hN : n + 1 < 32 := lt_of_lt_of_eq hn (show cfg0.N = 32 from N_0); omega)
      else
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 28 = 0 then
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
      else
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2)

theorem outsAt0_A (c : Dev nD) (t : Fin cfg0.N) (h0 : ¬(7 * (t.val % 4) + 1 ≤ t.val / 4 % 8 ∧ t.val / 4 % 8 ≤ 7 * (t.val % 4) + 6)) (h1 : t.val % 28 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_neg h0).trans ((dif_pos h1).trans rfl)

theorem outsAt0_B (c : Dev nD) (t : Fin cfg0.N) (h0 : ¬(7 * (t.val % 4) + 1 ≤ t.val / 4 % 8 ∧ t.val / 4 % 8 ≤ 7 * (t.val % 4) + 6)) (h1 : ¬t.val % 28 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  obtain ⟨n, hn⟩ := t
  cases n with
  | zero => exact (by exfalso; (try dsimp only at h1); exact absurd (Nat.zero_mod _) h1)
  | succ n => exact (dif_neg h0).trans ((dif_neg h1).trans rfl)

theorem outsAt0_C (c : Dev nD) (t : Fin cfg0.N) (h0 : (7 * (t.val % 4) + 1 ≤ t.val / 4 % 8 ∧ t.val / 4 % 8 ≤ 7 * (t.val % 4) + 6)) (h1 : ¬t.val % 28 = 0) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact (by exfalso; (try dsimp only at h0); exact by omega)
  | succ n => exact (dif_pos h0).trans ((dif_neg h1).trans rfl)

def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 32 := lt_of_lt_of_eq t.isLt (show cfg0.N = 32 from N_0)
  by_cases h0 : (7 * (t.val % 4) + 1 ≤ t.val / 4 % 8 ∧ t.val / 4 % 8 ≤ 7 * (t.val % 4) + 6)
  · by_cases h1 : t.val % 28 = 0
    · exact absurd h0 (first_not_inner t.val hN h1)
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_11 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [HS0]; · iexact HS0
        isplitl [HS1]; · iexists _; iexact HS1
        iintro ⟨H0, H1, H2, H3, H4, H5, H6, H7, H8, H9, H10, ⟨%e11, H11⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _)
  · by_cases h1 : t.val % 28 = 0
    · by_cases hz : t.val = 0
      · rw [PhiS_castSucc m c t, PhiS_zero m c _ _ hz, PhiA0_eq]
        rw [outsAt0_A m c t h0 h1]
        unfold out0_A_11 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [HS0]; · iexact HS0
        isplitl [HS1]; · iexact HS1
        iintro ⟨H0, H1, H2, H3, H4, H5, H6, H7, H8, H9, H10, ⟨%e11, H11⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_11 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [HS0]; · iexact HS0
        isplitl [HS1]; · iexists _; iexact HS1
        iintro ⟨H0, H1, H2, H3, H4, H5, H6, H7, H8, H9, H10, ⟨%e11, H11⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_11 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [HS0]; · iexact HS0
        isplitl [HS1]; · iexact HS1
        iintro ⟨H0, H1, H2, H3, H4, H5, H6, H7, H8, H9, H10, ⟨%e11, H11⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel6Ideal.Gen

end
-- ==== Proof.M.PreFacts.lean ====
/- What the merge's precondition states: every entry of the pooled branch's two inputs is a real. -/
module

public import proofs.«01_k».proof.Pre_finite_u
public import proofs.«01_k».proof.Proof.V.PreFacts

@[expose] public section

set_option maxRecDepth 16384

noncomputable section

namespace Cert.Pre_finite_u

open Idealize.ShloMosaic

instance facts : Cert.Pre_finite_u.Facts where
  bcast_S_S1x256x1024 := by decide
  reducesTo_S1x256x1024_S_d0_1_2 := by decide
  h_S_ := by decide
  bcast_S_S1x8192x1024 := by decide
  reducesTo_S1x8192x1024_S_d0_1_2 := by decide

/-- The precondition: both parts' entries are reals. -/
theorem reals {X0 : FVec Ideal S1x256x1024 .f32} {X1 : FVec Ideal S1x8192x1024 .f32} {X2 : FVec Ideal S1x256x1024 .f32} {X3 : FVec Ideal S1x8192x1024 .f32} {X4 : FVec Ideal S1x256x1024 .f32} {X5 : FVec Ideal S1x8192x1024 .f32}
    {X6 : FVec Ideal S1x256x6144 .f32} {X7 : FVec Ideal S1x8192x6144 .f32} {X8 : FVec Ideal S2x4x256x256 .f32} {X9 : FVec Ideal S2x1024 .f32} {X10 : FVec Ideal S2x3x1024x2048 .f32}
    (h : fn (F := Ideal) X0 X1 X2 X3 X4 X5 X6 X7 X8 X9 X10 = fun _ => 1#1) : (∀ i, ∃ r : ℝ, X0 i = r) ∧ (∀ i, ∃ r : ℝ, X1 i = r) := by
  have h := congrFun h (fun a => a.elim0)
  unfold fn at h
  dsimp only at h
  obtain ⟨h0, h1⟩ := IntOp.andi_eq_one.1 h
  exact ⟨fun i => ⟨_, Cert.Pre_finite_qk.real_of_all X0 _ _ _ _ h0 i⟩, fun i => ⟨_, Cert.Pre_finite_qk.real_of_all X1 _ _ _ _ h1 i⟩⟩

end Cert.Pre_finite_u

end
-- ==== Proof.M.Frames.lean ====
/- The merge's frames: its three programs run, leave their arguments as they were and every semaphore at zero. -/
module

public import proofs.«01_k».proof.Defs
public import proofs.«01_k».proof.Proof.Gen.Kernel6
public import proofs.«01_k».proof.Proof.M.Frame
public import proofs.«01_k».proof.Proof.M.PreFacts
public import proofs.«01_k».proof.Proof.Gen.Reference6Ideal.Run
public import Idealize.ShloMosaic.Lib.Claim
public import Idealize.ShloMosaic.Lib.Quiescent

@[expose] public section

set_option maxRecDepth 16384

noncomputable section

namespace Cert.Proof

open Idealize.ShloMosaic Idealize.SL.Sem

/-- The idealized merge's frame. -/
theorem frameI6 : Cert.quiescent_Kernel6Ideal := fun m g _ => Cert.Kernel6Ideal.Gen.frame m g

/-- The same, under the value claim's precondition. -/
theorem frameIp6 : Cert.quiescent_Kernel6Ideal_pre_finite_u := fun m g _ => Cert.Kernel6Ideal.Gen.frame m g

/-- The merge's reference's frame. -/
theorem frameR6 : Cert.quiescent_Reference6Ideal := by
  intro m g _
  exact (θ_run Cert.Reference6Ideal.defs _ _).mono (fun r h => ⟨fun c => (h c).2, sem_eq_zero_of_no_sems (by decide) r.2⟩) (Cert.Reference6Ideal.Value.run m g)

/-- The same, under the value claim's precondition. -/
theorem frameRp6 : Cert.quiescent_Reference6Ideal_pre_finite_u := fun m g _ => frameR6 m g trivial

set_option backward.isDefEq.respectTransparency.types false in
/-- The two programs' kernels' tables are one text. -/
theorem table_same6 : @Cert.Kernel6.defs₀ Bits _ _ = @Cert.Kernel6Ideal.defs₀ Bits _ _ := by
  unfold Cert.Kernel6.defs₀ Cert.Kernel6Ideal.defs₀
  refine congrArg Defs.onTc ?_
  funext l
  match l with
  | 0 => rfl

set_option backward.isDefEq.respectTransparency.types false in
/-- So are their body tables. -/
theorem defs_same6 : @Cert.Kernel6.defs Bits _ _ = @Cert.Kernel6Ideal.defs Bits _ _ := by
  unfold Cert.Kernel6.defs Cert.Kernel6Ideal.defs
  exact congrArg (Pipeline.defs (Cert.Kernel6.pcfgs (F := Bits))) table_same6

set_option maxHeartbeats 1000000 in
set_option backward.isDefEq.respectTransparency.types false in
/-- So are their host lines. -/
theorem main_same6 : @Cert.Kernel6.main Bits _ _ = @Cert.Kernel6Ideal.main Bits _ _ := rfl

set_option backward.isDefEq.respectTransparency.types false in
/-- The merge's frame: the printed program is the idealized one's text, run on words. -/
theorem frameK6 : Cert.quiescent_Kernel6 := by
  intro m g _
  rw [defs_same6, main_same6]
  exact Cert.Kernel6Ideal.Gen.frame (F := Bits) m g

end Cert.Proof

end
-- ==== Proof.M.Gate.lean ====
/- The gate: half of a hyperbolic tangent of half, and a half, is the logistic function at every extended real. -/
module

public import Idealize.ShloMosaic.PureOps
public import Idealize.ShloMosaic.Lib.Pointwise

@[expose] public section

noncomputable section

namespace Cert.Merge

open Idealize.ShloMosaic

/-- The kernel's gate. -/
def gate (x : EReal) : EReal := Ideal.ofBits .f32 0x3F000000#32 * Ideal.tanh (Ideal.ofBits .f32 0x3F000000#32 * x) + Ideal.ofBits .f32 0x3F000000#32

theorem half : Ideal.ofBits .f32 0x3F000000#32 = ((1 / 2 : ℝ) : EReal) := by
  simp [Ideal.ofBits, Ideal.ieee]
  rw [← EReal.coe_mul]
  refine congrArg _ ?_
  norm_num

theorem half_tanh (r : ℝ) : 1 / 2 * Real.tanh (1 / 2 * r) + 1 / 2 = (1 + Real.exp (-r))⁻¹ := by
  have e1 : Real.exp (1 / 2 * r) ≠ 0 := (Real.exp_pos _).ne'
  have h : Real.exp (-r) = Real.exp (-(1 / 2 * r)) * Real.exp (-(1 / 2 * r)) := by
    rw [← Real.exp_add]
    congr 1
    ring
  rw [Real.tanh_eq_sinh_div_cosh, Real.sinh_eq, Real.cosh_eq, h, Real.exp_neg]
  generalize hz : Real.exp (1 / 2 * r) = z at e1
  have hz0 : 0 < z := hz ▸ Real.exp_pos _
  have : z ^ 2 + 1 ≠ 0 := by positivity
  field_simp
  ring

theorem gate_eq (x : EReal) : gate x = Ideal.div 1 (1 + Ideal.exp (-x)) := by
  show _ = Ideal.logistic x
  unfold gate
  rw [half]
  induction x using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add, half_tanh]

end Cert.Merge

end
-- ==== Proof.M.Spec.lean ====
/- The branch merge in closed form: pooled means over windows that stop at the ends of the context and of the latents, mapped and scaled by groups of channels, and a gated sum of three products. -/
module

public import proofs.«01_k».proof.Proof.M.Gate

@[expose] public section

noncomputable section

namespace Cert.Merge

open Idealize.ShloMosaic

/-- The context's rows above the latent rows, by number. -/
def stacked (A : FVec Ideal ⟨3, ![1, 256, 1024]⟩ .f32) (B : FVec Ideal ⟨3, ![1, 8192, 1024]⟩ .f32) (n k : ℕ) : EReal :=
  if hk : k < 1024 then
    if hn : n < 256 then A (ix3 0 ⟨n, hn⟩ ⟨k, hk⟩) else if hx : n - 256 < 8192 then B (ix3 0 ⟨n - 256, hx⟩ ⟨k, hk⟩) else 0
  else 0

/-- The gates' logits, the context's above the latents'. -/
def logits (A : FVec Ideal ⟨3, ![1, 256, 6144]⟩ .f32) (B : FVec Ideal ⟨3, ![1, 8192, 6144]⟩ .f32) (n : Fin 8448) (k : Fin 6144) : EReal :=
  if hn : n.val < 256 then A (ix3 0 ⟨n.val, hn⟩ k) else B (ix3 0 ⟨n.val - 256, by omega⟩ k)

/-- Row `a - lo` exists and is of the same kind as row `n`. -/
def Counts (n a lo : ℕ) : Prop := lo ≤ a ∧ a - lo < 8448 ∧ (a - lo < 256 ↔ n < 256)

instance (n a lo : ℕ) : Decidable (Counts n a lo) := by unfold Counts; infer_instance

/-- The mean of channel `k` over the rows of group `g`'s window around row `n` that count. -/
def mean (U : ℕ → ℕ → EReal) (g n k : ℕ) : EReal :=
  Ideal.div (∑ j ∈ Finset.range (2 ^ (g + 1)), if Counts n (n + j) (2 ^ g - 1) then U (n + j - (2 ^ g - 1)) k else 0)
    (∑ j ∈ Finset.range (2 ^ (g + 1)), if Counts n (n + j) (2 ^ g - 1) then 1 else 0)

/-- A pooled row's channel. -/
def pooled (U : ℕ → ℕ → EReal) (W : Fin 4 → Fin 256 → Fin 256 → EReal) (S : Fin 1024 → EReal) (n : ℕ) (c : Fin 1024) : EReal :=
  (∑ k : Fin 256, (mean U (c.val / 256) n (256 * (c.val / 256) + k.val) - U n (256 * (c.val / 256) + k.val)) * W ⟨c.val / 256, by omega⟩ k ⟨c.val % 256, by omega⟩) * S c

/-- The result's entry. -/
def value (U Y Z : ℕ → ℕ → EReal) (L : Fin 8448 → Fin 6144 → EReal) (W : Fin 4 → Fin 256 → Fin 256 → EReal) (S : Fin 1024 → EReal) (B : Fin 3 → Fin 1024 → Fin 2048 → EReal) (n : Fin 8448) (d : Fin 2048) : EReal :=
  gate (L n ⟨d.val, by omega⟩) * (∑ k : Fin 1024, pooled U W S n.val k * B 0 k d)
    + gate (L n ⟨2048 + d.val, by omega⟩) * (∑ k : Fin 1024, Y n.val k.val * B 1 k d)
    + gate (L n ⟨4096 + d.val, by omega⟩) * (∑ k : Fin 1024, Z n.val k.val * B 2 k d)

end Cert.Merge

end
-- ==== Proof.M.Host.lean ====
/- The arrays the call is given, at an index: the host's stacking of context and latents and the wide array of pooling channels and logits. -/
module

public import proofs.«01_k».proof.Proof.M.Spec
public import proofs.«01_k».proof.Proof.M.Frame
public import Idealize.ShloMosaic.Lib.Claim

@[expose] public section

set_option maxRecDepth 16384

noncomputable section

namespace Cert.Merge

open Idealize.ShloMosaic Idealize.ShloMosaic.TcCoe Idealize.SL.Sem
open Cert.Kernel6Ideal Cert.Kernel6Ideal.Gen

variable (m : (ℓ : Loc nD τ sig) → Buf (Elt Ideal) ℓ)

theorem stack_at (A : FVec Ideal S1x256x1024 .f32) (B : FVec Ideal S1x8192x1024 .f32) (n : Fin 8448) (k : Fin 1024) :
    shapeCast S8448x1024 (concatenate S1x8448x1024 1 [⟨S1x256x1024, A⟩, ⟨S1x8192x1024, B⟩] concatenates_S1x256x1024_S1x8192x1024_S1x8448x1024_d1) shapeCasts_S1x8448x1024_S8448x1024 (ix2 n k)
      = stacked A B n.val k.val := by
  unfold stacked
  rw [dif_pos k.isLt]
  pointwise []
  by_cases h : n.val < 256
  · rw [dif_pos (by omega), dif_pos h]
  · rw [dif_neg (by omega), dif_neg h, dif_pos (by omega)]

theorem logits_at (A : FVec Ideal S1x256x6144 .f32) (B : FVec Ideal S1x8192x6144 .f32) (n : Fin 8448) (k : Fin 6144) :
    shapeCast S8448x6144 (concatenate S1x8448x6144 1 [⟨S1x256x6144, A⟩, ⟨S1x8192x6144, B⟩] concatenates_S1x256x6144_S1x8192x6144_S1x8448x6144_d1) shapeCasts_S1x8448x6144_S8448x6144 (ix2 n k)
      = logits A B n k := by
  unfold logits
  pointwise []

theorem wide_left (X : FVec Ideal S8448x1024 .f32) (Y : FVec Ideal S8448x3072 .f32) (Z : FVec Ideal S8448x6144 .f32) (n : Fin 8448) (k : Fin 1024) :
    truncf .bf16 (concatenate S8448x10240 1 [⟨S8448x1024, X⟩, ⟨S8448x3072, Y⟩, ⟨S8448x6144, Z⟩] concatenates_S8448x1024_S8448x3072_S8448x6144_S8448x10240_d1) bitsLt_bf16_f32 (ix2 n ⟨k.val, by omega⟩)
      = X (ix2 n k) := by
  pointwise []

theorem wide_right (X : FVec Ideal S8448x1024 .f32) (Y : FVec Ideal S8448x3072 .f32) (Z : FVec Ideal S8448x6144 .f32) (n : Fin 8448) (k : Fin 6144) :
    truncf .bf16 (concatenate S8448x10240 1 [⟨S8448x1024, X⟩, ⟨S8448x3072, Y⟩, ⟨S8448x6144, Z⟩] concatenates_S8448x1024_S8448x3072_S8448x6144_S8448x10240_d1) bitsLt_bf16_f32 (ix2 n ⟨4096 + k.val, by omega⟩)
      = Z (ix2 n k) := by
  pointwise []
  have h1 : ¬4096 + k.val < 1024 := by omega
  have h2 : ¬4096 + k.val - 1024 < 3072 := by omega
  have h3 : 4096 + k.val - 1024 - 3072 = k.val := by omega
  rw [dif_neg h1, dif_neg h2]
  exact congrArg (fun q => Z (ix2 n q)) (Fin.ext h3)

theorem scale_at (A : FVec Ideal S2x1024 .f32) (d : Fin 1024) :
    broadcastInDim S1x1024 ![1] bcast_S1024_S1x1024_1 (shapeCast S1024 (extractStridedSlice S1x1024 ![0, 0] A slices_S2x1024_S1x1024_0_0) shapeCasts_S1x1024_S1024) (ix2 0 d) = A (ix2 0 d) := by
  pointwise []

abbrev uOf (c : Dev nD) : ℕ → ℕ → EReal := stacked (m ((c : Thread nD τ).loc main_arg0)) (m ((c : Thread nD τ).loc main_arg1))
abbrev yOf (c : Dev nD) : ℕ → ℕ → EReal := stacked (m ((c : Thread nD τ).loc main_arg2)) (m ((c : Thread nD τ).loc main_arg3))
abbrev zOf (c : Dev nD) : ℕ → ℕ → EReal := stacked (m ((c : Thread nD τ).loc main_arg4)) (m ((c : Thread nD τ).loc main_arg5))
abbrev lOf (c : Dev nD) : Fin 8448 → Fin 6144 → EReal := logits (m ((c : Thread nD τ).loc main_arg6)) (m ((c : Thread nD τ).loc main_arg7))
abbrev wOf (c : Dev nD) : Fin 4 → Fin 256 → Fin 256 → EReal := fun g k d => (m ((c : Thread nD τ).loc main_arg8) : FVec Ideal S2x4x256x256 .f32) (ix4 0 g k d)
abbrev sOf (c : Dev nD) : Fin 1024 → EReal := fun d => (m ((c : Thread nD τ).loc main_arg9) : FVec Ideal S2x1024 .f32) (ix2 0 d)
abbrev bOf (c : Dev nD) : Fin 3 → Fin 1024 → Fin 2048 → EReal := fun b k d => (m ((c : Thread nD τ).loc main_arg10) : FVec Ideal S2x3x1024x2048 .f32) (ix4 0 b k d)

/-- The wide array's text. -/
def wideOf (c : Dev nD) : FVec Ideal S8448x10240 .bf16 :=
  truncf .bf16 (concatenate S8448x10240 1 [⟨S8448x1024, shapeCast S8448x1024 (concatenate S1x8448x1024 1 [⟨S1x256x1024, (m ((c : Thread nD τ).loc main_arg0) : FVec Ideal S1x256x1024 .f32)⟩, ⟨S1x8192x1024, (m ((c : Thread nD τ).loc main_arg1) : FVec Ideal S1x8192x1024 .f32)⟩] concatenates_S1x256x1024_S1x8192x1024_S1x8448x1024_d1) shapeCasts_S1x8448x1024_S8448x1024⟩,
    ⟨S8448x3072, broadcastInDim S8448x3072 ![] bcast_S_S8448x3072 (constant S_ .f32 0x00000000#32)⟩,
    ⟨S8448x6144, shapeCast S8448x6144 (concatenate S1x8448x6144 1 [⟨S1x256x6144, (m ((c : Thread nD τ).loc main_arg6) : FVec Ideal S1x256x6144 .f32)⟩, ⟨S1x8192x6144, (m ((c : Thread nD τ).loc main_arg7) : FVec Ideal S1x8192x6144 .f32)⟩] concatenates_S1x256x6144_S1x8192x6144_S1x8448x6144_d1) shapeCasts_S1x8448x6144_S8448x6144⟩] concatenates_S8448x1024_S8448x3072_S8448x6144_S8448x10240_d1) bitsLt_bf16_f32

theorem V_wide (c : Dev nD) : V m c main_v6 = wideOf m c := by
  simp only [V, hostOps0, List.flatten_cons, List.flatten_nil, List.append_nil, List.cons_append, List.nil_append]
  after_results
  rfl

theorem V_u (c : Dev nD) (n : Fin 8448) (k : Fin 1024) : V m c main_v6 (ix2 n ⟨k.val, by omega⟩) = uOf m c n.val k.val :=
  (congrFun (V_wide m c) _).trans ((wide_left _ _ _ n k).trans (stack_at _ _ n k))

theorem V_l (c : Dev nD) (n : Fin 8448) (k : Fin 6144) : V m c main_v6 (ix2 n ⟨4096 + k.val, by omega⟩) = lOf m c n k :=
  (congrFun (V_wide m c) _).trans ((wide_right _ _ _ n k).trans (logits_at _ _ n k))

theorem V_y (c : Dev nD) (n : Fin 8448) (k : Fin 1024) : V m c main_v9 (ix2 n k) = yOf m c n.val k.val := by
  have e : V m c main_v9 = (truncf .bf16 (shapeCast S8448x1024 (concatenate S1x8448x1024 1 [⟨S1x256x1024, (m ((c : Thread nD τ).loc main_arg2) : FVec Ideal S1x256x1024 .f32)⟩, ⟨S1x8192x1024, (m ((c : Thread nD τ).loc main_arg3) : FVec Ideal S1x8192x1024 .f32)⟩] concatenates_S1x256x1024_S1x8192x1024_S1x8448x1024_d1) shapeCasts_S1x8448x1024_S8448x1024) bitsLt_bf16_f32 : FVec Ideal S8448x1024 .bf16) := by
    simp only [V, hostOps0, List.flatten_cons, List.flatten_nil, List.append_nil, List.cons_append, List.nil_append]
    after_results
    rfl
  exact (congrFun e _).trans (stack_at _ _ n k)

theorem V_z (c : Dev nD) (n : Fin 8448) (k : Fin 1024) : V m c main_v12 (ix2 n k) = zOf m c n.val k.val := by
  have e : V m c main_v12 = (truncf .bf16 (shapeCast S8448x1024 (concatenate S1x8448x1024 1 [⟨S1x256x1024, (m ((c : Thread nD τ).loc main_arg4) : FVec Ideal S1x256x1024 .f32)⟩, ⟨S1x8192x1024, (m ((c : Thread nD τ).loc main_arg5) : FVec Ideal S1x8192x1024 .f32)⟩] concatenates_S1x256x1024_S1x8192x1024_S1x8448x1024_d1) shapeCasts_S1x8448x1024_S8448x1024) bitsLt_bf16_f32 : FVec Ideal S8448x1024 .bf16) := by
    simp only [V, hostOps0, List.flatten_cons, List.flatten_nil, List.append_nil, List.cons_append, List.nil_append]
    after_results
    rfl
  exact (congrFun e _).trans (stack_at _ _ n k)

theorem V_s (c : Dev nD) (d : Fin 1024) : V m c main_v15 (ix2 0 d) = sOf m c d := by
  have e : V m c main_v15 = broadcastInDim S1x1024 ![1] bcast_S1024_S1x1024_1 (shapeCast S1024 (extractStridedSlice S1x1024 ![0, 0] (m ((c : Thread nD τ).loc main_arg9) : FVec Ideal S2x1024 .f32) slices_S2x1024_S1x1024_0_0) shapeCasts_S1x1024_S1024) := by
    simp only [V, hostOps0, List.flatten_cons, List.flatten_nil, List.append_nil, List.cons_append, List.nil_append]
    after_results
    rfl
  exact (congrFun e _).trans (scale_at _ d)

end Cert.Merge

end
-- ==== Proof.M.Parts.lean ====
/- The pooling's operations on a block of rows: the rows with their neighbours, one masked row of a window, a window's sum, its count, and the channels' map. -/
module

public import proofs.«01_k».proof.Proof.M.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Merge

open Idealize.ShloMosaic Idealize.ShloMosaic.TcCoe Idealize.SL.Sem
open Cert.Kernel6Ideal Cert.Kernel6Ideal.Gen

/-- The block's rows with sixteen rows before and after them, by number. -/
def ext (up : Vec Ideal S16x1024 .bf16) (u : Vec Ideal S1056x1024 .bf16) (un : Vec Ideal S16x1024 .bf16) (n k : ℕ) : EReal :=
  if hk : k < 1024 then
    if h : n < 16 then up (ix2 ⟨n, h⟩ ⟨k, hk⟩)
    else if h' : n < 1072 then u (ix2 ⟨n - 16, by omega⟩ ⟨k, hk⟩)
    else if h'' : n < 1088 then un (ix2 ⟨n - 1072, by omega⟩ ⟨k, hk⟩) else 0
  else 0

theorem ext_canon (up : Vec Ideal S16x1024 .bf16) (u : Vec Ideal S1056x1024 .bf16) (un : Vec Ideal S16x1024 .bf16) (i1 i2 i3) (y : S1088x1024.Idx) :
    View.canon (Val := Elt Ideal) (s := S1088x1024) (e := .f32) [⟨Rect.unit ![1072, 0] ![16, 1024] i1, k0_pay4 un⟩, ⟨Rect.unit ![16, 0] ![1056, 1024] i2, k0_pay3 u⟩, ⟨Rect.unit ![0, 0] ![16, 1024] i3, k0_pay2 up⟩] y
      = ext up u un (y 0).val (y 1).val := by
  have hy0 : (y 0).val < 1088 := (y 0).isLt
  have hy1 : (y 1).val < 1024 := (y 1).isLt
  have hcover : ∃ p ∈ ([⟨Rect.unit ![1072, 0] ![16, 1024] i1, k0_pay4 un⟩, ⟨Rect.unit ![16, 0] ![1056, 1024] i2, k0_pay3 u⟩, ⟨Rect.unit ![0, 0] ![16, 1024] i3, k0_pay2 up⟩] : List (View.Piece (Elt Ideal) S1088x1024 .f32)),
      y ∈ p.1.set := by
    by_cases g : (y 0).val < 16
    · refine ⟨_, List.mem_cons_of_mem _ (List.mem_cons_of_mem _ List.mem_cons_self), ?_⟩
      rw [Rect.mem_set_unit]
      intro a
      match a with
      | ⟨0, _⟩ => exact ⟨Nat.zero_le _, by show (y 0).val < 0 + 16; omega⟩
      | ⟨1, _⟩ => exact ⟨Nat.zero_le _, by show (y 1).val < 0 + 1024; omega⟩
    · by_cases g' : (y 0).val < 1072
      · refine ⟨_, List.mem_cons_of_mem _ List.mem_cons_self, ?_⟩
        rw [Rect.mem_set_unit]
        intro a
        match a with
        | ⟨0, _⟩ => exact ⟨by show 16 ≤ (y 0).val; omega, by show (y 0).val < 16 + 1056; omega⟩
        | ⟨1, _⟩ => exact ⟨Nat.zero_le _, by show (y 1).val < 0 + 1024; omega⟩
      · refine ⟨_, List.mem_cons_self, ?_⟩
        rw [Rect.mem_set_unit]
        intro a
        match a with
        | ⟨0, _⟩ => exact ⟨by show 1072 ≤ (y 0).val; omega, by show (y 0).val < 1072 + 16; omega⟩
        | ⟨1, _⟩ => exact ⟨Nat.zero_le _, by show (y 1).val < 0 + 1024; omega⟩
  canon_tiles x h using hcover
  case piece0 =>
    obtain ⟨r, d, rfl⟩ : ∃ (r : Fin 16) (d : Fin 1024), x = ix2 r d := ⟨x 0, x 1, by funext a; match a with | ⟨0, _⟩ => rfl | ⟨1, _⟩ => rfl⟩
    have e0 : (y 0).val = 1072 + r.val := h0
    have e1 : (y 1).val = d.val := h1
    unfold ext
    rw [dif_pos hy1, dif_neg (by omega), dif_neg (by omega), dif_pos (by omega)]
    refine (show k0_pay4 un (ix2 r d) = un (ix2 r d) by pointwise [k0_pay4]).trans (congrArg₂ (fun a b => un (ix2 a b)) (Fin.ext (by show r.val = (y 0).val - 1072; omega)) (Fin.ext e1.symm))
  case piece1 =>
    obtain ⟨r, d, rfl⟩ : ∃ (r : Fin 1056) (d : Fin 1024), x = ix2 r d := ⟨x 0, x 1, by funext a; match a with | ⟨0, _⟩ => rfl | ⟨1, _⟩ => rfl⟩
    have e0 : (y 0).val = 16 + r.val := h0
    have e1 : (y 1).val = d.val := h1
    have hr := r.isLt
    unfold ext
    rw [dif_pos hy1, dif_neg (by omega), dif_pos (by omega)]
    refine (show k0_pay3 u (ix2 r d) = u (ix2 r d) by pointwise [k0_pay3]).trans (congrArg₂ (fun a b => u (ix2 a b)) (Fin.ext (by show r.val = (y 0).val - 16; omega)) (Fin.ext e1.symm))
  case piece2 =>
    obtain ⟨r, d, rfl⟩ : ∃ (r : Fin 16) (d : Fin 1024), x = ix2 r d := ⟨x 0, x 1, by funext a; match a with | ⟨0, _⟩ => rfl | ⟨1, _⟩ => rfl⟩
    have e0 : (y 0).val = r.val := h0
    have e1 : (y 1).val = d.val := h1
    have hr := r.isLt
    unfold ext
    rw [dif_pos hy1, dif_pos (by omega)]
    refine (show k0_pay2 up (ix2 r d) = up (ix2 r d) by pointwise [k0_pay2]).trans (congrArg₂ (fun a b => up (ix2 a b)) (Fin.ext e0.symm) (Fin.ext e1.symm))

/-- The 1056 rows and 256 columns of the extended block from row `a` and column `b` on. -/
def rows (up : Vec Ideal S16x1024 .bf16) (u : Vec Ideal S1056x1024 .bf16) (un : Vec Ideal S16x1024 .bf16) (a b : ℕ) : Vec Ideal S1056x256 .f32 :=
  fun x => ext up u un (a + (x 0).val) (b + (x 1).val)

theorem load (up : Vec Ideal S16x1024 .bf16) (u : Vec Ideal S1056x1024 .bf16) (un : Vec Ideal S16x1024 .bf16) (i1 i2 i3) (a b : ℕ) (inb) :
    View.readCov (View.whole cc0_scratch0) (Val := Elt Ideal) [⟨Rect.unit ![1072, 0] ![16, 1024] i1, k0_pay4 un⟩, ⟨Rect.unit ![16, 0] ![1056, 1024] i2, k0_pay3 u⟩, ⟨Rect.unit ![0, 0] ![16, 1024] i3, k0_pay2 up⟩]
      (Rect.unit ![a, b] ![1056, 256] inb).toLoadRect = rows up u un a b := by
  rw [View.readCov_eq_canon']
  funext x
  refine (ext_canon up u un i1 i2 i3 _).trans ?_
  unfold rows
  show ext up u un (a + 1 * (x 0).val) (b + 1 * (x 1).val) = _
  rw [Nat.one_mul, Nat.one_mul]

/-- Which rows of a block lie, moved by `o`, in the array and on the same side of the context's end. -/
def okv (r : IVec S1056x1 32) (o : BitVec 32) : IVec S1056x1 1 :=
  andi (andi (cmpi .sge (addi r (broadcast S1056x1 o)) (broadcast S1056x1 0#32)) (cmpi .slt (addi r (broadcast S1056x1 o)) (broadcast S1056x1 8448#32)))
    (xori (xori (cmpi .slt (addi r (broadcast S1056x1 o)) (broadcast S1056x1 256#32)) (cmpi .slt r (broadcast S1056x1 256#32))) (constantI S1056x1 1 1#1))

/-- The rows at offset `o`, zero where they don't count. -/
def masked (r : IVec S1056x1 32) (o : BitVec 32) (v : FVec Ideal S1056x256 .f32) : FVec Ideal S1056x256 .f32 :=
  select (broadcastTo S1056x256 (shapeCast S1056x1 (okv r o) shapeCasts_S1056x1_S1056x1) broadcasts_S1056x1_S1056x256) v (broadcast S1056x256 (Scalar.ofBits (F := Ideal) .f32 0x00000000#32))

/-- One where the row at offset `o` counts. -/
def counted (r : IVec S1056x1 32) (o : BitVec 32) : FVec Ideal S1056x1 .f32 := sitofp .f32 (extui 32 (okv r o) natLt_1_32)

/-- A sum of blocks, from the left. -/
def total {s : Shape} : List (FVec Ideal s .f32) → FVec Ideal s .f32 := List.foldl addf (broadcast s (Scalar.ofBits (F := Ideal) .f32 0x00000000#32))

/-- The number of the window's first row, against row `r`: `16 - lo + j` in the extended block. -/
def window (up : Vec Ideal S16x1024 .bf16) (u : Vec Ideal S1056x1024 .bf16) (un : Vec Ideal S16x1024 .bf16) (w lo b : ℕ) : List (FVec Ideal S1056x256 .f32) :=
  (List.range w).map fun j => rows up u un (16 - lo + j) b

/-- The mean of a window that stays inside. -/
def meanInner (up : Vec Ideal S16x1024 .bf16) (u : Vec Ideal S1056x1024 .bf16) (un : Vec Ideal S16x1024 .bf16) (w lo b : ℕ) (q : BitVec 32) : FVec Ideal S1056x256 .f32 :=
  mulf (total (window up u un w lo b)) (broadcast S1056x256 (Scalar.ofBits (F := Ideal) .f32 q))

/-- The mean of a window of which some rows may not count. -/
def meanClipped (r : IVec S1056x1 32) (up : Vec Ideal S16x1024 .bf16) (u : Vec Ideal S1056x1024 .bf16) (un : Vec Ideal S16x1024 .bf16) (w lo b : ℕ) : FVec Ideal S1056x256 .f32 :=
  divf (total ((List.range w).map fun j => masked r (BitVec.ofNat 32 (4294967296 - lo + j)) (rows up u un (16 - lo + j) b)))
    (broadcastTo S1056x256 (total ((List.range w).map fun j => counted r (BitVec.ofNat 32 (4294967296 - lo + j)))) broadcasts_S1056x1_S1056x256)

/-- The channels' map and scale over a mean. -/
def finish (mean ce : FVec Ideal S1056x256 .f32) (w : Vec Ideal S1x1x256x256 .f32) (s : Vec Ideal S1x256 .f32) : FVec Ideal S1056x256 .bf16 :=
  shapeCast S1056x256 (truncf .bf16 (mulf (matmul dot_S1056x256_S256x256_S1056x256_1_0_0_1_n_n none (truncf .bf16 (subf mean ce) bitsLt_bf16_f32)
    (truncf .bf16 (shapeCast S256x256 w shapeCasts_S1x1x256x256_S256x256) bitsLt_bf16_f32) (constant S1056x256 .f32 0x00000000#32))
    (broadcastTo S1056x256 (shapeCast S1x256 s shapeCasts_S1x256_S1x256) broadcasts_S1x256_S1056x256)) bitsLt_bf16_f32) shapeCasts_S1056x256_S1056x256

theorem finish_at (mean ce : FVec Ideal S1056x256 .f32) (w : Vec Ideal S1x1x256x256 .f32) (s : Vec Ideal S1x256 .f32) (r : Fin 1056) (d : Fin 256) :
    finish mean ce w s (ix2 r d) = (∑ k : Fin 256, (mean (ix2 r k) - ce (ix2 r k)) * w (ix4 0 0 k d)) * s (ix2 0 d) := by
  pointwise [finish]

theorem total_at {s : Shape} (f : ℕ → FVec Ideal s .f32) (w : ℕ) (i : s.Idx) : total ((List.range w).map f) i = ∑ j ∈ Finset.range w, f j i := by
  induction w with
  | zero => exact Ideal.ofBits_zero_f32
  | succ w ih =>
    rw [List.range_succ, List.map_append, Finset.sum_range_succ, ← ih]
    unfold total
    rw [List.foldl_append]
    rfl

theorem masked_at (r : IVec S1056x1 32) (o : BitVec 32) (v : FVec Ideal S1056x256 .f32) (n : Fin 1056) (k : Fin 256) :
    masked r o v (ix2 n k) = if okv r o (ix2 n 0) = 1#1 then v (ix2 n k) else 0 := by
  unfold masked
  generalize okv r o = z
  pointwise []
  rfl

theorem counted_at (r : IVec S1056x1 32) (o : BitVec 32) (n : Fin 1056) :
    counted r o (ix2 n 0) = if okv r o (ix2 n 0) = 1#1 then 1 else 0 := by
  unfold counted
  generalize okv r o = z
  pointwise []
  obtain h | h := (by decide : ∀ b : BitVec 1, b = 0#1 ∨ b = 1#1) (z (ix2 n 0))
  · rw [h]
    show (((BitVec.setWidth 32 0#1).toInt : ℝ) : EReal) = _
    simp
  · rw [h]
    show (((BitVec.setWidth 32 1#1).toInt : ℝ) : EReal) = _
    simp

/-- A block of pooled rows, from the windows' means and the rows themselves. -/
def poolBlock (mean : ℕ → Fin 1056 → ℕ → EReal) (ce : Fin 1056 → ℕ → EReal) (w : Vec Ideal S1x4x256x256 .f32) (s : Vec Ideal S1x1024 .f32) (r : Fin 1056) (c : ℕ) : EReal :=
  if h : c < 1024 then (∑ k : Fin 256, (mean (c / 256) r (256 * (c / 256) + k.val) - ce r (256 * (c / 256) + k.val)) * w (ix4 0 ⟨c / 256, by omega⟩ k ⟨c % 256, by omega⟩)) * s (ix2 0 ⟨c, h⟩)
  else 0

theorem poolBlock_at (mean : ℕ → Fin 1056 → ℕ → EReal) (ce : Fin 1056 → ℕ → EReal) (w : Vec Ideal S1x4x256x256 .f32) (s : Vec Ideal S1x1024 .f32) (r : Fin 1056) (g : Fin 4) (d : Fin 256) :
    poolBlock mean ce w s r (256 * g.val + d.val) = (∑ k : Fin 256, (mean g.val r (256 * g.val + k.val) - ce r (256 * g.val + k.val)) * w (ix4 0 g k d)) * s (ix2 0 ⟨256 * g.val + d.val, by omega⟩) := by
  have e1 : (256 * g.val + d.val) / 256 = g.val := by omega
  have e2 : (256 * g.val + d.val) % 256 = d.val := by omega
  unfold poolBlock
  rw [dif_pos (by omega)]
  simp only [e1, e2]

/-- The mean over a window that stays inside. -/
def innerMean (up : Vec Ideal S16x1024 .bf16) (u : Vec Ideal S1056x1024 .bf16) (un : Vec Ideal S16x1024 .bf16) (g : ℕ) (r : Fin 1056) (k : ℕ) : EReal :=
  (∑ j ∈ Finset.range (2 ^ (g + 1)), ext up u un (16 - (2 ^ g - 1) + j + r.val) k) * ((1 / 2 ^ (g + 1) : ℝ) : EReal)

/-- Which of a window's rows count. -/
def Ok (q : BitVec 32) (lo j : ℕ) (r : Fin 1056) : Prop := okv (k0_pay14 q) (BitVec.ofNat 32 (4294967296 - lo + j)) (ix2 r 0) = 1#1

instance (q : BitVec 32) (lo j : ℕ) (r : Fin 1056) : Decidable (Ok q lo j r) := by unfold Ok; infer_instance

/-- The mean over a window's rows that count. -/
def clippedMean (q : BitVec 32) (up : Vec Ideal S16x1024 .bf16) (u : Vec Ideal S1056x1024 .bf16) (un : Vec Ideal S16x1024 .bf16) (g : ℕ) (r : Fin 1056) (k : ℕ) : EReal :=
  Ideal.div (∑ j ∈ Finset.range (2 ^ (g + 1)), if Ok q (2 ^ g - 1) j r then ext up u un (16 - (2 ^ g - 1) + j + r.val) k else 0)
    (∑ j ∈ Finset.range (2 ^ (g + 1)), if Ok q (2 ^ g - 1) j r then 1 else 0)

theorem meanClipped_at (q : BitVec 32) (up : Vec Ideal S16x1024 .bf16) (u : Vec Ideal S1056x1024 .bf16) (un : Vec Ideal S16x1024 .bf16) (g b : ℕ) (r : Fin 1056) (k : Fin 256) :
    meanClipped (k0_pay14 q) up u un (2 ^ (g + 1)) (2 ^ g - 1) b (ix2 r k) = clippedMean q up u un g r (b + k.val) := by
  unfold meanClipped clippedMean
  have e : ∀ (A : FVec Ideal S1056x256 .f32) (C : FVec Ideal S1056x1 .f32), divf A (broadcastTo S1056x256 C broadcasts_S1056x1_S1056x256) (ix2 r k) = Ideal.div (A (ix2 r k)) (C (ix2 r 0)) := fun A C => by pointwise []
  rw [e, total_at, total_at]
  refine congrArg₂ Ideal.div (Finset.sum_congr rfl fun j _ => ?_) (Finset.sum_congr rfl fun j _ => ?_)
  · rw [masked_at]
    rfl
  · rw [counted_at]
    rfl

/-! The kernel's factors for the windows' lengths. -/

theorem ofBits_2 : Ideal.ofBits .f32 0x3F000000#32 = ((1 / 2 ^ (0 + 1) : ℝ) : EReal) := by
  simp [Ideal.ofBits, Ideal.ieee]
  rw [← EReal.coe_mul]
  refine congrArg _ ?_
  norm_num

theorem ofBits_4 : Ideal.ofBits .f32 0x3E800000#32 = ((1 / 2 ^ (1 + 1) : ℝ) : EReal) := by
  simp [Ideal.ofBits, Ideal.ieee]
  rw [← EReal.coe_mul]
  refine congrArg _ ?_
  norm_num

theorem ofBits_8 : Ideal.ofBits .f32 0x3E000000#32 = ((1 / 2 ^ (2 + 1) : ℝ) : EReal) := by
  simp [Ideal.ofBits, Ideal.ieee]
  rw [← EReal.coe_mul]
  refine congrArg _ ?_
  norm_num

theorem ofBits_16 : Ideal.ofBits .f32 0x3D800000#32 = ((1 / 2 ^ (3 + 1) : ℝ) : EReal) := by
  simp [Ideal.ofBits, Ideal.ieee]
  rw [← EReal.coe_mul]
  refine congrArg _ ?_
  norm_num

theorem meanInner_at (up : Vec Ideal S16x1024 .bf16) (u : Vec Ideal S1056x1024 .bf16) (un : Vec Ideal S16x1024 .bf16) (g b : ℕ) (p : BitVec 32) (hp : Ideal.ofBits .f32 p = ((1 / 2 ^ (g + 1) : ℝ) : EReal)) (r : Fin 1056) (k : Fin 256) :
    meanInner up u un (2 ^ (g + 1)) (2 ^ g - 1) b p (ix2 r k) = innerMean up u un g r (b + k.val) := by
  unfold meanInner innerMean
  rw [← hp]
  have e : ∀ (A : FVec Ideal S1056x256 .f32), mulf A (broadcast S1056x256 (Scalar.ofBits (F := Ideal) .f32 p)) (ix2 r k) = A (ix2 r k) * Ideal.ofBits .f32 p := fun A => rfl
  rw [e]
  refine congrArg (· * Ideal.ofBits .f32 p) ?_
  unfold window
  rw [total_at]
  rfl

/-- One group's weights, read out of the block. -/
theorem ld_w (w : Vec Ideal S1x4x256x256 .f32) (g : Fin 4) (inb) (k d : Fin 256) : View.ld w (Rect.unit ![0, g.val, 0, 0] ![1, 1, 256, 256] inb) (ix4 0 0 k d) = w (ix4 0 g k d) := by
  show w _ = w _
  refine congrArg w (funext fun a => Fin.ext ?_)
  match a with
  | ⟨0, _⟩ => rfl
  | ⟨1, _⟩ => rfl
  | ⟨2, _⟩ => show 0 + 1 * k.val = k.val; omega
  | ⟨3, _⟩ => show 0 + 1 * d.val = d.val; omega

/-- One group's scales, read out of the block. -/
theorem ld_s (s : Vec Ideal S1x1024 .f32) (g : Fin 4) (inb) (d : Fin 256) : View.ld s (Rect.unit ![0, 256 * g.val] ![1, 256] inb) (ix2 0 d) = s (ix2 0 ⟨256 * g.val + d.val, by omega⟩) := by
  show s _ = s _
  refine congrArg s (funext fun a => Fin.ext ?_)
  match a with
  | ⟨0, _⟩ => rfl
  | ⟨1, _⟩ => show 256 * g.val + 1 * d.val = 256 * g.val + d.val; omega

end Cert.Merge

end
-- ==== Proof.M.Blocks.lean ====
/- Which blocks a point stages, and what they hold; which rows of a window count. -/
module

public import proofs.«01_k».proof.Proof.M.Host
public import proofs.«01_k».proof.Proof.M.Parts

@[expose] public section

set_option maxRecDepth 16384

noncomputable section

namespace Cert.Merge

open Idealize.ShloMosaic Idealize.ShloMosaic.TcCoe Idealize.SL.Sem
open Cert.Kernel6Ideal Cert.Kernel6Ideal.Gen

variable (m : (ℓ : Loc nD τ sig) → Buf (Elt Ideal) ℓ)

theorem lt32 (t : Fin cfg0.N) : t.val < 32 := lt_of_lt_of_eq t.isLt N_0

/-- Which block of its array a point stages, window by window: the rows are the slower coordinate; a block's neighbours are those of sixteen rows before and after it, kept inside the array. -/
theorem idx : ∀ t : Fin cfg0.N, win0_0.index t = ![t.val / 4, 0] ∧ win0_1.index t = ![66 * (t.val / 4) - 1, 0] ∧ win0_2.index t = ![min (66 * (t.val / 4) + 66) 527, 0]
    ∧ win0_3.index t = ![t.val / 4, 0] ∧ win0_4.index t = ![t.val / 4, 0] ∧ win0_5.index t = ![t.val / 4, 8 + t.val % 4] ∧ win0_6.index t = ![t.val / 4, 12 + t.val % 4]
    ∧ win0_7.index t = ![t.val / 4, 16 + t.val % 4] ∧ win0_8.index t = ![0, 0, 0, 0] ∧ win0_9.index t = ![0, 0] ∧ win0_10.index t = ![0, 0, 0, t.val % 4] ∧ win0_11.index t = ![t.val / 4, t.val % 4] :=
  (by decide +kernel : ∀ t : Fin grid0.N, _)

theorem row : ∀ t : Fin cfg0.N, BitVec.ofNat 32 ((grid0.coords t) 0).val = BitVec.ofNat 32 (t.val / 4) :=
  (by decide +kernel : ∀ t : Fin grid0.N, _)

theorem blk0 (c : Dev nD) (t : Fin cfg0.N) (r : Fin 1056) (k : Fin 1024) : iblk m c 0 t (ix2 r k) = uOf m c (1056 * (t.val / 4) + r.val) k.val := by
  have ht := lt32 t
  rw [← V_u m c ⟨1056 * (t.val / 4) + r.val, by omega⟩ k]
  blk_ext [iblk, idx t]

theorem blk1 (c : Dev nD) (t : Fin cfg0.N) (r : Fin 16) (k : Fin 1024) : iblk m c 1 t (ix2 r k) = uOf m c (16 * (66 * (t.val / 4) - 1) + r.val) k.val := by
  have ht := lt32 t
  rw [← V_u m c ⟨16 * (66 * (t.val / 4) - 1) + r.val, by omega⟩ k]
  blk_ext [iblk, idx t]

theorem blk2 (c : Dev nD) (t : Fin cfg0.N) (r : Fin 16) (k : Fin 1024) : iblk m c 2 t (ix2 r k) = uOf m c (16 * min (66 * (t.val / 4) + 66) 527 + r.val) k.val := by
  have ht := lt32 t
  rw [← V_u m c ⟨16 * min (66 * (t.val / 4) + 66) 527 + r.val, by omega⟩ k]
  blk_ext [iblk, idx t]

theorem blk3 (c : Dev nD) (t : Fin cfg0.N) (r : Fin 1056) (k : Fin 1024) : iblk m c 3 t (ix2 r k) = yOf m c (1056 * (t.val / 4) + r.val) k.val := by
  have ht := lt32 t
  rw [← V_y m c ⟨1056 * (t.val / 4) + r.val, by omega⟩ k]
  blk_ext [iblk, idx t]

theorem blk4 (c : Dev nD) (t : Fin cfg0.N) (r : Fin 1056) (k : Fin 1024) : iblk m c 4 t (ix2 r k) = zOf m c (1056 * (t.val / 4) + r.val) k.val := by
  have ht := lt32 t
  rw [← V_z m c ⟨1056 * (t.val / 4) + r.val, by omega⟩ k]
  blk_ext [iblk, idx t]

theorem blk5 (c : Dev nD) (t : Fin cfg0.N) (r : Fin 1056) (e : Fin 512) :
    iblk m c 5 t (ix2 r e) = lOf m c ⟨1056 * (t.val / 4) + r.val, by have := lt32 t; omega⟩ ⟨0 + (512 * (t.val % 4) + e.val), by omega⟩ := by
  have ht := lt32 t
  rw [← V_l m c]
  blk_ext [iblk, idx t]

theorem blk6 (c : Dev nD) (t : Fin cfg0.N) (r : Fin 1056) (e : Fin 512) :
    iblk m c 6 t (ix2 r e) = lOf m c ⟨1056 * (t.val / 4) + r.val, by have := lt32 t; omega⟩ ⟨2048 + (512 * (t.val % 4) + e.val), by omega⟩ := by
  have ht := lt32 t
  rw [← V_l m c]
  blk_ext [iblk, idx t]

theorem blk7 (c : Dev nD) (t : Fin cfg0.N) (r : Fin 1056) (e : Fin 512) :
    iblk m c 7 t (ix2 r e) = lOf m c ⟨1056 * (t.val / 4) + r.val, by have := lt32 t; omega⟩ ⟨4096 + (512 * (t.val % 4) + e.val), by omega⟩ := by
  have ht := lt32 t
  rw [← V_l m c]
  blk_ext [iblk, idx t]

theorem blk8 (c : Dev nD) (t : Fin cfg0.N) (g : Fin 4) (k d : Fin 256) : iblk m c 8 t (ix4 0 g k d) = wOf m c g k d := by
  show _ = (m ((c : Thread nD τ).loc main_arg8) : FVec Ideal S2x4x256x256 .f32) (ix4 0 g k d)
  rw [← V_main_arg8 m c]
  blk_ext [iblk, idx t]

theorem blk9 (c : Dev nD) (t : Fin cfg0.N) (d : Fin 1024) : iblk m c 9 t (ix2 0 d) = sOf m c d := by
  rw [← V_s m c]
  blk_ext [iblk, idx t]

theorem blk10 (c : Dev nD) (t : Fin cfg0.N) (b : Fin 3) (k : Fin 1024) (e : Fin 512) : iblk m c 10 t (ix4 0 b k e) = bOf m c b k ⟨512 * (t.val % 4) + e.val, by omega⟩ := by
  show _ = (m ((c : Thread nD τ).loc main_arg10) : FVec Ideal S2x3x1024x2048 .f32) (ix4 0 b k ⟨512 * (t.val % 4) + e.val, by omega⟩)
  rw [← V_main_arg10 m c]
  blk_ext [iblk, idx t]

/-- A row of the extended block is the array's, where the array has it. -/
theorem ext_eq (c : Dev nD) (t : Fin cfg0.N) (a : ℕ) (k : ℕ) (hk : k < 1024) (h : 16 ≤ 1056 * (t.val / 4) + a) (h' : 1056 * (t.val / 4) + a - 16 < 8448) (ha : a < 1088) :
    ext (iblk m c 1 t) (iblk m c 0 t) (iblk m c 2 t) a k = uOf m c (1056 * (t.val / 4) + a - 16) k := by
  have ht := lt32 t
  unfold ext
  rw [dif_pos hk]
  by_cases g : a < 16
  · rw [dif_pos g, blk1]
    exact congrArg (fun n => uOf m c n k) (by dsimp only; omega)
  · rw [dif_neg g]
    by_cases g' : a < 1072
    · rw [dif_pos g', blk0]
      exact congrArg (fun n => uOf m c n k) (by dsimp only; omega)
    · rw [dif_neg g', dif_pos (by omega), blk2]
      exact congrArg (fun n => uOf m c n k) (by dsimp only; omega)

end Cert.Merge

end
-- ==== Proof.M.Counted.lean ====
/- The kernel's test of a row, in 32-bit numbers, is whether the row counts. -/
module

public import proofs.«01_k».proof.Proof.M.Blocks

@[expose] public section

set_option maxRecDepth 16384

noncomputable section

namespace Cert.Merge

open Idealize.ShloMosaic Idealize.ShloMosaic.TcCoe Idealize.SL.Sem
open Cert.Kernel6Ideal Cert.Kernel6Ideal.Gen

theorem row_number (i : ℕ) (r : Fin 1056) : k0_pay14 (BitVec.ofNat 32 i) (ix2 r 0) = BitVec.ofNat 32 (1056 * i + r.val) := by
  unfold k0_pay14
  pointwise []
  show BitVec.ofNat 32 i * BitVec.ofNat 32 1056 + BitVec.ofNat 32 r.val = _
  rw [← BitVec.ofNat_mul, ← BitVec.ofNat_add, Nat.mul_comm]

theorem bits : ∀ p q x y : Bool, IntOp.andi (IntOp.andi (BitVec.ofBool p) (BitVec.ofBool q)) (IntOp.xori (IntOp.xori (BitVec.ofBool x) (BitVec.ofBool y)) 1#1) = 1#1 ↔ (p = true ∧ q = true ∧ x = y) := by
  decide

/-- A number below half the range, as a signed one, is itself. -/
theorem small (n : ℕ) (h : n < 2147483648) : (BitVec.ofNat 32 n).toInt = n := by
  rw [BitVec.toInt_ofNat']
  simp only [Int.bmod]
  omega

/-- A row number less an offset, wrapped, as a signed number. -/
theorem shifted (n lo j : ℕ) (hn : n < 8448) (hl : lo < 16) (hj : j < 32) : (BitVec.ofNat 32 n + BitVec.ofNat 32 (4294967296 - lo + j)).toInt = (n : ℤ) + j - lo := by
  rw [← BitVec.ofNat_add, BitVec.toInt_ofNat']
  simp only [Int.bmod]
  omega

theorem ok_iff (i lo j : ℕ) (hi : i < 8) (hl : lo < 16) (hj : j < 32) (r : Fin 1056) : Ok (BitVec.ofNat 32 i) lo j r ↔ Counts (1056 * i + r.val) (1056 * i + r.val + j) lo := by
  have hn : 1056 * i + r.val < 8448 := by omega
  have h := row_number i r
  unfold Ok okv Counts
  generalize k0_pay14 (BitVec.ofNat 32 i) = v at h ⊢
  generalize 1056 * i + r.val = n at h hn ⊢
  pointwise []
  rw [h]
  refine (bits (decide (0 ≤ (BitVec.ofNat 32 n + BitVec.ofNat 32 (4294967296 - lo + j)).toInt)) (decide ((BitVec.ofNat 32 n + BitVec.ofNat 32 (4294967296 - lo + j)).toInt < 8448))
    (decide ((BitVec.ofNat 32 n + BitVec.ofNat 32 (4294967296 - lo + j)).toInt < 256)) (decide ((BitVec.ofNat 32 n).toInt < 256))).trans ?_
  rw [shifted n lo j hn hl hj, small n (by omega)]
  simp only [decide_eq_true_eq, decide_eq_decide]
  omega

end Cert.Merge

end
-- ==== Proof.M.Inner.lean ====
/- The pooled rows of an inner block. -/
module

public import proofs.«01_k».proof.Proof.M.Parts

@[expose] public section

set_option maxRecDepth 16384

noncomputable section

namespace Cert.Merge

open Idealize.ShloMosaic Idealize.ShloMosaic.TcCoe Idealize.SL.Sem
open Cert.Kernel6Ideal Cert.Kernel6Ideal.Gen

variable (m : (ℓ : Loc nD τ sig) → Buf (Elt Ideal) ℓ)

/-- What an inner block's first point leaves in the pool's scratch. -/
theorem pool_C (c : Dev nD) (t : Fin cfg0.N) (h0 : 7 * (t.val % 4) + 1 ≤ t.val / 4 % 8 ∧ t.val / 4 % 8 ≤ 7 * (t.val % 4) + 6) (h1 : ¬t.val % 28 = 0) (y : S1056x1024.Idx) :
    (outsAt0 m c t.val t.isLt).2 y = poolBlock (innerMean (iblk m c 1 t) (iblk m c 0 t) (iblk m c 2 t)) (fun r k => ext (iblk m c 1 t) (iblk m c 0 t) (iblk m c 2 t) (16 + r.val) k) (iblk m c 8 t) (iblk m c 9 t) (y 0) (y 1).val := by
  rw [outsAt0_C m c t h0 h1]
  frame_out
  clear h0 h1
  generalize iblk m c 0 t = u
  generalize iblk m c 1 t = up
  generalize iblk m c 2 t = un
  generalize iblk m c 8 t = w
  generalize iblk m c 9 t = s
  have L := load up u un
  canon_tiles x h
  case piece0 =>
    obtain ⟨r, d, rfl⟩ : ∃ (r : Fin 1056) (d : Fin 256), x = ix2 r d := ⟨x 0, x 1, eq_ix2 x⟩
    have e1 : (y 1).val = 256 * 3 + d.val := by
      have e : (y 1).val = 768 + d.val := h1
      omega
    repeat rw [L]
    refine (congrFun (show _ = finish (meanInner up u un 16 7 768 0x3D800000#32) (rows up u un 16 768) (View.ld w (Rect.unit ![0, 3, 0, 0] ![1, 1, 256, 256] inb_S1x4x256x256_S1x1x256x256_0_3_0_0)) (View.ld s (Rect.unit ![0, 768] ![1, 256] inb_S1x1024_S1x256_0_768)) from rfl) (ix2 r d)).trans ?_
    rw [finish_at]
    refine Eq.trans ?_ (congrArg₂ (fun a b => poolBlock _ _ w s a b) (Fin.ext h0.symm) e1.symm)
    refine Eq.trans ?_ (poolBlock_at _ _ w s r 3 d).symm
    refine congrArg₂ (· * ·) (Finset.sum_congr rfl fun k _ => congrArg₂ (· * ·) (congrArg₂ (· - ·) (meanInner_at up u un 3 768 _ ofBits_16 r k) rfl) (ld_w w 3 _ k d)) (ld_s s 3 _ d)
  case piece1 =>
    obtain ⟨r, d, rfl⟩ : ∃ (r : Fin 1056) (d : Fin 256), x = ix2 r d := ⟨x 0, x 1, eq_ix2 x⟩
    have e1 : (y 1).val = 256 * 2 + d.val := by
      have e : (y 1).val = 512 + d.val := h1
      omega
    repeat rw [L]
    refine (congrFun (show _ = finish (meanInner up u un 8 3 512 0x3E000000#32) (rows up u un 16 512) (View.ld w (Rect.unit ![0, 2, 0, 0] ![1, 1, 256, 256] inb_S1x4x256x256_S1x1x256x256_0_2_0_0)) (View.ld s (Rect.unit ![0, 512] ![1, 256] inb_S1x1024_S1x256_0_512)) from rfl) (ix2 r d)).trans ?_
    rw [finish_at]
    refine Eq.trans ?_ (congrArg₂ (fun a b => poolBlock _ _ w s a b) (Fin.ext h0.symm) e1.symm)
    refine Eq.trans ?_ (poolBlock_at _ _ w s r 2 d).symm
    refine congrArg₂ (· * ·) (Finset.sum_congr rfl fun k _ => congrArg₂ (· * ·) (congrArg₂ (· - ·) (meanInner_at up u un 2 512 _ ofBits_8 r k) rfl) (ld_w w 2 _ k d)) (ld_s s 2 _ d)
  case piece2 =>
    obtain ⟨r, d, rfl⟩ : ∃ (r : Fin 1056) (d : Fin 256), x = ix2 r d := ⟨x 0, x 1, eq_ix2 x⟩
    have e1 : (y 1).val = 256 * 1 + d.val := by
      have e : (y 1).val = 256 + d.val := h1
      omega
    repeat rw [L]
    refine (congrFun (show _ = finish (meanInner up u un 4 1 256 0x3E800000#32) (rows up u un 16 256) (View.ld w (Rect.unit ![0, 1, 0, 0] ![1, 1, 256, 256] inb_S1x4x256x256_S1x1x256x256_0_1_0_0)) (View.ld s (Rect.unit ![0, 256] ![1, 256] inb_S1x1024_S1x256_0_256)) from rfl) (ix2 r d)).trans ?_
    rw [finish_at]
    refine Eq.trans ?_ (congrArg₂ (fun a b => poolBlock _ _ w s a b) (Fin.ext h0.symm) e1.symm)
    refine Eq.trans ?_ (poolBlock_at _ _ w s r 1 d).symm
    refine congrArg₂ (· * ·) (Finset.sum_congr rfl fun k _ => congrArg₂ (· * ·) (congrArg₂ (· - ·) (meanInner_at up u un 1 256 _ ofBits_4 r k) rfl) (ld_w w 1 _ k d)) (ld_s s 1 _ d)
  case piece3 =>
    obtain ⟨r, d, rfl⟩ : ∃ (r : Fin 1056) (d : Fin 256), x = ix2 r d := ⟨x 0, x 1, eq_ix2 x⟩
    have e1 : (y 1).val = 256 * 0 + d.val := by
      have e : (y 1).val = d.val := h1
      omega
    repeat rw [L]
    refine (congrFun (show _ = finish (meanInner up u un 2 0 0 0x3F000000#32) (rows up u un 16 0) (View.ld w (Rect.unit ![0, 0, 0, 0] ![1, 1, 256, 256] inb_S1x4x256x256_S1x1x256x256_0_0_0_0)) (View.ld s (Rect.unit ![0, 0] ![1, 256] inb_S1x1024_S1x256_0_0)) from rfl) (ix2 r d)).trans ?_
    rw [finish_at]
    refine Eq.trans ?_ (congrArg₂ (fun a b => poolBlock _ _ w s a b) (Fin.ext h0.symm) e1.symm)
    refine Eq.trans ?_ (poolBlock_at _ _ w s r 0 d).symm
    refine congrArg₂ (· * ·) (Finset.sum_congr rfl fun k _ => congrArg₂ (· * ·) (congrArg₂ (· - ·) (meanInner_at up u un 0 0 _ ofBits_2 r k) rfl) (ld_w w 0 _ k d)) (ld_s s 0 _ d)

end Cert.Merge

end
-- ==== Proof.M.Clipped.lean ====
/- The pooled rows of an edge block. -/
module

public import proofs.«01_k».proof.Proof.M.Parts

@[expose] public section

set_option maxRecDepth 16384

noncomputable section

namespace Cert.Merge

open Idealize.ShloMosaic Idealize.ShloMosaic.TcCoe Idealize.SL.Sem
open Cert.Kernel6Ideal Cert.Kernel6Ideal.Gen

variable (m : (ℓ : Loc nD τ sig) → Buf (Elt Ideal) ℓ)

/-- What an edge block's first point leaves in the pool's scratch. -/
theorem pool_A (c : Dev nD) (t : Fin cfg0.N) (h0 : ¬(7 * (t.val % 4) + 1 ≤ t.val / 4 % 8 ∧ t.val / 4 % 8 ≤ 7 * (t.val % 4) + 6)) (h1 : t.val % 28 = 0) (y : S1056x1024.Idx) :
    (outsAt0 m c t.val t.isLt).2 y = poolBlock (clippedMean (BitVec.ofNat 32 ((grid0.coords t) 0).val) (iblk m c 1 t) (iblk m c 0 t) (iblk m c 2 t)) (fun r k => ext (iblk m c 1 t) (iblk m c 0 t) (iblk m c 2 t) (16 + r.val) k) (iblk m c 8 t) (iblk m c 9 t) (y 0) (y 1).val := by
  rw [outsAt0_A m c t h0 h1]
  frame_out
  clear h0 h1
  simp only [show ∀ x, k0_pay11 (F := Ideal) x = k0_pay2 x from fun _ => rfl, show ∀ x, k0_pay12 (F := Ideal) x = k0_pay3 x from fun _ => rfl, show ∀ x, k0_pay13 (F := Ideal) x = k0_pay4 x from fun _ => rfl]
  generalize BitVec.ofNat 32 ↑(grid0.coords t 0) = q
  generalize iblk m c 0 t = u
  generalize iblk m c 1 t = up
  generalize iblk m c 2 t = un
  generalize iblk m c 8 t = w
  generalize iblk m c 9 t = s
  have L := load up u un
  canon_tiles x h
  case piece0 =>
    obtain ⟨r, d, rfl⟩ : ∃ (r : Fin 1056) (d : Fin 256), x = ix2 r d := ⟨x 0, x 1, eq_ix2 x⟩
    have e1 : (y 1).val = 256 * 3 + d.val := by
      have e : (y 1).val = 768 + d.val := h1
      omega
    repeat rw [L]
    refine (congrFun (show _ = finish (meanClipped (k0_pay14 q) up u un 16 7 768) (rows up u un 16 768) (View.ld w (Rect.unit ![0, 3, 0, 0] ![1, 1, 256, 256] inb_S1x4x256x256_S1x1x256x256_0_3_0_0)) (View.ld s (Rect.unit ![0, 768] ![1, 256] inb_S1x1024_S1x256_0_768)) from rfl) (ix2 r d)).trans ?_
    rw [finish_at]
    refine Eq.trans ?_ (congrArg₂ (fun a b => poolBlock _ _ w s a b) (Fin.ext h0.symm) e1.symm)
    refine Eq.trans ?_ (poolBlock_at _ _ w s r 3 d).symm
    refine congrArg₂ (· * ·) (Finset.sum_congr rfl fun k _ => congrArg₂ (· * ·) (congrArg₂ (· - ·) (meanClipped_at q up u un 3 768 r k) rfl) (ld_w w 3 _ k d)) (ld_s s 3 _ d)
  case piece1 =>
    obtain ⟨r, d, rfl⟩ : ∃ (r : Fin 1056) (d : Fin 256), x = ix2 r d := ⟨x 0, x 1, eq_ix2 x⟩
    have e1 : (y 1).val = 256 * 2 + d.val := by
      have e : (y 1).val = 512 + d.val := h1
      omega
    repeat rw [L]
    refine (congrFun (show _ = finish (meanClipped (k0_pay14 q) up u un 8 3 512) (rows up u un 16 512) (View.ld w (Rect.unit ![0, 2, 0, 0] ![1, 1, 256, 256] inb_S1x4x256x256_S1x1x256x256_0_2_0_0)) (View.ld s (Rect.unit ![0, 512] ![1, 256] inb_S1x1024_S1x256_0_512)) from rfl) (ix2 r d)).trans ?_
    rw [finish_at]
    refine Eq.trans ?_ (congrArg₂ (fun a b => poolBlock _ _ w s a b) (Fin.ext h0.symm) e1.symm)
    refine Eq.trans ?_ (poolBlock_at _ _ w s r 2 d).symm
    refine congrArg₂ (· * ·) (Finset.sum_congr rfl fun k _ => congrArg₂ (· * ·) (congrArg₂ (· - ·) (meanClipped_at q up u un 2 512 r k) rfl) (ld_w w 2 _ k d)) (ld_s s 2 _ d)
  case piece2 =>
    obtain ⟨r, d, rfl⟩ : ∃ (r : Fin 1056) (d : Fin 256), x = ix2 r d := ⟨x 0, x 1, eq_ix2 x⟩
    have e1 : (y 1).val = 256 * 1 + d.val := by
      have e : (y 1).val = 256 + d.val := h1
      omega
    repeat rw [L]
    refine (congrFun (show _ = finish (meanClipped (k0_pay14 q) up u un 4 1 256) (rows up u un 16 256) (View.ld w (Rect.unit ![0, 1, 0, 0] ![1, 1, 256, 256] inb_S1x4x256x256_S1x1x256x256_0_1_0_0)) (View.ld s (Rect.unit ![0, 256] ![1, 256] inb_S1x1024_S1x256_0_256)) from rfl) (ix2 r d)).trans ?_
    rw [finish_at]
    refine Eq.trans ?_ (congrArg₂ (fun a b => poolBlock _ _ w s a b) (Fin.ext h0.symm) e1.symm)
    refine Eq.trans ?_ (poolBlock_at _ _ w s r 1 d).symm
    refine congrArg₂ (· * ·) (Finset.sum_congr rfl fun k _ => congrArg₂ (· * ·) (congrArg₂ (· - ·) (meanClipped_at q up u un 1 256 r k) rfl) (ld_w w 1 _ k d)) (ld_s s 1 _ d)
  case piece3 =>
    obtain ⟨r, d, rfl⟩ : ∃ (r : Fin 1056) (d : Fin 256), x = ix2 r d := ⟨x 0, x 1, eq_ix2 x⟩
    have e1 : (y 1).val = 256 * 0 + d.val := by
      have e : (y 1).val = d.val := h1
      omega
    repeat rw [L]
    refine (congrFun (show _ = finish (meanClipped (k0_pay14 q) up u un 2 0 0) (rows up u un 16 0) (View.ld w (Rect.unit ![0, 0, 0, 0] ![1, 1, 256, 256] inb_S1x4x256x256_S1x1x256x256_0_0_0_0)) (View.ld s (Rect.unit ![0, 0] ![1, 256] inb_S1x1024_S1x256_0_0)) from rfl) (ix2 r d)).trans ?_
    rw [finish_at]
    refine Eq.trans ?_ (congrArg₂ (fun a b => poolBlock _ _ w s a b) (Fin.ext h0.symm) e1.symm)
    refine Eq.trans ?_ (poolBlock_at _ _ w s r 0 d).symm
    refine congrArg₂ (· * ·) (Finset.sum_congr rfl fun k _ => congrArg₂ (· * ·) (congrArg₂ (· - ·) (meanClipped_at q up u un 0 0 r k) rfl) (ld_w w 0 _ k d)) (ld_s s 0 _ d)

end Cert.Merge

end
-- ==== Proof.M.Gated.lean ====
/- The gated sum that a point leaves. -/
module

public import proofs.«01_k».proof.Proof.M.Parts
public import proofs.«01_k».proof.Proof.M.Gate

@[expose] public section

set_option maxRecDepth 16384

noncomputable section

namespace Cert.Merge

open Idealize.ShloMosaic Idealize.ShloMosaic.TcCoe Idealize.SL.Sem
open Cert.Kernel6Ideal Cert.Kernel6Ideal.Gen

variable (m : (ℓ : Loc nD τ sig) → Buf (Elt Ideal) ℓ)

/-- The gated sum of three products, as the kernel computes it. -/
def gated (P : Vec Ideal S1056x1024 .bf16) (og ow : Vec Ideal S1056x1024 .bf16) (g0 g1 g2 : Vec Ideal S1056x512 .bf16) (wb : Vec Ideal S1x3x1024x512 .f32) : FVec Ideal S1056x512 .bf16 :=
  k0_pay1
      (k0_pay100 (k0_pay98 g0)
        (k0_pay99 P (View.ld wb (Rect.unit ![0, 0, 0, 0] ![1, 1, 1024, 512] inb_S1x3x1024x512_S1x1x1024x512_0_0_0_0)))
        g1 og
        (View.ld wb (Rect.unit ![0, 1, 0, 0] ![1, 1, 1024, 512] inb_S1x3x1024x512_S1x1x1024x512_0_1_0_0)))
      (k0_pay101 g2 ow
        (View.ld wb (Rect.unit ![0, 2, 0, 0] ![1, 1, 1024, 512] inb_S1x3x1024x512_S1x1x1024x512_0_2_0_0)))

/-- One branch's weights, read out of the block. -/
theorem ld_b (w : Vec Ideal S1x3x1024x512 .f32) (g : Fin 3) (inb) (k : Fin 1024) (d : Fin 512) : View.ld w (Rect.unit ![0, g.val, 0, 0] ![1, 1, 1024, 512] inb) (ix4 0 0 k d) = w (ix4 0 g k d) := by
  show w _ = w _
  refine congrArg w (funext fun a => Fin.ext ?_)
  match a with
  | ⟨0, _⟩ => rfl
  | ⟨1, _⟩ => rfl
  | ⟨2, _⟩ => show 0 + 1 * k.val = k.val; omega
  | ⟨3, _⟩ => show 0 + 1 * d.val = d.val; omega

theorem gated_core (P og ow : Vec Ideal S1056x1024 .bf16) (g0 g1 g2 : Vec Ideal S1056x512 .bf16) (w0 w1 w2 : Vec Ideal S1x1x1024x512 .f32) (r : Fin 1056) (e : Fin 512) :
    k0_pay1 (k0_pay100 (k0_pay98 g0) (k0_pay99 P w0) g1 og w1) (k0_pay101 g2 ow w2) (ix2 r e)
      = gate (g0 (ix2 r e)) * (∑ k : Fin 1024, P (ix2 r k) * w0 (ix4 0 0 k e)) + gate (g1 (ix2 r e)) * (∑ k : Fin 1024, og (ix2 r k) * w1 (ix4 0 0 k e))
        + gate (g2 (ix2 r e)) * (∑ k : Fin 1024, ow (ix2 r k) * w2 (ix4 0 0 k e)) := by
  unfold gate
  pointwise [k0_pay1, k0_pay98, k0_pay99, k0_pay100, k0_pay101]

theorem gated_at (P og ow : Vec Ideal S1056x1024 .bf16) (g0 g1 g2 : Vec Ideal S1056x512 .bf16) (wb : Vec Ideal S1x3x1024x512 .f32) (r : Fin 1056) (e : Fin 512) :
    gated P og ow g0 g1 g2 wb (ix2 r e)
      = gate (g0 (ix2 r e)) * (∑ k : Fin 1024, P (ix2 r k) * wb (ix4 0 0 k e)) + gate (g1 (ix2 r e)) * (∑ k : Fin 1024, og (ix2 r k) * wb (ix4 0 1 k e))
        + gate (g2 (ix2 r e)) * (∑ k : Fin 1024, ow (ix2 r k) * wb (ix4 0 2 k e)) := by
  unfold gated
  rw [gated_core]
  refine congrArg₂ (· + ·) (congrArg₂ (· + ·) (congrArg₂ (· * ·) rfl ?_) (congrArg₂ (· * ·) rfl ?_)) (congrArg₂ (· * ·) rfl ?_)
  · exact Finset.sum_congr rfl fun k _ => congrArg₂ (· * ·) rfl (ld_b wb 0 _ k e)
  · exact Finset.sum_congr rfl fun k _ => congrArg₂ (· * ·) rfl (ld_b wb 1 _ k e)
  · exact Finset.sum_congr rfl fun k _ => congrArg₂ (· * ·) rfl (ld_b wb 2 _ k e)

/-- The whole of the scratch, read back, is what its pieces make up. -/
theorem whole_canon (L : List (View.Piece (Elt Ideal) S1056x1024 .bf16)) (inb) :
    View.readCov (View.whole cc0_scratch1) (Val := Elt Ideal) L (Rect.unit ![0, 0] ![1056, 1024] inb).toLoadRect = View.canon (Val := Elt Ideal) (s := S1056x1024) (e := .bf16) L := by
  rw [View.readCov_eq_canon']
  refine funext fun j => congrArg _ (funext fun a => Fin.ext ?_)
  match a with
  | ⟨0, _⟩ => show 0 + 1 * (j 0).val = (j 0).val; omega
  | ⟨1, _⟩ => show 0 + 1 * (j 1).val = (j 1).val; omega

theorem z_B (c : Dev nD) (t : Fin cfg0.N) (h0 : ¬(7 * (t.val % 4) + 1 ≤ t.val / 4 % 8 ∧ t.val / 4 % 8 ≤ 7 * (t.val % 4) + 6)) (h1 : ¬t.val % 28 = 0) :
    outsAt0 m c t.val t.isLt = (gated (outsAt0 m c (t.val - 1) (Nat.lt_of_le_of_lt (Nat.sub_le _ _) t.isLt)).2 (iblk m c 3 t) (iblk m c 4 t) (iblk m c 5 t) (iblk m c 6 t) (iblk m c 7 t) (iblk m c 10 t), (outsAt0 m c (t.val - 1) (Nat.lt_of_le_of_lt (Nat.sub_le _ _) t.isLt)).2) := by
  rw [outsAt0_B m c t h0 h1]
  refine Prod.ext ?_ ?_
  · frame_out
    simp only [read_unread_whole]
    rfl
  · rfl

theorem z_C (c : Dev nD) (t : Fin cfg0.N) (h0 : 7 * (t.val % 4) + 1 ≤ t.val / 4 % 8 ∧ t.val / 4 % 8 ≤ 7 * (t.val % 4) + 6) (h1 : ¬t.val % 28 = 0) :
    (outsAt0 m c t.val t.isLt).1 = gated (outsAt0 m c t.val t.isLt).2 (iblk m c 3 t) (iblk m c 4 t) (iblk m c 5 t) (iblk m c 6 t) (iblk m c 7 t) (iblk m c 10 t) := by
  rw [outsAt0_C m c t h0 h1]
  frame_out
  unfold gated
  refine congrArg₂ _ (congrArg (fun P => k0_pay100 _ (k0_pay99 P _) _ _ _) ?_) rfl
  exact whole_canon _ _

theorem z_A (c : Dev nD) (t : Fin cfg0.N) (h0 : ¬(7 * (t.val % 4) + 1 ≤ t.val / 4 % 8 ∧ t.val / 4 % 8 ≤ 7 * (t.val % 4) + 6)) (h1 : t.val % 28 = 0) :
    (outsAt0 m c t.val t.isLt).1 = gated (outsAt0 m c t.val t.isLt).2 (iblk m c 3 t) (iblk m c 4 t) (iblk m c 5 t) (iblk m c 6 t) (iblk m c 7 t) (iblk m c 10 t) := by
  rw [outsAt0_A m c t h0 h1]
  frame_out
  unfold gated
  refine congrArg₂ _ (congrArg (fun P => k0_pay100 _ (k0_pay99 P _) _ _ _) ?_) rfl
  exact whole_canon _ _

end Cert.Merge

end
-- ==== Proof.M.Value.lean ====
/-
The array that the branch merge leaves, block by block, and the run with that array named. The text
follows the generated one over the frame of `M/Frame.lean`.
-/
module

public import proofs.«01_k».proof.Proof.M.Frame
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

theorem flushed11_A (c : Dev nD) (t : Fin cfg0.N) (h0 : ¬(7 * (t.val % 4) + 1 ≤ t.val / 4 % 8 ∧ t.val / 4 % 8 ≤ 7 * (t.val % 4) + 6)) (h1 : t.val % 28 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0 h1]

theorem flushed11_B (c : Dev nD) (t : Fin cfg0.N) (h0 : ¬(7 * (t.val % 4) + 1 ≤ t.val / 4 % 8 ∧ t.val / 4 % 8 ≤ 7 * (t.val % 4) + 6)) (h1 : ¬t.val % 28 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2) := by
  simp only [flushed11, outsAt0_B m c t h0 h1]

theorem flushed11_C (c : Dev nD) (t : Fin cfg0.N) (h0 : (7 * (t.val % 4) + 1 ≤ t.val / 4 % 8 ∧ t.val / 4 % 8 ≤ 7 * (t.val % 4) + 6)) (h1 : ¬t.val % 28 = 0) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_C m c t h0 h1]

theorem idx_inj11 : ∀ t t' : Fin cfg0.N, win0_11.index t = win0_11.index t' → t = t' :=
  (by decide +kernel : ∀ t t' : Fin grid0.N, win0_11.index t = win0_11.index t' → t = t')

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

theorem entry11 (c : Dev nD) (i : S8448x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

theorem post11 (r : PUnit × MemSt nD τ sig (Elt F)) (h : Pipeline.FramePost cfgs (dats m) 0 (V m) r) (c : Dev nD) :
    r.2.mem ((c : Thread nD τ).loc main_v16) = (dats m 0 c).arrAt 11 cfg0.N :=
  (h c).1 11

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem run_blocks : θ_run defs (onTc (τ := τ) (main (F := F))) ⟨m, fun _ => 0, ρ⟩ fun r => ∀ c : Dev nD,
      r.2.mem ((c : Thread nD τ).loc main_v16) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

/-- What a grid point leaves, found from an equal number of the point. -/
theorem outs_congr (c : Dev nD) : ∀ (n : ℕ) (h : n < cfg0.N) (n' : ℕ) (h' : n' < cfg0.N), n = n' →
    outsAt0 m c n h = outsAt0 m c n' h' := by
  intro n h n' h' e; subst e; rfl

abbrev run11Of (i : S8448x2048.Idx) : ℕ := 4 * ((i 0).val / 1056 - 0) + 1 * ((i 1).val / 512 - 0)
set_option backward.proofsInPublic true in
abbrev loc11Of (i : S8448x2048.Idx) : S1056x512.Idx := fun a => match a with
  | ⟨0, _⟩ => ⟨(i 0).val % 1056, Nat.mod_lt _ (by decide)⟩
  | ⟨1, _⟩ => ⟨(i 1).val % 512, Nat.mod_lt _ (by decide)⟩
abbrev pt11Of (i : S8448x2048.Idx) : ℕ := run11Of i

def G11 (c : Dev nD) : Buf (Elt F) ((c : Thread nD τ).loc main_v16) := fun i =>
  if h : pt11Of i < cfg0.N then
    (outsAt0 m c (pt11Of i) h).1 (loc11Of i)
  else V m c (Pipeline.arrRef spec0 11) i

theorem idx_facts11 : ∀ t : Fin cfg0.N, 0 ≤ win0_11.index t (0 : Fin 2) ∧ win0_11.index t (0 : Fin 2) ≤ 7
    ∧ 0 ≤ win0_11.index t (1 : Fin 2) ∧ win0_11.index t (1 : Fin 2) ≤ 3
    ∧ 4 * (win0_11.index t (0 : Fin 2) - 0) + 1 * (win0_11.index t (1 : Fin 2) - 0) = t.val :=
  (by decide +kernel : ∀ t : Fin grid0.N, _)

abbrev onto11Pt (q0 : Fin 8) (q1 : Fin 4) : Fin grid0.N :=
  ⟨4 * q0.val + 1 * q1.val, lt_of_lt_of_eq (by omega) N_0.symm⟩
theorem idx_onto11 : ∀ (q0 : Fin 8) (q1 : Fin 4), ∃ t : Fin cfg0.N, (cfg0.win 11).flush t = true ∧ win0_11.index t = ![q0.val + 0, q1.val + 0] :=
  fun q0 q1 => ⟨onto11Pt q0 q1, (by decide +kernel : ∀ (q0 : Fin 8) (q1 : Fin 4), win0_11.flush (onto11Pt q0 q1) = true ∧ win0_11.index (onto11Pt q0 q1) = ![q0.val + 0, q1.val + 0]) q0 q1⟩

theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11]
  obtain ⟨e0, e1, e2⟩ := idx_facts11 t
  funext y
  have hy0 : (y 0).val < 1056 := (y 0).isLt
  have hy1 : (y 1).val < 512 := (y 1).isLt
  have hb0 : (((cfg0.win 11).blk t).view.emb y 0).val = win0_11.index t (0 : Fin 2) * 1056 + 1 * (y 0).val := rfl
  have hb1 : (((cfg0.win 11).blk t).view.emb y 1).val = win0_11.index t (1 : Fin 2) * 512 + 1 * (y 1).val := rfl
  have hr : run11Of (((cfg0.win 11).blk t).view.emb y) = t.val := by
    show 4 * ((((cfg0.win 11).blk t).view.emb y 0).val / 1056 - 0) + 1 * ((((cfg0.win 11).blk t).view.emb y 1).val / 512 - 0) = _
    rw [hb0, hb1]
    rw [show (win0_11.index t (0 : Fin 2) * 1056 + 1 * (y 0).val) / 1056 = win0_11.index t (0 : Fin 2) from by omega]; rw [show (win0_11.index t (1 : Fin 2) * 512 + 1 * (y 1).val) / 512 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 1056 = (y 0).val; rw [hb0]; omega
    | ⟨1, _⟩ => show (((cfg0.win 11).blk t).view.emb y 1).val % 512 = (y 1).val; rw [hb1]; omega
  have hp : pt11Of (((cfg0.win 11).blk t).view.emb y) = t.val := by
    exact hr
  show (outsAt0 m c t.val _).1 ((cfg0.win 11).xinj (grid0.coords t) y) = G11 m c (((cfg0.win 11).blk t).view.emb y)
  unfold G11
  rw [dif_pos (by rw [hp]; exact t.isLt), hl, outs_congr m c _ _ _ _ hp.symm]

theorem mem_blk11 (t : Fin cfg0.N) (i : S8448x2048.Idx) :
    i ∈ ((cfg0.win 11).blk t).view.set ↔ ∀ a : Fin 2, win0_11.index t a * S1056x512.size a ≤ (i a).val ∧ (i a).val < win0_11.index t a * S1056x512.size a + S1056x512.size a := by
  show i ∈ ((View.whole main_v16).slice (win0_11.rect t)).set ↔ _
  rw [View.set_slice_whole, Rect.mem_set_unit]
  exact Iff.rfl

theorem covered_iff11 (i : S8448x2048.Idx) :
    (∃ t : Fin cfg0.N, (cfg0.win 11).flush t = true ∧ i ∈ ((cfg0.win 11).blk t).view.set) ↔ 0 ≤ (i 0).val ∧ (i 0).val < 8448 ∧ 0 ≤ (i 1).val ∧ (i 1).val < 2048 := by
  constructor
  · rintro ⟨t, -, hi⟩
    rw [mem_blk11] at hi
    have b0 : win0_11.index t (0 : Fin 2) * 1056 ≤ (i 0).val ∧ (i 0).val < win0_11.index t (0 : Fin 2) * 1056 + 1056 := hi 0
    have b1 : win0_11.index t (1 : Fin 2) * 512 ≤ (i 1).val ∧ (i 1).val < win0_11.index t (1 : Fin 2) * 512 + 512 := hi 1
    obtain ⟨e0, e1, e2⟩ := idx_facts11 t
    omega
  · intro h
    have hi0 : (i 0).val < 8448 := (i 0).isLt
    have hi1 : (i 1).val < 2048 := (i 1).isLt
    obtain ⟨t, hft, ht⟩ := idx_onto11 ⟨(i 0).val / 1056 - 0, by omega⟩ ⟨(i 1).val / 512 - 0, by omega⟩
    have q0 : win0_11.index t (0 : Fin 2) = (i 0).val / 1056 - 0 + 0 := congrFun ht 0
    have q1 : win0_11.index t (1 : Fin 2) = (i 1).val / 512 - 0 + 0 := congrFun ht 1
    refine ⟨t, hft, ?_⟩
    rw [mem_blk11]
    intro a
    match a with
    | ⟨0, _⟩ => show win0_11.index t (0 : Fin 2) * 1056 ≤ (i 0).val ∧ (i 0).val < win0_11.index t (0 : Fin 2) * 1056 + 1056; omega
    | ⟨1, _⟩ => show win0_11.index t (1 : Fin 2) * 512 ≤ (i 1).val ∧ (i 1).val < win0_11.index t (1 : Fin 2) * 512 + 512; omega

theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 8448 := (i 0).isLt; have h1 : (i 1).val < 2048 := (i 1).isLt; omega))

theorem run : θ_run defs (onTc (τ := τ) (main (F := F))) ⟨m, fun _ => 0, ρ⟩ fun r => ∀ c : Dev nD,
      r.2.mem ((c : Thread nD τ).loc main_v16) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel6Ideal.Value

end
-- ==== Proof.M.Final.lean ====
/- The merge's result, from the arrays the call is given. -/
module

public import proofs.«01_k».proof.Proof.M.Counted
public import proofs.«01_k».proof.Proof.M.Inner
public import proofs.«01_k».proof.Proof.M.Clipped
public import proofs.«01_k».proof.Proof.M.Gated
public import proofs.«01_k».proof.Proof.M.Value

@[expose] public section

set_option maxRecDepth 16384

noncomputable section

namespace Cert.Merge

open Idealize.ShloMosaic Idealize.ShloMosaic.TcCoe Idealize.SL.Sem
open Cert.Kernel6Ideal Cert.Kernel6Ideal.Gen

variable (m : (ℓ : Loc nD τ sig) → Buf (Elt Ideal) ℓ)

theorem pow_bound (g : ℕ) (hg : g < 4) : 2 ^ (g + 1) ≤ 16 ∧ 2 ^ g - 1 < 8 := by
  obtain rfl | rfl | rfl | rfl : g = 0 ∨ g = 1 ∨ g = 2 ∨ g = 3 := by omega
  all_goals decide

/-- An edge block's means. -/
theorem clipped_eq (c : Dev nD) (t : Fin cfg0.N) (g : ℕ) (hg : g < 4) (r : Fin 1056) (k : ℕ) (hk : k < 1024) :
    clippedMean (BitVec.ofNat 32 ((grid0.coords t) 0).val) (iblk m c 1 t) (iblk m c 0 t) (iblk m c 2 t) g r k = mean (uOf m c) g (1056 * (t.val / 4) + r.val) k := by
  have ht := lt32 t
  obtain ⟨hp, hl⟩ := pow_bound g hg
  unfold clippedMean mean
  rw [row t]
  have hOk := fun j (hj : j < 2 ^ (g + 1)) => ok_iff (t.val / 4) (2 ^ g - 1) j (by omega) (by omega) (by omega) r
  refine congrArg₂ Ideal.div (Finset.sum_congr rfl fun j hj => ?_) (Finset.sum_congr rfl fun j hj => ?_)
  · have hj' := Finset.mem_range.mp hj
    by_cases h : Ok (BitVec.ofNat 32 (t.val / 4)) (2 ^ g - 1) j r
    · have h' := (hOk j hj').mp h
      rw [if_pos h, if_pos h']
      unfold Counts at h'
      rw [ext_eq m c t _ k hk (by omega) (by omega) (by omega)]
      exact congrArg (fun n => uOf m c n k) (by omega)
    · rw [if_neg h, if_neg (mt (hOk j hj').mpr h)]
  · have hj' := Finset.mem_range.mp hj
    by_cases h : Ok (BitVec.ofNat 32 (t.val / 4)) (2 ^ g - 1) j r
    · rw [if_pos h, if_pos ((hOk j hj').mp h)]
    · rw [if_neg h, if_neg (mt (hOk j hj').mpr h)]

/-- Every row of an inner block's windows counts. -/
theorem inner_counts (i g j : ℕ) (r : Fin 1056) (hi : 1 ≤ i) (hi' : i ≤ 6) (hg : g < 4) (hj : j < 2 ^ (g + 1)) :
    Counts (1056 * i + r.val) (1056 * i + r.val + j) (2 ^ g - 1) := by
  obtain ⟨hp, hl⟩ := pow_bound g hg
  unfold Counts
  omega

/-- An inner block's means. -/
theorem inner_eq (c : Dev nD) (t : Fin cfg0.N) (hi : 1 ≤ t.val / 4) (hi' : t.val / 4 ≤ 6) (g : ℕ) (hg : g < 4) (r : Fin 1056) (k : ℕ) (hk : k < 1024) :
    innerMean (iblk m c 1 t) (iblk m c 0 t) (iblk m c 2 t) g r k = mean (uOf m c) g (1056 * (t.val / 4) + r.val) k := by
  obtain ⟨hp, hl⟩ := pow_bound g hg
  unfold innerMean mean
  have e1 : (∑ j ∈ Finset.range (2 ^ (g + 1)), if Counts (1056 * (t.val / 4) + r.val) (1056 * (t.val / 4) + r.val + j) (2 ^ g - 1) then (1 : EReal) else 0) = ((2 ^ (g + 1) : ℝ) : EReal) := by
    rw [Finset.sum_congr rfl fun j hj => if_pos (inner_counts _ g j r hi hi' hg (Finset.mem_range.mp hj))]
    rw [Finset.sum_const, Finset.card_range, nsmul_one, ← EReal.coe_natCast]
    exact congrArg _ (by push_cast; rfl)
  rw [e1, Ideal.div_coe (by positivity)]
  refine congrArg₂ (· * ·) (Finset.sum_congr rfl fun j hj => ?_) rfl
  have h' := inner_counts (t.val / 4) g j r hi hi' hg (Finset.mem_range.mp hj)
  have hj' := Finset.mem_range.mp hj
  rw [if_pos h']
  unfold Counts at h'
  rw [ext_eq m c t _ k hk (by omega) (by omega) (by omega)]
  exact congrArg (fun n => uOf m c n k) (by omega)

/-- A pooled block's entry is the pooled array's, when its means are. -/
theorem pool_eq (c : Dev nD) (t : Fin cfg0.N) (mn : ℕ → Fin 1056 → ℕ → EReal) (h : ∀ g, g < 4 → ∀ (r : Fin 1056) k, k < 1024 → mn g r k = mean (uOf m c) g (1056 * (t.val / 4) + r.val) k)
    (r : Fin 1056) (d : Fin 1024) :
    poolBlock mn (fun r k => ext (iblk m c 1 t) (iblk m c 0 t) (iblk m c 2 t) (16 + r.val) k) (iblk m c 8 t) (iblk m c 9 t) r d.val
      = pooled (uOf m c) (wOf m c) (sOf m c) (1056 * (t.val / 4) + r.val) d := by
  have ht := lt32 t
  unfold poolBlock pooled
  rw [dif_pos d.isLt]
  refine congrArg₂ (· * ·) (Finset.sum_congr rfl fun k _ => ?_) (blk9 m c t d)
  refine congrArg₂ (· * ·) (congrArg₂ (· - ·) (h _ (by omega) r _ (by omega)) ?_) (blk8 m c t _ k _)
  show ext (iblk m c 1 t) (iblk m c 0 t) (iblk m c 2 t) (16 + r.val) (256 * (d.val / 256) + k.val) = _
  rw [ext_eq m c t _ _ (by omega) (by omega) (by omega) (by omega)]
  exact congrArg (fun n => uOf m c n _) (by omega)

/-- The points' cases, by number. -/
theorem cases_at : ∀ n < 32, (n % 28 = 0 → ¬(7 * (n % 4) + 1 ≤ n / 4 % 8 ∧ n / 4 % 8 ≤ 7 * (n % 4) + 6))
    ∧ ((7 * (n % 4) + 1 ≤ n / 4 % 8 ∧ n / 4 % 8 ≤ 7 * (n % 4) + 6) → 1 ≤ n / 4 ∧ n / 4 ≤ 6)
    ∧ (¬n % 28 = 0 → ¬(7 * (n % 4) + 1 ≤ n / 4 % 8 ∧ n / 4 % 8 ≤ 7 * (n % 4) + 6) → (n - 1) / 4 = n / 4) := by
  decide

/-- The scratch holds the pooled rows of the row block at each of its points. -/
theorem scratch (c : Dev nD) : ∀ (n : ℕ) (h : n < cfg0.N) (r : Fin 1056) (d : Fin 1024),
    (outsAt0 m c n h).2 (ix2 r d) = pooled (uOf m c) (wOf m c) (sOf m c) (1056 * (n / 4) + r.val) d := by
  intro n
  induction n using Nat.strong_induction_on with
  | _ n ih =>
    intro h r d
    obtain ⟨q1, q2, q3⟩ := cases_at n (lt32 ⟨n, h⟩)
    by_cases hA : n % 28 = 0
    · exact (pool_A m c ⟨n, h⟩ (q1 hA) hA (ix2 r d)).trans (pool_eq m c ⟨n, h⟩ _ (fun g hg r k hk => clipped_eq m c ⟨n, h⟩ g hg r k hk) r d)
    · by_cases hC : 7 * (n % 4) + 1 ≤ n / 4 % 8 ∧ n / 4 % 8 ≤ 7 * (n % 4) + 6
      · exact (pool_C m c ⟨n, h⟩ hC hA (ix2 r d)).trans (pool_eq m c ⟨n, h⟩ _ (fun g hg r k hk => inner_eq m c ⟨n, h⟩ (q2 hC).1 (q2 hC).2 g hg r k hk) r d)
      · have hB := congrArg Prod.snd (z_B m c ⟨n, h⟩ hC hA)
        refine (congrFun hB (ix2 r d)).trans ?_
        have hn : n ≠ 0 := fun e => hA (by rw [e])
        refine (ih (n - 1) (by omega) _ r d).trans ?_
        rw [q3 hA hC]

/-- At every point the result's block is gated from the scratch it leaves. -/
theorem out_gated (c : Dev nD) (t : Fin cfg0.N) :
    (outsAt0 m c t.val t.isLt).1 = gated (outsAt0 m c t.val t.isLt).2 (iblk m c 3 t) (iblk m c 4 t) (iblk m c 5 t) (iblk m c 6 t) (iblk m c 7 t) (iblk m c 10 t) := by
  obtain ⟨q1, -⟩ := cases_at t.val (lt32 t)
  by_cases hA : t.val % 28 = 0
  · exact z_A m c t (q1 hA) hA
  · by_cases hC : 7 * (t.val % 4) + 1 ≤ t.val / 4 % 8 ∧ t.val / 4 % 8 ≤ 7 * (t.val % 4) + 6
    · exact z_C m c t hC hA
    · have hB := z_B m c t hC hA
      rw [hB]

/-- The result's entry. -/
abbrev valueOf (c : Dev nD) : Fin 8448 → Fin 2048 → EReal := value (uOf m c) (yOf m c) (zOf m c) (lOf m c) (wOf m c) (sOf m c) (bOf m c)

theorem out_at (c : Dev nD) (t : Fin cfg0.N) (r : Fin 1056) (e : Fin 512) :
    (outsAt0 m c t.val t.isLt).1 (ix2 r e) = valueOf m c ⟨1056 * (t.val / 4) + r.val, by have := lt32 t; omega⟩ ⟨512 * (t.val % 4) + e.val, by omega⟩ := by
  rw [out_gated, gated_at]
  unfold valueOf value
  rw [blk5, blk6, blk7]
  refine congrArg₂ (· + ·) (congrArg₂ (· + ·) (congrArg₂ (· * ·) ?_ (Finset.sum_congr rfl fun k _ => ?_)) (congrArg₂ (· * ·) rfl (Finset.sum_congr rfl fun k _ => ?_))) (congrArg₂ (· * ·) rfl (Finset.sum_congr rfl fun k _ => ?_))
  · exact congrArg (fun q => gate (lOf m c _ q)) (Fin.ext (Nat.zero_add _))
  · rw [scratch, blk10]
  · rw [blk3, blk10]
  · rw [blk4, blk10]

/-- The result's array. -/
theorem final (c : Dev nD) : (dats m 0 c).arrAt 11 cfg0.N = (fun i => valueOf m c (i 0) (i 1) : Vec Ideal S8448x2048 .bf16) :=
  (dats m 0 c).arrAt_eq_of_covers 11 _ (by decide +kernel) fun t _ y => by
    obtain ⟨r, e, rfl⟩ : ∃ (r : Fin 1056) (e : Fin 512), y = ix2 r e := ⟨y 0, y 1, eq_ix2 y⟩
    blk_simp
    rw [after0_11, out_at]
    refine congrArg₂ (valueOf m c) (Fin.ext ?_) (Fin.ext ?_) <;> blk_simp [idx t]
    · exact congrArg (· + r.val) (Nat.mul_comm _ _)
    · exact congrArg (· + e.val) (Nat.mul_comm _ _)

end Cert.Merge

end
-- ==== Proof.M.Running.lean ====
/- The reference's running sum and its reading of rows by number, over any number of rows. -/
module

public import Idealize.ShloMosaic.Lib.Claim
public import Idealize.ShloMosaic.Lib.Pointwise

@[expose] public section

set_option maxRecDepth 16384

noncomputable section

namespace Cert.Merge

open Idealize.ShloMosaic

theorem fold_sum {α : Type} (g : α → EReal) : ∀ (L : List α) (v : EReal), L.foldl (fun r n => r + g n) v = v + (L.map g).sum
  | [], v => by simp
  | a :: L, v => by rw [List.foldl_cons, fold_sum g L, List.map_cons, List.sum_cons, add_assoc]

/-- The sum over a column of `N` places. -/
theorem column_sum (N : ℕ) (g : (⟨3, ![1, N, 1]⟩ : Shape).Idx → EReal) : ∑ i, g i = ∑ n : Fin N, g (ix3 0 n 0) := by
  refine Fintype.sum_equiv ⟨fun i => (i 1 : Fin N), fun n => ix3 0 n 0, fun i => ?_, fun n => rfl⟩ _ _ fun i => ?_
  · obtain ⟨a, n, b, rfl⟩ : ∃ (a : Fin 1) (n : Fin N) (b : Fin 1), i = ix3 a n b := ⟨i 0, i 1, i 2, eq_ix3 i⟩
    rw [Subsingleton.elim a 0, Subsingleton.elim b 0]
    rfl
  · obtain ⟨a, n, b, rfl⟩ : ∃ (a : Fin 1) (n : Fin N) (b : Fin 1), i = ix3 a n b := ⟨i 0, i 1, i 2, eq_ix3 i⟩
    rw [Subsingleton.elim a 0, Subsingleton.elim b 0]
    rfl

/-- A window reaching back to the first row holds the rows up to the current one. -/
theorem back_sum (X : ℕ → EReal) (M j : ℕ) (hj : j ≤ M) :
    ∑ w ∈ Finset.range (M + 1), (if M ≤ j + w then X (j + w - M) else 0) = ∑ i ∈ Finset.range (j + 1), X i := by
  rw [← Finset.sum_filter]
  refine Finset.sum_nbij' (fun w => j + w - M) (fun i => i + M - j) ?_ ?_ ?_ ?_ ?_
  · intro w hw; simp only [Finset.mem_filter, Finset.mem_range] at hw ⊢; omega
  · intro i hi; simp only [Finset.mem_filter, Finset.mem_range] at hi ⊢; omega
  · intro w hw; simp only [Finset.mem_filter, Finset.mem_range] at hw ⊢; omega
  · intro i hi; simp only [Finset.mem_range] at hi ⊢; omega
  · intro w hw; rfl

theorem running {M C : ℕ} (x : FVec Ideal ⟨3, ![1, M + 1, C]⟩ .f32) (init : FVec Ideal ⟨0, ![]⟩ .f32)
    (h : (⟨3, ![1, M + 1, C]⟩ : Shape).ReduceWindows (![1, M + 1, 1] : Fin 3 → ℕ) ![1, 1, 1] ![0, M, 0] ![0, 0, 0] ⟨3, ![1, M + 1, C]⟩) (hu : 0 < (⟨0, ![]⟩ : Shape).numel)
    (hi : init (Shape.Idx.first hu) = 0) (j : Fin (M + 1)) (c : Fin C) :
    Host.reduceWindowAdd (F := Ideal) ![1, M + 1, 1] ![1, 1, 1] ![0, M, 0] ![0, 0, 0] x init h hu (ix3 0 j c)
      = ∑ i ∈ Finset.range (j.val + 1), if hi : i < M + 1 then x (ix3 0 ⟨i, hi⟩ c) else 0 := by
  unfold Host.reduceWindowAdd
  rw [hi]
  show Host.reduceWindow (· + ·) ![1, M + 1, 1] ![1, 1, 1] ![0, M, 0] ![0, 0, 0] x (fun _ : (⟨0, ![]⟩ : Shape).Idx => (0 : EReal)) h hu (ix3 0 j c) = _
  unfold Host.reduceWindow
  dsimp only
  refine (fold_sum _ _ _).trans ?_
  rw [zero_add, ← Fin.sum_univ_def]
  refine (Finset.sum_congr rfl fun n _ => ?_).trans ((Equiv.sum_comp (Shape.rowMajor (⟨3, ![1, M + 1, 1]⟩ : Shape)).symm (fun i : (⟨3, ![1, M + 1, 1]⟩ : Shape).Idx =>
    if hin : ∀ a, (![0, M, 0] : Fin 3 → ℕ) a ≤ ((ix3 0 j c : (⟨3, ![1, M + 1, C]⟩ : Shape).Idx) (a.cast h.1.symm)).val * (![1, 1, 1] : Fin 3 → ℕ) a + (i a).val
      ∧ ((ix3 0 j c : (⟨3, ![1, M + 1, C]⟩ : Shape).Idx) (a.cast h.1.symm)).val * (![1, 1, 1] : Fin 3 → ℕ) a + (i a).val - (![0, M, 0] : Fin 3 → ℕ) a < (⟨3, ![1, M + 1, C]⟩ : Shape).size a
    then x (fun a => ⟨((ix3 0 j c : (⟨3, ![1, M + 1, C]⟩ : Shape).Idx) (a.cast h.1.symm)).val * (![1, 1, 1] : Fin 3 → ℕ) a + (i a).val - (![0, M, 0] : Fin 3 → ℕ) a, (hin a).2⟩) else (0 : EReal))).trans ?_)
  · dsimp only
    congr
  rw [column_sum]
  have hj := j.isLt
  have hc := c.isLt
  rw [← back_sum (fun i => if hi : i < M + 1 then x (ix3 0 ⟨i, hi⟩ c) else 0) M j.val (by omega), ← Fin.sum_univ_eq_sum_range (fun w => if M ≤ j.val + w then (if hi : j.val + w - M < M + 1 then x (ix3 0 ⟨j.val + w - M, hi⟩ c) else 0) else 0)]
  refine Finset.sum_congr rfl fun n _ => ?_
  have hn := n.isLt
  by_cases hk : M ≤ j.val + n.val
  · rw [if_pos hk, dif_pos (show j.val + n.val - M < M + 1 by omega), dif_pos]
    · refine congrArg x (funext fun a => Fin.ext ?_)
      match a with
      | ⟨0, _⟩ => rfl
      | ⟨1, _⟩ => show j.val * 1 + n.val - M = j.val + n.val - M; omega
      | ⟨2, _⟩ => show c.val * 1 + 0 - 0 = c.val; omega
    · intro a
      match a with
      | ⟨0, _⟩ => show 0 ≤ 0 * 1 + 0 ∧ 0 * 1 + 0 - 0 < 1; omega
      | ⟨1, _⟩ => show M ≤ j.val * 1 + n.val ∧ j.val * 1 + n.val - M < M + 1; omega
      | ⟨2, _⟩ => show 0 ≤ c.val * 1 + 0 ∧ c.val * 1 + 0 - 0 < C; omega
  · rw [if_neg hk, dif_neg]
    intro hin
    have h1 : M ≤ j.val * 1 + n.val ∧ j.val * 1 + n.val - M < M + 1 := hin 1
    omega

theorem zero_kept : (0 : Fin 3) ∉ [(1 : Fin 3)] := by decide

theorem two_kept : (2 : Fin 3) ∉ [(1 : Fin 3)] := by decide

/-- The dimension numbers of reading whole rows by number. -/
abbrev byNumber (P N C : ℕ) (wf : GatherDims.WF ⟨3, ![1, P, C]⟩ ⟨2, ![N, 1]⟩ ⟨3, ![1, N, C]⟩ [0, 2] [1] [] [1] [] 1 ![1, 1, C]) :
    GatherDims ⟨3, ![1, P, C]⟩ ⟨2, ![N, 1]⟩ ⟨3, ![1, N, C]⟩ where
  offsetDims := [0, 2]
  collapsedSliceDims := [1]
  operandBatchingDims := []
  startIndicesBatchingDims := []
  startIndexMap := [1]
  indexVectorDim := 1
  sliceSizes := ![1, 1, C]
  wf := wf

theorem byNumber_at {P N C : ℕ} (wf) (x : FVec Ideal ⟨3, ![1, P, C]⟩ .f32) (q : IVec ⟨2, ![N, 1]⟩ 32) (t : Fin N) (e : Fin C) (s : Fin P) (hs : (q (ix2 t 0)).toInt = s.val) :
    Host.gather (byNumber P N C wf) x q (ix3 0 t e) = x (ix3 0 s e) := by
  unfold Host.gather
  refine congrArg x (funext fun a => Fin.ext ?_)
  show (byNumber P N C wf).start (ix3 0 t e) q a + (byNumber P N C wf).batchCoord (ix3 0 t e) a + (byNumber P N C wf).offCoord (ix3 0 t e) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (zero_kept), dif_pos ((GatherDims.mem_sKept _ _).mpr ⟨zero_kept, List.not_mem_nil⟩)]
    rfl
  · rw [GatherDims.offCoord_eq_zero _ _ _ (fun h => ((GatherDims.mem_sKept _ _).mp h).1 (List.mem_singleton.mpr rfl))]
    unfold GatherDims.start
    rw [dif_pos (show (1 : Fin 3) ∈ (byNumber P N C wf).startIndexMap from List.mem_singleton.mpr rfl)]
    have hsi : (byNumber P N C wf).siIdx (ix3 0 t e) ⟨List.idxOf (1 : Fin 3) (byNumber P N C wf).startIndexMap, List.idxOf_lt_length_iff.2 (List.mem_singleton.mpr rfl)⟩ = ix2 t 0 := by
      funext b
      refine Fin.ext ?_
      match b with
      | ⟨0, _⟩ => rfl
      | ⟨1, _⟩ => rfl
    rw [hsi, hs]
    have := s.isLt
    show min (Int.toNat (s.val : ℤ)) (P - 1) + 0 + 0 = s.val
    omega
  · unfold GatherDims.start GatherDims.offCoord
    rw [dif_neg (two_kept), dif_pos ((GatherDims.mem_sKept _ _).mpr ⟨two_kept, List.not_mem_nil⟩)]
    show 0 + 0 + e.val = e.val
    omega

end Cert.Merge

end
-- ==== Proof.M.Prefix.lean ====
/- A difference of two running sums over its count is the mean over the window's rows that count. -/
module

public import proofs.«01_k».proof.Proof.M.Spec
public import proofs.«01_k».proof.Proof.M.Running

@[expose] public section

set_option maxRecDepth 16384

noncomputable section

namespace Cert.Merge

open Idealize.ShloMosaic

/-- The rows of a window that stay inside, one by one and as a range. -/
theorem window_range {α : Type} [AddCommMonoid α] (f : ℕ → α) (N t w lo : ℕ) (hw : lo < w) :
    ∑ j ∈ Finset.range w, (if lo ≤ t + j ∧ t + j - lo < N then f (t + j - lo) else 0) = ∑ i ∈ Finset.Ico (t - lo) (min (t + w - lo) N), f i := by
  rw [← Finset.sum_filter]
  refine Finset.sum_nbij' (fun j => t + j - lo) (fun i => i + lo - t) ?_ ?_ ?_ ?_ ?_
  · intro j hj; simp only [Finset.mem_filter, Finset.mem_range, Finset.mem_Ico] at hj ⊢; omega
  · intro i hi; simp only [Finset.mem_filter, Finset.mem_range, Finset.mem_Ico] at hi ⊢; omega
  · intro j hj; simp only [Finset.mem_filter, Finset.mem_range] at hj ⊢; omega
  · intro i hi; simp only [Finset.mem_Ico] at hi ⊢; omega
  · intro j hj; rfl

/-- A sum of reals is one. -/
theorem real_sum (f : ℕ → EReal) (s : Finset ℕ) (hf : ∀ i ∈ s, ∃ r : ℝ, f i = r) : ∃ r : ℝ, ∑ i ∈ s, f i = r := by
  induction s using Finset.induction_on with
  | empty => exact ⟨0, by simp⟩
  | insert a s ha ih =>
    obtain ⟨p, hp⟩ := ih fun i hi => hf i (Finset.mem_insert_of_mem hi)
    obtain ⟨q, hq⟩ := hf a (Finset.mem_insert_self a s)
    exact ⟨q + p, by rw [Finset.sum_insert ha, hp, hq, EReal.coe_add]⟩

/-- A longer running sum less a shorter one is the sum of the rows between, where they are real. -/
theorem prefix_sub (f : ℕ → EReal) (L H : ℕ) (h : L ≤ H) (hf : ∀ i < H, ∃ r : ℝ, f i = r) :
    (∑ i ∈ Finset.range H, f i) - (∑ i ∈ Finset.range L, f i) = ∑ i ∈ Finset.Ico L H, f i := by
  rw [← Finset.sum_range_add_sum_Ico f h]
  obtain ⟨p, hp⟩ := real_sum f (Finset.range L) fun i hi => hf i (lt_of_lt_of_le (Finset.mem_range.mp hi) h)
  obtain ⟨q, hq⟩ := real_sum f (Finset.Ico L H) fun i hi => hf i (Finset.mem_Ico.mp hi).2
  rw [hp, hq, ← EReal.coe_add, ← EReal.coe_sub]
  exact congrArg _ (by ring)

/-- What the reference divides is the mean. Rows `base …` of the stacked array are one kind's; `f` lists them. -/
theorem mean_eq (U : ℕ → ℕ → EReal) (f : ℕ → EReal) (N base g t k : ℕ) (hk : (base = 0 ∧ N = 256) ∨ (base = 256 ∧ N = 8192)) (hg : g < 4) (ht : t < N)
    (hU : ∀ i < N, U (base + i) k = f i) (hf : ∀ i < N, ∃ r : ℝ, f i = r) :
    Ideal.div ((∑ i ∈ Finset.range (min (t + 2 ^ g + 1) N), f i) - (∑ i ∈ Finset.range (t - (2 ^ g - 1)), f i)) (((min (t + 2 ^ g + 1) N - (t - (2 ^ g - 1)) : ℕ) : ℝ) : EReal)
      = mean U g (base + t) k := by
  have hw : 2 ^ (g + 1) = 2 * 2 ^ g := by rw [pow_succ, Nat.mul_comm]
  have h1 : 1 ≤ 2 ^ g := Nat.one_le_two_pow
  have h8 : 2 ^ g ≤ 8 := by
    obtain rfl | rfl | rfl | rfl : g = 0 ∨ g = 1 ∨ g = 2 ∨ g = 3 := by omega
    all_goals decide
  have e : t + 2 ^ (g + 1) - (2 ^ g - 1) = t + 2 ^ g + 1 := by omega
  unfold mean
  rw [prefix_sub f _ _ (by omega) fun i hi => hf i (by omega)]
  have c : ∀ j < 2 ^ (g + 1), Counts (base + t) (base + t + j) (2 ^ g - 1) ↔ (2 ^ g - 1 ≤ t + j ∧ t + j - (2 ^ g - 1) < N) := fun j hj => by
    unfold Counts
    rcases hk with ⟨rfl, rfl⟩ | ⟨rfl, rfl⟩ <;> omega
  refine congrArg₂ Ideal.div ?_ ?_
  · rw [← e, ← window_range f N t (2 ^ (g + 1)) (2 ^ g - 1) (by omega)]
    refine Finset.sum_congr rfl fun j hj => ?_
    have hj' := Finset.mem_range.mp hj
    by_cases h : 2 ^ g - 1 ≤ t + j ∧ t + j - (2 ^ g - 1) < N
    · rw [if_pos h, if_pos ((c j hj').mpr h), ← hU _ h.2]
      exact congrArg (fun n => U n k) (by omega)
    · rw [if_neg h, if_neg (mt (c j hj').mp h)]
  · rw [Finset.sum_congr rfl fun j hj => if_congr (c j (Finset.mem_range.mp hj)) rfl rfl,
      window_range (fun _ => (1 : EReal)) N t (2 ^ (g + 1)) (2 ^ g - 1) (by omega), e, Finset.sum_const, Nat.card_Ico, nsmul_one, ← EReal.coe_natCast]

/-! The words the reference reads rows by. -/

theorem toInt_word (n : ℕ) (h : n < 2147483648) : (BitVec.ofNat 32 n).toInt = n := by
  rw [BitVec.toInt_ofNat']
  simp only [Int.bmod]
  omega

theorem toInt_back (t a : ℕ) (ht : t < 8192) (ha : a < 16) : (BitVec.ofNat 32 t - BitVec.ofNat 32 a).toInt = (t : ℤ) - a := by
  rw [BitVec.toInt_sub, toInt_word t (by omega), toInt_word a (by omega)]
  simp only [Int.bmod]
  omega

theorem low_word (t a : ℕ) (ht : t < 8192) (ha : a < 16) : IntOp.maxsi (IntOp.subi (BitVec.ofNat 32 t) (BitVec.ofNat 32 a)) 0#32 = BitVec.ofNat 32 (t - a) := by
  apply BitVec.eq_of_toInt_eq
  rw [toInt_word _ (by omega)]
  have h := toInt_back t a ht ha
  unfold IntOp.maxsi IntOp.subi
  by_cases hs : (0#32).slt (BitVec.ofNat 32 t - BitVec.ofNat 32 a) = true
  · rw [if_pos hs, h]
    rw [BitVec.slt_iff_toInt_lt, h] at hs
    have z : (0#32).toInt = 0 := rfl
    omega
  · rw [if_neg hs]
    rw [BitVec.slt_iff_toInt_lt, h] at hs
    have z : (0#32).toInt = 0 := rfl
    omega

theorem high_word (t b N : ℕ) (ht : t < 8192) (hb : b < 16) (hN : N ≤ 8192) :
    IntOp.minsi (IntOp.addi (IntOp.addi (BitVec.ofNat 32 t) (BitVec.ofNat 32 b)) 1#32) (BitVec.ofNat 32 N) = BitVec.ofNat 32 (min (t + b + 1) N) := by
  have e : IntOp.addi (IntOp.addi (BitVec.ofNat 32 t) (BitVec.ofNat 32 b)) 1#32 = BitVec.ofNat 32 (t + b + 1) := by
    show BitVec.ofNat 32 t + BitVec.ofNat 32 b + BitVec.ofNat 32 1 = _
    rw [← BitVec.ofNat_add, ← BitVec.ofNat_add]
  rw [e]
  have h1 := toInt_word (t + b + 1) (by omega)
  have h2 := toInt_word N (by omega)
  apply BitVec.eq_of_toInt_eq
  rw [toInt_word _ (by omega)]
  unfold IntOp.minsi
  by_cases hs : (BitVec.ofNat 32 (t + b + 1)).slt (BitVec.ofNat 32 N) = true
  · rw [if_pos hs, h1]
    rw [BitVec.slt_iff_toInt_lt, h1, h2] at hs
    omega
  · rw [if_neg hs, h2]
    rw [BitVec.slt_iff_toInt_lt, h1, h2] at hs
    omega

theorem plain_word (n : ℕ) (c : BitVec 32) (hn : n < 16384) : Scalar.select (IntOp.cmpi .slt (BitVec.ofNat 32 n) 0#32) (IntOp.addi (BitVec.ofNat 32 n) c) (BitVec.ofNat 32 n) = BitVec.ofNat 32 n := by
  have h := toInt_word n (by omega)
  have e : IntOp.cmpi .slt (BitVec.ofNat 32 n) 0#32 = 0#1 := by
    show BitVec.ofBool (decide ((BitVec.ofNat 32 n).toInt < 0)) = _
    rw [h, decide_eq_false (by omega)]
    rfl
  rw [e]
  rfl

theorem count_word (L H : ℕ) (h : L ≤ H) (hH : H < 16384) : FloatOps.sitofp (F := Ideal) .f32 (IntOp.subi (BitVec.ofNat 32 H) (BitVec.ofNat 32 L)) = (((H - L : ℕ) : ℝ) : EReal) := by
  show (((BitVec.ofNat 32 H - BitVec.ofNat 32 L).toInt : ℝ) : EReal) = _
  have e : (BitVec.ofNat 32 H - BitVec.ofNat 32 L).toInt = ((H - L : ℕ) : ℤ) := by
    rw [BitVec.toInt_sub, toInt_word H (by omega), toInt_word L (by omega)]
    simp only [Int.bmod]
    omega
  rw [e, Int.cast_natCast]

end Cert.Merge

end
-- ==== Proof.M.Windowed.lean ====
/- A window's column of the reference, over any number of rows: what its text computes at an index. -/
module

public import proofs.«01_k».proof.Proof.M.Prefix

@[expose] public section

set_option maxRecDepth 16384

noncomputable section

namespace Cert.Merge

open Idealize.ShloMosaic

section
variable {N : ℕ} {F : FTy → Type}

/-- Each row's number in a column is given by one list. -/
abbrev ToList (N : ℕ) : Prop := (⟨0, ![]⟩ : Shape).BroadcastsInDim ⟨1, ![N]⟩ (![] : Fin 0 → Fin 1)
abbrev ToColumn (N : ℕ) : Prop := (⟨1, ![N]⟩ : Shape).BroadcastsInDim ⟨2, ![N, 1]⟩ (![0] : Fin 1 → Fin 2)
abbrev ToDeep (N : ℕ) : Prop := (⟨1, ![N]⟩ : Shape).BroadcastsInDim ⟨3, ![1, N, 1]⟩ (![1] : Fin 1 → Fin 3)
abbrev ToWide (N : ℕ) : Prop := (⟨3, ![1, N, 1]⟩ : Shape).BroadcastsInDim ⟨3, ![1, N, 256]⟩ (![0, 1, 2] : Fin 3 → Fin 3)

theorem list_at {α : Type} (h : ToList N) (y : (⟨0, ![]⟩ : Shape).Idx → α) (t : Fin N) : broadcastInDim ⟨1, ![N]⟩ ![] h y (ix1 t) = y ix0 :=
  broadcastInDim_apply _ h y _ ix0 fun a => a.elim0

theorem column_at {α : Type} (h : ToColumn N) (y : (⟨1, ![N]⟩ : Shape).Idx → α) (t : Fin N) : broadcastInDim ⟨2, ![N, 1]⟩ ![0] h y (ix2 t 0) = y (ix1 t) :=
  broadcastInDim_apply _ h y _ (ix1 t) fun a => by
    match a with
    | ⟨0, _⟩ =>
      show t.val = if N = 1 then 0 else t.val
      split <;> omega

theorem deep_at {α : Type} (h : ToDeep N) (y : (⟨1, ![N]⟩ : Shape).Idx → α) (t : Fin N) : broadcastInDim ⟨3, ![1, N, 1]⟩ ![1] h y (ix3 0 t 0) = y (ix1 t) :=
  broadcastInDim_apply _ h y _ (ix1 t) fun a => by
    match a with
    | ⟨0, _⟩ =>
      show t.val = if N = 1 then 0 else t.val
      split <;> omega

theorem wide_at {α : Type} (h : ToWide N) (y : (⟨3, ![1, N, 1]⟩ : Shape).Idx → α) (t : Fin N) (e : Fin 256) : broadcastInDim ⟨3, ![1, N, 256]⟩ ![0, 1, 2] h y (ix3 0 t e) = y (ix3 0 t 0) :=
  broadcastInDim_apply _ h y _ (ix3 0 t 0) fun a => by
    match a with
    | ⟨0, _⟩ => rfl
    | ⟨1, _⟩ =>
      show t.val = if N = 1 then 0 else t.val
      split <;> omega
    | ⟨2, _⟩ => rfl

/-- Where each row's window starts. -/
def lows (h0 : ToList N) (a : BitVec 32) : IVec ⟨1, ![N]⟩ 32 :=
  maxsi (subi (iotaInDim ⟨1, ![N]⟩ 32 0) (broadcastInDim ⟨1, ![N]⟩ ![] h0 (constantI ⟨0, ![]⟩ 32 a))) (broadcastInDim ⟨1, ![N]⟩ ![] h0 (constantI ⟨0, ![]⟩ 32 0#32))

/-- And where it ends. -/
def highs (h0 : ToList N) (b n : BitVec 32) : IVec ⟨1, ![N]⟩ 32 :=
  minsi (addi (addi (iotaInDim ⟨1, ![N]⟩ 32 0) (broadcastInDim ⟨1, ![N]⟩ ![] h0 (constantI ⟨0, ![]⟩ 32 b))) (broadcastInDim ⟨1, ![N]⟩ ![] h0 (constantI ⟨0, ![]⟩ 32 1#32)))
    (broadcastInDim ⟨1, ![N]⟩ ![] h0 (constantI ⟨0, ![]⟩ 32 n))

/-- Row numbers as the reference wraps them: a negative one counts from the end. -/
def wrapped (h0 : ToList N) (h1 : ToColumn N) (c : BitVec 32) (v : IVec ⟨1, ![N]⟩ 32) : IVec ⟨2, ![N, 1]⟩ 32 :=
  broadcastInDim ⟨2, ![N, 1]⟩ ![0] h1 (select (cmpi .slt v (broadcastInDim ⟨1, ![N]⟩ ![] h0 (constantI ⟨0, ![]⟩ 32 0#32))) (addi v (broadcastInDim ⟨1, ![N]⟩ ![] h0 (constantI ⟨0, ![]⟩ 32 c))) v)

/-- A window's column: the running sums' difference over the count. -/
def column (wf : GatherDims.WF ⟨3, ![1, N + 1, 256]⟩ ⟨2, ![N, 1]⟩ ⟨3, ![1, N, 256]⟩ [0, 2] [1] [] [1] [] 1 ![1, 1, 256]) (h0 : ToList N) (h1 : ToColumn N) (h2 : ToDeep N) (h3 : ToWide N) (a b n c : BitVec 32) (D : FVec Ideal ⟨3, ![1, N + 1, 256]⟩ .f32) : FVec Ideal ⟨3, ![1, N, 256]⟩ .f32 :=
  Host.divf (subf (Host.gather (byNumber (N + 1) N 256 wf) D (wrapped h0 h1 c (highs h0 b n))) (Host.gather (byNumber (N + 1) N 256 wf) D (wrapped h0 h1 c (lows h0 a))))
    (broadcastInDim ⟨3, ![1, N, 256]⟩ ![0, 1, 2] h3 (broadcastInDim ⟨3, ![1, N, 1]⟩ ![1] h2 (sitofp .f32 (subi (highs h0 b n) (lows h0 a)))))

theorem constantI_at (w : BitVec 32) : constantI ⟨0, ![]⟩ 32 w ix0 = w := rfl

theorem lows_at (h0 : ToList N) (hN : N ≤ 8192) (a : ℕ) (ha : a < 16) (t : Fin N) : lows h0 (BitVec.ofNat 32 a) (ix1 t) = BitVec.ofNat 32 (t.val - a) := by
  have e1 := list_at h0 (constantI ⟨0, ![]⟩ 32 (BitVec.ofNat 32 a)) t
  have e0 := list_at h0 (constantI ⟨0, ![]⟩ 32 0#32) t
  unfold lows
  generalize broadcastInDim ⟨1, ![N]⟩ ![] h0 (constantI ⟨0, ![]⟩ 32 (BitVec.ofNat 32 a)) = y1 at e1 ⊢
  generalize broadcastInDim ⟨1, ![N]⟩ ![] h0 (constantI ⟨0, ![]⟩ 32 0#32) = y0 at e0 ⊢
  have e : maxsi (subi (iotaInDim ⟨1, ![N]⟩ 32 0) y1) y0 (ix1 t) = IntOp.maxsi (IntOp.subi (BitVec.ofNat 32 t.val) (y1 (ix1 t))) (y0 (ix1 t)) := rfl
  rw [e, e1, e0, constantI_at, constantI_at]
  exact low_word t.val a (by omega) ha

theorem highs_at (h0 : ToList N) (hN : N ≤ 8192) (b : ℕ) (hb : b < 16) (t : Fin N) : highs h0 (BitVec.ofNat 32 b) (BitVec.ofNat 32 N) (ix1 t) = BitVec.ofNat 32 (min (t.val + b + 1) N) := by
  have e1 := list_at h0 (constantI ⟨0, ![]⟩ 32 (BitVec.ofNat 32 b)) t
  have e2 := list_at h0 (constantI ⟨0, ![]⟩ 32 1#32) t
  have e3 := list_at h0 (constantI ⟨0, ![]⟩ 32 (BitVec.ofNat 32 N)) t
  unfold highs
  generalize broadcastInDim ⟨1, ![N]⟩ ![] h0 (constantI ⟨0, ![]⟩ 32 (BitVec.ofNat 32 b)) = y1 at e1 ⊢
  generalize broadcastInDim ⟨1, ![N]⟩ ![] h0 (constantI ⟨0, ![]⟩ 32 1#32) = y2 at e2 ⊢
  generalize broadcastInDim ⟨1, ![N]⟩ ![] h0 (constantI ⟨0, ![]⟩ 32 (BitVec.ofNat 32 N)) = y3 at e3 ⊢
  have e : minsi (addi (addi (iotaInDim ⟨1, ![N]⟩ 32 0) y1) y2) y3 (ix1 t) = IntOp.minsi (IntOp.addi (IntOp.addi (BitVec.ofNat 32 t.val) (y1 (ix1 t))) (y2 (ix1 t))) (y3 (ix1 t)) := rfl
  rw [e, e1, e2, e3, constantI_at, constantI_at, constantI_at]
  exact high_word t.val b N (by omega) hb hN

theorem wrapped_at (h0 : ToList N) (h1 : ToColumn N) (c : BitVec 32) (v : IVec ⟨1, ![N]⟩ 32) (t : Fin N) (n : ℕ) (hn : n < 16384) (hv : v (ix1 t) = BitVec.ofNat 32 n) :
    (wrapped h0 h1 c v (ix2 t 0)).toInt = n := by
  have e1 := list_at h0 (constantI ⟨0, ![]⟩ 32 c) t
  have e0 := list_at h0 (constantI ⟨0, ![]⟩ 32 0#32) t
  unfold wrapped
  rw [column_at]
  generalize broadcastInDim ⟨1, ![N]⟩ ![] h0 (constantI ⟨0, ![]⟩ 32 c) = y1 at e1 ⊢
  generalize broadcastInDim ⟨1, ![N]⟩ ![] h0 (constantI ⟨0, ![]⟩ 32 0#32) = y0 at e0 ⊢
  have e : select (cmpi .slt v y0) (addi v y1) v (ix1 t) = Scalar.select (IntOp.cmpi .slt (v (ix1 t)) (y0 (ix1 t))) (IntOp.addi (v (ix1 t)) (y1 (ix1 t))) (v (ix1 t)) := rfl
  rw [e, e1, e0, hv, constantI_at, constantI_at, plain_word n c hn]
  exact toInt_word n (by omega)

theorem column_eq (wf : GatherDims.WF ⟨3, ![1, N + 1, 256]⟩ ⟨2, ![N, 1]⟩ ⟨3, ![1, N, 256]⟩ [0, 2] [1] [] [1] [] 1 ![1, 1, 256]) (h0 : ToList N) (h1 : ToColumn N) (h2 : ToDeep N) (h3 : ToWide N) (hN : N ≤ 8192) (a b : ℕ) (ha : a < 16) (hb : b < 16) (c : BitVec 32)
    (D : FVec Ideal ⟨3, ![1, N + 1, 256]⟩ .f32) (f : ℕ → EReal) (t : Fin N) (e : Fin 256) (hD : ∀ s : Fin (N + 1), D (ix3 0 s e) = ∑ i ∈ Finset.range s.val, f i) :
    column wf h0 h1 h2 h3 (BitVec.ofNat 32 a) (BitVec.ofNat 32 b) (BitVec.ofNat 32 N) c D (ix3 0 t e)
      = Ideal.div ((∑ i ∈ Finset.range (min (t.val + b + 1) N), f i) - (∑ i ∈ Finset.range (t.val - a), f i)) (((min (t.val + b + 1) N - (t.val - a) : ℕ) : ℝ) : EReal) := by
  have hl := lows_at h0 hN a ha t
  have hh := highs_at h0 hN b hb t
  have ht := t.isLt
  have g1 := byNumber_at wf D _ t e ⟨min (t.val + b + 1) N, by omega⟩ (wrapped_at h0 h1 c _ t _ (by omega) hh)
  have g0 := byNumber_at wf D _ t e ⟨t.val - a, by omega⟩ (wrapped_at h0 h1 c _ t _ (by omega) hl)
  unfold column
  generalize Host.gather (byNumber (N + 1) N 256 wf) D (wrapped h0 h1 c (highs h0 (BitVec.ofNat 32 b) (BitVec.ofNat 32 N))) = d1 at g1 ⊢
  generalize Host.gather (byNumber (N + 1) N 256 wf) D (wrapped h0 h1 c (lows h0 (BitVec.ofNat 32 a))) = d0 at g0 ⊢
  generalize highs h0 (BitVec.ofNat 32 b) (BitVec.ofNat 32 N) = vh at hh ⊢
  generalize lows h0 (BitVec.ofNat 32 a) = vl at hl ⊢
  have e5 := wide_at h3 (broadcastInDim ⟨3, ![1, N, 1]⟩ ![1] h2 (sitofp (F := Ideal) .f32 (subi vh vl))) t e
  rw [deep_at] at e5
  generalize broadcastInDim ⟨3, ![1, N, 256]⟩ ![0, 1, 2] h3 (broadcastInDim ⟨3, ![1, N, 1]⟩ ![1] h2 (sitofp (F := Ideal) .f32 (subi vh vl))) = y at e5 ⊢
  have e6 : Host.divf (subf d1 d0) y (ix3 0 t e) = Ideal.div (d1 (ix3 0 t e) - d0 (ix3 0 t e)) (y (ix3 0 t e)) := rfl
  rw [e6, e5, g1, g0, hD, hD]
  refine congrArg (Ideal.div _) ?_
  have e7 : sitofp (F := Ideal) .f32 (subi vh vl) (ix1 t) = FloatOps.sitofp (F := Ideal) .f32 (IntOp.subi (vh (ix1 t)) (vl (ix1 t))) := rfl
  rw [e7, hl, hh]
  exact count_word _ _ (by omega) (by omega)

end

end Cert.Merge

end
-- ==== Proof.M.RefMeans.lean ====
/- The reference's windowed means, row by row, are the means over the rows that count. -/
module

public import proofs.«01_k».proof.Proof.M.Windowed
public import proofs.«01_k».proof.Proof.Gen.Reference6Ideal.Read

@[expose] public section

set_option maxRecDepth 16384

noncomputable section

namespace Cert.Merge

open Idealize.ShloMosaic
open Cert.Reference6Ideal Cert.Reference6Ideal.Gen Cert.Reference6Ideal.Read

/-- A channel's rows, as a list over all numbers. -/
def rowsOf {N : ℕ} (x : FVec Ideal ⟨3, ![1, N, 1024]⟩ .f32) (k : Fin 1024) (i : ℕ) : EReal := if hi : i < N then x (ix3 0 ⟨i, hi⟩ k) else 0

/-- A window's column is the mean, where it starts from the channels' running sums. -/
theorem column_mean {N : ℕ} (base : ℕ) (hk : (base = 0 ∧ N = 256) ∨ (base = 256 ∧ N = 8192)) (wf : GatherDims.WF ⟨3, ![1, N + 1, 256]⟩ ⟨2, ![N, 1]⟩ ⟨3, ![1, N, 256]⟩ [0, 2] [1] [] [1] [] 1 ![1, 1, 256])
    (h0 : ToList N) (h1 : ToColumn N) (h2 : ToDeep N) (h3 : ToWide N) (c : BitVec 32) (D : FVec Ideal ⟨3, ![1, N + 1, 256]⟩ .f32) (x : FVec Ideal ⟨3, ![1, N, 1024]⟩ .f32) (U : ℕ → ℕ → EReal)
    (hU : ∀ (i : Fin N) (k : Fin 1024), U (base + i.val) k.val = x (ix3 0 i k)) (hf : ∀ i, ∃ r : ℝ, x i = r)
    (g : Fin 4) (t : Fin N) (e : Fin 256) (hD : ∀ s : Fin (N + 1), D (ix3 0 s e) = ∑ i ∈ Finset.range s.val, rowsOf x ⟨256 * g.val + e.val, by omega⟩ i) :
    column wf h0 h1 h2 h3 (BitVec.ofNat 32 (2 ^ g.val - 1)) (BitVec.ofNat 32 (2 ^ g.val)) (BitVec.ofNat 32 N) c D (ix3 0 t e) = mean U g.val (base + t.val) (256 * g.val + e.val) := by
  have hg : 2 ^ g.val ≤ 8 := by
    obtain h | h | h | h : g.val = 0 ∨ g.val = 1 ∨ g.val = 2 ∨ g.val = 3 := by omega
    all_goals rw [h]; decide
  rw [column_eq wf h0 h1 h2 h3 (by omega) _ _ (by omega) (by omega) c D _ t e hD]
  refine mean_eq U _ N base g.val t.val _ hk g.isLt t.isLt (fun i hi => ?_) fun i hi => ?_
  · unfold rowsOf
    rw [dif_pos hi]
    exact hU ⟨i, hi⟩ ⟨256 * g.val + e.val, by omega⟩
  · unfold rowsOf
    rw [dif_pos hi]
    exact hf _

/-- The latents' running sums from none. -/
theorem sums_x (x : FVec Ideal S1x8192x1024 .f32) (s : Fin 8193) (k : Fin 1024) : val_main_v7 (F := Ideal) x (ix3 0 s k) = ∑ i ∈ Finset.range s.val, rowsOf x k i := by
  have hr := fun j => running (M := 8191) (C := 1024) x (val_main_call0_call0_v0 (F := Ideal)) reduceWindows_S1x8192x1024_S1x8192x1024_w1s1p0_0_w8192s1p8191_0_w1s1p0_0 h_S_ (by
    rw [val_main_call0_call0_v0_apply]
    exact Ideal.ofBits_zero_f32) j k
  unfold val_main_v7 val_main_v6 val_main_v5
  generalize Host.reduceWindowAdd ![1, 8192, 1] ![1, 1, 1] ![0, 8191, 0] ![0, 0, 0] x (val_main_call0_call0_v0 (F := Ideal)) _ _ = R at hr ⊢
  pointwise []
  by_cases hs : s.val < 1
  · rw [dif_pos hs, show s.val = 0 by omega]
    exact Ideal.ofBits_zero_f32
  · rw [dif_neg hs, hr ⟨s.val - 1, by omega⟩]
    rw [show s.val - 1 + 1 = s.val by omega]
    rfl

/-- The context's. -/
theorem sums_c (x : FVec Ideal S1x256x1024 .f32) (s : Fin 257) (k : Fin 1024) : val_main_v166 (F := Ideal) x (ix3 0 s k) = ∑ i ∈ Finset.range s.val, rowsOf x k i := by
  have hr := fun j => running (M := 255) (C := 1024) x (val_main_call1_call0_v0 (F := Ideal)) reduceWindows_S1x256x1024_S1x256x1024_w1s1p0_0_w256s1p255_0_w1s1p0_0 h_S_ (by
    rw [val_main_call1_call0_v0_apply]
    exact Ideal.ofBits_zero_f32) j k
  unfold val_main_v166 val_main_v165 val_main_v164
  generalize Host.reduceWindowAdd ![1, 256, 1] ![1, 1, 1] ![0, 255, 0] ![0, 0, 0] x (val_main_call1_call0_v0 (F := Ideal)) _ _ = R at hr ⊢
  pointwise []
  by_cases hs : s.val < 1
  · rw [dif_pos hs, show s.val = 0 by omega]
    exact Ideal.ofBits_zero_f32
  · rw [dif_neg hs, hr ⟨s.val - 1, by omega⟩]
    rw [show s.val - 1 + 1 = s.val by omega]
    rfl

section
variable {N : ℕ} (base : ℕ) (hk : (base = 0 ∧ N = 256) ∨ (base = 256 ∧ N = 8192)) (wf : GatherDims.WF ⟨3, ![1, N + 1, 256]⟩ ⟨2, ![N, 1]⟩ ⟨3, ![1, N, 256]⟩ [0, 2] [1] [] [1] [] 1 ![1, 1, 256])
    (h0 : ToList N) (h1 : ToColumn N) (h2 : ToDeep N) (h3 : ToWide N) (c : BitVec 32) (x : FVec Ideal ⟨3, ![1, N, 1024]⟩ .f32) (U : ℕ → ℕ → EReal)
    (hU : ∀ (i : Fin N) (k : Fin 1024), U (base + i.val) k.val = x (ix3 0 i k)) (hf : ∀ i, ∃ r : ℝ, x i = r)
    (R : FVec Ideal ⟨3, ![1, N + 1, 1024]⟩ .f32) (hR : ∀ (s : Fin (N + 1)) (k : Fin 1024), R (ix3 0 s k) = ∑ i ∈ Finset.range s.val, rowsOf x k i)

/-- `D` holds the running sums of group `g`'s channels. -/
abbrev Holds (R : FVec Ideal ⟨3, ![1, N + 1, 1024]⟩ .f32) (g : Fin 4) (D : FVec Ideal ⟨3, ![1, N + 1, 256]⟩ .f32) : Prop :=
  ∀ (s : Fin (N + 1)) (e : Fin 256), ∃ i, D (ix3 0 s e) = R i ∧ (i 1).val = s.val ∧ (i 2).val = 256 * g.val + e.val

include hk hU hf hR in
theorem mean_of (g : Fin 4) (n a b : BitVec 32) (hn : n = BitVec.ofNat 32 N) (ha : a = BitVec.ofNat 32 (2 ^ g.val - 1)) (hb : b = BitVec.ofNat 32 (2 ^ g.val)) (D : FVec Ideal ⟨3, ![1, N + 1, 256]⟩ .f32)
    (hD : Holds R g D) (t : Fin N) (e : Fin 256) :
    column wf h0 h1 h2 h3 a b n c D (ix3 0 t e) = mean U g.val (base + t.val) (256 * g.val + e.val) := by
  subst ha hb hn
  refine column_mean base hk wf h0 h1 h2 h3 c D x U hU hf g t e fun s => ?_
  obtain ⟨i, h, h1, h2⟩ := hD s e
  have hi : i = ix3 0 s ⟨256 * g.val + e.val, by omega⟩ := (eq_ix3 i).trans (congr (congrArg₂ ix3 (Subsingleton.elim _ _) (Fin.ext h1)) (Fin.ext h2))
  rw [h, hi]
  exact hR s _

/-- Four columns side by side. -/
theorem beside (hc : Shape.Concatenates ([⟨3, ![1, N, 256]⟩, ⟨3, ![1, N, 256]⟩, ⟨3, ![1, N, 256]⟩, ⟨3, ![1, N, 256]⟩] : List Shape) ⟨3, ![1, N, 1024]⟩ 2) (A B C D : FVec Ideal ⟨3, ![1, N, 256]⟩ .f32) (M : Fin 4 → EReal) (t : Fin N) (e : Fin 256) (hA : A (ix3 0 t e) = M 0) (hB : B (ix3 0 t e) = M 1) (hC : C (ix3 0 t e) = M 2) (hD : D (ix3 0 t e) = M 3) (g : Fin 4) :
    concatenate ⟨3, ![1, N, 1024]⟩ 2 [⟨⟨3, ![1, N, 256]⟩, A⟩, ⟨⟨3, ![1, N, 256]⟩, B⟩, ⟨⟨3, ![1, N, 256]⟩, C⟩, ⟨⟨3, ![1, N, 256]⟩, D⟩] hc (ix3 0 t ⟨256 * g.val + e.val, by omega⟩) = M g := by
  pointwise []
  obtain rfl | rfl | rfl | rfl : g = 0 ∨ g = 1 ∨ g = 2 ∨ g = 3 := by omega
  · rw [dif_pos (by show 256 * 0 + e.val < 256; omega), ← hA]
    refine congrArg A ((eq_ix3 _).trans (congr (congrArg₂ ix3 (Subsingleton.elim _ _) (Fin.ext rfl)) (Fin.ext ?_)))
    show 256 * 0 + e.val = e.val
    omega
  · rw [dif_neg (by show ¬256 * 1 + e.val < 256; omega), dif_pos (by show 256 * 1 + e.val - 256 < 256; omega), ← hB]
    refine congrArg B ((eq_ix3 _).trans (congr (congrArg₂ ix3 (Subsingleton.elim _ _) (Fin.ext rfl)) (Fin.ext ?_)))
    show 256 * 1 + e.val - 256 = e.val
    omega
  · rw [dif_neg (by show ¬256 * 2 + e.val < 256; omega), dif_neg (by show ¬256 * 2 + e.val - 256 < 256; omega), dif_pos (by show 256 * 2 + e.val - 256 - 256 < 256; omega), ← hC]
    refine congrArg C ((eq_ix3 _).trans (congr (congrArg₂ ix3 (Subsingleton.elim _ _) (Fin.ext rfl)) (Fin.ext ?_)))
    show 256 * 2 + e.val - 256 - 256 = e.val
    omega
  · rw [dif_neg (by show ¬256 * 3 + e.val < 256; omega), dif_neg (by show ¬256 * 3 + e.val - 256 < 256; omega), dif_neg (by show ¬256 * 3 + e.val - 256 - 256 < 256; omega), ← hD]
    refine congrArg D ((eq_ix3 _).trans (congr (congrArg₂ ix3 (Subsingleton.elim _ _) (Fin.ext rfl)) (Fin.ext ?_)))
    show 256 * 3 + e.val - 256 - 256 - 256 = e.val
    omega

include hk hU hf hR in
/-- The four windows' columns side by side are the means. -/
theorem means_of (hc : Shape.Concatenates ([⟨3, ![1, N, 256]⟩, ⟨3, ![1, N, 256]⟩, ⟨3, ![1, N, 256]⟩, ⟨3, ![1, N, 256]⟩] : List Shape) ⟨3, ![1, N, 1024]⟩ 2) (n : BitVec 32) (hn : n = BitVec.ofNat 32 N)
    (A B C D : FVec Ideal ⟨3, ![1, N, 256]⟩ .f32) (D0 D1 D2 D3 : FVec Ideal ⟨3, ![1, N + 1, 256]⟩ .f32) (d0 : Holds R 0 D0) (d1 : Holds R 1 D1) (d2 : Holds R 2 D2) (d3 : Holds R 3 D3)
    (q0 : A = column wf h0 h1 h2 h3 0#32 1#32 n c D0) (q1 : B = column wf h0 h1 h2 h3 1#32 2#32 n c D1) (q2 : C = column wf h0 h1 h2 h3 3#32 4#32 n c D2) (q3 : D = column wf h0 h1 h2 h3 7#32 8#32 n c D3)
    (t : Fin N) (g : Fin 4) (e : Fin 256) :
    concatenate ⟨3, ![1, N, 1024]⟩ 2 [⟨⟨3, ![1, N, 256]⟩, A⟩, ⟨⟨3, ![1, N, 256]⟩, B⟩, ⟨⟨3, ![1, N, 256]⟩, C⟩, ⟨⟨3, ![1, N, 256]⟩, D⟩] hc (ix3 0 t ⟨256 * g.val + e.val, by omega⟩) = mean U g.val (base + t.val) (256 * g.val + e.val) :=
  beside hc A B C D (fun g => mean U g.val (base + t.val) (256 * g.val + e.val)) t e
    ((congrFun q0 _).trans (mean_of base hk wf h0 h1 h2 h3 c x U hU hf R hR 0 n _ _ hn rfl rfl D0 d0 t e))
    ((congrFun q1 _).trans (mean_of base hk wf h0 h1 h2 h3 c x U hU hf R hR 1 n _ _ hn rfl rfl D1 d1 t e))
    ((congrFun q2 _).trans (mean_of base hk wf h0 h1 h2 h3 c x U hU hf R hR 2 n _ _ hn rfl rfl D2 d2 t e))
    ((congrFun q3 _).trans (mean_of base hk wf h0 h1 h2 h3 c x U hU hf R hR 3 n _ _ hn rfl rfl D3 d3 t e)) g

end

/-- The latents' means. -/
theorem means_x (x : FVec Ideal S1x8192x1024 .f32) (U : ℕ → ℕ → EReal) (hU : ∀ (i : Fin 8192) (k : Fin 1024), U (256 + i.val) k.val = x (ix3 0 i k)) (hf : ∀ i, ∃ r : ℝ, x i = r) (t : Fin 8192) (g : Fin 4) (e : Fin 256) :
    val_main_v133 (F := Ideal) x (ix3 0 t ⟨256 * g.val + e.val, by omega⟩) = mean U g.val (256 + t.val) (256 * g.val + e.val) :=
  means_of (N := 8192) 256 (Or.inr ⟨rfl, rfl⟩) gather_S1x8193x256_S8192x1_S1x8192x256_02_1_n_n_1_1_11256_wf bcast_S_S8192 bcast_S8192_S8192x1_0 bcast_S8192_S1x8192x1_1 bcast_S1x8192x1_S1x8192x256_0_1_2 8193#32 x U hU hf
    (val_main_v7 (F := Ideal) x) (sums_x x) concatenates_S1x8192x256_S1x8192x256_S1x8192x256_S1x8192x256_S1x8192x1024_d2 8192#32 rfl _ _ _ _ (val_main_v9 (F := Ideal) x) (val_main_v10 (F := Ideal) x) (val_main_v11 (F := Ideal) x) (val_main_v12 (F := Ideal) x)
    (fun s e => ⟨idx_main_v9 (ix3 0 s e), val_main_v9_apply (F := Ideal) x (ix3 0 s e), rfl, (Nat.zero_add e.val).symm⟩)
    (fun s e => ⟨idx_main_v10 (ix3 0 s e), val_main_v10_apply (F := Ideal) x (ix3 0 s e), rfl, rfl⟩)
    (fun s e => ⟨idx_main_v11 (ix3 0 s e), val_main_v11_apply (F := Ideal) x (ix3 0 s e), rfl, rfl⟩)
    (fun s e => ⟨idx_main_v12 (ix3 0 s e), val_main_v12_apply (F := Ideal) x (ix3 0 s e), rfl, rfl⟩)
    rfl rfl rfl rfl t g e

/-- The context's means. -/
theorem means_c (x : FVec Ideal S1x256x1024 .f32) (U : ℕ → ℕ → EReal) (hU : ∀ (i : Fin 256) (k : Fin 1024), U (0 + i.val) k.val = x (ix3 0 i k)) (hf : ∀ i, ∃ r : ℝ, x i = r) (t : Fin 256) (g : Fin 4) (e : Fin 256) :
    val_main_v292 (F := Ideal) x (ix3 0 t ⟨256 * g.val + e.val, by omega⟩) = mean U g.val (0 + t.val) (256 * g.val + e.val) :=
  means_of (N := 256) 0 (Or.inl ⟨rfl, rfl⟩) gather_S1x257x256_S256x1_S1x256x256_02_1_n_n_1_1_11256_wf bcast_S_S256 bcast_S256_S256x1_0 bcast_S256_S1x256x1_1 bcast_S1x256x1_S1x256x256_0_1_2 257#32 x U hU hf
    (val_main_v166 (F := Ideal) x) (sums_c x) concatenates_S1x256x256_S1x256x256_S1x256x256_S1x256x256_S1x256x1024_d2 256#32 rfl _ _ _ _ (val_main_v168 (F := Ideal) x) (val_main_v169 (F := Ideal) x) (val_main_v170 (F := Ideal) x) (val_main_v171 (F := Ideal) x)
    (fun s e => ⟨idx_main_v168 (ix3 0 s e), val_main_v168_apply (F := Ideal) x (ix3 0 s e), rfl, (Nat.zero_add e.val).symm⟩)
    (fun s e => ⟨idx_main_v169 (ix3 0 s e), val_main_v169_apply (F := Ideal) x (ix3 0 s e), rfl, rfl⟩)
    (fun s e => ⟨idx_main_v170 (ix3 0 s e), val_main_v170_apply (F := Ideal) x (ix3 0 s e), rfl, rfl⟩)
    (fun s e => ⟨idx_main_v171 (ix3 0 s e), val_main_v171_apply (F := Ideal) x (ix3 0 s e), rfl, rfl⟩)
    rfl rfl rfl rfl t g e

end Cert.Merge

end
-- ==== Proof.M.RefRows.lean ====
/- A gated row in closed form, from readings of the reference's stages; it serves latents and context alike. -/
module

public import proofs.«01_k».proof.Proof.M.RefMeans

@[expose] public section

set_option maxRecDepth 16384

noncomputable section

namespace Cert.Merge

open Idealize.ShloMosaic

/-- The reference's pooled channel, its mean and its row read from arrays. -/
def PooledRead {N : ℕ} (w : FVec Ideal ⟨4, ![2, 4, 256, 256]⟩ .f32) (sc : FVec Ideal ⟨2, ![2, 1024]⟩ .f32) (M x P : FVec Ideal ⟨3, ![1, N, 1024]⟩ .f32) : Prop :=
  ∀ (t : Fin N) (c : Fin 1024), P (ix3 0 t c) = (∑ k : Fin 256, w (ix4 0 ⟨c.val / 256, by omega⟩ k ⟨c.val % 256, by omega⟩) * (M (ix3 0 t ⟨c.val / 256 * 256 + k.val, by omega⟩) - x (ix3 0 t ⟨c.val / 256 * 256 + k.val, by omega⟩))) * sc (ix2 0 c)

/-- The three branches' inputs, one under the other. -/
def StackRead {N : ℕ} (P y z : FVec Ideal ⟨3, ![1, N, 1024]⟩ .f32) (T : FVec Ideal ⟨4, ![1, N, 3, 1024]⟩ .f32) : Prop :=
  ∀ (t : Fin N) (b : Fin 3) (k : Fin 1024), T (ix4 0 t b k) = if b.val < 1 then P (ix3 0 t k) else if b.val - 1 < 1 then y (ix3 0 t k) else z (ix3 0 t k)

/-- A gated product. -/
def GatedRead {N : ℕ} (l : FVec Ideal ⟨3, ![1, N, 6144]⟩ .f32) (wb : FVec Ideal ⟨4, ![2, 3, 1024, 2048]⟩ .f32) (T : FVec Ideal ⟨4, ![1, N, 3, 1024]⟩ .f32) (Q : FVec Ideal ⟨4, ![1, N, 3, 2048]⟩ .f32) : Prop :=
  ∀ (t : Fin N) (b : Fin 3) (d : Fin 2048), Q (ix4 0 t b d) = Ideal.div 1 (1 + Ideal.exp (-l (ix3 0 t ⟨b.val * 2048 + d.val, by omega⟩))) * ∑ k : Fin 1024, wb (ix4 0 b k d) * T (ix4 0 t b k)

theorem in_channels (g : Fin 4) (e : Fin 256) : 256 * g.val + e.val < 1024 := by omega
theorem in_logits0 (d : Fin 2048) : d.val < 6144 := by omega
theorem in_logits1 (d : Fin 2048) : 2048 + d.val < 6144 := by omega
theorem in_logits2 (d : Fin 2048) : 4096 + d.val < 6144 := by omega

section
variable {N : ℕ} (base : ℕ) (x y z : FVec Ideal ⟨3, ![1, N, 1024]⟩ .f32) (l : FVec Ideal ⟨3, ![1, N, 6144]⟩ .f32) (w : FVec Ideal ⟨4, ![2, 4, 256, 256]⟩ .f32) (sc : FVec Ideal ⟨2, ![2, 1024]⟩ .f32) (wb : FVec Ideal ⟨4, ![2, 3, 1024, 2048]⟩ .f32)
  (U : ℕ → ℕ → EReal) (hU : ∀ (i : Fin N) (k : Fin 1024), U (base + i.val) k.val = x (ix3 0 i k))
  (M : FVec Ideal ⟨3, ![1, N, 1024]⟩ .f32) (hM : ∀ (t : Fin N) (g : Fin 4) (e : Fin 256), M (ix3 0 t ⟨256 * g.val + e.val, in_channels g e⟩) = mean U g.val (base + t.val) (256 * g.val + e.val))
  (P : FVec Ideal ⟨3, ![1, N, 1024]⟩ .f32) (hP : PooledRead w sc M x P) (T : FVec Ideal ⟨4, ![1, N, 3, 1024]⟩ .f32) (hT : StackRead P y z T) (Q : FVec Ideal ⟨4, ![1, N, 3, 2048]⟩ .f32) (hQ : GatedRead l wb T Q)
include hU hM hP

theorem pooled_of (t : Fin N) (c : Fin 1024) : P (ix3 0 t c) = pooled U (fun g k d => w (ix4 0 g k d)) (fun d => sc (ix2 0 d)) (base + t.val) c := by
  rw [hP]
  unfold pooled
  refine congrArg (· * sc (ix2 0 c)) (Finset.sum_congr rfl fun k _ => (mul_comm _ _).trans (congrArg (· * w _) ?_))
  have hm := hM t ⟨c.val / 256, by omega⟩ k
  have hx := hU t ⟨256 * (c.val / 256) + k.val, by omega⟩
  have hi : (⟨c.val / 256 * 256 + k.val, by omega⟩ : Fin 1024) = ⟨256 * (c.val / 256) + k.val, by omega⟩ := Fin.ext (congrArg (· + k.val) (Nat.mul_comm _ _))
  rw [hi]
  exact congrArg₂ (· - ·) hm hx.symm

include hT hQ

theorem row_of (t : Fin N) (d : Fin 2048) :
    ∑ b : Fin 3, Q (ix4 0 t b d)
      = gate (l (ix3 0 t ⟨d.val, in_logits0 d⟩)) * (∑ k : Fin 1024, pooled U (fun g k d => w (ix4 0 g k d)) (fun d => sc (ix2 0 d)) (base + t.val) k * wb (ix4 0 0 k d))
        + gate (l (ix3 0 t ⟨2048 + d.val, in_logits1 d⟩)) * (∑ k : Fin 1024, y (ix3 0 t k) * wb (ix4 0 1 k d))
        + gate (l (ix3 0 t ⟨4096 + d.val, in_logits2 d⟩)) * (∑ k : Fin 1024, z (ix3 0 t k) * wb (ix4 0 2 k d)) := by
  have e : ∀ (b : Fin 3) (q : Fin 6144) (hq : q.val = b.val * 2048 + d.val) (I : Fin 1024 → EReal) (hI : ∀ k, T (ix4 0 t b k) = I k), Q (ix4 0 t b d) = gate (l (ix3 0 t q)) * ∑ k : Fin 1024, I k * wb (ix4 0 b k d) := fun b q hq I hI => by
    have hq' : q = ⟨b.val * 2048 + d.val, by omega⟩ := Fin.ext hq
    rw [hQ, gate_eq, hq']
    exact congrArg (Ideal.div 1 _ * ·) (Finset.sum_congr rfl fun k _ => (mul_comm _ _).trans (congrArg (· * wb _) (hI k)))
  rw [Fin.sum_univ_three, e 0 ⟨d.val, by omega⟩ (Nat.zero_add _).symm _ (fun k => (hT t 0 k).trans (pooled_of base x w sc U hU M hM P hP t k)),
    e 1 ⟨2048 + d.val, by omega⟩ rfl _ (fun k => hT t 1 k), e 2 ⟨4096 + d.val, by omega⟩ rfl _ (fun k => hT t 2 k)]
  rfl

end

end Cert.Merge

end
-- ==== Proof.M.RefLatents.lean ====
/- The reference's stages for the latent rows, read entry by entry. -/
module

public import proofs.«01_k».proof.Proof.M.RefRows

@[expose] public section

set_option maxRecDepth 16384

noncomputable section

namespace Cert.Merge

open Idealize.ShloMosaic
open Cert.Reference6Ideal Cert.Reference6Ideal.Gen Cert.Reference6Ideal.Read

section
variable (x y z : FVec Ideal S1x8192x1024 .f32) (l : FVec Ideal S1x8192x6144 .f32) (w : FVec Ideal S2x4x256x256 .f32) (sc : FVec Ideal S2x1024 .f32) (wb : FVec Ideal S2x3x1024x2048 .f32)

theorem pooled_x : PooledRead w sc (val_main_v133 (F := Ideal) x) x (val_main_v141 (F := Ideal) x w sc) := fun t c => by
  have hd : ∀ (g : Fin 4) (d : Fin 256), val_main_v136 (F := Ideal) x w (ix4 g d 0 t) = ∑ k : Fin 256, val_main_v1 (F := Ideal) w (ix3 g k d) * val_main_v135 (F := Ideal) x (ix4 0 t g k) := fun g d => by
    rw [val_main_v136_apply]
    exact Finset.sum_congr rfl fun k _ => congrArg₂ (fun a b => val_main_v1 (F := Ideal) w a * val_main_v135 (F := Ideal) x b) (eq_ix3 _) (eq_ix4 _)
  unfold val_main_v135 val_main_v134 at hd
  unfold val_main_v141 val_main_v138 val_main_v137
  generalize val_main_v136 (F := Ideal) x w = P at hd ⊢
  generalize val_main_v133 (F := Ideal) x = M at hd ⊢
  pointwise [val_main_v140, val_main_v139, val_main_v3, val_main_v2]
  rw [hd]
  pointwise [val_main_v1, val_main_v0]

theorem stack_x : StackRead (val_main_v141 (F := Ideal) x w sc) y z (val_main_v147 (F := Ideal) x y z w sc) := fun t b k => by
  unfold val_main_v147 val_main_v144 val_main_v145 val_main_v146
  generalize val_main_v141 (F := Ideal) x w sc = P
  pointwise []
  simp only [dite_eq_ite]

theorem gated_x : GatedRead l wb (val_main_v147 (F := Ideal) x y z w sc) (val_main_v157 (F := Ideal) x y z l w sc wb) := fun t b d => by
  have hp : val_main_v149 (F := Ideal) x y z w sc wb (ix4 0 t b d) = ∑ k : Fin 1024, val_main_v143 (F := Ideal) wb (ix3 b k d) * val_main_v147 (F := Ideal) x y z w sc (ix4 0 t b k) := by
    rw [val_main_v149_apply, val_main_v148_apply]
    exact Finset.sum_congr rfl fun k _ => congrArg₂ (fun a e => val_main_v143 (F := Ideal) wb a * val_main_v147 (F := Ideal) x y z w sc e) (eq_ix3 _) (eq_ix4 _)
  unfold val_main_v157
  generalize val_main_v149 (F := Ideal) x y z w sc wb = R at hp ⊢
  generalize val_main_v147 (F := Ideal) x y z w sc = T at hp ⊢
  pointwise [val_main_v156, val_main_v155, val_main_v154, val_main_v153, val_main_v152, val_main_v151, val_main_v150, val_main_cst_35, val_main_cst_36]
  rw [hp]
  pointwise [val_main_v143, val_main_v142]

theorem sum_x (t : Fin 8192) (d : Fin 2048) : val_main_v158 (F := Ideal) x y z l w sc wb (ix3 0 t d) = ∑ b : Fin 3, val_main_v157 (F := Ideal) x y z l w sc wb (ix4 0 t b d) := by
  rw [val_main_v158_apply]
  refine (congrArg₂ (· + ·) Ideal.ofBits_zero_f32 (Finset.sum_congr rfl fun b _ => ?_)).trans (zero_add _)
  exact congrArg (val_main_v157 (F := Ideal) x y z l w sc wb) (eq_ix4 _)

end

end Cert.Merge

end
-- ==== Proof.M.RefContext.lean ====
/- The reference's stages for the context rows, read entry by entry. -/
module

public import proofs.«01_k».proof.Proof.M.RefRows

@[expose] public section

set_option maxRecDepth 16384

noncomputable section

namespace Cert.Merge

open Idealize.ShloMosaic
open Cert.Reference6Ideal Cert.Reference6Ideal.Gen Cert.Reference6Ideal.Read

section
variable (x y z : FVec Ideal S1x256x1024 .f32) (l : FVec Ideal S1x256x6144 .f32) (w : FVec Ideal S2x4x256x256 .f32) (sc : FVec Ideal S2x1024 .f32) (wb : FVec Ideal S2x3x1024x2048 .f32)

theorem pooled_c : PooledRead w sc (val_main_v292 (F := Ideal) x) x (val_main_v300 (F := Ideal) x w sc) := fun t c => by
  have hd : ∀ (g : Fin 4) (d : Fin 256), val_main_v295 (F := Ideal) x w (ix4 g d 0 t) = ∑ k : Fin 256, val_main_v160 (F := Ideal) w (ix3 g k d) * val_main_v294 (F := Ideal) x (ix4 0 t g k) := fun g d => by
    rw [val_main_v295_apply]
    exact Finset.sum_congr rfl fun k _ => congrArg₂ (fun a b => val_main_v160 (F := Ideal) w a * val_main_v294 (F := Ideal) x b) (eq_ix3 _) (eq_ix4 _)
  unfold val_main_v294 val_main_v293 at hd
  unfold val_main_v300 val_main_v297 val_main_v296
  generalize val_main_v295 (F := Ideal) x w = P at hd ⊢
  generalize val_main_v292 (F := Ideal) x = M at hd ⊢
  pointwise [val_main_v299, val_main_v298, val_main_v162, val_main_v161]
  rw [hd]
  pointwise [val_main_v160, val_main_v159]

theorem stack_c : StackRead (val_main_v300 (F := Ideal) x w sc) y z (val_main_v306 (F := Ideal) x y z w sc) := fun t b k => by
  unfold val_main_v306 val_main_v303 val_main_v304 val_main_v305
  generalize val_main_v300 (F := Ideal) x w sc = P
  pointwise []
  simp only [dite_eq_ite]

theorem gated_c : GatedRead l wb (val_main_v306 (F := Ideal) x y z w sc) (val_main_v316 (F := Ideal) x y z l w sc wb) := fun t b d => by
  have hp : val_main_v308 (F := Ideal) x y z w sc wb (ix4 0 t b d) = ∑ k : Fin 1024, val_main_v302 (F := Ideal) wb (ix3 b k d) * val_main_v306 (F := Ideal) x y z w sc (ix4 0 t b k) := by
    rw [val_main_v308_apply, val_main_v307_apply]
    exact Finset.sum_congr rfl fun k _ => congrArg₂ (fun a e => val_main_v302 (F := Ideal) wb a * val_main_v306 (F := Ideal) x y z w sc e) (eq_ix3 _) (eq_ix4 _)
  unfold val_main_v316
  generalize val_main_v308 (F := Ideal) x y z w sc wb = R at hp ⊢
  generalize val_main_v306 (F := Ideal) x y z w sc = T at hp ⊢
  pointwise [val_main_v315, val_main_v314, val_main_v313, val_main_v312, val_main_v311, val_main_v310, val_main_v309, val_main_cst_75, val_main_cst_76]
  rw [hp]
  pointwise [val_main_v302, val_main_v301]

theorem sum_c (t : Fin 256) (d : Fin 2048) : val_main_v317 (F := Ideal) x y z l w sc wb (ix3 0 t d) = ∑ b : Fin 3, val_main_v316 (F := Ideal) x y z l w sc wb (ix4 0 t b d) := by
  rw [val_main_v317_apply]
  refine (congrArg₂ (· + ·) Ideal.ofBits_zero_f32 (Finset.sum_congr rfl fun b _ => ?_)).trans (zero_add _)
  exact congrArg (val_main_v316 (F := Ideal) x y z l w sc wb) (eq_ix4 _)

end

end Cert.Merge

end
-- ==== Proof.M.RefWhole.lean ====
/- The reference's result is the merge's closed form, where the pooled branch's inputs are reals. -/
module

public import proofs.«01_k».proof.Proof.M.RefLatents
public import proofs.«01_k».proof.Proof.M.RefContext

@[expose] public section

set_option maxRecDepth 16384

noncomputable section

namespace Cert.Merge

open Idealize.ShloMosaic
open Cert.Reference6Ideal Cert.Reference6Ideal.Gen Cert.Reference6Ideal.Read

/-- A context row of the stacked arrays. -/
theorem stacked_low (A : FVec Ideal S1x256x1024 .f32) (B : FVec Ideal S1x8192x1024 .f32) (i : Fin 256) (k : Fin 1024) : stacked A B (0 + i.val) k.val = A (ix3 0 i k) := by
  rw [Nat.zero_add]
  unfold stacked
  rw [dif_pos k.isLt, dif_pos i.isLt]

/-- A latent row. -/
theorem stacked_high (A : FVec Ideal S1x256x1024 .f32) (B : FVec Ideal S1x8192x1024 .f32) (i : Fin 8192) (k : Fin 1024) : stacked A B (256 + i.val) k.val = B (ix3 0 i k) := by
  unfold stacked
  rw [dif_pos k.isLt, dif_neg (by omega), dif_pos (by omega)]
  exact congrArg (fun q => B (ix3 0 q k)) (Fin.ext (Nat.add_sub_cancel_left _ _))

/-- The context's result above the latents', flat and cast. -/
theorem split (C : FVec Ideal S1x256x2048 .f32) (X : FVec Ideal S1x8192x2048 .f32) (n : Fin 8448) (d : Fin 2048) :
    truncf .bf16 (shapeCast S8448x2048 (concatenate S1x8448x2048 1 [⟨S1x256x2048, C⟩, ⟨S1x8192x2048, X⟩] concatenates_S1x256x2048_S1x8192x2048_S1x8448x2048_d1) shapeCasts_S1x8448x2048_S8448x2048) bitsLt_bf16_f32 (ix2 n d)
      = if hn : n.val < 256 then C (ix3 0 ⟨n.val, hn⟩ d) else X (ix3 0 ⟨n.val - 256, by omega⟩ d) := by
  pointwise []

section
variable (x0 x2 x4 : FVec Ideal S1x256x1024 .f32) (x1 x3 x5 : FVec Ideal S1x8192x1024 .f32) (x6 : FVec Ideal S1x256x6144 .f32) (x7 : FVec Ideal S1x8192x6144 .f32)
  (x8 : FVec Ideal S2x4x256x256 .f32) (x9 : FVec Ideal S2x1024 .f32) (x10 : FVec Ideal S2x3x1024x2048 .f32)

theorem result (h0 : ∀ i, ∃ r : ℝ, x0 i = r) (h1 : ∀ i, ∃ r : ℝ, x1 i = r) :
    val_main_v320 (F := Ideal) x0 x1 x2 x3 x4 x5 x6 x7 x8 x9 x10
      = fun i => value (stacked x0 x1) (stacked x2 x3) (stacked x4 x5) (logits x6 x7) (fun g k d => x8 (ix4 0 g k d)) (fun d => x9 (ix2 0 d)) (fun b k d => x10 (ix4 0 b k d)) (i 0) (i 1) := by
  funext i
  obtain ⟨n, d, rfl⟩ : ∃ n d, i = ix2 n d := ⟨i 0, i 1, eq_ix2 i⟩
  have hc := fun t d => (sum_c x0 x2 x4 x6 x8 x9 x10 t d).trans (row_of 0 x0 x2 x4 x6 x8 x9 x10 (stacked x0 x1) (stacked_low x0 x1) _ (means_c x0 _ (stacked_low x0 x1) h0) _ (pooled_c x0 x8 x9) _ (stack_c x0 x2 x4 x8 x9) _ (gated_c x0 x2 x4 x6 x8 x9 x10) t d)
  have hx := fun t d => (sum_x x1 x3 x5 x7 x8 x9 x10 t d).trans (row_of 256 x1 x3 x5 x7 x8 x9 x10 (stacked x0 x1) (stacked_high x0 x1) _ (means_x x1 _ (stacked_high x0 x1) h1) _ (pooled_x x1 x8 x9) _ (stack_x x1 x3 x5 x8 x9) _ (gated_x x1 x3 x5 x7 x8 x9 x10) t d)
  unfold val_main_v320 val_main_v319 val_main_v318
  generalize val_main_v317 (F := Ideal) x0 x2 x4 x6 x8 x9 x10 = C at hc ⊢
  generalize val_main_v158 (F := Ideal) x1 x3 x5 x7 x8 x9 x10 = X at hx ⊢
  refine (split C X n d).trans ?_
  show _ = value (stacked x0 x1) (stacked x2 x3) (stacked x4 x5) (logits x6 x7) (fun g k d => x8 (ix4 0 g k d)) (fun d => x9 (ix2 0 d)) (fun b k d => x10 (ix4 0 b k d)) n d
  unfold value
  by_cases hn : n.val < 256
  · have hl : ∀ k, logits x6 x7 n k = x6 (ix3 0 ⟨n.val, hn⟩ k) := fun k => dif_pos hn
    have hy : ∀ k : Fin 1024, stacked x2 x3 n.val k.val = x2 (ix3 0 ⟨n.val, hn⟩ k) := fun k => (congrArg (fun q => stacked x2 x3 q k.val) (Nat.zero_add n.val).symm).trans (stacked_low x2 x3 ⟨n.val, hn⟩ k)
    have hz : ∀ k : Fin 1024, stacked x4 x5 n.val k.val = x4 (ix3 0 ⟨n.val, hn⟩ k) := fun k => (congrArg (fun q => stacked x4 x5 q k.val) (Nat.zero_add n.val).symm).trans (stacked_low x4 x5 ⟨n.val, hn⟩ k)
    rw [dif_pos hn, hc]
    simp only [hl, hy, hz, Nat.zero_add]
  · have hv : 256 + (n.val - 256) = n.val := by omega
    have hl : ∀ k, logits x6 x7 n k = x7 (ix3 0 ⟨n.val - 256, by omega⟩ k) := fun k => dif_neg hn
    have hy : ∀ k : Fin 1024, stacked x2 x3 n.val k.val = x3 (ix3 0 ⟨n.val - 256, by omega⟩ k) := fun k => (congrArg (fun q => stacked x2 x3 q k.val) hv.symm).trans (stacked_high x2 x3 ⟨n.val - 256, by omega⟩ k)
    have hz : ∀ k : Fin 1024, stacked x4 x5 n.val k.val = x5 (ix3 0 ⟨n.val - 256, by omega⟩ k) := fun k => (congrArg (fun q => stacked x4 x5 q k.val) hv.symm).trans (stacked_high x4 x5 ⟨n.val - 256, by omega⟩ k)
    rw [dif_neg hn, hx]
    simp only [hl, hy, hz, hv]

end

end Cert.Merge

end
-- ==== Proof.M.Algebraic.lean ====
/- The merge's value claim: where the pooled branch's inputs are reals, the kernel and the reference write the same array. -/
module

public import proofs.«01_k».proof.Defs
public import proofs.«01_k».proof.Proof.M.Final
public import proofs.«01_k».proof.Proof.M.RefWhole
public import proofs.«01_k».proof.Proof.M.PreFacts
public import proofs.«01_k».proof.Proof.Gen.Reference6Ideal.Run
public import Idealize.ShloMosaic.Lib.Claim

@[expose] public section

set_option maxRecDepth 16384

noncomputable section

namespace Cert.Proof

open Idealize.ShloMosaic Idealize.SL.Sem Cert.Merge

section
variable (c : Dev Cert.Kernel6Ideal.nD)

/-- The closed form of eleven arrays. -/
def closed (x0 : FVec Ideal ⟨3, ![1, 256, 1024]⟩ .f32) (x1 : FVec Ideal ⟨3, ![1, 8192, 1024]⟩ .f32) (x2 : FVec Ideal ⟨3, ![1, 256, 1024]⟩ .f32) (x3 : FVec Ideal ⟨3, ![1, 8192, 1024]⟩ .f32) (x4 : FVec Ideal ⟨3, ![1, 256, 1024]⟩ .f32) (x5 : FVec Ideal ⟨3, ![1, 8192, 1024]⟩ .f32)
    (x6 : FVec Ideal ⟨3, ![1, 256, 6144]⟩ .f32) (x7 : FVec Ideal ⟨3, ![1, 8192, 6144]⟩ .f32) (x8 : FVec Ideal ⟨4, ![2, 4, 256, 256]⟩ .f32) (x9 : FVec Ideal ⟨2, ![2, 1024]⟩ .f32) (x10 : FVec Ideal ⟨4, ![2, 3, 1024, 2048]⟩ .f32) : FVec Ideal ⟨2, ![8448, 2048]⟩ .bf16 :=
  fun i => value (stacked x0 x1) (stacked x2 x3) (stacked x4 x5) (logits x6 x7) (fun g k d => x8 (ix4 0 g k d)) (fun d => x9 (ix2 0 d)) (fun b k d => x10 (ix4 0 b k d)) (i 0) (i 1)

/-- The kernel writes it. -/
theorem kernel_closed (m : (ℓ : Loc Cert.Kernel6Ideal.nD Cert.Kernel6Ideal.τ Cert.Kernel6Ideal.sig) → Buf (Elt Ideal) ℓ) : Cert.Kernel6Ideal.Value.G11 (F := Ideal) m c = closed
    (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
    (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))
    (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))
    (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))
    (m ((c.tc : Thread Cert.Kernel6Ideal.nD Cert.Kernel6Ideal.τ).loc Cert.Kernel6Ideal.main_arg10)) :=
  (Cert.Kernel6Ideal.Value.final11 m c).symm.trans (final m c)

end

/-- The merge's kernel and its reference agree. -/
theorem algebraic6 : Cert.algebraic_Kernel6Ideal_Reference6Ideal_pre_finite_u := by
  pair_intro
  · run_from Cert.Kernel6Ideal.Value.run m g
  · refine (θ_run Cert.Reference6Ideal.defs _ _).mono (fun r h c => ⟨(h c).1.trans ?_, (h c).2⟩) (Cert.Reference6Ideal.Value.run m' g')
    obtain ⟨a0, a1, a2, a3, a4, a5, a6, a7, a8, a9, a10⟩ := hagree c
    obtain ⟨h0, h1⟩ := Cert.Pre_finite_u.reals (hpre c)
    refine Eq.trans ?_ (kernel_closed c m).symm
    refine (Cert.Reference6Ideal.Read.val_main_v320_eq _).trans ?_
    rw [← a0] at h0
    rw [← a1] at h1
    refine (result _ _ _ _ _ _ _ _ _ _ _ h0 h1).trans ?_
    rw [← a0, ← a1, ← a2, ← a3, ← a4, ← a5, ← a6, ← a7, ← a8, ← a9, ← a10]
    rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Frames
public import proofs.«01_k».proof.Proof.V.Algebraic
public import proofs.«01_k».proof.Proof.P.Frames
public import proofs.«01_k».proof.Proof.P.Algebraic
public import proofs.«01_k».proof.Proof.N.Frames
public import proofs.«01_k».proof.Proof.N.Algebraic
public import proofs.«01_k».proof.Proof.D.Frames
public import proofs.«01_k».proof.Proof.D.Algebraic
public import proofs.«01_k».proof.Proof.L.Frames
public import proofs.«01_k».proof.Proof.L.Algebraic
public import proofs.«01_k».proof.Proof.M.Frames
public import proofs.«01_k».proof.Proof.M.Algebraic
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_u

@[expose] public section

noncomputable section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_qk.facts, Cert.Pre_finite_u.facts,
  frameK, frameI, frameIp, frameR, frameRp, frameK2, frameI2, frameR2, frameK3, frameI3, frameR3, frameK4, frameI4, frameR4, frameK5, frameI5, frameR5,
  frameK6, frameI6, frameIp6, frameR6, frameRp6,
  trivial, algebraic, trivial, algebraic2, trivial, algebraic3, trivial, algebraic4, trivial, algebraic5, trivial, algebraic6⟩

end Cert.Proof

end
